-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16 : Shape := ⟨1, ![16]⟩
abbrev S32768 : Shape := ⟨1, ![32768]⟩
abbrev S17 : Shape := ⟨1, ![17]⟩
abbrev S100000x64 : Shape := ⟨2, ![100000, 64]⟩
abbrev S1000000x64 : Shape := ⟨2, ![1000000, 64]⟩
abbrev S5x64 : Shape := ⟨2, ![5, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768 : S_.BroadcastsInDim S32768 (![] : Fin 0 → Fin S32768.rank)
  reducesTo_S32768_S_d0 : S32768.ReducesTo [0] S_
  slices_S17_S1_0 : S17.Slices ![0] S1
  shapeCasts_S1_S_ : S1.ShapeCasts S_
  slices_S17_S1_16 : S17.Slices ![16] S1
  slices_S17_S16_0 : S17.Slices ![0] S16
  slices_S17_S16_1 : S17.Slices ![1] S16
  bcast_S_S100000x64 : S_.BroadcastsInDim S100000x64 (![] : Fin 0 → Fin S100000x64.rank)
  reducesTo_S100000x64_S_d0_1 : S100000x64.ReducesTo [0, 1] S_
  bcast_S_S1000000x64 : S_.BroadcastsInDim S1000000x64 (![] : Fin 0 → Fin S1000000x64.rank)
  reducesTo_S1000000x64_S_d0_1 : S1000000x64.ReducesTo [0, 1] S_
  bcast_S_S5x64 : S_.BroadcastsInDim S5x64 (![] : Fin 0 → Fin S5x64.rank)
  reducesTo_S5x64_S_d0_1 : S5x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg15 : FVec F S1x64 .f32) (main_arg16 : FVec F S1 .f32) (main_v82 : IVec S_ 1) (main_v85 : IVec S64 1) (main_c_31 : IVec S_ 1) : IVec S_ 1 :=
  let main_v86 : IVec S_ 1 := (fun x v => Host.reduce IntOp.andi x v reducesTo_S64_S_d0 h_S_) main_v85 main_c_31
  let main_v87 : IVec S_ 1 := andi main_v82 main_v86
  let main_v88 : FVec F S1x64 .f32 := Host.absf main_arg15
  let main_cst_32 : FVec F S_ .f32 := constant S_ .f32 0x7F800000#32
  let main_v89 : FVec F S1x64 .f32 := broadcastInDim S1x64 ![] bcast_S_S1x64 main_cst_32
  let main_v90 : IVec S1x64 1 := cmpf .olt main_v88 main_v89
  let main_c_33 : IVec S_ 1 := constantI S_ 1 1#1
  let main_v91 : IVec S_ 1 := (fun x v => Host.reduce IntOp.andi x v reducesTo_S1x64_S_d0_1 h_S_) main_v90 main_c_33
  let main_v92 : IVec S_ 1 := andi main_v87 main_v91
  let main_v93 : FVec F S1 .f32 := Host.absf main_arg16
  let main_cst_34 : FVec F S_ .f32 := constant S_ .f32 0x7F800000#32
  let main_v94 : FVec F S1 .f32 := broadcastInDim S1 ![] bcast_S_S1 main_cst_34
  let main_v95 : IVec S1 1 := cmpf .olt main_v93 main_v94
  let main_c_35 : IVec S_ 1 := constantI S_ 1 1#1
  let main_v96 : IVec S_ 1 := (fun x v => Host.reduce IntOp.andi x v reducesTo_S1_S_d0 h_S_) main_v95 main_c_35
  let main_v97 : IVec S_ 1 := andi main_v92 main_v96
  main_v97

def fn_part4 {F : FTy → Type} [FloatOps F] (main_arg12 : FVec F S64 .f32) (main_arg13 : FVec F S64x64 .f32) (main_arg14 : FVec F S64 .f32) (main_arg15 : FVec F S1x64 .f32) (main_arg16 : FVec F S1 .f32) (main_v67 : IVec S_ 1) (main_v68 : FVec F S64x128 .f32) (main_cst_24 : FVec F S_ .f32) : IVec S_ 1 :=
  let main_v69 : FVec F S64x128 .f32 := broadcastInDim S64x128 ![] bcast_S_S64x128 main_cst_24
  let main_v70 : IVec S64x128 1 := cmpf .olt main_v68 main_v69
  let main_c_25 : IVec S_ 1 := constantI S_ 1 1#1
  let main_v71 : IVec S_ 1 := (fun x v => Host.reduce IntOp.andi x v reducesTo_S64x128_S_d0_1 h_S_) main_v70 main_c_25
  let main_v72 : IVec S_ 1 := andi main_v67 main_v71
  let main_v73 : FVec F S64 .f32 := Host.absf main_arg12
  let main_cst_26 : FVec F S_ .f32 := constant S_ .f32 0x7F800000#32
  let main_v74 : FVec F S64 .f32 := broadcastInDim S64 ![] bcast_S_S64 main_cst_26
  let main_v75 : IVec S64 1 := cmpf .olt main_v73 main_v74
  let main_c_27 : IVec S_ 1 := constantI S_ 1 1#1
  let main_v76 : IVec S_ 1 := (fun x v => Host.reduce IntOp.andi x v reducesTo_S64_S_d0 h_S_) main_v75 main_c_27
  let main_v77 : IVec S_ 1 := andi main_v72 main_v76
  let main_v78 : FVec F S64x64 .f32 := Host.absf main_arg13
  let main_cst_28 : FVec F S_ .f32 := constant S_ .f32 0x7F800000#32
  let main_v79 : FVec F S64x64 .f32 := broadcastInDim S64x64 ![] bcast_S_S64x64 main_cst_28
  let main_v80 : IVec S64x64 1 := cmpf .olt main_v78 main_v79
  let main_c_29 : IVec S_ 1 := constantI S_ 1 1#1
  let main_v81 : IVec S_ 1 := (fun x v => Host.reduce IntOp.andi x v reducesTo_S64x64_S_d0_1 h_S_) main_v80 main_c_29
  let main_v82 : IVec S_ 1 := andi main_v77 main_v81
  let main_v83 : FVec F S64 .f32 := Host.absf main_arg14
  let main_cst_30 : FVec F S_ .f32 := constant S_ .f32 0x7F800000#32
  let main_v84 : FVec F S64 .f32 := broadcastInDim S64 ![] bcast_S_S64 main_cst_30
  let main_v85 : IVec S64 1 := cmpf .olt main_v83 main_v84
  let main_c_31 : IVec S_ 1 := constantI S_ 1 1#1
  fn_part5 (F := F) main_arg15 main_arg16 main_v82 main_v85 main_c_31

def fn_part3 {F : FTy → Type} [FloatOps F] (main_arg8 : FVec F S64 .f32) (main_arg9 : FVec F S64x64 .f32) (main_arg10 : FVec F S64 .f32) (main_arg11 : FVec F S64x128 .f32) (main_arg12 : FVec F S64 .f32) (main_arg13 : FVec F S64x64 .f32) (main_arg14 : FVec F S64 .f32) (main_arg15 : FVec F S1x64 .f32) (main_arg16 : FVec F S1 .f32) (main_v47 : IVec S_ 1) (main_v51 : IVec S_ 1) : IVec S_ 1 :=
  let main_v52 : IVec S_ 1 := andi main_v47 main_v51
  let main_v53 : FVec F S64 .f32 := Host.absf main_arg8
  let main_cst_18 : FVec F S_ .f32 := constant S_ .f32 0x7F800000#32
  let main_v54 : FVec F S64 .f32 := broadcastInDim S64 ![] bcast_S_S64 main_cst_18
  let main_v55 : IVec S64 1 := cmpf .olt main_v53 main_v54
  let main_c_19 : IVec S_ 1 := constantI S_ 1 1#1
  let main_v56 : IVec S_ 1 := (fun x v => Host.reduce IntOp.andi x v reducesTo_S64_S_d0 h_S_) main_v55 main_c_19
  let main_v57 : IVec S_ 1 := andi main_v52 main_v56
  let main_v58 : FVec F S64x64 .f32 := Host.absf main_arg9
  let main_cst_20 : FVec F S_ .f32 := constant S_ .f32 0x7F800000#32
  let main_v59 : FVec F S64x64 .f32 := broadcastInDim S64x64 ![] bcast_S_S64x64 main_cst_20
  let main_v60 : IVec S64x64 1 := cmpf .olt main_v58 main_v59
  let main_c_21 : IVec S_ 1 := constantI S_ 1 1#1
  let main_v61 : IVec S_ 1 := (fun x v => Host.reduce IntOp.andi x v reducesTo_S64x64_S_d0_1 h_S_) main_v60 main_c_21
  let main_v62 : IVec S_ 1 := andi main_v57 main_v61
  let main_v63 : FVec F S64 .f32 := Host.absf main_arg10
  let main_cst_22 : FVec F S_ .f32 := constant S_ .f32 0x7F800000#32
  let main_v64 : FVec F S64 .f32 := broadcastInDim S64 ![] bcast_S_S64 main_cst_22
  let main_v65 : IVec S64 1 := cmpf .olt main_v63 main_v64
  let main_c_23 : IVec S_ 1 := constantI S_ 1 1#1
  let main_v66 : IVec S_ 1 := (fun x v => Host.reduce IntOp.andi x v reducesTo_S64_S_d0 h_S_) main_v65 main_c_23
  let main_v67 : IVec S_ 1 := andi main_v62 main_v66
  let main_v68 : FVec F S64x128 .f32 := Host.absf main_arg11
  let main_cst_24 : FVec F S_ .f32 := constant S_ .f32 0x7F800000#32
  fn_part4 (F := F) main_arg12 main_arg13 main_arg14 main_arg15 main_arg16 main_v67 main_v68 main_cst_24

def fn_part2 {F : FTy → Type} [FloatOps F] (main_arg5 : FVec F S1000000x64 .f32) (main_arg6 : FVec F S5x64 .f32) (main_arg7 : FVec F S64x128 .f32) (main_arg8 : FVec F S64 .f32) (main_arg9 : FVec F S64x64 .f32) (main_arg10 : FVec F S64 .f32) (main_arg11 : FVec F S64x128 .f32) (main_arg12 : FVec F S64 .f32) (main_arg13 : FVec F S64x64 .f32) (main_arg14 : FVec F S64 .f32) (main_arg15 : FVec F S1x64 .f32) (main_arg16 : FVec F S1 .f32) (main_v32 : IVec S_ 1) (main_v33 : FVec F S100000x64 .f32) (main_v34 : FVec F S100000x64 .f32) : IVec S_ 1 :=
  let main_v35 : IVec S100000x64 1 := cmpf .olt main_v33 main_v34
  let main_c_11 : IVec S_ 1 := constantI S_ 1 1#1
  let main_v36 : IVec S_ 1 := (fun x v => Host.reduce IntOp.andi x v reducesTo_S100000x64_S_d0_1 h_S_) main_v35 main_c_11
  let main_v37 : IVec S_ 1 := andi main_v32 main_v36
  let main_v38 : FVec F S1000000x64 .f32 := Host.absf main_arg5
  let main_cst_12 : FVec F S_ .f32 := constant S_ .f32 0x7F800000#32
  let main_v39 : FVec F S1000000x64 .f32 := broadcastInDim S1000000x64 ![] bcast_S_S1000000x64 main_cst_12
  let main_v40 : IVec S1000000x64 1 := cmpf .olt main_v38 main_v39
  let main_c_13 : IVec S_ 1 := constantI S_ 1 1#1
  let main_v41 : IVec S_ 1 := (fun x v => Host.reduce IntOp.andi x v reducesTo_S1000000x64_S_d0_1 h_S_) main_v40 main_c_13
  let main_v42 : IVec S_ 1 := andi main_v37 main_v41
  let main_v43 : FVec F S5x64 .f32 := Host.absf main_arg6
  let main_cst_14 : FVec F S_ .f32 := constant S_ .f32 0x7F800000#32
  let main_v44 : FVec F S5x64 .f32 := broadcastInDim S5x64 ![] bcast_S_S5x64 main_cst_14
  let main_v45 : IVec S5x64 1 := cmpf .olt main_v43 main_v44
  let main_c_15 : IVec S_ 1 := constantI S_ 1 1#1
  let main_v46 : IVec S_ 1 := (fun x v => Host.reduce IntOp.andi x v reducesTo_S5x64_S_d0_1 h_S_) main_v45 main_c_15
  let main_v47 : IVec S_ 1 := andi main_v42 main_v46
  let main_v48 : FVec F S64x128 .f32 := Host.absf main_arg7
  let main_cst_16 : FVec F S_ .f32 := constant S_ .f32 0x7F800000#32
  let main_v49 : FVec F S64x128 .f32 := broadcastInDim S64x128 ![] bcast_S_S64x128 main_cst_16
  let main_v50 : IVec S64x128 1 := cmpf .olt main_v48 main_v49
  let main_c_17 : IVec S_ 1 := constantI S_ 1 1#1
  let main_v51 : IVec S_ 1 := (fun x v => Host.reduce IntOp.andi x v reducesTo_S64x128_S_d0_1 h_S_) main_v50 main_c_17
  fn_part3 (F := F) main_arg8 main_arg9 main_arg10 main_arg11 main_arg12 main_arg13 main_arg14 main_arg15 main_arg16 main_v47 main_v51

def fn_part1 {F : FTy → Type} [FloatOps F] (main_arg2 : IVec S32768 32) (main_arg3 : IVec S17 32) (main_arg4 : FVec F S100000x64 .f32) (main_arg5 : FVec F S1000000x64 .f32) (main_arg6 : FVec F S5x64 .f32) (main_arg7 : FVec F S64x128 .f32) (main_arg8 : FVec F S64 .f32) (main_arg9 : FVec F S64x64 .f32) (main_arg10 : FVec F S64 .f32) (main_arg11 : FVec F S64x128 .f32) (main_arg12 : FVec F S64 .f32) (main_arg13 : FVec F S64x64 .f32) (main_arg14 : FVec F S64 .f32) (main_arg15 : FVec F S1x64 .f32) (main_arg16 : FVec F S1 .f32) (main_v12 : IVec S_ 1) (main_v14 : IVec S32768 1) (main_v15 : IVec S32768 32) : IVec S_ 1 :=
  let main_v16 : IVec S32768 1 := cmpi .slt main_arg2 main_v15
  let main_v17 : IVec S32768 1 := andi main_v14 main_v16
  let main_c_7 : IVec S_ 1 := constantI S_ 1 1#1
  let main_v18 : IVec S_ 1 := (fun x v => Host.reduce IntOp.andi x v reducesTo_S32768_S_d0 h_S_) main_v17 main_c_7
  let main_v19 : IVec S_ 1 := andi main_v12 main_v18
  let main_v20 : IVec S1 32 := (extractStridedSlice S1 ![0] · slices_S17_S1_0) main_arg3
  let main_v21 : IVec S_ 32 := shapeCast S_ main_v20 shapeCasts_S1_S_
  let main_c_8 : IVec S_ 32 := constantI S_ 32 0#32
  let main_v22 : IVec S_ 1 := cmpi .eq main_v21 main_c_8
  let main_v23 : IVec S_ 1 := andi main_v19 main_v22
  let main_v24 : IVec S1 32 := (extractStridedSlice S1 ![16] · slices_S17_S1_16) main_arg3
  let main_v25 : IVec S_ 32 := shapeCast S_ main_v24 shapeCasts_S1_S_
  let main_c_9 : IVec S_ 32 := constantI S_ 32 32768#32
  let main_v26 : IVec S_ 1 := cmpi .eq main_v25 main_c_9
  let main_v27 : IVec S_ 1 := andi main_v23 main_v26
  let main_v28 : IVec S16 32 := (extractStridedSlice S16 ![0] · slices_S17_S16_0) main_arg3
  let main_v29 : IVec S16 32 := (extractStridedSlice S16 ![1] · slices_S17_S16_1) main_arg3
  let main_v30 : IVec S16 1 := cmpi .sle main_v28 main_v29
  let main_c_10 : IVec S_ 1 := constantI S_ 1 1#1
  let main_v31 : IVec S_ 1 := (fun x v => Host.reduce IntOp.andi x v reducesTo_S16_S_d0 h_S_) main_v30 main_c_10
  let main_v32 : IVec S_ 1 := andi main_v27 main_v31
  let main_v33 : FVec F S100000x64 .f32 := Host.absf main_arg4
  let main_cst : FVec F S_ .f32 := constant S_ .f32 0x7F800000#32
  let main_v34 : FVec F S100000x64 .f32 := broadcastInDim S100000x64 ![] bcast_S_S100000x64 main_cst
  fn_part2 (F := F) main_arg5 main_arg6 main_arg7 main_arg8 main_arg9 main_arg10 main_arg11 main_arg12 main_arg13 main_arg14 main_arg15 main_arg16 main_v32 main_v33 main_v34

def fn {F : FTy → Type} [FloatOps F] (main_arg0 : IVec S16 32) (main_arg1 : IVec S32768 32) (main_arg2 : IVec S32768 32) (main_arg3 : IVec S17 32) (main_arg4 : FVec F S100000x64 .f32) (main_arg5 : FVec F S1000000x64 .f32) (main_arg6 : FVec F S5x64 .f32) (main_arg7 : FVec F S64x128 .f32) (main_arg8 : FVec F S64 .f32) (main_arg9 : FVec F S64x64 .f32) (main_arg10 : FVec F S64 .f32) (main_arg11 : FVec F S64x128 .f32) (main_arg12 : FVec F S64 .f32) (main_arg13 : FVec F S64x64 .f32) (main_arg14 : FVec F S64 .f32) (main_arg15 : FVec F S1x64 .f32) (main_arg16 : FVec F S1 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 100000#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S32768 32 := broadcastInDim S32768 ![] bcast_S_S32768 main_c_2
  let main_v7 : IVec S32768 1 := cmpi .sge main_arg1 main_v6
  let main_c_3 : IVec S_ 32 := constantI S_ 32 1000000#32
  let main_v8 : IVec S32768 32 := broadcastInDim S32768 ![] bcast_S_S32768 main_c_3
  let main_v9 : IVec S32768 1 := cmpi .slt main_arg1 main_v8
  let main_v10 : IVec S32768 1 := andi main_v7 main_v9
  let main_c_4 : IVec S_ 1 := constantI S_ 1 1#1
  let main_v11 : IVec S_ 1 := (fun x v => Host.reduce IntOp.andi x v reducesTo_S32768_S_d0 h_S_) main_v10 main_c_4
  let main_v12 : IVec S_ 1 := andi main_v5 main_v11
  let main_c_5 : IVec S_ 32 := constantI S_ 32 0#32
  let main_v13 : IVec S32768 32 := broadcastInDim S32768 ![] bcast_S_S32768 main_c_5
  let main_v14 : IVec S32768 1 := cmpi .sge main_arg2 main_v13
  let main_c_6 : IVec S_ 32 := constantI S_ 32 5#32
  let main_v15 : IVec S32768 32 := broadcastInDim S32768 ![] bcast_S_S32768 main_c_6
  fn_part1 (F := F) main_arg2 main_arg3 main_arg4 main_arg5 main_arg6 main_arg7 main_arg8 main_arg9 main_arg10 main_arg11 main_arg12 main_arg13 main_arg14 main_arg15 main_arg16 main_v12 main_v14 main_v15
-- ==== Pre_in_range.lean ====
abbrev S16 : Shape := ⟨1, ![16]⟩
abbrev S32768 : Shape := ⟨1, ![32768]⟩
abbrev S17 : Shape := ⟨1, ![17]⟩
abbrev S100000x64 : Shape := ⟨2, ![100000, 64]⟩
abbrev S1000000x64 : Shape := ⟨2, ![1000000, 64]⟩
abbrev S5x64 : Shape := ⟨2, ![5, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768 : S_.BroadcastsInDim S32768 (![] : Fin 0 → Fin S32768.rank)
  reducesTo_S32768_S_d0 : S32768.ReducesTo [0] S_
  slices_S17_S1_0 : S17.Slices ![0] S1
  shapeCasts_S1_S_ : S1.ShapeCasts S_
  slices_S17_S1_16 : S17.Slices ![16] S1
  slices_S17_S16_0 : S17.Slices ![0] S16
  slices_S17_S16_1 : S17.Slices ![1] S16

variable [Facts]

def fn_part1 {F : FTy → Type} [FloatOps F] (main_arg2 : IVec S32768 32) (main_arg3 : IVec S17 32) (main_v12 : IVec S_ 1) (main_v14 : IVec S32768 1) (main_v15 : IVec S32768 32) : IVec S_ 1 :=
  let main_v16 : IVec S32768 1 := cmpi .slt main_arg2 main_v15
  let main_v17 : IVec S32768 1 := andi main_v14 main_v16
  let main_c_7 : IVec S_ 1 := constantI S_ 1 1#1
  let main_v18 : IVec S_ 1 := (fun x v => Host.reduce IntOp.andi x v reducesTo_S32768_S_d0 h_S_) main_v17 main_c_7
  let main_v19 : IVec S_ 1 := andi main_v12 main_v18
  let main_v20 : IVec S1 32 := (extractStridedSlice S1 ![0] · slices_S17_S1_0) main_arg3
  let main_v21 : IVec S_ 32 := shapeCast S_ main_v20 shapeCasts_S1_S_
  let main_c_8 : IVec S_ 32 := constantI S_ 32 0#32
  let main_v22 : IVec S_ 1 := cmpi .eq main_v21 main_c_8
  let main_v23 : IVec S_ 1 := andi main_v19 main_v22
  let main_v24 : IVec S1 32 := (extractStridedSlice S1 ![16] · slices_S17_S1_16) main_arg3
  let main_v25 : IVec S_ 32 := shapeCast S_ main_v24 shapeCasts_S1_S_
  let main_c_9 : IVec S_ 32 := constantI S_ 32 32768#32
  let main_v26 : IVec S_ 1 := cmpi .eq main_v25 main_c_9
  let main_v27 : IVec S_ 1 := andi main_v23 main_v26
  let main_v28 : IVec S16 32 := (extractStridedSlice S16 ![0] · slices_S17_S16_0) main_arg3
  let main_v29 : IVec S16 32 := (extractStridedSlice S16 ![1] · slices_S17_S16_1) main_arg3
  let main_v30 : IVec S16 1 := cmpi .sle main_v28 main_v29
  let main_c_10 : IVec S_ 1 := constantI S_ 1 1#1
  let main_v31 : IVec S_ 1 := (fun x v => Host.reduce IntOp.andi x v reducesTo_S16_S_d0 h_S_) main_v30 main_c_10
  let main_v32 : IVec S_ 1 := andi main_v27 main_v31
  main_v32

def fn {F : FTy → Type} [FloatOps F] (main_arg0 : IVec S16 32) (main_arg1 : IVec S32768 32) (main_arg2 : IVec S32768 32) (main_arg3 : IVec S17 32) (main_arg4 : FVec F S100000x64 .f32) (main_arg5 : FVec F S1000000x64 .f32) (main_arg6 : FVec F S5x64 .f32) (main_arg7 : FVec F S64x128 .f32) (main_arg8 : FVec F S64 .f32) (main_arg9 : FVec F S64x64 .f32) (main_arg10 : FVec F S64 .f32) (main_arg11 : FVec F S64x128 .f32) (main_arg12 : FVec F S64 .f32) (main_arg13 : FVec F S64x64 .f32) (main_arg14 : FVec F S64 .f32) (main_arg15 : FVec F S1x64 .f32) (main_arg16 : FVec F S1 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 100000#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S32768 32 := broadcastInDim S32768 ![] bcast_S_S32768 main_c_2
  let main_v7 : IVec S32768 1 := cmpi .sge main_arg1 main_v6
  let main_c_3 : IVec S_ 32 := constantI S_ 32 1000000#32
  let main_v8 : IVec S32768 32 := broadcastInDim S32768 ![] bcast_S_S32768 main_c_3
  let main_v9 : IVec S32768 1 := cmpi .slt main_arg1 main_v8
  let main_v10 : IVec S32768 1 := andi main_v7 main_v9
  let main_c_4 : IVec S_ 1 := constantI S_ 1 1#1
  let main_v11 : IVec S_ 1 := (fun x v => Host.reduce IntOp.andi x v reducesTo_S32768_S_d0 h_S_) main_v10 main_c_4
  let main_v12 : IVec S_ 1 := andi main_v5 main_v11
  let main_c_5 : IVec S_ 32 := constantI S_ 32 0#32
  let main_v13 : IVec S32768 32 := broadcastInDim S32768 ![] bcast_S_S32768 main_c_5
  let main_v14 : IVec S32768 1 := cmpi .sge main_arg2 main_v13
  let main_c_6 : IVec S_ 32 := constantI S_ 32 5#32
  let main_v15 : IVec S32768 32 := broadcastInDim S32768 ![] bcast_S_S32768 main_c_6
  fn_part1 (F := F) main_arg2 main_arg3 main_v12 main_v14 main_v15
-- ==== Kernel.lean ====
abbrev S16 : Shape := ⟨1, ![16]⟩
abbrev S32768 : Shape := ⟨1, ![32768]⟩
abbrev S17 : Shape := ⟨1, ![17]⟩
abbrev S100000x64 : Shape := ⟨2, ![100000, 64]⟩
abbrev S1000000x64 : Shape := ⟨2, ![1000000, 64]⟩
abbrev S5x64 : Shape := ⟨2, ![5, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S64x1000000 : Shape := ⟨2, ![64, 1000000]⟩
abbrev S64x100000 : Shape := ⟨2, ![64, 100000]⟩
abbrev S_ : Shape := ⟨0, ![]⟩
abbrev S507904x128 : Shape := ⟨2, ![507904, 128]⟩
abbrev S64x16384 : Shape := ⟨2, ![64, 16384]⟩
abbrev S8192x128 : Shape := ⟨2, ![8192, 128]⟩
abbrev S64x1024 : Shape := ⟨2, ![64, 1024]⟩
abbrev S1024x64 : Shape := ⟨2, ![1024, 64]⟩
abbrev S32x8x128 : Shape := ⟨3, ![32, 8, 128]⟩
abbrev S32768x128 : Shape := ⟨2, ![32768, 128]⟩
abbrev S8x128 : Shape := ⟨2, ![8, 128]⟩
abbrev S128x128 : Shape := ⟨2, ![128, 128]⟩
abbrev S1x8x128 : Shape := ⟨3, ![1, 8, 128]⟩
abbrev S1x128 : Shape := ⟨2, ![1, 128]⟩
abbrev S128 : Shape := ⟨1, ![128]⟩
abbrev S1x16 : Shape := ⟨2, ![1, 16]⟩
abbrev S64x16 : Shape := ⟨2, ![64, 16]⟩
abbrev S64x8192 : Shape := ⟨2, ![64, 8192]⟩
abbrev S8192x16 : Shape := ⟨2, ![8192, 16]⟩
abbrev S1x8192 : Shape := ⟨2, ![1, 8192]⟩
abbrev S1x32768 : Shape := ⟨2, ![1, 32768]⟩
abbrev S16x1 : Shape := ⟨2, ![16, 1]⟩
abbrev S8x64 : Shape := ⟨2, ![8, 64]⟩
abbrev S64x1 : Shape := ⟨2, ![64, 1]⟩
abbrev S1x1 : Shape := ⟨2, ![1, 1]⟩
abbrev S16x64 : Shape := ⟨2, ![16, 64]⟩
abbrev S2048x128 : Shape := ⟨2, ![2048, 128]⟩
abbrev S1x2048 : Shape := ⟨2, ![1, 2048]⟩
abbrev S2048x64 : Shape := ⟨2, ![2048, 64]⟩
abbrev S64x2048 : Shape := ⟨2, ![64, 2048]⟩
abbrev S8x2048 : Shape := ⟨2, ![8, 2048]⟩
abbrev S64x8 : Shape := ⟨2, ![64, 8]⟩
abbrev S16x2048 : Shape := ⟨2, ![16, 2048]⟩

abbrev nBuf : Table → Nat
  | .hbm => 134
  | .local .tc .vmem => 34
  | .local .scVector .vmem => 3
  | _ => 0

abbrev hbmTy0_0 (i : Nat) : BufTy := match i % 128 with
  | 0 => ⟨S16, .i32⟩
  | 1 => ⟨S32768, .i32⟩
  | 2 => ⟨S32768, .i32⟩
  | 3 => ⟨S17, .i32⟩
  | 4 => ⟨S100000x64, .f32⟩
  | 5 => ⟨S1000000x64, .f32⟩
  | 6 => ⟨S5x64, .f32⟩
  | 7 => ⟨S64x128, .f32⟩
  | 8 => ⟨S64, .f32⟩
  | 9 => ⟨S64x64, .f32⟩
  | 10 => ⟨S64, .f32⟩
  | 11 => ⟨S64x128, .f32⟩
  | 12 => ⟨S64, .f32⟩
  | 13 => ⟨S64x64, .f32⟩
  | 14 => ⟨S64, .f32⟩
  | 15 => ⟨S1x64, .f32⟩
  | 16 => ⟨S1, .f32⟩
  | 17 => ⟨S64x1000000, .f32⟩
  | 18 => ⟨S64x100000, .f32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i1⟩
  | 25 => ⟨S64x64, .f32⟩
  | 26 => ⟨S507904x128, .f32⟩
  | 27 => ⟨S_, .i32⟩
  | 28 => ⟨S_, .i32⟩
  | 29 => ⟨S32768, .i32⟩
  | 30 => ⟨S32768, .i32⟩
  | 31 => ⟨S32768, .i32⟩
  | 32 => ⟨S_, .i32⟩
  | 33 => ⟨S32768, .i32⟩
  | 34 => ⟨S32768, .i1⟩
  | 35 => ⟨S32768, .i32⟩
  | 36 => ⟨S32768, .i32⟩
  | 37 => ⟨S_, .i32⟩
  | 38 => ⟨S32768, .i32⟩
  | 39 => ⟨S32768, .i1⟩
  | 40 => ⟨S32768, .i1⟩
  | 41 => ⟨S_, .i32⟩
  | 42 => ⟨S32768, .i32⟩
  | 43 => ⟨S32768, .i32⟩
  | 44 => ⟨S32768, .i32⟩
  | 45 => ⟨S_, .i32⟩
  | 46 => ⟨S32768, .i32⟩
  | 47 => ⟨S32768, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S32768, .i32⟩
  | 55 => ⟨S32768, .i32⟩
  | 56 => ⟨S_, .i32⟩
  | 57 => ⟨S32768, .i32⟩
  | 58 => ⟨S32768, .i1⟩
  | 59 => ⟨S_, .i32⟩
  | 60 => ⟨S32768, .i32⟩
  | 61 => ⟨S32768, .i1⟩
  | 62 => ⟨S_, .i32⟩
  | 63 => ⟨S_, .i1⟩
  | 64 => ⟨S32768, .i1⟩
  | 65 => ⟨S32768, .i1⟩
  | 66 => ⟨S32768, .i1⟩
  | 67 => ⟨S32768, .i32⟩
  | 68 => ⟨S32768, .i32⟩
  | 69 => ⟨S32768, .i32⟩
  | 70 => ⟨S32768, .i32⟩
  | 71 => ⟨S_, .i32⟩
  | 72 => ⟨S_, .i32⟩
  | 73 => ⟨S32768, .i32⟩
  | 74 => ⟨S32768, .i32⟩
  | 75 => ⟨S32768, .i32⟩
  | 76 => ⟨S_, .i32⟩
  | 77 => ⟨S32768, .i32⟩
  | 78 => ⟨S32768, .i1⟩
  | 79 => ⟨S32768, .i32⟩
  | 80 => ⟨S32768, .i32⟩
  | 81 => ⟨S_, .i32⟩
  | 82 => ⟨S32768, .i32⟩
  | 83 => ⟨S32768, .i1⟩
  | 84 => ⟨S32768, .i1⟩
  | 85 => ⟨S_, .i32⟩
  | 86 => ⟨S32768, .i32⟩
  | 87 => ⟨S32768, .i32⟩
  | 88 => ⟨S32768, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S32768, .i32⟩
  | 96 => ⟨S32768, .i32⟩
  | 97 => ⟨S_, .i32⟩
  | 98 => ⟨S32768, .i32⟩
  | 99 => ⟨S32768, .i1⟩
  | 100 => ⟨S_, .i32⟩
  | 101 => ⟨S32768, .i32⟩
  | 102 => ⟨S32768, .i1⟩
  | 103 => ⟨S_, .i32⟩
  | 104 => ⟨S_, .i1⟩
  | 105 => ⟨S32768, .i1⟩
  | 106 => ⟨S32768, .i1⟩
  | 107 => ⟨S32768, .i1⟩
  | 108 => ⟨S32768, .i32⟩
  | 109 => ⟨S32768, .i32⟩
  | 110 => ⟨S32768, .i32⟩
  | 111 => ⟨S32x8x128, .i32⟩
  | 112 => ⟨S32768x128, .f32⟩
  | 113 => ⟨S1x16, .i32⟩
  | 114 => ⟨S64x16, .f32⟩
  | 115 => ⟨S1x32768, .i32⟩
  | 116 => ⟨S1x32768, .i32⟩
  | 117 => ⟨S16, .i32⟩
  | 118 => ⟨S16x1, .i32⟩
  | 119 => ⟨S16, .i32⟩
  | 120 => ⟨S16x1, .i32⟩
  | 121 => ⟨S_, .i32⟩
  | 122 => ⟨S_, .f32⟩
  | 123 => ⟨S8x64, .f32⟩
  | 124 => ⟨S64x64, .f32⟩
  | 125 => ⟨S64x64, .f32⟩
  | 126 => ⟨S64x64, .f32⟩
  | 127 => ⟨S64x64, .f32⟩
  | _ => ⟨S16, .i32⟩

abbrev hbmTy0_1 (i : Nat) : BufTy := match i % 128 with
  | 0 => ⟨S64x1, .f32⟩
  | 1 => ⟨S64x1, .f32⟩
  | 2 => ⟨S64x1, .f32⟩
  | 3 => ⟨S64x1, .f32⟩
  | 4 => ⟨S1x1, .f32⟩
  | 5 => ⟨S16x64, .f32⟩
  | _ => ⟨S16, .i32⟩

abbrev hbmTy (i : Nat) : BufTy := match i / 128 with
  | 0 => hbmTy0_0 i
  | 1 => hbmTy0_1 i
  | _ => ⟨S16, .i32⟩

abbrev bufTy : (tb : Table) → Fin (nBuf tb) → BufTy
  | .hbm, ⟨i, _⟩ => hbmTy i
  | .local .tc .vmem, ⟨0, _⟩ => ⟨S64x16384, .f32⟩
  | .local .tc .vmem, ⟨1, _⟩ => ⟨S64x16384, .f32⟩
  | .local .tc .vmem, ⟨2, _⟩ => ⟨S64x64, .f32⟩
  | .local .tc .vmem, ⟨3, _⟩ => ⟨S8192x128, .f32⟩
  | .local .tc .vmem, ⟨4, _⟩ => ⟨S8192x128, .f32⟩
  | .local .tc .vmem, ⟨5, _⟩ => ⟨S64x8192, .f32⟩
  | .local .tc .vmem, ⟨6, _⟩ => ⟨S64x8192, .f32⟩
  | .local .tc .vmem, ⟨7, _⟩ => ⟨S1x16, .i32⟩
  | .local .tc .vmem, ⟨8, _⟩ => ⟨S64x16, .f32⟩
  | .local .tc .vmem, ⟨9, _⟩ => ⟨S2048x128, .f32⟩
  | .local .tc .vmem, ⟨10, _⟩ => ⟨S2048x128, .f32⟩
  | .local .tc .vmem, ⟨11, _⟩ => ⟨S1x2048, .i32⟩
  | .local .tc .vmem, ⟨12, _⟩ => ⟨S1x2048, .i32⟩
  | .local .tc .vmem, ⟨13, _⟩ => ⟨S1x2048, .i32⟩
  | .local .tc .vmem, ⟨14, _⟩ => ⟨S1x2048, .i32⟩
  | .local .tc .vmem, ⟨15, _⟩ => ⟨S16x1, .i32⟩
  | .local .tc .vmem, ⟨16, _⟩ => ⟨S16x1, .i32⟩
  | .local .tc .vmem, ⟨17, _⟩ => ⟨S64x16, .f32⟩
  | .local .tc .vmem, ⟨18, _⟩ => ⟨S8x64, .f32⟩
  | .local .tc .vmem, ⟨19, _⟩ => ⟨S64x64, .f32⟩
  | .local .tc .vmem, ⟨20, _⟩ => ⟨S64x64, .f32⟩
  | .local .tc .vmem, ⟨21, _⟩ => ⟨S64x1, .f32⟩
  | .local .tc .vmem, ⟨22, _⟩ => ⟨S64x64, .f32⟩
  | .local .tc .vmem, ⟨23, _⟩ => ⟨S64x1, .f32⟩
  | .local .tc .vmem, ⟨24, _⟩ => ⟨S64x64, .f32⟩
  | .local .tc .vmem, ⟨25, _⟩ => ⟨S64x64, .f32⟩
  | .local .tc .vmem, ⟨26, _⟩ => ⟨S64x1, .f32⟩
  | .local .tc .vmem, ⟨27, _⟩ => ⟨S64x64, .f32⟩
  | .local .tc .vmem, ⟨28, _⟩ => ⟨S64x1, .f32⟩
  | .local .tc .vmem, ⟨29, _⟩ => ⟨S1x64, .f32⟩
  | .local .tc .vmem, ⟨30, _⟩ => ⟨S1x1, .f32⟩
  | .local .tc .vmem, ⟨31, _⟩ => ⟨S16x64, .f32⟩
  | .local .tc .vmem, ⟨32, _⟩ => ⟨S16x1, .f32⟩
  | .local .tc .vmem, ⟨33, _⟩ => ⟨S16x1, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | _, _ => ⟨S16, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTables nBuf rfl bufTy 4 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v9 : Ref sig .tc := ⟨.hbm, 44, rfl⟩
abbrev main_c_1 : Ref sig .tc := ⟨.hbm, 45, rfl⟩
abbrev main_v10 : Ref sig .tc := ⟨.hbm, 46, rfl⟩
abbrev main_v11 : Ref sig .tc := ⟨.hbm, 47, rfl⟩
abbrev main_c_2 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v12 : Ref sig .tc := ⟨.hbm, 69, rfl⟩
abbrev main_v13 : Ref sig .tc := ⟨.hbm, 70, rfl⟩
abbrev main_c_3 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v14 : Ref sig .tc := ⟨.hbm, 88, rfl⟩
abbrev main_c_4 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v15 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_c_5 : Ref sig .tc := ⟨.hbm, 121, rfl⟩
abbrev main_call4_v0 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v8_scv : Ref sig .scVector := ⟨.hbm, 26, rfl⟩
abbrev main_v16_scv : Ref sig .scVector := ⟨.hbm, 111, rfl⟩
abbrev main_v17_scv : Ref sig .scVector := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg2_1 : Ref sig .tc := ⟨.vmem, 14, rfl⟩
abbrev cc3_stg3_0 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg7_0 : Ref sig .tc := ⟨.vmem, 19, rfl⟩
abbrev cc3_stg8_0 : Ref sig .tc := ⟨.vmem, 20, rfl⟩
abbrev cc3_stg9_0 : Ref sig .tc := ⟨.vmem, 21, rfl⟩
abbrev cc3_stg10_0 : Ref sig .tc := ⟨.vmem, 22, rfl⟩
abbrev cc3_stg11_0 : Ref sig .tc := ⟨.vmem, 23, rfl⟩
abbrev cc3_stg12_0 : Ref sig .tc := ⟨.vmem, 24, rfl⟩
abbrev cc3_stg13_0 : Ref sig .tc := ⟨.vmem, 25, rfl⟩
abbrev cc3_stg14_0 : Ref sig .tc := ⟨.vmem, 26, rfl⟩
abbrev cc3_stg15_0 : Ref sig .tc := ⟨.vmem, 27, rfl⟩
abbrev cc3_stg16_0 : Ref sig .tc := ⟨.vmem, 28, rfl⟩
abbrev cc3_stg17_0 : Ref sig .tc := ⟨.vmem, 29, rfl⟩
abbrev cc3_stg18_0 : Ref sig .tc := ⟨.vmem, 30, rfl⟩
abbrev cc3_stg19_0 : Ref sig .tc := ⟨.vmem, 31, rfl⟩
abbrev cc3_scratch0 : Ref sig .tc := ⟨.vmem, 32, rfl⟩
abbrev cc3_scratch1 : Ref sig .tc := ⟨.vmem, 33, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 16
abbrev cc2_sem0_1 : DmaSem sig := 17
abbrev cc2_sem1_0 : DmaSem sig := 18
abbrev cc2_sem2_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem10_0 : DmaSem sig := 33
abbrev cc3_sem11_0 : DmaSem sig := 34
abbrev cc3_sem12_0 : DmaSem sig := 35
abbrev cc3_sem13_0 : DmaSem sig := 36
abbrev cc3_sem14_0 : DmaSem sig := 37
abbrev cc3_sem15_0 : DmaSem sig := 38
abbrev cc3_sem16_0 : DmaSem sig := 39
abbrev cc3_sem17_0 : DmaSem sig := 40
abbrev cc3_sem18_0 : DmaSem sig := 41
abbrev cc3_sem19_0 : DmaSem sig := 42
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_58_r0 : BitVec 32 := 0#32
  let c0_i32_59_r0 : BitVec 32 := 0#32
  ![v1.toNat, 0, 0]
def k1_off2 (i : grid1.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v12 : BitVec 32 := Scalar.addi v2 c0_i32_10
  let c0_i32_58_r1 : BitVec 32 := 0#32
  ![v12.toNat, 0]
abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x1 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x1 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S64x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S64x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S64x1 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S64x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S64x1 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1x64 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x1 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S16x64 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16 : Shape := ⟨1, ![16]⟩
abbrev S32768 : Shape := ⟨1, ![32768]⟩
abbrev S17 : Shape := ⟨1, ![17]⟩
abbrev S100000x64 : Shape := ⟨2, ![100000, 64]⟩
abbrev S1000000x64 : Shape := ⟨2, ![1000000, 64]⟩
abbrev S5x64 : Shape := ⟨2, ![5, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x17 : Shape := ⟨2, ![1, 17]⟩
abbrev S32768x1 : Shape := ⟨2, ![32768, 1]⟩
abbrev S32768x17 : Shape := ⟨2, ![32768, 17]⟩
abbrev S_ : Shape := ⟨0, ![]⟩
abbrev S1x1 : Shape := ⟨2, ![1, 1]⟩
abbrev S32768x64 : Shape := ⟨2, ![32768, 64]⟩
abbrev S32768x128 : Shape := ⟨2, ![32768, 128]⟩
abbrev S128x64 : Shape := ⟨2, ![128, 64]⟩
abbrev S16x1 : Shape := ⟨2, ![16, 1]⟩
abbrev S16x64 : Shape := ⟨2, ![16, 64]⟩
abbrev S64x1 : Shape := ⟨2, ![64, 1]⟩
abbrev S1x32768 : Shape := ⟨2, ![1, 32768]⟩
abbrev S16x32768 : Shape := ⟨2, ![16, 32768]⟩

abbrev nBuf : Space → Nat
  | .hbm => 233
  | .vmem => 0
  | .smem => 0
  | _ => 0

abbrev hbmTy0_0 (i : Nat) : BufTy := match i % 128 with
  | 0 => ⟨S16, .i32⟩
  | 1 => ⟨S32768, .i32⟩
  | 2 => ⟨S32768, .i32⟩
  | 3 => ⟨S17, .i32⟩
  | 4 => ⟨S100000x64, .f32⟩
  | 5 => ⟨S1000000x64, .f32⟩
  | 6 => ⟨S5x64, .f32⟩
  | 7 => ⟨S64x128, .f32⟩
  | 8 => ⟨S64, .f32⟩
  | 9 => ⟨S64x64, .f32⟩
  | 10 => ⟨S64, .f32⟩
  | 11 => ⟨S64x128, .f32⟩
  | 12 => ⟨S64, .f32⟩
  | 13 => ⟨S64x64, .f32⟩
  | 14 => ⟨S64, .f32⟩
  | 15 => ⟨S1x64, .f32⟩
  | 16 => ⟨S1, .f32⟩
  | 17 => ⟨S32768, .i32⟩
  | 18 => ⟨S1x17, .i32⟩
  | 19 => ⟨S32768x1, .i32⟩
  | 20 => ⟨S32768x17, .i32⟩
  | 21 => ⟨S32768x17, .i32⟩
  | 22 => ⟨S32768x17, .i1⟩
  | 23 => ⟨S32768x17, .i32⟩
  | 24 => ⟨S_, .i32⟩
  | 25 => ⟨S32768, .i32⟩
  | 26 => ⟨S_, .i32⟩
  | 27 => ⟨S32768, .i32⟩
  | 28 => ⟨S32768, .i32⟩
  | 29 => ⟨S_, .i32⟩
  | 30 => ⟨S32768, .i32⟩
  | 31 => ⟨S32768, .i1⟩
  | 32 => ⟨S_, .i32⟩
  | 33 => ⟨S32768, .i32⟩
  | 34 => ⟨S32768, .i32⟩
  | 35 => ⟨S32768, .i32⟩
  | 36 => ⟨S32768x1, .i32⟩
  | 37 => ⟨S1, .i32⟩
  | 38 => ⟨S_, .i32⟩
  | 39 => ⟨S32768x1, .i32⟩
  | 40 => ⟨S32768x1, .i1⟩
  | 41 => ⟨S1x1, .i32⟩
  | 42 => ⟨S32768x1, .i32⟩
  | 43 => ⟨S32768x1, .i1⟩
  | 44 => ⟨S32768x1, .i1⟩
  | 45 => ⟨S_, .i1⟩
  | 46 => ⟨S32768, .i1⟩
  | 47 => ⟨S32768x64, .f32⟩
  | 48 => ⟨S32768x64, .i1⟩
  | 49 => ⟨S_, .f32⟩
  | 50 => ⟨S32768x64, .f32⟩
  | 51 => ⟨S32768x64, .f32⟩
  | 52 => ⟨S_, .i32⟩
  | 53 => ⟨S32768, .i32⟩
  | 54 => ⟨S32768, .i1⟩
  | 55 => ⟨S_, .i32⟩
  | 56 => ⟨S32768, .i32⟩
  | 57 => ⟨S32768, .i32⟩
  | 58 => ⟨S32768, .i32⟩
  | 59 => ⟨S32768x1, .i32⟩
  | 60 => ⟨S1, .i32⟩
  | 61 => ⟨S_, .i32⟩
  | 62 => ⟨S32768x1, .i32⟩
  | 63 => ⟨S32768x1, .i1⟩
  | 64 => ⟨S1x1, .i32⟩
  | 65 => ⟨S32768x1, .i32⟩
  | 66 => ⟨S32768x1, .i1⟩
  | 67 => ⟨S32768x1, .i1⟩
  | 68 => ⟨S_, .i1⟩
  | 69 => ⟨S32768, .i1⟩
  | 70 => ⟨S32768x64, .f32⟩
  | 71 => ⟨S32768x64, .i1⟩
  | 72 => ⟨S_, .f32⟩
  | 73 => ⟨S32768x64, .f32⟩
  | 74 => ⟨S32768x64, .f32⟩
  | 75 => ⟨S32768x128, .f32⟩
  | 76 => ⟨S128x64, .f32⟩
  | 77 => ⟨S32768x64, .f32⟩
  | 78 => ⟨S1x64, .f32⟩
  | 79 => ⟨S32768x64, .f32⟩
  | 80 => ⟨S32768x64, .f32⟩
  | 81 => ⟨S_, .f32⟩
  | 82 => ⟨S32768x64, .f32⟩
  | 83 => ⟨S32768x64, .f32⟩
  | 84 => ⟨S64x64, .f32⟩
  | 85 => ⟨S32768x64, .f32⟩
  | 86 => ⟨S1x64, .f32⟩
  | 87 => ⟨S32768x64, .f32⟩
  | 88 => ⟨S32768x64, .f32⟩
  | 89 => ⟨S_, .f32⟩
  | 90 => ⟨S32768x64, .f32⟩
  | 91 => ⟨S32768x64, .f32⟩
  | 92 => ⟨S_, .i32⟩
  | 93 => ⟨S16, .i32⟩
  | 94 => ⟨S16, .i1⟩
  | 95 => ⟨S_, .i32⟩
  | 96 => ⟨S16, .i32⟩
  | 97 => ⟨S16, .i32⟩
  | 98 => ⟨S16, .i32⟩
  | 99 => ⟨S16x1, .i32⟩
  | 100 => ⟨S1, .i32⟩
  | 101 => ⟨S_, .i32⟩
  | 102 => ⟨S16x1, .i32⟩
  | 103 => ⟨S16x1, .i1⟩
  | 104 => ⟨S1x1, .i32⟩
  | 105 => ⟨S16x1, .i32⟩
  | 106 => ⟨S16x1, .i1⟩
  | 107 => ⟨S16x1, .i1⟩
  | 108 => ⟨S_, .i1⟩
  | 109 => ⟨S16, .i1⟩
  | 110 => ⟨S16x64, .f32⟩
  | 111 => ⟨S16x64, .i1⟩
  | 112 => ⟨S_, .f32⟩
  | 113 => ⟨S16x64, .f32⟩
  | 114 => ⟨S16x64, .f32⟩
  | 115 => ⟨S_, .i32⟩
  | 116 => ⟨S32768, .i32⟩
  | 117 => ⟨S32768, .i1⟩
  | 118 => ⟨S_, .i32⟩
  | 119 => ⟨S32768, .i32⟩
  | 120 => ⟨S32768, .i32⟩
  | 121 => ⟨S32768, .i32⟩
  | 122 => ⟨S32768x1, .i32⟩
  | 123 => ⟨S1, .i32⟩
  | 124 => ⟨S_, .i32⟩
  | 125 => ⟨S32768x1, .i32⟩
  | 126 => ⟨S32768x1, .i1⟩
  | 127 => ⟨S1x1, .i32⟩
  | _ => ⟨S16, .i32⟩

abbrev hbmTy0_1 (i : Nat) : BufTy := match i % 128 with
  | 0 => ⟨S32768x1, .i32⟩
  | 1 => ⟨S32768x1, .i1⟩
  | 2 => ⟨S32768x1, .i1⟩
  | 3 => ⟨S_, .i1⟩
  | 4 => ⟨S32768, .i1⟩
  | 5 => ⟨S32768x64, .f32⟩
  | 6 => ⟨S32768x64, .i1⟩
  | 7 => ⟨S_, .f32⟩
  | 8 => ⟨S32768x64, .f32⟩
  | 9 => ⟨S32768x64, .f32⟩
  | 10 => ⟨S32768x128, .f32⟩
  | 11 => ⟨S128x64, .f32⟩
  | 12 => ⟨S32768x64, .f32⟩
  | 13 => ⟨S1x64, .f32⟩
  | 14 => ⟨S32768x64, .f32⟩
  | 15 => ⟨S32768x64, .f32⟩
  | 16 => ⟨S_, .f32⟩
  | 17 => ⟨S32768x64, .f32⟩
  | 18 => ⟨S32768x64, .f32⟩
  | 19 => ⟨S64x64, .f32⟩
  | 20 => ⟨S32768x64, .f32⟩
  | 21 => ⟨S1x64, .f32⟩
  | 22 => ⟨S32768x64, .f32⟩
  | 23 => ⟨S32768x64, .f32⟩
  | 24 => ⟨S_, .f32⟩
  | 25 => ⟨S32768x64, .f32⟩
  | 26 => ⟨S32768x64, .f32⟩
  | 27 => ⟨S64x1, .f32⟩
  | 28 => ⟨S32768x1, .f32⟩
  | 29 => ⟨S1x1, .f32⟩
  | 30 => ⟨S32768x1, .f32⟩
  | 31 => ⟨S32768x1, .f32⟩
  | 32 => ⟨S32768, .f32⟩
  | 33 => ⟨S1x32768, .i32⟩
  | 34 => ⟨S16, .i32⟩
  | 35 => ⟨S16x1, .i32⟩
  | 36 => ⟨S16x32768, .i32⟩
  | 37 => ⟨S16x32768, .i32⟩
  | 38 => ⟨S16x32768, .i1⟩
  | 39 => ⟨S1x32768, .f32⟩
  | 40 => ⟨S_, .f32⟩
  | 41 => ⟨S_, .f32⟩
  | 42 => ⟨S16x32768, .f32⟩
  | 43 => ⟨S16x32768, .f32⟩
  | 44 => ⟨S16x32768, .f32⟩
  | 45 => ⟨S_, .f32⟩
  | 46 => ⟨S16, .f32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S1, .i32⟩
  | 56 => ⟨S_, .i32⟩
  | 57 => ⟨S32768x1, .i32⟩
  | 58 => ⟨S32768x1, .i1⟩
  | 59 => ⟨S1x1, .i32⟩
  | 60 => ⟨S32768x1, .i32⟩
  | 61 => ⟨S32768x1, .i1⟩
  | 62 => ⟨S32768x1, .i1⟩
  | 63 => ⟨S_, .i1⟩
  | 64 => ⟨S32768, .i1⟩
  | 65 => ⟨S32768, .f32⟩
  | 66 => ⟨S_, .f32⟩
  | 67 => ⟨S32768, .f32⟩
  | 68 => ⟨S32768, .f32⟩
  | 69 => ⟨S32768, .f32⟩
  | 70 => ⟨S32768, .f32⟩
  | 71 => ⟨S_, .f32⟩
  | 72 => ⟨S16, .f32⟩
  | 73 => ⟨S32768x1, .i32⟩
  | 74 => ⟨S16, .f32⟩
  | 75 => ⟨S_, .i32⟩
  | 76 => ⟨S32768, .i32⟩
  | 77 => ⟨S32768, .i1⟩
  | 78 => ⟨S_, .i32⟩
  | 79 => ⟨S32768, .i32⟩
  | 80 => ⟨S32768, .i32⟩
  | 81 => ⟨S32768, .i32⟩
  | 82 => ⟨S32768x1, .i32⟩
  | 83 => ⟨S1, .i32⟩
  | 84 => ⟨S_, .i32⟩
  | 85 => ⟨S32768x1, .i32⟩
  | 86 => ⟨S32768x1, .i1⟩
  | 87 => ⟨S1x1, .i32⟩
  | 88 => ⟨S32768x1, .i32⟩
  | 89 => ⟨S32768x1, .i1⟩
  | 90 => ⟨S32768x1, .i1⟩
  | 91 => ⟨S_, .i1⟩
  | 92 => ⟨S32768, .i1⟩
  | 93 => ⟨S32768, .f32⟩
  | 94 => ⟨S_, .f32⟩
  | 95 => ⟨S32768, .f32⟩
  | 96 => ⟨S32768, .f32⟩
  | 97 => ⟨S32768, .f32⟩
  | 98 => ⟨S32768x1, .f32⟩
  | 99 => ⟨S32768x64, .f32⟩
  | 100 => ⟨S32768x64, .f32⟩
  | 101 => ⟨S_, .f32⟩
  | 102 => ⟨S16x64, .f32⟩
  | 103 => ⟨S32768x1, .i32⟩
  | 104 => ⟨S16x64, .f32⟩
  | _ => ⟨S16, .i32⟩

abbrev hbmTy (i : Nat) : BufTy := match i / 128 with
  | 0 => hbmTy0_0 i
  | 1 => hbmTy0_1 i
  | _ => ⟨S16, .i32⟩

abbrev bufTy : (tb : Table) → Fin (tcTables nBuf tb) → BufTy
  | .hbm, ⟨i, _⟩ => hbmTy i
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v10 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_call2_cst : Ref sig .tc := ⟨.hbm, 81, rfl⟩
abbrev main_call2_v0 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_call3_cst : Ref sig .tc := ⟨.hbm, 89, rfl⟩
abbrev main_call3_v0 : Ref sig .tc := ⟨.hbm, 90, rfl⟩
abbrev main_v24 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_call4_cst : Ref sig .tc := ⟨.hbm, 112, rfl⟩
abbrev main_call4_v15 : Ref sig .tc := ⟨.hbm, 113, rfl⟩
abbrev main_v25 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_c_2 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_3 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_call5_cst : Ref sig .tc := ⟨.hbm, 135, rfl⟩
abbrev main_call5_v15 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call6_cst : Ref sig .tc := ⟨.hbm, 144, rfl⟩
abbrev main_call6_v0 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call7_cst : Ref sig .tc := ⟨.hbm, 152, rfl⟩
abbrev main_call7_v0 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_v52 : Ref sig .tc := ⟨.hbm, 167, rfl⟩
abbrev main_cst : Ref sig .tc := ⟨.hbm, 168, rfl⟩
abbrev main_call8_v0 : Ref sig .tc := ⟨.hbm, 169, rfl⟩
abbrev main_call8_v1 : Ref sig .tc := ⟨.hbm, 170, rfl⟩
abbrev main_call8_v2 : Ref sig .tc := ⟨.hbm, 171, rfl⟩
abbrev main_v53 : Ref sig .tc := ⟨.hbm, 172, rfl⟩
abbrev main_cst_1 : Ref sig .tc := ⟨.hbm, 173, rfl⟩
abbrev main_v54 : Ref sig .tc := ⟨.hbm, 174, rfl⟩
abbrev main_call9_c : Ref sig .tc := ⟨.hbm, 175, rfl⟩
abbrev main_call9_v0 : Ref sig .tc := ⟨.hbm, 176, rfl⟩
abbrev main_call9_v1 : Ref sig .tc := ⟨.hbm, 177, rfl⟩
abbrev main_call9_c_0 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_c_1 : Ref sig .tc := ⟨.hbm, 183, rfl⟩
abbrev main_call9_c_2 : Ref sig .tc := ⟨.hbm, 184, rfl⟩
abbrev main_call9_v6 : Ref sig .tc := ⟨.hbm, 185, rfl⟩
abbrev main_call9_v7 : Ref sig .tc := ⟨.hbm, 186, rfl⟩
abbrev main_call9_v8 : Ref sig .tc := ⟨.hbm, 187, rfl⟩
abbrev main_call9_v9 : Ref sig .tc := ⟨.hbm, 188, rfl⟩
abbrev main_call9_v10 : Ref sig .tc := ⟨.hbm, 189, rfl⟩
abbrev main_call9_v11 : Ref sig .tc := ⟨.hbm, 190, rfl⟩
abbrev main_call9_c_3 : Ref sig .tc := ⟨.hbm, 191, rfl⟩
abbrev main_call9_v12 : Ref sig .tc := ⟨.hbm, 192, rfl⟩
abbrev main_call9_v13 : Ref sig .tc := ⟨.hbm, 193, rfl⟩
abbrev main_call9_cst : Ref sig .tc := ⟨.hbm, 194, rfl⟩
abbrev main_call9_v14 : Ref sig .tc := ⟨.hbm, 195, rfl⟩
abbrev main_v55 : Ref sig .tc := ⟨.hbm, 196, rfl⟩
abbrev main_v56 : Ref sig .tc := ⟨.hbm, 197, rfl⟩
abbrev main_v57 : Ref sig .tc := ⟨.hbm, 198, rfl⟩
abbrev main_cst_2 : Ref sig .tc := ⟨.hbm, 199, rfl⟩
abbrev main_v58 : Ref sig .tc := ⟨.hbm, 200, rfl⟩
abbrev main_v59 : Ref sig .tc := ⟨.hbm, 201, rfl⟩
abbrev main_v60 : Ref sig .tc := ⟨.hbm, 202, rfl⟩
abbrev main_call10_c : Ref sig .tc := ⟨.hbm, 203, rfl⟩
abbrev main_call10_v0 : Ref sig .tc := ⟨.hbm, 204, rfl⟩
abbrev main_call10_v1 : Ref sig .tc := ⟨.hbm, 205, rfl⟩
abbrev main_call10_c_0 : Ref sig .tc := ⟨.hbm, 206, rfl⟩
abbrev main_call10_v2 : Ref sig .tc := ⟨.hbm, 207, rfl⟩
abbrev main_call10_v3 : Ref sig .tc := ⟨.hbm, 208, rfl⟩
abbrev main_call10_v4 : Ref sig .tc := ⟨.hbm, 209, rfl⟩
abbrev main_call10_v5 : Ref sig .tc := ⟨.hbm, 210, rfl⟩
abbrev main_call10_c_1 : Ref sig .tc := ⟨.hbm, 211, rfl⟩
abbrev main_call10_c_2 : Ref sig .tc := ⟨.hbm, 212, rfl⟩
abbrev main_call10_v6 : Ref sig .tc := ⟨.hbm, 213, rfl⟩
abbrev main_call10_v7 : Ref sig .tc := ⟨.hbm, 214, rfl⟩
abbrev main_call10_v8 : Ref sig .tc := ⟨.hbm, 215, rfl⟩
abbrev main_call10_v9 : Ref sig .tc := ⟨.hbm, 216, rfl⟩
abbrev main_call10_v10 : Ref sig .tc := ⟨.hbm, 217, rfl⟩
abbrev main_call10_v11 : Ref sig .tc := ⟨.hbm, 218, rfl⟩
abbrev main_call10_c_3 : Ref sig .tc := ⟨.hbm, 219, rfl⟩
abbrev main_call10_v12 : Ref sig .tc := ⟨.hbm, 220, rfl⟩
abbrev main_call10_v13 : Ref sig .tc := ⟨.hbm, 221, rfl⟩
abbrev main_call10_cst : Ref sig .tc := ⟨.hbm, 222, rfl⟩
abbrev main_call10_v14 : Ref sig .tc := ⟨.hbm, 223, rfl⟩
abbrev main_v61 : Ref sig .tc := ⟨.hbm, 224, rfl⟩
abbrev main_v62 : Ref sig .tc := ⟨.hbm, 225, rfl⟩
abbrev main_v63 : Ref sig .tc := ⟨.hbm, 226, rfl⟩
abbrev main_v64 : Ref sig .tc := ⟨.hbm, 227, rfl⟩
abbrev main_v65 : Ref sig .tc := ⟨.hbm, 228, rfl⟩
abbrev main_cst_3 : Ref sig .tc := ⟨.hbm, 229, rfl⟩
abbrev main_v66 : Ref sig .tc := ⟨.hbm, 230, rfl⟩
abbrev main_v67 : Ref sig .tc := ⟨.hbm, 231, rfl⟩
abbrev main_v68 : Ref sig .tc := ⟨.hbm, 232, rfl⟩

abbrev nD : Nat := 1
abbrev τ : Topo := Topo.v7x

variable {F : FTy → Type} [FloatOps F]
-- ==== Proof.Base.lean ====
/-
  The program as its launch theorem sees it: the body table, the ghost state (the SparseCore call's hand-over cells, the
  TensorCore pipelines' staging cells, the transfers' counters), and the buffers of the TensorCore that outlive a call.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionArraysF
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat arrRef arrRefs ucRefs)

variable {F : FTy → Type}

/-- The labels of the program with its three pipelined calls. -/
abbrev ΛP : Labels := Pipeline.Sig Λ₀ (Fin 3) fun p => (pcfgs (F := F) p).Adm

/-- The SparseCore call's configuration. -/
abbrev K : SparseCore.Cfg τ sig (ΛP (F := F)) 1 := sc (F := F)

/-- The bodies of all labels. -/
abbrev D [FloatOps F] : Defs nD τ sig (Elt F) (ΛP (F := F)) := Pipeline.defs pcfgs defs₀

/-- No loop variants in the bodies. -/
abbrev 𝒱₀ : Variants := Variants.none

/-- Nor in the whole program. -/
abbrev 𝒱 : Variants := 𝒱₀.lift

/-- The only variant. -/
abbrev v₀ : 𝒱.V := Sum.inl none

/-- The hand-over cells' ghost state. -/
abbrev UH : Type := URounds (GSem nD τ sig) ℕ

/-- The staging cells' ghost state. -/
abbrev UP : Type := URounds (GSem nD τ sig) Unit
/-- The ghost state: the hand-over cells, the staging cells, the counters. -/
abbrev UU : Type := (UH × UP) × Counters

local notation "𝕄" => MT nD τ sig (HIx 1) (Elt F) ℕ UU ℕ

/-- Where the two stand together. -/
abbrev EHP : Emb (UH × UP) (MT nD τ sig (HIx 1) (Elt F) ℕ UU ℕ) := embL

/-- Where the hand-over cells stand. -/
abbrev EH : Emb UH (MT nD τ sig (HIx 1) (Elt F) ℕ UU ℕ) := (Emb.inl : Emb UH (UH × UP)).trans EHP

/-- Where the staging cells stand. -/
abbrev EP : Emb UP (MT nD τ sig (HIx 1) (Elt F) ℕ UU ℕ) := (Emb.inr : Emb UP (UH × UP)).trans EHP

/-- No pipeline reads a table ahead of its windows. -/
abbrev adm : (p : Fin 3) → (pcfgs (F := F) p).Adm := fun p => (cfgs p).toPCfg_adm

/-- The staging cells are distinct. -/
theorem phinj : Function.Injective (Pipeline.cellOf (nD := nD) (τ := τ) (Pipeline.pin (pcfgs (F := F)) adm)) := cellOf_inj

/-- A host thread signs nothing without a round at the start: its tally is zero there. -/
theorem Otc_none (d : Dev nD) (n : ℕ) (g : GSem nD τ sig) : (K (F := F)).Otc d n g (none : HIx 1) = 0 := by
  by_contra h
  have := (K (F := F)).lev_of_Otc_pos (N := 1) (d := d) (n := n) (g := g) (ι := none) (Nat.pos_of_ne_zero h)
  rw [SparseCore.Cfg.lev_none] at this
  omega

/-- The bound the TensorCore's recorded waits keep before call `n`. -/
abbrev recB (d : Dev nD) (n : ℕ) : Set (SemLoc sig × HIx 1) := {p | (K (F := F)).lev (T d, p.1) p.2 ≤ 8 * n}

end Cert.Proof

end
-- ==== Proof.Host.lean ====
/-
  @main's host operations: the four stretches between the calls, and what they leave.
-/
module

public import proofs.«01_k».proof.Proof.Base
public import Idealize.ShloMosaic.Lib.StableHlo.Run
public import Idealize.ShloMosaic.Lib.Pipeline.Kit
public import Idealize.ShloMosaic.Lib.ValueIdxCore

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Idealize.ShloMosaic.StableHlo

variable {F : FTy → Type} [FloatOps F]

local notation "𝕄" => MT nD τ sig (HIx 1) (Elt F) ℕ UU ℕ

/-- Stretch 1 of @main's host operations. -/
abbrev ops1 : List (HloOp τ sig (Elt F)) :=
  [ unary main_arg5 main_v0 ((transpose S64x1000000 [1, 0] · transposes_S1000000x64_S64x1000000_1_0) : (⟨S1000000x64, .f32⟩ : BufTy).Contents (Elt F) → (⟨S64x1000000, .f32⟩ : BufTy).Contents (Elt F)),
    unary main_arg4 main_v1 ((transpose S64x100000 [1, 0] · transposes_S100000x64_S64x100000_1_0) : (⟨S100000x64, .f32⟩ : BufTy).Contents (Elt F) → (⟨S64x100000, .f32⟩ : BufTy).Contents (Elt F)),
    nullary main_v2 (iotaInDim S64x64 32 0),
    nullary main_v3 (iotaInDim S64x64 32 1),
    nullary main_c (constantI S_ 32 0#32),
    unary main_c main_v4 (broadcastInDim S64x64 ![] bcast_S_S64x64 : (⟨S_, .i32⟩ : BufTy).Contents (Elt F) → (⟨S64x64, .i32⟩ : BufTy).Contents (Elt F)),
    binary main_v2 main_v4 main_v5 (addi : (⟨S64x64, .i32⟩ : BufTy).Contents (Elt F) → (⟨S64x64, .i32⟩ : BufTy).Contents (Elt F) → (⟨S64x64, .i32⟩ : BufTy).Contents (Elt F)),
    binary main_v5 main_v3 main_v6 (cmpi .eq : (⟨S64x64, .i32⟩ : BufTy).Contents (Elt F) → (⟨S64x64, .i32⟩ : BufTy).Contents (Elt F) → (⟨S64x64, .i1⟩ : BufTy).Contents (Elt F)),
    unary main_v6 main_v7 (uitofp .f32 : (⟨S64x64, .i1⟩ : BufTy).Contents (Elt F) → (⟨S64x64, .f32⟩ : BufTy).Contents (Elt F)) ]

/-- What it writes, in order. -/
abbrev wrote1 : List (Ref sig .tc) := [main_v0, main_v1, main_v2, main_v3, main_c, main_v4, main_v5, main_v6, main_v7]

/-- The host operations of part 1 use the host's buffers. -/
theorem sub1 : (ops1 : List (HloOp τ sig (Elt F))).Forall fun op => op.bufs ⊆ tcRefs τ sig :=
  ⟨unary_bufs_sub .., unary_bufs_sub .., nullary_bufs_sub .., nullary_bufs_sub .., nullary_bufs_sub .., unary_bufs_sub .., binary_bufs_sub .., binary_bufs_sub .., unary_bufs_sub ..⟩

/-- The host operations of part 1 take no new buffer. -/
theorem fresh1 : (ops1 : List (HloOp τ sig (Elt F))).Forall fun op => op.fresh = ∅ := forall_fresh_of_map rfl

/-- The host operations of part 1 write the listed buffers only. -/
theorem wsub1 : (ops1 : List (HloOp τ sig (Elt F))).Forall fun op => op.writes ⊆ (wrote1.map (Proc.devRef (τ := τ) .tc)).toFinset :=
  forall_writes_sub_of_map rfl

/-- Stretch 2 of @main's host operations. -/
abbrev ops2 : List (HloOp τ sig (Elt F)) :=
  [ nullary main_c_0 (constantI S_ 32 2048#32),
    TRef.unary (.of main_c_0) main_call0.v0 id,
    TRef.unary main_call0.v0 main_call0.v1 (broadcastInDim S32768 ![] bcast_S_S32768),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S32768 ![] bcast_S_S32768),
    TRef.binary main_call0.v3 main_call0.v5 main_call0.v6 (cmpi .ne),
    TRef.unary main_call0.v0 main_call0.v7 (broadcastInDim S32768 ![] bcast_S_S32768),
    TRef.binary (.of main_arg1) main_call0.v7 main_call0.v8 Host.remsi,
    TRef.nullary main_call0.c (constantI S_ 32 0#32),
    TRef.unary main_call0.c main_call0.v9 (broadcastInDim S32768 ![] bcast_S_S32768),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S32768 ![] bcast_S_S32768),
    TRef.binary main_call0.v2 main_call0.v12 main_call0.v13 subi,
    TRef.ternary main_call0.v11 main_call0.v13 main_call0.v2 main_call0.call0.v0 select,
    nullary main_c_1 (constantI S_ 32 1024#32),
    unary main_c_1 main_v10 (broadcastInDim S32768 ![] bcast_S_S32768 : (⟨S_, .i32⟩ : BufTy).Contents (Elt F) → (⟨S32768, .i32⟩ : BufTy).Contents (Elt F)),
    binary main_v9 main_v10 main_v11 (muli : (⟨S32768, .i32⟩ : BufTy).Contents (Elt F) → (⟨S32768, .i32⟩ : BufTy).Contents (Elt F) → (⟨S32768, .i32⟩ : BufTy).Contents (Elt F)),
    nullary main_c_2 (constantI S_ 32 1024#32),
    TRef.unary (.of main_c_2) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S32768 ![] bcast_S_S32768),
    TRef.binary (.of main_arg1) main_call1.v3 main_call1.v4 Host.remsi,
    TRef.nullary main_call1.c_1 (constantI S_ 32 0#32),
    TRef.unary main_call1.c_1 main_call1.v5 (broadcastInDim S32768 ![] bcast_S_S32768),
    TRef.binary main_call1.v4 main_call1.v5 main_call1.v6 (cmpi .ne),
    TRef.nullary main_call1.c_2 (constantI S_ 32 0#32),
    TRef.unary main_call1.c_2 main_call1.v7 (broadcastInDim S32768 ![] bcast_S_S32768),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S32768 ![] bcast_S_S32768),
    TRef.binary main_call1.v8 main_call1.v10 main_call1.v11 (cmpi .ne),
    TRef.binary main_call1.v11 main_call1.v6 main_call1.v12 andi,
    TRef.unary main_call1.call0.v0 main_call1.v13 (broadcastInDim S32768 ![] bcast_S_S32768),
    TRef.binary main_call1.v4 main_call1.v13 main_call1.v14 addi,
    TRef.ternary main_call1.v12 main_call1.v14 main_call1.v4 main_call1.v15 select,
    binary main_v11 main_v12 main_v13 (addi : (⟨S32768, .i32⟩ : BufTy).Contents (Elt F) → (⟨S32768, .i32⟩ : BufTy).Contents (Elt F) → (⟨S32768, .i32⟩ : BufTy).Contents (Elt F)),
    nullary main_c_3 (constantI S_ 32 1024#32),
    TRef.unary (.of main_c_3) main_call2.v0 id,
    TRef.unary main_call2.v0 main_call2.v1 (broadcastInDim S32768 ![] bcast_S_S32768),
    TRef.binary (.of main_arg1) main_call2.v1 main_call2.v2 Host.divsi,
    TRef.unary (.of main_arg1) main_call2.v3 signi,
    TRef.unary main_call2.v0 main_call2.v4 signi,
    TRef.unary main_call2.v4 main_call2.v5 (broadcastInDim S32768 ![] bcast_S_S32768),
    TRef.binary main_call2.v3 main_call2.v5 main_call2.v6 (cmpi .ne),
    TRef.unary main_call2.v0 main_call2.v7 (broadcastInDim S32768 ![] bcast_S_S32768),
    TRef.binary (.of main_arg1) main_call2.v7 main_call2.v8 Host.remsi,
    TRef.nullary main_call2.c (constantI S_ 32 0#32),
    TRef.unary main_call2.c main_call2.v9 (broadcastInDim S32768 ![] bcast_S_S32768),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S32768 ![] bcast_S_S32768),
    TRef.binary main_call2.v2 main_call2.v12 main_call2.v13 subi,
    TRef.ternary main_call2.v11 main_call2.v13 main_call2.v2 main_call2.call0.v0 select,
    nullary main_c_4 (constantI S_ 32 2#32),
    TRef.unary (.of main_c_4) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S32768 ![] bcast_S_S32768),
    TRef.binary (.of main_v14) main_call3.v3 main_call3.v4 Host.remsi,
    TRef.nullary main_call3.c_1 (constantI S_ 32 0#32),
    TRef.unary main_call3.c_1 main_call3.v5 (broadcastInDim S32768 ![] bcast_S_S32768),
    TRef.binary main_call3.v4 main_call3.v5 main_call3.v6 (cmpi .ne),
    TRef.nullary main_call3.c_2 (constantI S_ 32 0#32),
    TRef.unary main_call3.c_2 main_call3.v7 (broadcastInDim S32768 ![] bcast_S_S32768),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S32768 ![] bcast_S_S32768),
    TRef.binary main_call3.v8 main_call3.v10 main_call3.v11 (cmpi .ne),
    TRef.binary main_call3.v11 main_call3.v6 main_call3.v12 andi,
    TRef.unary main_call3.call0.v0 main_call3.v13 (broadcastInDim S32768 ![] bcast_S_S32768),
    TRef.binary main_call3.v4 main_call3.v13 main_call3.v14 addi,
    TRef.ternary main_call3.v12 main_call3.v14 main_call3.v4 main_call3.v15 select,
    reshape main_v13 main_v16 (rfl : (.i32 : EltTy) = .i32) shapeCasts_S32768_S32x8x128 ]

/-- What it writes, in order. -/
abbrev wrote2 : List (Ref sig .tc) := [main_c_0, main_call0.v0.ref, main_call0.v1.ref, main_call0.v2.ref, main_call0.v3.ref, main_call0.v4.ref, main_call0.v5.ref, main_call0.v6.ref, main_call0.v7.ref, main_call0.v8.ref, main_call0.c.ref, main_call0.v9.ref, main_call0.v10.ref, main_call0.v11.ref, main_call0.c_0.ref, main_call0.v12.ref, main_call0.v13.ref, main_call0.call0.v0.ref, main_c_1, main_v10, main_v11, main_c_2, main_call1.v0.ref, main_call1.c.ref, main_call1.v1.ref, main_call1.c_0.ref, main_call1.call0.v0.ref, main_call1.v3.ref, main_call1.v4.ref, main_call1.c_1.ref, main_call1.v5.ref, main_call1.v6.ref, main_call1.c_2.ref, main_call1.v7.ref, main_call1.v8.ref, main_call1.c_3.ref, main_call1.v9.ref, main_call1.v10.ref, main_call1.v11.ref, main_call1.v12.ref, main_call1.v13.ref, main_call1.v14.ref, main_call1.v15.ref, main_v13, main_c_3, main_call2.v0.ref, main_call2.v1.ref, main_call2.v2.ref, main_call2.v3.ref, main_call2.v4.ref, main_call2.v5.ref, main_call2.v6.ref, main_call2.v7.ref, main_call2.v8.ref, main_call2.c.ref, main_call2.v9.ref, main_call2.v10.ref, main_call2.v11.ref, main_call2.c_0.ref, main_call2.v12.ref, main_call2.v13.ref, main_call2.call0.v0.ref, main_c_4, main_call3.v0.ref, main_call3.c.ref, main_call3.v1.ref, main_call3.c_0.ref, main_call3.call0.v0.ref, main_call3.v3.ref, main_call3.v4.ref, main_call3.c_1.ref, main_call3.v5.ref, main_call3.v6.ref, main_call3.c_2.ref, main_call3.v7.ref, main_call3.v8.ref, main_call3.c_3.ref, main_call3.v9.ref, main_call3.v10.ref, main_call3.v11.ref, main_call3.v12.ref, main_call3.v13.ref, main_call3.v14.ref, main_call3.v15.ref, main_v16]

/-- The host operations of part 2 use the host's buffers. -/
theorem sub2 : (ops2 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., reshape_bufs_sub ..⟩

/-- The host operations of part 2 take no new buffer. -/
theorem fresh2 : (ops2 : List (HloOp τ sig (Elt F))).Forall fun op => op.fresh = ∅ := forall_fresh_of_map rfl

/-- The host operations of part 2 write the listed buffers only. -/
theorem wsub2 : (ops2 : List (HloOp τ sig (Elt F))).Forall fun op => op.writes ⊆ (wrote2.map (Proc.devRef (τ := τ) .tc)).toFinset :=
  forall_writes_sub_of_map rfl

/-- Stretch 3 of @main's host operations. -/
abbrev ops3 : List (HloOp τ sig (Elt F)) :=
  [ reshape main_arg0 main_v18 (rfl : (.i32 : EltTy) = .i32) shapeCasts_S16_S1x16 ]

/-- What it writes, in order. -/
abbrev wrote3 : List (Ref sig .tc) := [main_v18]

/-- The host operations of part 3 use the host's buffers. -/
theorem sub3 : (ops3 : List (HloOp τ sig (Elt F))).Forall fun op => op.bufs ⊆ tcRefs τ sig := reshape_bufs_sub ..

/-- The host operations of part 3 take no new buffer. -/
theorem fresh3 : (ops3 : List (HloOp τ sig (Elt F))).Forall fun op => op.fresh = ∅ := forall_fresh_of_map rfl

/-- The host operations of part 3 write the listed buffers only. -/
theorem wsub3 : (ops3 : List (HloOp τ sig (Elt F))).Forall fun op => op.writes ⊆ (wrote3.map (Proc.devRef (τ := τ) .tc)).toFinset :=
  forall_writes_sub_of_map rfl

/-- Stretch 4 of @main's host operations. -/
abbrev ops4 : List (HloOp τ sig (Elt F)) :=
  [ reshape main_arg2 main_v20 (rfl : (.i32 : EltTy) = .i32) shapeCasts_S32768_S1x32768,
    reshape main_v15 main_v21 (rfl : (.i32 : EltTy) = .i32) shapeCasts_S32768_S1x32768,
    unary main_arg3 main_v22 ((extractStridedSlice S16 ![0] · slices_S17_S16_0) : (⟨S17, .i32⟩ : BufTy).Contents (Elt F) → (⟨S16, .i32⟩ : BufTy).Contents (Elt F)),
    reshape main_v22 main_v23 (rfl : (.i32 : EltTy) = .i32) shapeCasts_S16_S16x1,
    unary main_arg3 main_v24 ((extractStridedSlice S16 ![1] · slices_S17_S16_1) : (⟨S17, .i32⟩ : BufTy).Contents (Elt F) → (⟨S16, .i32⟩ : BufTy).Contents (Elt F)),
    reshape main_v24 main_v25 (rfl : (.i32 : EltTy) = .i32) shapeCasts_S16_S16x1,
    nullary main_c_5 (constantI S_ 32 0#32),
    TRef.unary (.of main_c_5) main_call4.v0 (sitofp .f32),
    TRef.binary (.of main_arg6 : TRef sig ⟨S5x64, .f32⟩) main_call4.v0 main_call4.v1 (fun x v => pad S8x64 ![0, 0] ![3, 0] ![0, 0] x v pads_S5x64_S8x64_030_000 h_S_),
    unary main_arg7 main_v27 ((extractStridedSlice S64x64 ![0, 0] · slices_S64x128_S64x64_0_0) : (⟨S64x128, .f32⟩ : BufTy).Contents (Elt F) → (⟨S64x64, .f32⟩ : BufTy).Contents (Elt F)),
    unary main_arg7 main_v28 ((extractStridedSlice S64x64 ![0, 64] · slices_S64x128_S64x64_0_64) : (⟨S64x128, .f32⟩ : BufTy).Contents (Elt F) → (⟨S64x64, .f32⟩ : BufTy).Contents (Elt F)),
    unary main_arg11 main_v29 ((extractStridedSlice S64x64 ![0, 0] · slices_S64x128_S64x64_0_0) : (⟨S64x128, .f32⟩ : BufTy).Contents (Elt F) → (⟨S64x64, .f32⟩ : BufTy).Contents (Elt F)),
    unary main_arg11 main_v30 ((extractStridedSlice S64x64 ![0, 64] · slices_S64x128_S64x64_0_64) : (⟨S64x128, .f32⟩ : BufTy).Contents (Elt F) → (⟨S64x64, .f32⟩ : BufTy).Contents (Elt F)),
    reshape main_arg8 main_v31 (rfl : (.f32 : EltTy) = .f32) shapeCasts_S64_S64x1,
    reshape main_arg10 main_v32 (rfl : (.f32 : EltTy) = .f32) shapeCasts_S64_S64x1,
    reshape main_arg12 main_v33 (rfl : (.f32 : EltTy) = .f32) shapeCasts_S64_S64x1,
    reshape main_arg14 main_v34 (rfl : (.f32 : EltTy) = .f32) shapeCasts_S64_S64x1,
    reshape main_arg16 main_v35 (rfl : (.f32 : EltTy) = .f32) shapeCasts_S1_S1x1 ]

/-- What it writes, in order. -/
abbrev wrote4 : List (Ref sig .tc) := [main_v20, main_v21, main_v22, main_v23, main_v24, main_v25, main_c_5, main_call4.v0.ref, main_call4.v1.ref, main_v27, main_v28, main_v29, main_v30, main_v31, main_v32, main_v33, main_v34, main_v35]

/-- The host operations of part 4 use the host's buffers. -/
theorem sub4 : (ops4 : List (HloOp τ sig (Elt F))).Forall fun op => op.bufs ⊆ tcRefs τ sig :=
  ⟨reshape_bufs_sub .., reshape_bufs_sub .., unary_bufs_sub .., reshape_bufs_sub .., unary_bufs_sub .., reshape_bufs_sub .., nullary_bufs_sub .., unary_bufs_sub .., binary_bufs_sub .., unary_bufs_sub .., unary_bufs_sub .., unary_bufs_sub .., unary_bufs_sub .., reshape_bufs_sub .., reshape_bufs_sub .., reshape_bufs_sub .., reshape_bufs_sub .., reshape_bufs_sub ..⟩

/-- The host operations of part 4 take no new buffer. -/
theorem fresh4 : (ops4 : List (HloOp τ sig (Elt F))).Forall fun op => op.fresh = ∅ := forall_fresh_of_map rfl

/-- The host operations of part 4 write the listed buffers only. -/
theorem wsub4 : (ops4 : List (HloOp τ sig (Elt F))).Forall fun op => op.writes ⊆ (wrote4.map (Proc.devRef (τ := τ) .tc)).toFinset :=
  forall_writes_sub_of_map rfl

set_option maxHeartbeats 8000000 in
/-- @main is its four stretches with the four calls between. -/
theorem main_eq (d : Dev nD) : main (F := F) d = (do
    seq ops1
    Prog.lift (.customCall (SparseCore.inner (Pipeline.entry 0)) ())
    seq ops2
    sc.run d 0
    seq ops3
    Prog.lift (.customCall (SparseCore.inner (Pipeline.entry 1)) ())
    seq ops4
    Prog.lift (.customCall (SparseCore.inner (Pipeline.entry 2)) ())) := by
  simp only [main, fn_floor_divide.body, fn_remainder.body, fn_remainder_1.body, fn_pad.body, fn_where.body, fn_where_0.body, seq, bind_assoc, pure_bind, bind_pure]
  try rfl

end Cert.Proof

end
-- ==== Proof.Values.lean ====
/-
  What @main's host stretches leave in the buffers the calls read.
-/
module

public import proofs.«01_k».proof.Proof.Host

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Idealize.ShloMosaic.StableHlo

variable {F : FTy → Type} [FloatOps F]

local notation "𝕄" => MT nD τ sig (HIx 1) (Elt F) ℕ UU ℕ

/-- A reference of @main as a device's buffer. -/
abbrev R (b : Ref sig .tc) : DevRef τ sig := Proc.devRef .tc b

/-- The buffers @main holds. -/
abbrev SS : Finset (DevRef τ sig) := ucRefs τ sig

/-- Host operations over the host's buffers use buffers the host owns. -/
theorem ops_uc (ops : List (HloOp τ sig (Elt F))) (h : ops.Forall fun op => op.bufs ⊆ tcRefs τ sig) : ∀ op ∈ ops, op.bufs ⊆ SS :=
  fun op ho => Pipeline.sub_ucRefs op (List.forall_iff_forall_mem.mp h op ho)

/-! ## What the host stretches leave -/

/-- Floor division of every entry by a constant. -/
def fdiv (x : S32768.Idx → BitVec 32) (c : BitVec 32) : S32768.Idx → BitVec 32 :=
  let b := broadcastInDim S32768 ![] bcast_S_S32768 (constantI S_ 32 c)
  let q := Host.divsi x b
  select (andi (cmpi .ne (signi x) (broadcastInDim S32768 ![] bcast_S_S32768 (signi (constantI S_ 32 c))))
      (cmpi .ne (Host.remsi x b) (broadcastInDim S32768 ![] bcast_S_S32768 (constantI S_ 32 0#32))))
    (subi q (broadcastInDim S32768 ![] bcast_S_S32768 (constantI S_ 32 1#32))) q

/-- The remainder of every entry by a constant, of the constant's sign. -/
def frem (x : S32768.Idx → BitVec 32) (c : BitVec 32) : S32768.Idx → BitVec 32 :=
  let d : S_.Idx → BitVec 32 := select (cmpi .eq (constantI S_ 32 c) (constantI S_ 32 0#32)) (constantI S_ 32 1#32) (constantI S_ 32 c)
  let r := Host.remsi x (broadcastInDim S32768 ![] bcast_S_S32768 d)
  select (andi (cmpi .ne (cmpi .slt r (broadcastInDim S32768 ![] bcast_S_S32768 (constantI S_ 32 0#32)))
        (broadcastInDim S32768 ![] bcast_S_S32768 (cmpi .slt d (constantI S_ 32 0#32))))
      (cmpi .ne r (broadcastInDim S32768 ![] bcast_S_S32768 (constantI S_ 32 0#32))))
    (addi r (broadcastInDim S32768 ![] bcast_S_S32768 d)) r

/-- The packed table's row of every index. -/
def jrow (x : S32768.Idx → BitVec 32) : S32768.Idx → BitVec 32 :=
  addi (muli (fdiv x 2048#32) (broadcastInDim S32768 ![] bcast_S_S32768 (constantI S_ 32 1024#32))) (frem x 1024#32)

/-- Which half of the packed row an index is in. -/
def half (x : S32768.Idx → BitVec 32) : S32768.Idx → BitVec 32 := frem (fdiv x 1024#32) 2#32

set_option maxRecDepth 8192 in
/-- What `v16` holds: the packed row of each item, one row of words a worker. -/
theorem v16_eq (V : Valuation τ sig (Elt F)) :
    after ops2 V (R main_v16) = shapeCast S32x8x128 (jrow (V (R main_arg1))) shapeCasts_S32768_S32x8x128 := by
  after_results_simp
  simp only [TRef.ofBuf, TRef.toBuf, cast_cast, cast_eq]
  rfl

set_option maxRecDepth 8192 in
/-- What `v15` holds: the half of the packed row each item lies in. -/
theorem v15_eq (V : Valuation τ sig (Elt F)) : after ops2 V (R main_v15) = half (V (R main_arg1)) := by
  after_results_simp
  simp only [TRef.ofBuf, TRef.toBuf, cast_cast, cast_eq]
  rfl

/-- The host operations of part 1 keep every buffer they don't list. -/
theorem keep1 (V : Valuation τ sig (Elt F)) (b : Ref sig .tc) (hb : b ∉ wrote1) : after ops1 V (R b) = V (R b) :=
  after_of_writes_sub ops1 V wsub1 hb

/-- The host operations of part 2 keep every buffer they don't list. -/
theorem keep2 (V : Valuation τ sig (Elt F)) (b : Ref sig .tc) (hb : b ∉ wrote2) : after ops2 V (R b) = V (R b) :=
  after_of_writes_sub ops2 V wsub2 hb

/-- The host operations of part 3 keep every buffer they don't list. -/
theorem keep3 (V : Valuation τ sig (Elt F)) (b : Ref sig .tc) (hb : b ∉ wrote3) : after ops3 V (R b) = V (R b) :=
  after_of_writes_sub ops3 V wsub3 hb

/-- The host operations of part 4 keep every buffer they don't list. -/
theorem keep4 (V : Valuation τ sig (Elt F)) (b : Ref sig .tc) (hb : b ∉ wrote4) : after ops4 V (R b) = V (R b) :=
  after_of_writes_sub ops4 V wsub4 hb

end Cert.Proof

end
-- ==== Proof.Tile.lean ====
/-
  One task of the SparseCore gather: on vector subcore `(c, s)` the task fetches its row `2 s + c` of the index array
  into its index scratch, then fetches the table's rows those indices name, 128 at a time, into two row buffers in
  turn, the next chunk's gather started before the last one's is waited for, and writes each chunk to its place of the
  output. Here the run is executed once, at a symbolic place and for any contents of the table, the indices and the
  output, the indices being rows of the table.
-/
module

public import proofs.«01_k».proof.Proof.Base
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The buffers a task names -/

/-- The packed table on a device. -/
abbrev wLoc (d : Dev nD) : Loc nD τ sig := (SparseCore.T d).loc main_v8

/-- The index words on a device. -/
abbrev iLoc (d : Dev nD) : Loc nD τ sig := (SparseCore.T d).loc main_v16

/-- The gathered rows on a device. -/
abbrev oLoc (d : Dev nD) : Loc nD τ sig := (SparseCore.T d).loc main_v17

/-- The packed table, as a subcore sees it. -/
abbrev wV : Memref sig .scVector .hbm S507904x128 .f32 := Memref.whole main_v8_scv

/-- The index words, as a subcore sees them. -/
abbrev iV : Memref sig .scVector .hbm S32x8x128 .i32 := Memref.whole main_v16_scv

/-- The gathered rows, as a subcore sees them. -/
abbrev oV : Memref sig .scVector .hbm S32768x128 .f32 := Memref.whole main_v17_scv

/-- The subcore's own index words. -/
abbrev sV : Memref sig .scVector .vmem S8x128 .i32 := Memref.whole cc1_scratch0

/-- Its first row buffer. -/
abbrev aV : Memref sig .scVector .vmem S128x128 .f32 := Memref.whole cc1_scratch1

/-- Its second row buffer. -/
abbrev bV : Memref sig .scVector .vmem S128x128 .f32 := Memref.whole cc1_scratch2

section Tile

variable (d : Dev nD) (L : grid1.Coords)

/-- The core of a grid point. -/
abbrev cV (L : grid1.Coords) : Fin τ.nSC := (L 0).castLE hcore1

/-- The subcore of a grid point. -/
abbrev jV (L : grid1.Coords) : Fin τ.nSub := (L 1).castLE hsub1

/-- The thread of a grid point. -/
abbrev VT (d : Dev nD) (L : grid1.Coords) : Thread nD τ := V d (cV L) (jV L)

/-- The task's row of the index array, as an `8 × 128` array. -/
abbrev iRowK (L : grid1.Coords) : Memref sig .scVector .hbm S8x128 .i32 :=
  ((iV).slice (Rect.unit (s := S32x8x128) (k1_off1 L) S1x8x128.size (k1_off1_inb L)) (fun _ => rfl)).squeeze S8x128 squeezes_S1x8x128_S8x128
/-- The 128 rows of the output at the task's offset `c`. -/
abbrev oBlk (L : grid1.Coords) (c : BitVec 32) (h : ∀ a, k1_off2 L c a + S128x128.size a ≤ S32768x128.size a) : Memref sig .scVector .hbm S128x128 .f32 :=
  (oV).slice (Rect.unit (s := S32768x128) (k1_off2 L c) S128x128.size h) (fun _ => rfl)
/-- Row `k` of the index scratch. -/
abbrev sRow (off : Fin 2 → Nat) (h : ∀ a, off a + S1x128.size a ≤ S8x128.size a) : Memref sig .scVector .vmem S128 .i32 :=
  ((sV).slice (Rect.unit (s := S8x128) off S1x128.size h) (fun _ => rfl)).squeeze S128 squeezes_S1x128_S128

/-- What the index fetch lands in the index scratch. -/
abbrev PAY (jf : Buf (Elt F) (iLoc d)) : S8x128.Idx → Elt F .i32 := ReadAs.same.apply ((iRowK L).view.read (Elt F) jf)

/-- The staged index words are the worker's row of the index array. -/
theorem PAY_apply (jf : Buf (Elt F) (iLoc d)) (x : S8x128.Idx) : PAY d L jf x = jf ((iRowK L).view.emb x) :=
  (View.read_apply _ _).trans (cast_eq _ _)

/-- The offsets a gather reads are rows of the table: each is a word of the task's row of the index array. -/
theorem inb_of_rows (jf : Buf (Elt F) (iLoc d)) (hj : ∀ x, (jf x : BitVec 32).toNat < 507904)
    (pay : S8x128.Idx → Elt F .i32) (hpay : pay = PAY d L jf) (g : Buf (Elt F) ((sV).view.loc (VT d L)))
    (row : Fin 2 → Nat) (hk : ∀ a, row a + S1x128.size a ≤ S8x128.size a) :
    ∀ x, (View.read (Elt F) (sRow row hk).view ((sV).view.writes (Elt F) g [⟨Rect.whole cc1_scratch0.ty.shape, pay⟩]) x).toNat < 507904 := by
  subst hpay; intro x
  have e : View.read (Elt F) (sRow row hk).view ((sV).view.writes (Elt F) g [⟨Rect.whole cc1_scratch0.ty.shape, PAY d L jf⟩]) x
      = View.read (Elt F) (sV).view ((sV).view.writes (Elt F) g [⟨Rect.whole cc1_scratch0.ty.shape, PAY d L jf⟩])
          ((Rect.unit (s := S8x128) row S1x128.size hk).emb ((Shape.reshapeEquiv squeezes_S1x128_S128.numel_eq) x)) := by
    rw [View.read_apply, View.read_apply]; rfl
  rw [e.trans ((congrFun (View.read_writes_whole (sV).view g (PAY d L jf)) _).trans (PAY_apply d L jf _))]
  exact hj _

/-- Different rows of the index scratch share no element. -/
theorem disj_rows (p q : Nat) (hp : ∀ a, (![p, 0] : Fin 2 → Nat) a + S1x128.size a ≤ S8x128.size a)
    (hq : ∀ a, (![q, 0] : Fin 2 → Nat) a + S1x128.size a ≤ S8x128.size a) (h : p ≠ q) : Disjoint (sRow ![p, 0] hp).view.set (sRow ![q, 0] hq).view.set := by
  simp only [Memref.view, View.set_reshape, View.set_slice]
  refine (Finset.disjoint_map _).mpr (Rect.disjoint_of_separated _ _ 0 ?_)
  rcases Nat.lt_or_gt_of_ne h with h | h
  · exact .inl (.inr (by simp; omega))
  · exact .inr (.inr (by simp; omega))

/-! ## The values -/

/-- A row's worker is one of thirty-two. -/
theorem gath_lt1 (x : Fin 32768) : x.val / 1024 < 32 := by omega

/-- A row's block is one of eight. -/
theorem gath_lt2 (x : Fin 32768) : x.val / 128 % 8 < 8 := by omega

/-- A row's place in its block is one of 128. -/
theorem gath_lt3 (x : Fin 32768) : x.val % 128 < 128 := by omega

/-- The gathered rows: row `x` is the table's row named by word `x` of the index array, its words counted in row-major
    order (the remainder changes nothing where the words are rows of the table). -/
def gath (wf : S507904x128.Idx → Elt F .f32) (jf : S32x8x128.Idx → BitVec 32) : S32768x128.Idx → Elt F .f32 :=
  fun x => wf (ix2 (⟨(jf (ix3 (⟨(x 0).val / 1024, gath_lt1 (x 0)⟩ : Fin 32) (⟨(x 0).val / 128 % 8, gath_lt2 (x 0)⟩ : Fin 8)
    (⟨(x 0).val % 128, gath_lt3 (x 0)⟩ : Fin 128))).toNat % 507904, Nat.mod_lt _ (by decide)⟩ : Fin 507904) (x 1))

/-- Element `(p, k)` of the task's row of the index array is element `(2 s + c, p, k)` of the array. -/
theorem iRowK_emb (p : Fin 8) (k : Fin 128) (hw : 2 * (L 1).val + (L 0).val < 32) :
    (iRowK L).view.emb (ix2 p k) = ix3 (⟨2 * (L 1).val + (L 0).val, hw⟩ : Fin 32) p k := by
  show (Rect.unit (s := S32x8x128) (k1_off1 L) S1x8x128.size (k1_off1_inb L)).emb (Shape.reshapeEquiv (s := S1x8x128) (s' := S8x128) _ (ix2 p k)) = _
  rw [show Shape.reshapeEquiv (s := S1x8x128) (s' := S8x128) squeezes_S1x8x128_S8x128.numel_eq (ix2 p k) = _ from reshapeEquiv_ix2_1ab _ p k]
  funext a
  apply Fin.ext
  match a with
  | 0 => show k1_off1 L 0 + 1 * 0 = _; rw [k1_off1_eq]; simp
  | 1 => show k1_off1 L 1 + 1 * p.val = p.val; rw [k1_off1_eq]; simp
  | 2 => show k1_off1 L 2 + 1 * k.val = k.val; rw [k1_off1_eq]; simp

/-- What the list's word `k` of row `p` of the index scratch reads after the fetch. -/
theorem sRow_read (jf : Buf (Elt F) (iLoc d)) (g : Buf (Elt F) ((sV).view.loc (VT d L))) (p : Fin 8)
    (hp : ∀ a, (![p.val, 0] : Fin 2 → Nat) a + S1x128.size a ≤ S8x128.size a) (k : Fin 128) :
    View.read (Elt F) (sRow ![p.val, 0] hp).view ((sV).view.writes (Elt F) g [⟨Rect.whole cc1_scratch0.ty.shape, PAY d L jf⟩]) (ix1 k)
      = jf ((iRowK L).view.emb (ix2 p k)) := by
  have e : View.read (Elt F) (sRow ![p.val, 0] hp).view ((sV).view.writes (Elt F) g [⟨Rect.whole cc1_scratch0.ty.shape, PAY d L jf⟩]) (ix1 k)
      = View.read (Elt F) (sV).view ((sV).view.writes (Elt F) g [⟨Rect.whole cc1_scratch0.ty.shape, PAY d L jf⟩])
          ((Rect.unit (s := S8x128) ![p.val, 0] S1x128.size hp).emb ((Shape.reshapeEquiv squeezes_S1x128_S128.numel_eq) (ix1 k))) := by
    rw [View.read_apply, View.read_apply]; rfl
  refine e.trans ((congrFun (View.read_writes_whole (sV).view g (PAY d L jf)) _).trans ((PAY_apply d L jf _).trans ?_))
  congr 2
  have h1 : (Shape.reshapeEquiv squeezes_S1x128_S128.numel_eq) (ix1 k : S128.Idx) = (ix2 (⟨0, Nat.one_pos⟩ : Fin 1) k : S1x128.Idx) :=
    Shape.reshapeEquiv_eq_of_rowMajor _ (by
      rw [Shape.rowMajor_val_two, Shape.rowMajor_val_one]; show 0 * 128 + k.val = k.val; omega)
  rw [h1]
  funext a
  apply Fin.ext
  match a with
  | 0 => show p.val + 1 * 0 = p.val; omega
  | 1 => show 0 + 1 * k.val = k.val; omega

/-- The table as the task's gathers name it: all of it. -/
abbrev wAllK : Memref sig .scVector .hbm S507904x128 .f32 :=
  (wV).slice (Rect.unit (s := S507904x128) ![0, 0] S507904x128.size inb_S507904x128_S507904x128_0_0) (fun _ => rfl)

/-- Reading the whole table is reading the table. -/
theorem wAllK_read (wf : Buf (Elt F) (wLoc d)) (y : S507904x128.Idx) : View.read (Elt F) (wAllK).view wf y = wf y := by
  rw [View.read_apply]
  show wf ((Rect.unit (s := S507904x128) ![0, 0] S507904x128.size inb_S507904x128_S507904x128_0_0).emb y) = wf y
  congr 1
  funext a; apply Fin.ext
  match a with
  | 0 => show 0 + 1 * (y 0).val = (y 0).val; omega
  | 1 => show 0 + 1 * (y 1).val = (y 1).val; omega

/-- Element `(k, l)` of chunk `p` of the task's output is element `(1024 (2 s + c) + 128 p + k, l)` of the output. -/
theorem oBlk_emb (p : Fin 8) (x : S128x128.Idx) (h) (hw : 2048 * (L 1).val + 1024 * (L 0).val + 128 * p.val + (x 0).val < 32768) :
    (oBlk L (BitVec.ofNat 32 (128 * p.val)) h).view.emb x
      = ix2 (⟨2048 * (L 1).val + 1024 * (L 0).val + 128 * p.val + (x 0).val, hw⟩ : Fin 32768) (x 1) := by
  show (Rect.unit (s := S32768x128) (k1_off2 L (BitVec.ofNat 32 (128 * p.val))) S128x128.size h).emb x = _
  funext a; apply Fin.ext
  match a with
  | 0 => show k1_off2 L (BitVec.ofNat 32 (128 * p.val)) 0 + 1 * (x 0).val = _; rw [k1_off2_eq]; simp
  | 1 => show k1_off2 L (BitVec.ofNat 32 (128 * p.val)) 1 + 1 * (x 1).val = (x 1).val; rw [k1_off2_eq]; simp

/-- What chunk `p`'s gather delivers is the gathered rows at the chunk's place. -/
theorem gather_gath (wf : Buf (Elt F) (wLoc d)) (jf : Buf (Elt F) (iLoc d)) (hj : ∀ x, (jf x : BitVec 32).toNat < 507904)
    (p : Fin 8) (g : Buf (Elt F) ((sV).view.loc (VT d L)))
    (hp : ∀ a, (![p.val, 0] : Fin 2 → Nat) a + S1x128.size a ≤ S8x128.size a) (hn : S128.numel = S128x128.size gathers_S507904x128_S128x128.axis')
    (hin : ∀ x, (View.read (Elt F) (sRow ![p.val, 0] hp).view ((sV).view.writes (Elt F) g [⟨Rect.whole cc1_scratch0.ty.shape, PAY d L jf⟩]) x).toNat
      < S507904x128.size gathers_S507904x128_S128x128.axis) (h) (x : S128x128.Idx) :
    SparseCore.gatherPayload gathers_S507904x128_S128x128 (View.read (Elt F) (wAllK).view wf)
        (SparseCore.rows (View.read (Elt F) (sRow ![p.val, 0] hp).view ((sV).view.writes (Elt F) g [⟨Rect.whole cc1_scratch0.ty.shape, PAY d L jf⟩])) hn hin) x
      = gath wf jf ((oBlk L (BitVec.ofNat 32 (128 * p.val)) h).view.emb x) := by
  have h0 : (L 0).val < 2 := (L 0).isLt
  have h1 : (L 1).val < 16 := (L 1).isLt
  have hx0 : (x 0).val < 128 := idx2_lt0 x
  have hpl := p.isLt
  unfold SparseCore.gatherPayload
  rw [wAllK_read, oBlk_emb L p x h (by omega)]
  unfold gath
  congr 1
  funext a; apply Fin.ext
  match a with
  | 0 =>
    show (Shape.Gathers.idx gathers_S507904x128_S128x128 _ x gathers_S507904x128_S128x128.axis).val = _
    rw [Shape.Gathers.idx_axis]
    show (View.read (Elt F) (sRow ![p.val, 0] hp).view _ (S128.rowMajor.symm _)).toNat = _
    have hk : S128.rowMajor.symm ((x gathers_S507904x128_S128x128.axis').cast hn.symm) = (ix1 (⟨(x 0).val, hx0⟩ : Fin 128) : S128.Idx) :=
      (Equiv.symm_apply_eq _).mpr (by apply Fin.ext; rw [Shape.rowMajor_val_one]; rfl)
    rw [hk, sRow_read d L jf g p hp ⟨(x 0).val, hx0⟩, iRowK_emb L p ⟨(x 0).val, hx0⟩ (by omega)]
    refine (congrArg BitVec.toNat (congrArg jf ?_)).trans (Nat.mod_eq_of_lt (hj _)).symm
    funext b; apply Fin.ext
    match b with
    | 0 => show 2 * (L 1).val + (L 0).val = (2048 * (L 1).val + 1024 * (L 0).val + 128 * p.val + (x 0).val) / 1024; omega
    | 1 => show p.val = (2048 * (L 1).val + 1024 * (L 0).val + 128 * p.val + (x 0).val) / 128 % 8; omega
    | 2 => show (x 0).val = (2048 * (L 1).val + 1024 * (L 0).val + 128 * p.val + (x 0).val) % 128; omega
  | 1 => exact Shape.Gathers.idx_of_ne gathers_S507904x128_S128x128 _ x 1 (by decide)

/-- What a row buffer reads after a chunk's rows are written over all of it. -/
theorem read_cons_whole {κ : Kind} {sp : Space} {s : Shape} {e : EltTy} (v : View sig κ sp s e) (f : v.ty.Contents (Elt F))
    (p : s.Idx → Elt F e) (l : List (Σ r : Rect s, r.shape.Idx → Elt F e)) (y : s.Idx) :
    v.read (Elt F) (v.writes (Elt F) f (⟨Rect.whole s, p⟩ :: l)) y = p y := by
  have h := View.read_writes_cons_emb v f (Rect.whole s) p l y
  rwa [Rect.emb_whole_apply] at h

/-- A chunk of the output holding the gathered rows' payload holds the gathered rows. -/
theorem blk_gath (wf : Buf (Elt F) (wLoc d)) (jf : Buf (Elt F) (iLoc d)) (c : BitVec 32) (h)
    (of : Buf (Elt F) (oLoc d)) (p : S128x128.Idx → Elt F .f32) (hp : ∀ x, p x = gath wf jf ((oBlk L c h).view.emb x)) :
    ((oBlk L c h).view.loc (VT d L) ↦[(oBlk L c h).view.set]{fullShare} (oBlk L c h).view.writes (Elt F) of [⟨Rect.whole S128x128, p⟩] : sProp 𝕄)
      = ((oBlk L c h).view.loc (VT d L) ↦[(oBlk L c h).view.set]{fullShare} gath wf jf) := by
  refine pointsTo_congr fun i hi => ?_
  obtain ⟨x, -, rfl⟩ := Finset.mem_map.mp hi
  rw [← hp x]
  have e := congrFun (View.read_writes_whole (oBlk L c h).view of p) x
  rw [View.read_apply] at e
  exact e

variable [FloatOps F]

set_option maxHeartbeats 4000000 in
/-- The task's run. -/
theorem tile_run (q : PosShare TreeShare) (wf : Buf (Elt F) (wLoc d)) (jf : Buf (Elt F) (iLoc d)) (of : Buf (Elt F) (oLoc d))
    (hj : ∀ x, (jf x : BitVec 32).toNat < 507904) (O : CellTallies nD τ sig (HIx 1)) (W : Waits sig (HIx 1))
    (g0 : Buf (Elt F) ((sV).view.loc (VT d L))) (a0 : Buf (Elt F) ((aV).view.loc (VT d L))) (b0 : Buf (Elt F) ((bV).view.loc (VT d L))) :
    (iprop(Transfers.MayWaits (VT d L) (default : HIx 1) O
        ∗ ((iRowK L).view.loc (VT d L) ↦[(iRowK L).view.set]{fullShare} jf)
        ∗ ((wV).view.loc (VT d L) ↦{Transfers.shareTokN q 0} wf)
        ∗ ((wV).view.loc (VT d L) ↦{Transfers.shareTokN q 1} wf)
        ∗ ((oBlk L 0#32 (k1_off2_inb L 0)).view.loc (VT d L) ↦[(oBlk L 0#32 (k1_off2_inb L 0)).view.set]{fullShare} of)
        ∗ ((oBlk L 128#32 (k1_off2_inb L 1)).view.loc (VT d L) ↦[(oBlk L 128#32 (k1_off2_inb L 1)).view.set]{fullShare} of)
        ∗ ((oBlk L 256#32 (k1_off2_inb L 2)).view.loc (VT d L) ↦[(oBlk L 256#32 (k1_off2_inb L 2)).view.set]{fullShare} of)
        ∗ ((oBlk L 384#32 (k1_off2_inb L 3)).view.loc (VT d L) ↦[(oBlk L 384#32 (k1_off2_inb L 3)).view.set]{fullShare} of)
        ∗ ((oBlk L 512#32 (k1_off2_inb L 4)).view.loc (VT d L) ↦[(oBlk L 512#32 (k1_off2_inb L 4)).view.set]{fullShare} of)
        ∗ ((oBlk L 640#32 (k1_off2_inb L 5)).view.loc (VT d L) ↦[(oBlk L 640#32 (k1_off2_inb L 5)).view.set]{fullShare} of)
        ∗ ((oBlk L 768#32 (k1_off2_inb L 6)).view.loc (VT d L) ↦[(oBlk L 768#32 (k1_off2_inb L 6)).view.set]{fullShare} of)
        ∗ ((oBlk L 896#32 (k1_off2_inb L 7)).view.loc (VT d L) ↦[(oBlk L 896#32 (k1_off2_inb L 7)).view.set]{fullShare} of)
        ∗ ((sV).view.loc (VT d L) ↦[(sV).view.set]{fullShare} g0)
        ∗ ((aV).view.loc (VT d L) ↦[(aV).view.set]{fullShare} a0)
        ∗ ((bV).view.loc (VT d L) ↦[(bV).view.set]{fullShare} b0)
        ∗ semVal (VT d L, SemLoc.dma cc1_scratch3.sem) 0 ∗ semVal (VT d L, SemLoc.dma cc1_scratch4.sem) 0
        ∗ semVal (VT d L, SemLoc.dma cc1_scoped0.sem) 0 ∗ semVal (VT d L, SemLoc.dma cc1_scoped1.sem) 0
        ∗ semVal (VT d L, SemLoc.dma cc1_scoped2.sem) 0 ∗ semVal (VT d L, SemLoc.dma cc1_scoped3.sem) 0
        ∗ semVal (VT d L, SemLoc.dma cc1_scoped4.sem) 0 ∗ semVal (VT d L, SemLoc.dma cc1_scoped5.sem) 0
        ∗ semVal (VT d L, SemLoc.dma cc1_scoped6.sem) 0 ∗ semVal (VT d L, SemLoc.dma cc1_scoped7.sem) 0
        ∗ semVal (VT d L, SemLoc.dma cc1_scoped8.sem) 0
        ∗ owes (VT d L) O W) : sProp 𝕄)
      ⊢ wp frame (wpE (defs₀ (F := F)) 𝒱₀ (VT d L) none) Set.univ
          (cc1_k L wV (Memref.isWhole_whole _) iV (Memref.isWhole_whole _) oV (Memref.isWhole_whole _)
            sV (Memref.isWhole_whole _) aV (Memref.isWhole_whole _) bV (Memref.isWhole_whole _) cc1_scratch3 cc1_scratch4
            cc1_scoped0 cc1_scoped1 cc1_scoped2 cc1_scoped3 cc1_scoped4 cc1_scoped5 cc1_scoped6 cc1_scoped7 cc1_scoped8)
          fun _ => iprop(((iRowK L).view.loc (VT d L) ↦[(iRowK L).view.set]{fullShare} jf)
        ∗ ((wV).view.loc (VT d L) ↦{Transfers.shareTokN q 0} wf)
        ∗ ((wV).view.loc (VT d L) ↦{Transfers.shareTokN q 1} wf)
        ∗ ((oBlk L 0#32 (k1_off2_inb L 0)).view.loc (VT d L) ↦[(oBlk L 0#32 (k1_off2_inb L 0)).view.set]{fullShare} gath wf jf)
        ∗ ((oBlk L 128#32 (k1_off2_inb L 1)).view.loc (VT d L) ↦[(oBlk L 128#32 (k1_off2_inb L 1)).view.set]{fullShare} gath wf jf)
        ∗ ((oBlk L 256#32 (k1_off2_inb L 2)).view.loc (VT d L) ↦[(oBlk L 256#32 (k1_off2_inb L 2)).view.set]{fullShare} gath wf jf)
        ∗ ((oBlk L 384#32 (k1_off2_inb L 3)).view.loc (VT d L) ↦[(oBlk L 384#32 (k1_off2_inb L 3)).view.set]{fullShare} gath wf jf)
        ∗ ((oBlk L 512#32 (k1_off2_inb L 4)).view.loc (VT d L) ↦[(oBlk L 512#32 (k1_off2_inb L 4)).view.set]{fullShare} gath wf jf)
        ∗ ((oBlk L 640#32 (k1_off2_inb L 5)).view.loc (VT d L) ↦[(oBlk L 640#32 (k1_off2_inb L 5)).view.set]{fullShare} gath wf jf)
        ∗ ((oBlk L 768#32 (k1_off2_inb L 6)).view.loc (VT d L) ↦[(oBlk L 768#32 (k1_off2_inb L 6)).view.set]{fullShare} gath wf jf)
        ∗ ((oBlk L 896#32 (k1_off2_inb L 7)).view.loc (VT d L) ↦[(oBlk L 896#32 (k1_off2_inb L 7)).view.set]{fullShare} gath wf jf)
        ∗ (∃ g, (sV).view.loc (VT d L) ↦[(sV).view.set]{fullShare} g)
        ∗ (∃ g, (aV).view.loc (VT d L) ↦[(aV).view.set]{fullShare} g)
        ∗ (∃ g, (bV).view.loc (VT d L) ↦[(bV).view.set]{fullShare} g)
        ∗ semVal (VT d L, SemLoc.dma cc1_scratch3.sem) 0 ∗ semVal (VT d L, SemLoc.dma cc1_scratch4.sem) 0
        ∗ semVal (VT d L, SemLoc.dma cc1_scoped0.sem) 0 ∗ semVal (VT d L, SemLoc.dma cc1_scoped1.sem) 0
        ∗ semVal (VT d L, SemLoc.dma cc1_scoped2.sem) 0 ∗ semVal (VT d L, SemLoc.dma cc1_scoped3.sem) 0
        ∗ semVal (VT d L, SemLoc.dma cc1_scoped4.sem) 0 ∗ semVal (VT d L, SemLoc.dma cc1_scoped5.sem) 0
        ∗ semVal (VT d L, SemLoc.dma cc1_scoped6.sem) 0 ∗ semVal (VT d L, SemLoc.dma cc1_scoped7.sem) 0
        ∗ semVal (VT d L, SemLoc.dma cc1_scoped8.sem) 0
        ∗ ∃ W', ⌜∀ p ∈ W', p ∈ W ∨ p.2 = none⌝ ∗ owes (VT d L) O W') := by
  iintro ⟨#Hmw, HI, HX0, HX1, HO0, HO1, HO2, HO3, HO4, HO5, HO6, HO7, HG, HA, HB, Hc0, Hc1, Hs0, Hs1, Hs2, Hs3, Hs4, Hs5, Hs6, Hs7, Hs8, HO⟩
  have hd01 := disj_rows 1 0 inb_S8x128_S1x128_1_0 inb_S8x128_S1x128_0_0 (by decide)
  have hd12 := disj_rows 2 1 inb_S8x128_S1x128_2_0 inb_S8x128_S1x128_1_0 (by decide)
  have hd23 := disj_rows 3 2 inb_S8x128_S1x128_3_0 inb_S8x128_S1x128_2_0 (by decide)
  have hd34 := disj_rows 4 3 inb_S8x128_S1x128_4_0 inb_S8x128_S1x128_3_0 (by decide)
  have hd45 := disj_rows 5 4 inb_S8x128_S1x128_5_0 inb_S8x128_S1x128_4_0 (by decide)
  have hd56 := disj_rows 6 5 inb_S8x128_S1x128_6_0 inb_S8x128_S1x128_5_0 (by decide)
  have hd67 := disj_rows 7 6 inb_S8x128_S1x128_7_0 inb_S8x128_S1x128_6_0 (by decide)
  have hin := fun g row hk => inb_of_rows d L jf hj (PAY d L jf) rfl g row hk
  sl_unfold [cc1_k, k1_part1, k1_part2, k1_part3, k1_part4]
  sl_exec
  ihave HO0 := (Entails.of_eq (blk_gath d L wf jf 0#32 (k1_off2_inb L 0) of (tile_run.sl.dma0_1 d L wf jf a0 hin)
    (fun x => (read_cons_whole (aV).view _ _ _ x).trans (gather_gath d L wf jf hj 0 _ inb_S8x128_S1x128_0_0 rfl _ _ x)))) $$ HO0
  ihave HO1 := (Entails.of_eq (blk_gath d L wf jf 128#32 (k1_off2_inb L 1) of (tile_run.sl.dma0_2 d L wf jf b0 hin)
    (fun x => (read_cons_whole (bV).view _ _ _ x).trans (gather_gath d L wf jf hj 1 _ inb_S8x128_S1x128_1_0 rfl _ _ x)))) $$ HO1
  ihave HO2 := (Entails.of_eq (blk_gath d L wf jf 256#32 (k1_off2_inb L 2) of (tile_run.sl.dma0_3 d L wf jf a0 hin)
    (fun x => (read_cons_whole (aV).view _ _ _ x).trans (gather_gath d L wf jf hj 2 _ inb_S8x128_S1x128_2_0 rfl _ _ x)))) $$ HO2
  ihave HO3 := (Entails.of_eq (blk_gath d L wf jf 384#32 (k1_off2_inb L 3) of (tile_run.sl.dma0_4 d L wf jf b0 hin)
    (fun x => (read_cons_whole (bV).view _ _ _ x).trans (gather_gath d L wf jf hj 3 _ inb_S8x128_S1x128_3_0 rfl _ _ x)))) $$ HO3
  ihave HO4 := (Entails.of_eq (blk_gath d L wf jf 512#32 (k1_off2_inb L 4) of (tile_run.sl.dma0_5 d L wf jf a0 hin)
    (fun x => (read_cons_whole (aV).view _ _ _ x).trans (gather_gath d L wf jf hj 4 _ inb_S8x128_S1x128_4_0 rfl _ _ x)))) $$ HO4
  ihave HO5 := (Entails.of_eq (blk_gath d L wf jf 640#32 (k1_off2_inb L 5) of (tile_run.sl.dma0_6 d L wf jf b0 hin)
    (fun x => (read_cons_whole (bV).view _ _ _ x).trans (gather_gath d L wf jf hj 5 _ inb_S8x128_S1x128_5_0 rfl _ _ x)))) $$ HO5
  ihave HO6 := (Entails.of_eq (blk_gath d L wf jf 768#32 (k1_off2_inb L 6) of (tile_run.sl.dma0_7 d L wf jf a0 hin)
    (fun x => (read_cons_whole (aV).view _ _ _ x).trans (gather_gath d L wf jf hj 6 _ inb_S8x128_S1x128_6_0 rfl _ _ x)))) $$ HO6
  ihave HO7 := (Entails.of_eq (blk_gath d L wf jf 896#32 (k1_off2_inb L 7) of (tile_run.sl.dma0_8 d L wf jf b0 hin)
    (fun x => (read_cons_whole (bV).view _ _ _ x).trans (gather_gath d L wf jf hj 7 _ inb_S8x128_S1x128_7_0 rfl _ _ x)))) $$ HO7
  sl_step
  isplitl [HI]; · iexact HI
  isplitl [HX0]; · iexact HX0
  isplitl [HX1]; · iexact HX1
  isplitl [HO0]; · iexact HO0
  isplitl [HO1]; · iexact HO1
  isplitl [HO2]; · iexact HO2
  isplitl [HO3]; · iexact HO3
  isplitl [HO4]; · iexact HO4
  isplitl [HO5]; · iexact HO5
  isplitl [HO6]; · iexact HO6
  isplitl [HO7]; · iexact HO7
  isplitl [HG]; · iexists _; iexact HG
  isplitl [HA]; · iexists _; iexact HA
  isplitl [HB]; · iexists _; iexact HB
  isplitl [Hc0]; · iexact Hc0
  isplitl [Hc1]; · iexact Hc1
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iexists _; isplitr
  swap; · iexact HO
  ipureintro; intro p hp
  simp only [Finset.mem_insert] at hp
  rcases hp with hp | hp | hp | hp | hp | hp | hp | hp | hp | hp | hp | hp | hp | hp | hp | hp | hp | hp
  all_goals first | exact .inl hp | exact .inr (hp ▸ rfl)

end Tile
end Cert.Proof.Gather
end
-- ==== Proof.Call.lean ====
/-
  The SparseCore call: what its two cores and their sixteen vector subcores each are handed, each subcore's task against
  that, and the call's operands cut into those pieces and put together again. The table is named only by a property of
  its contents; the indices by their values.
-/
module

public import proofs.«01_k».proof.Proof.Tile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- The call's layout facts: its cells are apart and its tasks fit the cores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Places -/

/-- The gather's first grid axis has two points, one a core. -/
theorem bound0 : grid1.bound 0 = 2 := rfl

/-- Its second has sixteen, one a subcore. -/
theorem bound1 : grid1.bound 1 = 16 := rfl

/-- The number of the task at `(c, s)`. -/
abbrev wid (p : Fin 2 × Fin 16) : Nat := 2 * p.2.val + p.1.val

/-- Two tasks with the same worker number are the same task. -/
theorem wid_inj {p q : Fin 2 × Fin 16} (h : wid p = wid q) : p = q := by
  obtain ⟨a, b⟩ := p; obtain ⟨c, e⟩ := q
  simp only [wid] at h
  have := a.isLt; have := c.isLt
  exact Prod.ext (Fin.ext (by show a.val = c.val; omega)) (Fin.ext (by show b.val = e.val; omega))

/-- The index array's row a task fetches. -/
def iSet (p : Fin 2 × Fin 16) : Finset S32x8x128.Idx := Finset.univ.filter fun x => (x 0).val = wid p
/-- The output's rows a task writes. -/
def oSet (p : Fin 2 × Fin 16) : Finset S32768x128.Idx := Finset.univ.filter fun x => (x 0).val / 1024 = wid p
/-- The output's rows of one chunk. -/
def bSet (p : Fin 2 × Fin 16) (r : Fin 8) : Finset S32768x128.Idx := Finset.univ.filter fun x => (x 0).val / 128 = 8 * wid p + r.val

/-- An index word belongs to the worker of its first axis. -/
theorem mem_iSet {p : Fin 2 × Fin 16} {x : S32x8x128.Idx} : x ∈ iSet p ↔ (x 0).val = wid p := by simp [iSet]

/-- A gathered row belongs to the worker whose 1024 rows it stands in. -/
theorem mem_oSet {p : Fin 2 × Fin 16} {x : S32768x128.Idx} : x ∈ oSet p ↔ (x 0).val / 1024 = wid p := by simp [oSet]

/-- A gathered row belongs to the 128-row block it stands in, eight blocks a worker. -/
theorem mem_bSet {p : Fin 2 × Fin 16} {r : Fin 8} {x : S32768x128.Idx} : x ∈ bSet p r ↔ (x 0).val / 128 = 8 * wid p + r.val := by simp [bSet]

/-- Different workers' index rows are apart. -/
theorem iSet_disj : ∀ p ∈ (Finset.univ : Finset (Fin 2 × Fin 16)), ∀ q ∈ (Finset.univ : Finset (Fin 2 × Fin 16)), p ≠ q → Disjoint (iSet p) (iSet q) :=
  fun p _ q _ h => Finset.disjoint_left.mpr fun x hx hy => h (wid_inj ((mem_iSet.mp hx).symm.trans (mem_iSet.mp hy)))

/-- Different workers' output rows are apart. -/
theorem oSet_disj : ∀ p ∈ (Finset.univ : Finset (Fin 2 × Fin 16)), ∀ q ∈ (Finset.univ : Finset (Fin 2 × Fin 16)), p ≠ q → Disjoint (oSet p) (oSet q) :=
  fun p _ q _ h => Finset.disjoint_left.mpr fun x hx hy => h (wid_inj ((mem_oSet.mp hx).symm.trans (mem_oSet.mp hy)))

/-- Different blocks of one worker are apart. -/
theorem bSet_disj (p : Fin 2 × Fin 16) : ∀ r ∈ (Finset.univ : Finset (Fin 8)), ∀ q ∈ (Finset.univ : Finset (Fin 8)), r ≠ q → Disjoint (bSet p r) (bSet p q) :=
  fun r _ q _ h => Finset.disjoint_left.mpr fun x hx hy => h (Fin.ext (by have := (mem_bSet.mp hx).symm.trans (mem_bSet.mp hy); omega))

/-- The workers' index rows make up all the index words. -/
theorem iSet_cover : (Finset.univ : Finset (Fin 2 × Fin 16)).biUnion iSet = Finset.univ := by
  ext x
  have hx : (x 0).val < 32 := (x 0).isLt
  simp only [Finset.mem_biUnion, Finset.mem_univ, true_and, iff_true]
  exact ⟨(⟨(x 0).val % 2, by omega⟩, ⟨(x 0).val / 2, by omega⟩), mem_iSet.mpr (by show (x 0).val = 2 * ((x 0).val / 2) + (x 0).val % 2; omega)⟩

/-- The workers' output rows make up the whole output. -/
theorem oSet_cover : (Finset.univ : Finset (Fin 2 × Fin 16)).biUnion oSet = Finset.univ := by
  ext x
  have hx : (x 0).val < 32768 := (x 0).isLt
  simp only [Finset.mem_biUnion, Finset.mem_univ, true_and, iff_true]
  exact ⟨(⟨(x 0).val / 1024 % 2, by omega⟩, ⟨(x 0).val / 1024 / 2, by omega⟩),
    mem_oSet.mpr (by show (x 0).val / 1024 = 2 * ((x 0).val / 1024 / 2) + (x 0).val / 1024 % 2; omega)⟩

/-- A worker's eight blocks make up its output rows. -/
theorem bSet_cover (p : Fin 2 × Fin 16) : (Finset.univ : Finset (Fin 8)).biUnion (bSet p) = oSet p := by
  ext x
  have hx : (x 0).val < 32768 := (x 0).isLt
  simp only [Finset.mem_biUnion, Finset.mem_univ, true_and, mem_bSet, mem_oSet]
  constructor
  · rintro ⟨r, hr⟩; have := r.isLt; omega
  · intro h; exact ⟨⟨(x 0).val / 128 % 8, by omega⟩, by show (x 0).val / 128 = 8 * wid p + (x 0).val / 128 % 8; omega⟩

/-- A separating product over the tasks' numbers is one over their places. -/
theorem bigSep_wid (Φ : ℕ → sProp 𝕄) : bigSep (Finset.range 32) Φ = bigSep Finset.univ fun p : Fin 2 × Fin 16 => Φ (wid p) := by
  rw [show Finset.range 32 = (Finset.univ : Finset (Fin 2 × Fin 16)).map ⟨wid, fun _ _ => wid_inj⟩ by decide, bigSep_map]
  rfl

/-- The table at the full share is what stays behind and one read token for each task. -/
theorem wPts_toks (d : Dev nD) (f : Buf (Elt F) (wLoc d)) :
    (wLoc d ↦{fullShare} f : sProp 𝕄) ⊣⊢ iprop((wLoc d ↦{Transfers.shareDrop fullShare 32} f)
      ∗ bigSep Finset.univ fun p : Fin 2 × Fin 16 => wLoc d ↦{Transfers.shareTokN fullShare (wid p)} f) := by
  have h := Transfers.pointsTo_toks_range (Val := Elt F) (Ix := HIx 1) (Name := ℕ) (U := UU) (Lvl := ℕ) (ℓ := wLoc d) (S := Finset.univ) (f := f) fullShare 32
  rwa [bigSep_wid] at h

/-- Owning the index array is owning each worker's row of it. -/
theorem iPts_rows (d : Dev nD) (f : Buf (Elt F) (iLoc d)) :
    (iLoc d ↦{fullShare} f : sProp 𝕄) = bigSep Finset.univ fun p : Fin 2 × Fin 16 => iLoc d ↦[iSet p]{fullShare} f := by
  rw [← pointsTo_biUnion Finset.univ (ℓ := iLoc d) iSet iSet_disj, iSet_cover]; try rfl

/-- Owning the output is owning each worker's rows of it. -/
theorem oPts_rows (d : Dev nD) (f : Buf (Elt F) (oLoc d)) :
    (oLoc d ↦{fullShare} f : sProp 𝕄) = bigSep Finset.univ fun p : Fin 2 × Fin 16 => oLoc d ↦[oSet p]{fullShare} f := by
  rw [← pointsTo_biUnion Finset.univ (ℓ := oLoc d) oSet oSet_disj, oSet_cover]; try rfl

/-- A task's rows of the output are its eight chunks. -/
theorem oSet_chunks (d : Dev nD) (p : Fin 2 × Fin 16) (f : Buf (Elt F) (oLoc d)) :
    (oLoc d ↦[oSet p]{fullShare} f : sProp 𝕄) = iprop((oLoc d ↦[bSet p 0]{fullShare} f) ∗ (oLoc d ↦[bSet p 1]{fullShare} f) ∗ (oLoc d ↦[bSet p 2]{fullShare} f) ∗ (oLoc d ↦[bSet p 3]{fullShare} f) ∗ (oLoc d ↦[bSet p 4]{fullShare} f) ∗ (oLoc d ↦[bSet p 5]{fullShare} f) ∗ (oLoc d ↦[bSet p 6]{fullShare} f) ∗ (oLoc d ↦[bSet p 7]{fullShare} f)) := by
  rw [← bSet_cover, pointsTo_biUnion Finset.univ (ℓ := oLoc d) (bSet p) (bSet_disj p),
    show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

section Tile

variable (d : Dev nD) (L : grid1.Coords)

/-- The place a task's coordinates name. -/
abbrev pL (L : grid1.Coords) : Fin 2 × Fin 16 := (Fin.cast bound0 (L 0), Fin.cast bound1 (L 1))

/-- The row a worker copies in is its index row. -/
theorem set_iRowK : (iRowK L).view.set = iSet (pL L) := by
  have h0 : (L 0).val < 2 := (L 0).isLt
  have h1 : (L 1).val < 16 := (L 1).isLt
  ext x
  rw [mem_iSet]
  constructor
  · intro hx
    obtain ⟨y, -, rfl⟩ := Finset.mem_map.mp hx
    rw [show y = ix2 (y 0) (y 1) from eq_ix2 y]
    erw [iRowK_emb L (y 0) (y 1) (by omega)]
    rfl
  · intro hx
    refine Finset.mem_map.mpr ⟨ix2 (x 1) (x 2), Finset.mem_univ _, ?_⟩
    refine (iRowK_emb L (x 1) (x 2) (by omega)).trans ?_
    funext a; apply Fin.ext
    match a with
    | 0 => exact hx.symm
    | 1 => rfl
    | 2 => rfl

/-- The rows a worker copies out at its block `r` are that block's. -/
theorem set_oBlk (r : Fin 8) (h) : (oBlk L (BitVec.ofNat 32 (128 * r.val)) h).view.set = bSet (pL L) r := by
  have h0 : (L 0).val < 2 := (L 0).isLt
  have h1 : (L 1).val < 16 := (L 1).isLt
  have hr := r.isLt
  ext x
  rw [mem_bSet]
  show _ ↔ (x 0).val / 128 = 8 * (2 * (L 1).val + (L 0).val) + r.val
  constructor
  · intro hx
    obtain ⟨y, -, rfl⟩ := Finset.mem_map.mp hx
    have hy : (y 0).val < 128 := idx2_lt0 y
    erw [oBlk_emb L r y h (by omega)]
    show (2048 * (L 1).val + 1024 * (L 0).val + 128 * r.val + (y 0).val) / 128 = _
    omega
  · intro hx
    refine Finset.mem_map.mpr ⟨ix2 (⟨(x 0).val % 128, Nat.mod_lt _ (by decide)⟩ : Fin 128) (x 1), Finset.mem_univ _, ?_⟩
    refine (oBlk_emb L r _ h (by show _ + (x 0).val % 128 < _; omega)).trans ?_
    funext a; apply Fin.ext
    match a with
    | 0 => show 2048 * (L 1).val + 1024 * (L 0).val + 128 * r.val + (x 0).val % 128 = (x 0).val; omega
    | 1 => rfl

/-- Owning the row a worker copies in, said of the array. -/
theorem pts_iRowK (f : Buf (Elt F) (iLoc d)) :
    ((iRowK L).view.loc (VT d L) ↦[(iRowK L).view.set]{fullShare} f : sProp 𝕄) = iLoc d ↦[iSet (pL L)]{fullShare} f := by
  rw [set_iRowK]

/-- Owning the rows a worker copies out, said of the array. -/
theorem pts_oBlk (r : Fin 8) (c : BitVec 32) (hc : c = BitVec.ofNat 32 (128 * r.val)) (h) (f : Buf (Elt F) (oLoc d)) :
    ((oBlk L c h).view.loc (VT d L) ↦[(oBlk L c h).view.set]{fullShare} f : sProp 𝕄) = oLoc d ↦[bSet (pL L) r]{fullShare} f := by
  subst hc; rw [set_oBlk]

/-- Different semaphores of one worker are different cells. -/
theorem cell_ne {a b : SemLoc sig} (h : a ≠ b) : ((VT d L, a) : GSem nD τ sig) ≠ (VT d L, b) := fun e => h (congrArg Prod.snd e)

/-- The task's eleven semaphores are among the subcore's own. -/
theorem ownSems0_V :
    (ownSems0 (VT d L) : sProp 𝕄) = iprop(semVal (VT d L, SemLoc.dma cc1_scratch3.sem) 0 ∗ semVal (VT d L, SemLoc.dma cc1_scratch4.sem) 0 ∗ semVal (VT d L, SemLoc.dma cc1_scoped0.sem) 0 ∗ semVal (VT d L, SemLoc.dma cc1_scoped1.sem) 0 ∗ semVal (VT d L, SemLoc.dma cc1_scoped2.sem) 0 ∗ semVal (VT d L, SemLoc.dma cc1_scoped3.sem) 0 ∗ semVal (VT d L, SemLoc.dma cc1_scoped4.sem) 0 ∗ semVal (VT d L, SemLoc.dma cc1_scoped5.sem) 0 ∗ semVal (VT d L, SemLoc.dma cc1_scoped6.sem) 0 ∗ semVal (VT d L, SemLoc.dma cc1_scoped7.sem) 0 ∗ semVal (VT d L, SemLoc.dma cc1_scoped8.sem) 0
      ∗ bigSep (((((((((((((ownCells (VT d L)).erase (VT d L, SemLoc.dma cc1_scratch3.sem)).erase (VT d L, SemLoc.dma cc1_scratch4.sem)).erase (VT d L, SemLoc.dma cc1_scoped0.sem)).erase (VT d L, SemLoc.dma cc1_scoped1.sem)).erase (VT d L, SemLoc.dma cc1_scoped2.sem)).erase (VT d L, SemLoc.dma cc1_scoped3.sem)).erase (VT d L, SemLoc.dma cc1_scoped4.sem)).erase (VT d L, SemLoc.dma cc1_scoped5.sem)).erase (VT d L, SemLoc.dma cc1_scoped6.sem)).erase (VT d L, SemLoc.dma cc1_scoped7.sem)).erase (VT d L, SemLoc.dma cc1_scoped8.sem))) fun g => semVal g 0) := by
  unfold SparseCore.Cfg.ownSems0
  rw [SparseCore.bigSep_erase' ((mem_ownCells (g := (VT d L, SemLoc.dma cc1_scratch3.sem))).mpr ⟨rfl, by show (SemLoc.dma cc1_scratch3.sem : SemLoc sig).isScoped .scVector = true; decide⟩),
    SparseCore.bigSep_erase' (Finset.mem_erase.mpr ⟨cell_ne d L (by decide), (mem_ownCells (g := (VT d L, SemLoc.dma cc1_scratch4.sem))).mpr ⟨rfl, by show (SemLoc.dma cc1_scratch4.sem : SemLoc sig).isScoped .scVector = true; decide⟩⟩),
    SparseCore.bigSep_erase' (Finset.mem_erase.mpr ⟨cell_ne d L (by decide), Finset.mem_erase.mpr ⟨cell_ne d L (by decide), (mem_ownCells (g := (VT d L, SemLoc.dma cc1_scoped0.sem))).mpr ⟨rfl, by show (SemLoc.dma cc1_scoped0.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := (VT d L, SemLoc.dma cc1_scoped1.sem))).mpr ⟨rfl, by show (SemLoc.dma cc1_scoped1.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (VT d L, SemLoc.dma cc1_scoped2.sem))).mpr ⟨rfl, by show (SemLoc.dma cc1_scoped2.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (VT d L, SemLoc.dma cc1_scoped3.sem))).mpr ⟨rfl, by show (SemLoc.dma cc1_scoped3.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (VT d L, SemLoc.dma cc1_scoped4.sem))).mpr ⟨rfl, by show (SemLoc.dma cc1_scoped4.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (VT d L, SemLoc.dma cc1_scoped5.sem))).mpr ⟨rfl, by show (SemLoc.dma cc1_scoped5.sem : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (VT d L, SemLoc.dma cc1_scoped6.sem))).mpr ⟨rfl, by show (SemLoc.dma cc1_scoped6.sem : SemLoc sig).isScoped .scVector = true; decide⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (VT d L, SemLoc.dma cc1_scoped7.sem))).mpr ⟨rfl, by show (SemLoc.dma cc1_scoped7.sem : SemLoc sig).isScoped .scVector = true; decide⟩⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (VT d L, SemLoc.dma cc1_scoped8.sem))).mpr ⟨rfl, by show (SemLoc.dma cc1_scoped8.sem : SemLoc sig).isScoped .scVector = true; decide⟩⟩⟩⟩⟩⟩⟩⟩⟩⟩⟩)]

/-- The task's three scratch buffers are among the subcore's own. -/
theorem ownBufs_V :
    (ownBufs (VT d L) : sProp 𝕄)
      = iprop((∃ f, (VT d L).loc cc1_scratch0 ↦{fullShare} f) ∗ (∃ f, (VT d L).loc cc1_scratch1 ↦{fullShare} f) ∗ (∃ f, (VT d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

variable (G : Dev nD → (S507904x128.Idx → Elt F .f32) → Prop) (J : Dev nD → S32x8x128.Idx → BitVec 32)

/-- What the task at place `p` is handed: a share of the table, its row of the indices, its rows of the output. -/
abbrev goP (d : Dev nD) (p : Fin 2 × Fin 16) : sProp 𝕄 :=
  iprop(∃ W : Buf (Elt F) (wLoc d), ⌜G d W⌝ ∗ (wLoc d ↦{Transfers.shareTokN fullShare (wid p)} W) ∗ (iLoc d ↦[iSet p]{fullShare} (J d : Buf (Elt F) (iLoc d)))
    ∗ ∃ of : Buf (Elt F) (oLoc d), oLoc d ↦[oSet p]{fullShare} of)
/-- What it hands back: the same, its rows of the output holding the table's rows its indices name. -/
abbrev tdP (d : Dev nD) (p : Fin 2 × Fin 16) : sProp 𝕄 :=
  iprop(∃ W : Buf (Elt F) (wLoc d), ⌜G d W⌝ ∗ (wLoc d ↦{Transfers.shareTokN fullShare (wid p)} W) ∗ (iLoc d ↦[iSet p]{fullShare} (J d : Buf (Elt F) (iLoc d)))
    ∗ oLoc d ↦[oSet p]{fullShare} (gath W (J d) : Buf (Elt F) (oLoc d)))

variable [FloatOps F]

set_option maxHeartbeats 4000000 in
/-- The task on vector subcore `(L 0, L 1)` of device `d`, from what the launch deals it to what it hands back. -/
theorem tile_body (hF : (K (F := F)).Facts) (hJ : ∀ d x, (J d x).toNat < 507904) (O : CellTallies nD τ sig (HIx 1)) (W : Waits sig (HIx 1)) (hO : ∀ g, O g none = 0) :
    iprop(levAts (K (F := F)).L (K (F := F)).lev ∗ emp
        ∗ goP G J d (pL L)
        ∗ scopedBufs (VT d L) ∗ scopedSems0 (VT d L) ∗ owes (VT d L) O W)
      ⊢ wp frame (wpE (defs₀ (F := F)) 𝒱₀ (VT d L) none) Set.univ
          (cc1_k L wV (Memref.isWhole_whole _) iV (Memref.isWhole_whole _) oV (Memref.isWhole_whole _)
            sV (Memref.isWhole_whole _) aV (Memref.isWhole_whole _) bV (Memref.isWhole_whole _) cc1_scratch3 cc1_scratch4
            cc1_scoped0 cc1_scoped1 cc1_scoped2 cc1_scoped3 cc1_scoped4 cc1_scoped5 cc1_scoped6 cc1_scoped7 cc1_scoped8)
          fun _ => iprop(tdP G J d (pL L)
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨%w, %hG, Hw, Hi, ⟨%of, Ho⟩⟩, ⟨⟨%g0, HG⟩, ⟨%a0, HA⟩, ⟨%b0, HB⟩, Hbufs⟩, ⟨Hc0, Hc1, Hs0, Hs1, Hs2, Hs3, Hs4, Hs5, Hs6, Hs7, Hs8, Hsems⟩, HO⟩
  ihave Hmw := (show levAts (K (F := F)).L (K (F := F)).lev ⊢ Transfers.MayWaits (VT d L) (default : HIx 1) O from
    (K (F := F)).mayWaits_none (thr := VT d L) hO) $$ Hlv
  ihave Hi := (Entails.of_eq (pts_iRowK (F := F) d L _).symm) $$ Hi
  have hsV : (sV).view.set = Finset.univ := View.set_whole _
  have haV : (aV).view.set = Finset.univ := View.set_whole _
  have hbV : (bV).view.set = Finset.univ := View.set_whole _
  ihave HG := (Entails.of_eq (show ((VT d L).loc cc1_scratch0 ↦{fullShare} g0 : sProp 𝕄) = (sV).view.loc (VT d L) ↦[(sV).view.set]{fullShare} g0 by rw [hsV])) $$ HG
  ihave HA := (Entails.of_eq (show ((VT d L).loc cc1_scratch1 ↦{fullShare} a0 : sProp 𝕄) = (aV).view.loc (VT d L) ↦[(aV).view.set]{fullShare} a0 by rw [haV])) $$ HA
  ihave HB := (Entails.of_eq (show ((VT d L).loc cc1_scratch2 ↦{fullShare} b0 : sProp 𝕄) = (bV).view.loc (VT d L) ↦[(bV).view.set]{fullShare} b0 by rw [hbV])) $$ HB
  ihave Hw := ((Transfers.pointsTo_toks_range (Val := Elt F) (Ix := HIx 1) (Name := ℕ) (U := UU) (Lvl := ℕ) (ℓ := wLoc d) (S := Finset.univ) (f := w) (Transfers.shareTokN fullShare (wid (pL L))) 2).1.trans
    (Entails.of_eq (by rw [show Finset.range 2 = {0, 1} by decide, SparseCore.bigSep_insert' (by decide), bigSep_singleton]))) $$ Hw
  icases Hw with ⟨Hw, HX0, HX1⟩
  ihave Ho := (Entails.of_eq (oSet_chunks d (pL L) of)) $$ Ho
  icases Ho with ⟨HO0, HO1, HO2, HO3, HO4, HO5, HO6, HO7⟩
  ihave HO0 := (Entails.of_eq (pts_oBlk (F := F) d L 0 0#32 rfl (k1_off2_inb L 0) of).symm) $$ HO0
  ihave HO1 := (Entails.of_eq (pts_oBlk (F := F) d L 1 128#32 rfl (k1_off2_inb L 1) of).symm) $$ HO1
  ihave HO2 := (Entails.of_eq (pts_oBlk (F := F) d L 2 256#32 rfl (k1_off2_inb L 2) of).symm) $$ HO2
  ihave HO3 := (Entails.of_eq (pts_oBlk (F := F) d L 3 384#32 rfl (k1_off2_inb L 3) of).symm) $$ HO3
  ihave HO4 := (Entails.of_eq (pts_oBlk (F := F) d L 4 512#32 rfl (k1_off2_inb L 4) of).symm) $$ HO4
  ihave HO5 := (Entails.of_eq (pts_oBlk (F := F) d L 5 640#32 rfl (k1_off2_inb L 5) of).symm) $$ HO5
  ihave HO6 := (Entails.of_eq (pts_oBlk (F := F) d L 6 768#32 rfl (k1_off2_inb L 6) of).symm) $$ HO6
  ihave HO7 := (Entails.of_eq (pts_oBlk (F := F) d L 7 896#32 rfl (k1_off2_inb L 7) of).symm) $$ HO7
  iapply (wp_wand_r Idealize.ShloMosaic.frame (wpE (defs₀ (F := F)) 𝒱₀ (VT d L) none) Set.univ)
  isplitl [Hmw Hi HX0 HX1 HO0 HO1 HO2 HO3 HO4 HO5 HO6 HO7 HG HA HB Hc0 Hc1 Hs0 Hs1 Hs2 Hs3 Hs4 Hs5 Hs6 Hs7 Hs8 HO]
  · iapply (tile_run d L (Transfers.shareTokN fullShare (wid (pL L))) w (J d) of (hJ d) O W g0 a0 b0)
    isplitl [Hmw]; · iexact Hmw
    isplitl [Hi]; · iexact Hi
    isplitl [HX0]; · iexact HX0
    isplitl [HX1]; · iexact HX1
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HG]; · iexact HG
    isplitl [HA]; · iexact HA
    isplitl [HB]; · iexact HB
    isplitl [Hc0]; · iexact Hc0
    isplitl [Hc1]; · iexact Hc1
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact HO
  iintro %_ ⟨Hi, HX0, HX1, HO0, HO1, HO2, HO3, HO4, HO5, HO6, HO7, ⟨%hg, HG⟩, ⟨%ha, HA⟩, ⟨%hb, HB⟩, Hc0, Hc1, Hs0, Hs1, Hs2, Hs3, Hs4, Hs5, Hs6, Hs7, Hs8, HO⟩
  ihave HO0 := (Entails.of_eq (pts_oBlk (F := F) d L 0 0#32 rfl (k1_off2_inb L 0) _)) $$ HO0
  ihave HO1 := (Entails.of_eq (pts_oBlk (F := F) d L 1 128#32 rfl (k1_off2_inb L 1) _)) $$ HO1
  ihave HO2 := (Entails.of_eq (pts_oBlk (F := F) d L 2 256#32 rfl (k1_off2_inb L 2) _)) $$ HO2
  ihave HO3 := (Entails.of_eq (pts_oBlk (F := F) d L 3 384#32 rfl (k1_off2_inb L 3) _)) $$ HO3
  ihave HO4 := (Entails.of_eq (pts_oBlk (F := F) d L 4 512#32 rfl (k1_off2_inb L 4) _)) $$ HO4
  ihave HO5 := (Entails.of_eq (pts_oBlk (F := F) d L 5 640#32 rfl (k1_off2_inb L 5) _)) $$ HO5
  ihave HO6 := (Entails.of_eq (pts_oBlk (F := F) d L 6 768#32 rfl (k1_off2_inb L 6) _)) $$ HO6
  ihave HO7 := (Entails.of_eq (pts_oBlk (F := F) d L 7 896#32 rfl (k1_off2_inb L 7) _)) $$ HO7
  isplitl [Hi Hw HX0 HX1 HO0 HO1 HO2 HO3 HO4 HO5 HO6 HO7]
  · iexists w
    isplitr; · ipureintro; exact hG
    isplitl [Hw HX0 HX1]
    · iapply ((Transfers.pointsTo_toks_range (Val := Elt F) (Ix := HIx 1) (Name := ℕ) (U := UU) (Lvl := ℕ) (ℓ := wLoc d) (S := Finset.univ) (f := w) (Transfers.shareTokN fullShare (wid (pL L))) 2).2)
      rw [show Finset.range 2 = {0, 1} by decide, SparseCore.bigSep_insert' (by decide), bigSep_singleton]
      isplitl [Hw]; · iexact Hw
      isplitl [HX0]; · iexact HX0
      iexact HX1
    isplitl [Hi]; · iapply (Entails.of_eq (pts_iRowK (F := F) d L _)); iexact Hi
    rw [oSet_chunks]
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  isplitl [HG HA HB Hbufs]
  · isplitl [HG]; · iexists hg; rw [hsV]; iexact HG
    isplitl [HA]; · iexists ha; rw [haV]; iexact HA
    isplitl [HB]; · iexists hb; rw [hbV]; iexact HB
    iexact Hbufs
  isplitr [HO]
  · isplitl [Hc0]; · iexact Hc0
    isplitl [Hc1]; · iexact Hc1
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iexact HO

/-! ## The call's pieces -/

/-- The call has sixteen subcores. -/
theorem nSub_zero : (K (F := F)).nSub 0 = 16 := rfl

/-- The call has two cores. -/
theorem nCore_zero : (K (F := F)).nCore 0 = 2 := rfl

/-- The call hands each core what its sixteen tasks are handed, and takes back what they hand back. -/
def P : (K (F := F)).Pay (nD := nD) (Val := Elt F) (Name := ℕ) (U := UU) where
  st := fun q d c => match q with
    | 0 => bigSep Finset.univ fun i : Fin ((K (F := F)).nSub 0) => goP G J d (Fin.cast nCore_zero c, Fin.cast nSub_zero i)
  dn := fun q d c => match q with
    | 0 => bigSep Finset.univ fun i : Fin ((K (F := F)).nSub 0) => tdP G J d (Fin.cast nCore_zero c, Fin.cast nSub_zero i)
  go := fun q d c i => match q with | 0 => goP G J d (Fin.cast nCore_zero c, Fin.cast nSub_zero i)
  td := fun q d c i => match q with | 0 => tdP G J d (Fin.cast nCore_zero c, Fin.cast nSub_zero i)
  x := fun _ _ => iprop(emp)

/-- What a worker is handed can be kept. -/
instance goP_storable (d : Dev nD) (p : Fin 2 × Fin 16) : BI.Storable (upEmb : UEmb _ 𝕄) (goP G J d p) := by
  unfold goP; infer_instance

/-- What a worker hands back can be kept. -/
instance tdP_storable (d : Dev nD) (p : Fin 2 × Fin 16) : BI.Storable (upEmb : UEmb _ 𝕄) (tdP G J d p) := by
  unfold tdP; infer_instance

/-- All the call passes can be kept. -/
instance P_storable : (P (F := F) G J).IsStorable where
  st q d c := match q with
    | 0 => (inferInstance : BI.Storable (upEmb : UEmb _ 𝕄)
      (bigSep Finset.univ fun i : Fin ((K (F := F)).nSub 0) => goP G J d (Fin.cast nCore_zero c, Fin.cast nSub_zero i)))
  dn q d c := match q with
    | 0 => (inferInstance : BI.Storable (upEmb : UEmb _ 𝕄)
      (bigSep Finset.univ fun i : Fin ((K (F := F)).nSub 0) => tdP G J d (Fin.cast nCore_zero c, Fin.cast nSub_zero i)))
  go q d c i := match q with
    | 0 => (inferInstance : BI.Storable (upEmb : UEmb _ 𝕄) (goP G J d (Fin.cast nCore_zero c, Fin.cast nSub_zero i)))
  td q d c i := match q with
    | 0 => (inferInstance : BI.Storable (upEmb : UEmb _ 𝕄) (tdP G J d (Fin.cast nCore_zero c, Fin.cast nSub_zero i)))

/-- The grid point of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- What a subcore runs in the call: the gather's body at its grid point. -/
theorem defs₀_vector (c : Fin τ.nSC) (s : Fin τ.nSub) :
    defs₀ (F := F) (.scVector c s) 1 ()
      = SparseCore.onTile hcore1 hsub1 (fun c s => cc1_k (coordsV c s) wV (Memref.isWhole_whole _) iV (Memref.isWhole_whole _) oV (Memref.isWhole_whole _)
            sV (Memref.isWhole_whole _) aV (Memref.isWhole_whole _) bV (Memref.isWhole_whole _) cc1_scratch3 cc1_scratch4
            cc1_scoped0 cc1_scoped1 cc1_scoped2 cc1_scoped3 cc1_scoped4 cc1_scoped5 cc1_scoped6 cc1_scoped7 cc1_scoped8) ⟨⟩ c s := rfl

/-- A body's last waits may be weakened to those the call lets through. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation for a task. -/
theorem tileObl (hF : (K (F := F)).Facts) (hJ : ∀ d x, (J d x).toNat < 507904) : (K (F := F)).TileObl (D (F := F)) 𝒱 (P G J) v₀ 0 := by
  intro d c i O W hO _ _
  simp only [show (P G J).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) G J hF hJ O W hO).trans (wp_mono frame _ _ fun _ => obl_post)

/-- A core's operands are its tasks' and its tasks' results are its own. -/
theorem vecSplit : (K (F := F)).VecSplit' (P G J) 0 := by
  intro d c
  show (bigSep Finset.univ fun i : Fin ((K (F := F)).nSub 0) => goP G J d (Fin.cast nCore_zero c, Fin.cast nSub_zero i)) ⊢ |={Set.univ}=> iprop(
      (bigSep Finset.univ fun i : Fin ((K (F := F)).nSub 0) => goP G J d (Fin.cast nCore_zero c, Fin.cast nSub_zero i))
      ∗ ((bigSep Finset.univ fun i : Fin ((K (F := F)).nSub 0) => tdP G J d (Fin.cast nCore_zero c, Fin.cast nSub_zero i))
          -∗ (bigSep Finset.univ fun i : Fin ((K (F := F)).nSub 0) => tdP G J d (Fin.cast nCore_zero c, Fin.cast nSub_zero i))))
  iintro H; imodintro
  isplitl [H]; · iexact H
  iintro H; iexact H

/-- What the call hands to its cores is what it hands to its workers. -/
theorem st_eq (d : Dev nD) : (bigSep Finset.univ fun c : Fin ((K (F := F)).nCore 0) => (P G J).st 0 d c)
    = bigSep Finset.univ fun p : Fin 2 × Fin 16 => goP G J d p := by
  rw [bigSep_univ_prod]; rfl

/-- What the cores hand back is what the workers hand back. -/
theorem dn_eq (d : Dev nD) : (bigSep Finset.univ fun c : Fin ((K (F := F)).nCore 0) => (P G J).dn 0 d c)
    = bigSep Finset.univ fun p : Fin 2 × Fin 16 => tdP G J d p := by
  rw [bigSep_univ_prod]; rfl

/-- From the table, the indices and the output whole, what the call takes; the share of the table left over stays. -/
theorem st_of (d : Dev nD) (W : Buf (Elt F) (wLoc d)) (hG : G d W) (of : Buf (Elt F) (oLoc d)) :
    iprop((wLoc d ↦{fullShare} W) ∗ (iLoc d ↦{fullShare} (J d : Buf (Elt F) (iLoc d))) ∗ (oLoc d ↦{fullShare} of))
      ⊢ iprop((wLoc d ↦{Transfers.shareDrop fullShare 32} W) ∗ (bigSep Finset.univ fun p : Fin 2 × Fin 16 => goP G J d p) : sProp 𝕄) := by
  iintro ⟨Hw, Hi, Ho⟩
  ihave Hw := (wPts_toks d W).1 $$ Hw
  icases Hw with ⟨Hd, Hw⟩
  isplitl [Hd]; · iexact Hd
  ihave Hi := (Entails.of_eq (iPts_rows d _)) $$ Hi
  ihave Ho := (Entails.of_eq (oPts_rows d of)) $$ Ho
  have h1 (p : Fin 2 × Fin 16) : (iprop((wLoc d ↦{Transfers.shareTokN fullShare (wid p)} W)
      ∗ (iLoc d ↦[iSet p]{fullShare} (J d : Buf (Elt F) (iLoc d))) ∗ (oLoc d ↦[oSet p]{fullShare} of)) : sProp 𝕄) ⊢ goP G J d p := by
    unfold goP
    iintro ⟨Hw, Hi, Ho⟩
    iexists W
    isplitr; · ipureintro; exact hG
    isplitl [Hw]; · iexact Hw
    isplitl [Hi]; · iexact Hi
    iexists of; iexact Ho
  have hm : (bigSep Finset.univ fun p : Fin 2 × Fin 16 => iprop((wLoc d ↦{Transfers.shareTokN fullShare (wid p)} W)
      ∗ (iLoc d ↦[iSet p]{fullShare} (J d : Buf (Elt F) (iLoc d))) ∗ (oLoc d ↦[oSet p]{fullShare} of)) : sProp 𝕄)
      ⊢ bigSep Finset.univ fun p : Fin 2 × Fin 16 => goP G J d p := BI.bigSep_mono fun p _ => h1 p
  iapply hm
  rw [bigSep_sep', bigSep_sep']
  isplitl [Hw]; · iexact Hw
  isplitl [Hi]; · iexact Hi
  iexact Ho

end Tile

/-! ## The launch element of the certificate's ghost state -/

/-- Many empty resources are one empty resource. -/
theorem bigSep_emp' {I : Type} (s : Finset I) : (bigSep s fun _ => iprop(emp)) = (iprop(emp) : sProp 𝕄) := bigSep_emp_const s

/-- The ghost state the run starts from. -/
def u₀ : UU := ((initOf (K (F := F)).hsCells (K (F := F)).hsToks,
  initOf (Pipeline.cells (Pipeline.pin (pcfgs (F := F)) adm) phinj) (Pipeline.launchToks (Pipeline.pin (pcfgs (F := F)) adm) phinj)), 1)

/-- What the launch gives the TensorCore of device `d`: the cells of its three pipelines. -/
abbrev pipes [FloatOps F] (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- The launch's ghost state splits into the call's cells, each device's pipelines' cells, and nothing for the tasks. -/
theorem hu₀ [FloatOps F] (G : Dev nD → (S507904x128.Idx → Elt F .f32) → Prop) (J : Dev nD → S32x8x128.Idx → BitVec 32) : (ownU (u₀ (F := F)) : sProp 𝕄)
    ⊢ |={Set.univ}=> iprop(BI.own (EH (initOf (K (F := F)).hsCells (K (F := F)).hsToks)) ∗ (bigSep Finset.univ fun d : Dev nD => pipes (F := F) d)
        ∗ bigSep Finset.univ fun thr : Thread nD τ => bigSep Finset.univ fun q : Fin 1 => (P G J).x q thr) := by
  unfold u₀
  iintro Hu
  ihave H := (ownU_pair _ (1 : Counters)) $$ Hu
  icases H with ⟨HH, -⟩
  ihave H := (own_pair_emb EHP (initOf (K (F := F)).hsCells (K (F := F)).hsToks) _) $$ HH
  icases H with ⟨HH, HP⟩
  imod (Pipeline.fund_ghost (Pipeline.pin (pcfgs (F := F)) adm) EP phinj) $$ HP with ⟨HC, HT⟩
  imodintro
  isplitl [HH]; · iexact HH
  isplitl [HC HT]
  · unfold pipes
    rw [bigSep_sep']
    isplitl [HC]; · iexact HC
    iexact HT
  rw [show (bigSep Finset.univ fun thr : Thread nD τ => bigSep Finset.univ fun q : Fin 1 => (P (F := F) G J).x q thr) = bigSep Finset.univ fun _ => iprop(emp) from
    bigSep_congr fun _ _ => bigSep_univ_of_subsingleton (0 : Fin 1), bigSep_emp']
  iempintro

end Cert.Proof.Gather

end
-- ==== Proof.Region.lean ====
/-
  A TensorCore call of @main, run from the buffers it holds: whatever its body is proved to do to its windows, the
  call leaves each of its arrays at contents the write-backs can have made, and every other buffer as it was.
-/
module

public import proofs.«01_k».proof.Proof.Base

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat arrRef arrRefs ucRefs)

variable {F : FTy → Type} [FloatOps F]

local notation "𝕄" => MT nD τ sig (HIx 1) (Elt F) ℕ UU ℕ

/-- Pipeline `p` as the run reads it. -/
abbrev cfgP (p : Fin 3) : Pipeline.Cfg sig Λ₀ := Pipeline.pin (pcfgs (F := F)) adm p

/-- The proof data of pipeline `p` on each core. -/
abbrev RD (p : Fin 3) : Type _ := (c : Dev nD) → RDat τ (Elt F) (HIx 1) ℕ UU ℕ (cfgP (F := F) p) c

/-- The proof data of every pipeline, where only `p`'s is read. -/
abbrev fam (p : Fin 3) (rd : RD (F := F) p) := RDat.familyOf (pcfgs (F := F)) adm p rd

/-- The family of region data at its own call is the given data. -/
theorem fam_self (p : Fin 3) (rd : RD (F := F) p) (c : Dev nD) : fam p rd p c = rd c :=
  RDat.familyOf_self (pcfgs (F := F)) adm p rd c

/-- What a region's body must satisfy for the run below: it owes throughout what the TensorCore owes before call `n`,
    records no later wait, holds its arrays whole, and starts from and returns the scoped buffers no window stages. -/
structure RegOk (p : Fin 3) (n : ℕ) (rd : RD (F := F) p) (V : Valuation τ sig (Elt F)) : Prop where
  owed : ∀ c t, (rd c).owed t = (K (F := F)).Otc c n
  recd : ∀ c t, (rd c).recorded t = recB (F := F) c n
  share : ∀ c w, (rd c).share w = fullShare
  A : ∀ c w, (rd c).A w = V (Proc.devRef .tc (arrRef (cfgP (F := F) p).spec w))
  body : ∀ c, (rd c).BodyObligation defs₀ 𝒱₀ none Set.univ
  hin : ∀ c, (Pipeline.scopedRest (cfgP (F := F) p).spec c : sProp 𝕄) ⊢ (rd c).Φ 0
  hout : ∀ c, (rd c).Φ (Fin.last (cfgP (F := F) p).N) ⊢ (Pipeline.scopedRest (cfgP (F := F) p).spec c : sProp 𝕄)

/-- What the TensorCore of core `c` owes before call `n`, its recorded waits below that call's. -/
def owesTc (c : Dev nD) (n : ℕ) : sProp 𝕄 :=
  iprop(∃ W, ⌜(K (F := F)).WBelow (T c) W (8 * n)⌝ ∗ owes (T c) ((K (F := F)).Otc c n) W)

/-- The exit contents: the call's arrays where its write-backs can leave them, all other buffers unchanged. -/
def Left (p : Fin 3) (rd : RD (F := F) p) (c : Dev nD) (V V' : Valuation τ sig (Elt F)) : Prop :=
  (∀ w, (rd c).ArrAt w (cfgP (F := F) p).N (V' (Proc.devRef .tc (arrRef (cfgP (F := F) p).spec w))))
    ∧ ∀ b, b ∉ arrRefs (τ := τ) (cfgP (F := F) p).spec → V' b = V b

section Region

variable (p : Fin 3) (n : ℕ) (rd : RD (F := F) p) (V : Valuation τ sig (Elt F)) (S : Finset (DevRef τ sig))

/-- A buffer's contents, by the buffer. -/
abbrev VTy (F : FTy → Type) (b : DevRef τ sig) : Type := b.ty.Contents (Elt F)

/-- The contents with each array of `p` at `A` and every other buffer as in `V`. -/
def putArr (A : (w : Fin (cfgP (F := F) p).W) → Buf (Elt F) (((cfgP (F := F) p).win w).arr.view.loc ((0 : Dev nD).tc : Thread nD τ))) :
    Valuation τ sig (Elt F) := by
  classical
  exact fun b => if h : ∃ w, Proc.devRef .tc (arrRef (cfgP (F := F) p).spec w) = b then h.choose_spec ▸ A h.choose else V b

/-- After a call its arrays hold what the call leaves. -/
theorem putArr_arr (kit : Pipeline.PLaunchFacts (nD := nD) (τ := τ) (pcfgs (F := F)) p) (A) (w : Fin (cfgP (F := F) p).W) :
    putArr p V A (Proc.devRef .tc (arrRef (cfgP (F := F) p).spec w)) = A w := by
  unfold putArr
  have h : ∃ w', Proc.devRef (τ := τ) .tc (arrRef (cfgP (F := F) p).spec w') = Proc.devRef .tc (arrRef (cfgP (F := F) p).spec w) := ⟨w, rfl⟩
  rw [dif_pos h]
  have key : ∀ (w' : Fin (cfgP (F := F) p).W)
      (hc : Proc.devRef (τ := τ) .tc (arrRef (cfgP (F := F) p).spec w') = Proc.devRef .tc (arrRef (cfgP (F := F) p).spec w)),
      @Eq ((fun b => (VTy F b)) (Proc.devRef .tc (arrRef (cfgP (F := F) p).spec w))) (hc ▸ (A w' : VTy F (Proc.devRef .tc (arrRef (cfgP (F := F) p).spec w')))) (A w) := fun w' hc => by
    have e : w' = w := kit.win.arr_inj (Proc.devRef_injective _ hc)
    subst e
    rfl
  exact key _ h.choose_spec

/-- A call leaves the other buffers as they were. -/
theorem putArr_other (A) (b : DevRef τ sig) (hb : b ∉ arrRefs (τ := τ) (cfgP (F := F) p).spec) : putArr p V A b = V b := by
  unfold putArr
  rw [dif_neg]
  rintro ⟨w, rfl⟩
  exact hb (Finset.mem_map_of_mem _ (Finset.mem_image_of_mem _ (Finset.mem_univ w)))

/-- The call as a region of @main: entered with the buffers of `S` at `V`, left with them at contents `Left` allows. -/
def regionSeg (hok : RegOk p n rd V) (hS : arrRefs (τ := τ) (cfgP (F := F) p).spec ⊆ S)
    (kit : Pipeline.PLaunchFacts (nD := nD) (τ := τ) (pcfgs (F := F)) p) (hK : (pcfgs (F := F) p).pre.K = 0) :
    RDat.RegionSeg (pcfgs (F := F)) adm (fam p rd) (none : HIx 1) defs₀ 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody c := by rw [fam_self]; exact hok.body c
  hwaits c := RDat.cellsWaits_intro _ _ _ _ _ fun w s t => by
    rw [fam_self, hok.owed]
    exact (K (F := F)).mayWait_none _ (fun g => Otc_none c n g)
  pre c := iprop(StableHlo.held (c.tc : Thread nD τ) S V ∗ owesTc (F := F) c n)
  post c := iprop((∃ V', ⌜Left p rd c V V'⌝ ∗ StableHlo.held (c.tc : Thread nD τ) S V') ∗ owesTc (F := F) c n)
  X _ := iprop(emp)
  Y _ := iprop(emp)
  Z c := StableHlo.held (c.tc : Thread nD τ) (S \ arrRefs (τ := τ) (cfgP (F := F) p).spec) V
  hentry c := by
    rw [Pipeline.prefHeld_of_none _ hK, RDat.arrays_eq (pcfgs (F := F)) adm (fam p rd) p c kit.arr_whole
      (by rw [fam_self]; exact hok.share c), StableHlo.held_sub_split (c.tc : Thread nD τ) hS V]
    have e : (StableHlo.held (c.tc : Thread nD τ) (arrRefs (τ := τ) (cfgP (F := F) p).spec) V : sProp 𝕄)
        = bigSep Finset.univ fun w => (((c.tc : Thread nD τ).loc (arrRef (cfgP (F := F) p).spec w)) ↦{fullShare} (fam p rd p c).A w) := by
      unfold StableHlo.held arrRefs
      rw [bigSep_map, show Finset.univ.image (arrRef (cfgP (F := F) p).spec) = Finset.univ.map ⟨arrRef (cfgP (F := F) p).spec, kit.win.arr_inj⟩ from
        (Finset.map_eq_image ⟨arrRef (cfgP (F := F) p).spec, kit.win.arr_inj⟩ Finset.univ).symm, bigSep_map]
      exact bigSep_congr fun w _ => by rw [fam_self, hok.A]; rfl
    rw [e]
    iintro ⟨⟨⟨Ha, Hr⟩, HO⟩, -, -⟩
    imodintro
    isplitl [Ha]; · iexact Ha
    isplitr; · iempintro
    isplitl [HO]
    · unfold owesTc RDat.owesAt Pipeline.owesWithin
      rw [fam_self, hok.owed]
      icases HO with ⟨%W, %hW, HO⟩
      iexists W
      isplitr
      · ipureintro
        intro x hx
        exact Or.inl (by rw [hok.recd]; exact hW x hx)
      iexact HO
    isplitr; · iempintro
    iexact Hr
  hin c := by
    rw [fam_self]
    iintro ⟨-, -, H⟩
    iapply (hok.hin c)
    iexact H
  hout c := by
    rw [fam_self]
    refine (hok.hout c).trans ?_
    rw [Pipeline.ownSems0_none]
    iintro H
    isplitr; · iempintro
    isplitr; · iempintro
    iexact H
  hexit c := by
    rw [RDat.arraysAt_eq (pcfgs (F := F)) adm (fam p rd) p c kit.arr_whole (by rw [fam_self]; exact hok.share c)]
    iintro ⟨Ha, HO, -, Hr⟩
    ihave Ha := (BI.bigSep_exists_pi Finset.univ _) $$ Ha
    icases Ha with ⟨%A, Ha⟩
    ihave Ha := (BI.bigSep_pure_sep Finset.univ (fun w => (fam p rd p c).ArrAt w (cfgP (F := F) p).N (A w)) _) $$ Ha
    icases Ha with ⟨%hA, Ha⟩
    rw [fam_self] at hA
    imodintro
    isplitl [Ha Hr]
    · iexists (putArr p V A)
      isplitr
      · ipureintro
        exact ⟨fun w => by rw [putArr_arr p V kit]; exact hA w (Finset.mem_univ w), fun b hb => putArr_other p V A b hb⟩
      rw [StableHlo.held_sub_split (c.tc : Thread nD τ) hS (putArr p V A)]
      have e : (StableHlo.held (c.tc : Thread nD τ) (arrRefs (τ := τ) (cfgP (F := F) p).spec) (putArr p V A) : sProp 𝕄)
          = bigSep Finset.univ fun w => (((c.tc : Thread nD τ).loc (arrRef (cfgP (F := F) p).spec w)) ↦{fullShare} A w) := by
        unfold StableHlo.held arrRefs
        rw [bigSep_map, show Finset.univ.image (arrRef (cfgP (F := F) p).spec) = Finset.univ.map ⟨arrRef (cfgP (F := F) p).spec, kit.win.arr_inj⟩ from
          (Finset.map_eq_image ⟨arrRef (cfgP (F := F) p).spec, kit.win.arr_inj⟩ Finset.univ).symm, bigSep_map]
        exact bigSep_congr fun w _ => by rw [← putArr_arr p V kit A w]; rfl
      rw [e, StableHlo.held_congr (c.tc : Thread nD τ) (S := S \ arrRefs (τ := τ) (cfgP (F := F) p).spec) (V := putArr p V A) (V' := V)
        (fun b hb => putArr_other p V A b (Finset.mem_sdiff.mp hb).2)]
      isplitl [Ha]; · iexact Ha
      iexact Hr
    unfold owesTc RDat.owesAt Pipeline.owesWithin
    rw [fam_self, hok.owed]
    icases HO with ⟨%W, %hW, HO⟩
    iexists W
    isplitr
    · ipureintro
      intro x hx
      rcases hW hx with h | h
      · rw [hok.recd] at h; exact h
      · obtain ⟨w, s, rfl⟩ := h
        rw [SparseCore.Cfg.lev_none]
        exact Nat.zero_le _
    iexact HO

set_option backward.isDefEq.respectTransparency.types false in
/-- A TensorCore call of @main: from the buffers of `S` at `V`, what the TensorCore owes, the level facts and the
    pipeline's own cells, the call returns the buffers at contents `Left` allows. -/
theorem wp_region (hok : RegOk p n rd V) (hS : arrRefs (τ := τ) (cfgP (F := F) p).spec ⊆ S)
    (kit : Pipeline.PLaunchFacts (nD := nD) (τ := τ) (pcfgs (F := F)) p) (hK : (pcfgs (F := F) p).pre.K = 0) (c : Dev nD) :
    iprop(boundary (c.tc : Thread nD τ) ∗ StableHlo.held (c.tc : Thread nD τ) S V ∗ owesTc (F := F) c n ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs D) 𝒱 (T c) none) Set.univ (Prog.lift (.customCall (SparseCore.inner (Pipeline.entry p)) ()))
        fun _ => (iprop(boundary (c.tc : Thread nD τ) ∗ (∃ V', ⌜Left p rd c V V'⌝ ∗ StableHlo.held (c.tc : Thread nD τ) S V') ∗ owesTc (F := F) c n) : sProp 𝕄) := by
  refine BIBase.Entails.trans ?_ ((K (F := F)).wp_liftProg D 𝒱 (T c) Set.univ none (.op (.customCall (Pipeline.entry p) ()) .ret) _)
  refine BIBase.Entails.trans ?_ (RDat.RegionSeg.wp (pcfgs (F := F)) adm (fam p rd) (none : HIx 1) phinj EP defs₀ 𝒱₀ (K (F := F)).L (K (F := F)).lev
    (regionSeg p n rd V S hok hS kit hK) c none (fun u h => nomatch h) .ret _)
  show iprop(boundary (c.tc : Thread nD τ) ∗ StableHlo.held (c.tc : Thread nD τ) S V ∗ owesTc (F := F) c n ∗ levAts (K (F := F)).L (K (F := F)).lev
        ∗ Pipeline.cellsGhost (Pipeline.pin (pcfgs (F := F)) adm) EP p c ∗ Pipeline.toksInit (Pipeline.pin (pcfgs (F := F)) adm) EP p c)
    ⊢ iprop((iprop(boundary (c.tc : Thread nD τ) ∗ (∃ V', ⌜Left p rd c V V'⌝ ∗ StableHlo.held (c.tc : Thread nD τ) S V') ∗ owesTc (F := F) c n) -∗ _)
        ∗ boundary (c.tc : Thread nD τ) ∗ (StableHlo.held (c.tc : Thread nD τ) S V ∗ owesTc (F := F) c n) ∗ levAts (K (F := F)).L (K (F := F)).lev
        ∗ Pipeline.cellsGhost (Pipeline.pin (pcfgs (F := F)) adm) EP p c ∗ Pipeline.toksInit (Pipeline.pin (pcfgs (F := F)) adm) EP p c)
  iintro ⟨Hb, HS, HO, HL, HC, HT⟩
  isplitr
  · iintro ⟨Hb, HP⟩
    rw [wp_ret]
    imodintro
    icases HP with ⟨HV, HO⟩
    isplitl [Hb]; · iexact Hb
    isplitl [HV]; · iexact HV
    iexact HO
  isplitl [Hb]; · iexact Hb
  isplitl [HS HO]
  · isplitl [HS]; · iexact HS
    iexact HO
  isplitl [HL]; · iexact HL
  isplitl [HC]; · iexact HC
  iexact HT

end Region

end Cert.Proof

end
-- ==== Proof.Blocks.lean ====
/-
  Reading a whole buffer after one whole store, and loading a whole buffer: the store's value, the buffer's.
-/
module

public import proofs.«01_k».proof.Proof.Region

@[expose] public section

noncomputable section

namespace Cert.Proof

open Cert.KernelIdeal Cert.KernelIdeal.Gen
open Idealize.ShloMosaic

variable {Val : EltTy → Type} {κ : Kind} {sp : Space} {s : Shape} {e : EltTy}

/-- A rectangle of the whole size at offset zero puts each index at itself. -/
theorem emb_zero (off : Fin s.rank → ℕ) (hoff : ∀ a, off a = 0) (h) (y : s.Idx) : (Rect.unit (s := s) off s.size h).emb y = y :=
  funext fun a => Fin.ext (show off a + 1 * (y a).val = (y a).val by rw [hoff a]; omega)

/-- After a store of the whole buffer, the buffer reads the stored value. -/
theorem read_store (v : View sig κ sp s e) (f : v.ty.Contents Val) (off : Fin s.rank → ℕ) (hoff : ∀ a, off a = 0) (h) (w : s.Idx → Val e)
    (L : List (View.Piece Val s e)) : v.read Val (v.writes Val f (⟨Rect.unit (s := s) off s.size h, w⟩ :: L)) = w := by
  funext y
  have := View.read_writes_cons_emb v f (Rect.unit (s := s) off s.size h) w L y
  rwa [emb_zero off hoff] at this

/-- A load of the whole of a buffer reads what it holds. -/
theorem load_whole (v : View sig κ sp s e) (f : v.ty.Contents Val) (off : Fin s.rank → ℕ) (hoff : ∀ a, off a = 0) (h) :
    v.readAt Val (Rect.unit (s := s) off s.size h).toLoadRect f = v.read Val f := by
  funext y
  show v.read Val f _ = _
  congr 1
  exact emb_zero off hoff h y

/-- The offset of a whole two-axis array is zero on each axis. -/
theorem zero2 : ∀ a : Fin 2, (![0, 0] : Fin 2 → ℕ) a = 0 := by decide

end Cert.Proof

end
-- ==== Proof.Select.lean ====
/-
  The second TensorCore call's body: one block of the user table against sixteen node numbers, added into the block of
  selected columns, which the first point starts at zero.
-/
module

public import proofs.«01_k».proof.Proof.Blocks

@[expose] public section

noncomputable section

namespace Cert.Proof.Select

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat arrRef arrRefs ucRefs)

variable {F : FTy → Type} [FloatOps F]

local notation "𝕄" => MT nD τ sig (HIx 1) (Elt F) ℕ UU ℕ

/-- Owning a buffer seen through a reference, whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- What the body leaves of the selected columns: the old ones, or zero at the first point, with this block's added. -/
def next (i : grid2.Coords) (Y0 : S64x8192.Idx → Elt F .f32) (Y1 : S1x16.Idx → BitVec 32) (Y2 : S64x16.Idx → Elt F .f32) : S64x16.Idx → Elt F .f32 :=
  k2_pay2 i Y1 Y0 (if (i 0).val = 0 then k2_pay1 else Y2)

/-- The body's test for the first point is that the point is the first. -/
theorem first_iff : ∀ n : Fin 13, Scalar.cmpi .ne (Scalar.extui (Scalar.cmpi .eq (BitVec.ofNat 32 n.val) 0#32)) (0#32 : BitVec 32) = 1#1 ↔ n.val = 0 := by
  decide

set_option maxRecDepth 16384 in
/-- The body, run: the staging buffers read as before, the columns' as `next` says. -/
theorem run (c : Dev nD) (i : grid2.Coords) (M0 : Memref sig .tc .vmem S64x8192 .f32) (h0 : M0.IsWhole) (M1 : Memref sig .tc .vmem S1x16 .i32) (h1 : M1.IsWhole)
    (M2 : Memref sig .tc .vmem S64x16 .f32) (h2 : M2.IsWhole) (Y0 : S64x8192.Idx → Elt F .f32) (Y1 : S1x16.Idx → BitVec 32) (Y2 : S64x16.Idx → Elt F .f32)
    (Q : PUnit → sProp 𝕄) :
    iprop(pt c M0 (M0.view.rep Y0) ∗ pt c M1 (M1.view.rep Y1) ∗ pt c M2 (M2.view.rep Y2)
        ∗ (iprop(pt c M0 (M0.view.rep Y0) ∗ pt c M1 (M1.view.rep Y1) ∗ (∃ f, ⌜M2.view.read (Elt F) f = next i Y0 Y1 Y2⌝ ∗ pt c M2 f)) -∗ Q ⟨⟩))
      ⊢ wp frame (wpE (defs₀ (F := F)) Variants.none c none) Set.univ (cc2_body i M0 h0 M1 h1 M2 h2) Q := by
  rw [cc2_body_eq_skeleton]
  iintro ⟨H0, H1, H2, Hk⟩
  sl_exec!
  sl_step
  iapply Hk
  isplitl [H0]; · iexact H0
  isplitl [H1]; · iexact H1
  iexists _
  isplitr; swap; (· iexact H2)
  ipureintro
  delta run.sl.H2_1 run.sl.v25
  refine (read_store M2.view _ _ zero2 _ _ []).trans ?_
  have e0 := (load_whole (Val := Elt F) M0.view (M0.view.rep Y0) ![0, 0] zero2 inb_S64x8192_S64x8192_0_0).trans (View.read_rep _ _)
  have e1 := (load_whole (Val := Elt F) M1.view (M1.view.rep Y1) ![0, 0] zero2 inb_S1x16_S1x16_0_0).trans (View.read_rep _ _)
  unfold next
  refine congr (congr (congrArg (k2_pay2 i) e1) e0) ((load_whole (Val := Elt F) M2.view _ ![0, 0] zero2 inb_S64x16_S64x16_0_0).trans ?_)
  have hc : run.sl.v2 i = 1#1 ↔ (i 0).val = 0 := first_iff (i 0)
  by_cases h : (i 0).val = 0
  · rw [dif_pos (hc.mpr h), if_pos h]
    exact read_store M2.view _ _ zero2 _ _ []
  · rw [dif_neg (fun e => h (hc.mp e)), if_neg h]
    exact View.read_rep _ _

end Cert.Proof.Select

end
-- ==== Proof.Repack.lean ====
/-
  The first TensorCore call's body: sixteen products of a band of the transposed table with the identity, laid side by
  side in pairs.
-/
module

public import proofs.«01_k».proof.Proof.Select
public import Idealize.ShloMosaic.Lib.ValueIdxCore
public import Idealize.ShloMosaic.Lib.ValueLayout
public import Idealize.ShloMosaic.Lib.Pipeline.Value

@[expose] public section

noncomputable section

namespace Cert.Proof.Repack

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Cert.Proof.Select (pt)

variable {F : FTy → Type} [FloatOps F]

local notation "𝕄" => MT nD τ sig (HIx 1) (Elt F) ℕ UU ℕ

/-- One band of 1024 columns of the block, from column `1024 * b`. -/
def band (Y0 : S64x16384.Idx → Elt F .f32) (b : ℕ) (hb : b < 16) : FVec F S64x1024 .f32 :=
  fun x => Y0 (ix2 (x 0) ⟨1024 * b + (x 1).val, by have := (x 1).isLt; change (x 1).val < 1024 at this; omega⟩)

/-- The band's product with the small matrix. -/
def prod (Y0 : S64x16384.Idx → Elt F .f32) (Y1 : S64x64.Idx → Elt F .f32) (b : ℕ) (hb : b < 16) : FVec F S1024x64 .f32 :=
  matmul dot_S64x1024_S64x64_S1024x64_0_0_1_1_n_n none (band Y0 b hb) Y1 (constant S1024x64 .f32 0x00000000#32)

/-- What the body leaves: the products of the even bands on the left, of the odd ones on the right. -/
def packed (Y0 : S64x16384.Idx → Elt F .f32) (Y1 : S64x64.Idx → Elt F .f32) : S8192x128.Idx → Elt F .f32 := fun y =>
  prod Y0 Y1 (2 * ((y 0).val / 1024) + (y 1).val / 64)
    (by have h0 := (y 0).isLt; have h1 := (y 1).isLt; change (y 0).val < 8192 at h0; change (y 1).val < 128 at h1; omega)
    (ix2 ⟨(y 0).val % 1024, by omega⟩ ⟨(y 1).val % 64, by omega⟩)

/-- The columns read at one step are one band of the block. -/
theorem band_eq (Y0 : S64x16384.Idx → Elt F .f32) (o b : ℕ) (hb : b < 16) (ho : o = 1024 * b) (h) :
    extractStridedSlice S64x1024 ![0, o] (shapeCast S64x16384 Y0 shapeCasts_S64x16384_S64x16384) h = band Y0 b hb := by
  subst ho
  rw [shapeCast_self]
  funext x
  refine extractStridedSlice_apply _ _ _ _ _ fun a => ?_
  match a with
  | 0 => exact (Nat.zero_add _).symm
  | 1 => rfl

/-- The product at one step is that of the band. -/
theorem prod_eq (Y0 : S64x16384.Idx → Elt F .f32) (Y1 : S64x64.Idx → Elt F .f32) (o b : ℕ) (hb : b < 16) (ho : o = 1024 * b) (h) :
    matmul dot_S64x1024_S64x64_S1024x64_0_0_1_1_n_n none (extractStridedSlice S64x1024 ![0, o] (shapeCast S64x16384 Y0 shapeCasts_S64x16384_S64x16384) h)
      (shapeCast S64x64 Y1 shapeCasts_S64x64_S64x64) (constant S1024x64 .f32 0x00000000#32) = prod Y0 Y1 b hb := by
  rw [band_eq Y0 o b hb ho, shapeCast_self]
  rfl

/-- A piece of the stores holds what `packed` says of its place. -/
theorem piece (Y0 : S64x16384.Idx → Elt F .f32) (Y1 : S64x64.Idx → Elt F .f32) (g h : ℕ) (hg : g < 8) (hh : h < 2)
    (o0 o1 : ℕ) (e0 : o0 = 1024 * g) (e1 : o1 = 64 * h) (inb) (w : FVec F S1024x64 .f32) (hw : w = prod Y0 Y1 (2 * g + h) (by omega)) (x : S1024x64.Idx) :
    w x = packed Y0 Y1 ((Rect.unit (s := S8192x128) ![o0, o1] S1024x64.size inb).emb x) := by
  subst e0 e1 hw
  have h0 := (x 0).isLt; have h1 := (x 1).isLt; change (x 0).val < 1024 at h0; change (x 1).val < 64 at h1
  unfold packed
  have key : ∀ (b b' : ℕ) (hb) (hb') (z z' : S1024x64.Idx), b = b' → z = z' → prod Y0 Y1 b hb z = prod Y0 Y1 b' hb' z' := by
    intros; subst_vars; rfl
  refine key _ _ _ _ _ _ ?_ ?_
  · show 2 * g + h = 2 * ((1024 * g + 1 * (x 0).val) / 1024) + (64 * h + 1 * (x 1).val) / 64
    omega
  · funext a
    match a with
    | 0 => exact Fin.ext (show (x 0).val = (1024 * g + 1 * (x 0).val) % 1024 by omega)
    | 1 => exact Fin.ext (show (x 1).val = (64 * h + 1 * (x 1).val) % 64 by omega)

set_option maxRecDepth 16384 in
/-- The body, run: the staging buffers read as before, the result's as `packed` says. -/
theorem run (c : Dev nD) (i : grid0.Coords) (M0 : Memref sig .tc .vmem S64x16384 .f32) (h0 : M0.IsWhole) (M1 : Memref sig .tc .vmem S64x64 .f32) (h1 : M1.IsWhole)
    (M2 : Memref sig .tc .vmem S8192x128 .f32) (h2 : M2.IsWhole) (Y0 : S64x16384.Idx → Elt F .f32) (Y1 : S64x64.Idx → Elt F .f32) (Y2 : S8192x128.Idx → Elt F .f32)
    (Q : PUnit → sProp 𝕄) :
    iprop(pt c M0 (M0.view.rep Y0) ∗ pt c M1 (M1.view.rep Y1) ∗ pt c M2 (M2.view.rep Y2)
        ∗ (iprop(pt c M0 (M0.view.rep Y0) ∗ pt c M1 (M1.view.rep Y1) ∗ (∃ f, ⌜M2.view.read (Elt F) f = packed Y0 Y1⌝ ∗ pt c M2 f)) -∗ Q ⟨⟩))
      ⊢ wp frame (wpE (defs₀ (F := F)) Variants.none c none) Set.univ (cc0_body i M0 h0 M1 h1 M2 h2) Q := by
  rw [cc0_body_eq_skeleton]
  unfold cc0_body_skel
  rw [k0_part1_eq_skeleton, k0_part2_eq_skeleton]
  unfold k0_part1_skel k0_part2_skel
  iintro ⟨H0, H1, H2, Hk⟩
  sl_exec!
  sl_step
  iapply Hk
  isplitl [H0]; · iexact H0
  isplitl [H1]; · iexact H1
  iexists _
  isplitr; swap; (· iexact H2)
  ipureintro
  funext y
  have hY0 := (load_whole (Val := Elt F) M0.view (M0.view.rep Y0) ![0, 0] zero2 inb_S64x16384_S64x16384_0_0).trans (View.read_rep _ _)
  have hY1 := (load_whole (Val := Elt F) M1.view (M1.view.rep Y1) ![0, 0] zero2 inb_S64x64_S64x64_0_0).trans (View.read_rep _ _)
  refine View.read_writes_apply_of_pieces _ _ _ _ ?_ y ?_
  · delta run.sl.H2_16
    simp only [List.forall_mem_cons]
    refine ⟨?_, ?_, ?_, ?_, ?_, ?_, ?_, ?_, ?_, ?_, ?_, ?_, ?_, ?_, ?_, ?_, fun _ h => nomatch h⟩
    · exact fun x => piece Y0 Y1 7 1 (by decide) (by decide) 7168 64 rfl rfl _ _ ((congr (congrArg (fun X Z => k0_pay19 (k0_pay1 X) (k0_pay2 Z)) hY0) hY1).trans (prod_eq Y0 Y1 15360 15 (by decide) rfl _)) x
    · exact fun x => piece Y0 Y1 7 0 (by decide) (by decide) 7168 0 rfl rfl _ _ ((congr (congrArg (fun X Z => k0_pay18 (k0_pay1 X) (k0_pay2 Z)) hY0) hY1).trans (prod_eq Y0 Y1 14336 14 (by decide) rfl _)) x
    · exact fun x => piece Y0 Y1 6 1 (by decide) (by decide) 6144 64 rfl rfl _ _ ((congr (congrArg (fun X Z => k0_pay17 (k0_pay1 X) (k0_pay2 Z)) hY0) hY1).trans (prod_eq Y0 Y1 13312 13 (by decide) rfl _)) x
    · exact fun x => piece Y0 Y1 6 0 (by decide) (by decide) 6144 0 rfl rfl _ _ ((congr (congrArg (fun X Z => k0_pay16 (k0_pay1 X) (k0_pay2 Z)) hY0) hY1).trans (prod_eq Y0 Y1 12288 12 (by decide) rfl _)) x
    · exact fun x => piece Y0 Y1 5 1 (by decide) (by decide) 5120 64 rfl rfl _ _ ((congr (congrArg (fun X Z => k0_pay15 (k0_pay1 X) (k0_pay2 Z)) hY0) hY1).trans (prod_eq Y0 Y1 11264 11 (by decide) rfl _)) x
    · exact fun x => piece Y0 Y1 5 0 (by decide) (by decide) 5120 0 rfl rfl _ _ ((congr (congrArg (fun X Z => k0_pay14 (k0_pay1 X) (k0_pay2 Z)) hY0) hY1).trans (prod_eq Y0 Y1 10240 10 (by decide) rfl _)) x
    · exact fun x => piece Y0 Y1 4 1 (by decide) (by decide) 4096 64 rfl rfl _ _ ((congr (congrArg (fun X Z => k0_pay13 (k0_pay1 X) (k0_pay2 Z)) hY0) hY1).trans (prod_eq Y0 Y1 9216 9 (by decide) rfl _)) x
    · exact fun x => piece Y0 Y1 4 0 (by decide) (by decide) 4096 0 rfl rfl _ _ ((congr (congrArg (fun X Z => k0_pay12 (k0_pay1 X) (k0_pay2 Z)) hY0) hY1).trans (prod_eq Y0 Y1 8192 8 (by decide) rfl _)) x
    · exact fun x => piece Y0 Y1 3 1 (by decide) (by decide) 3072 64 rfl rfl _ _ ((congr (congrArg (fun X Z => k0_pay11 (k0_pay2 Z) (k0_pay9 X) (constant S1024x64 .f32 0x00000000#32)) hY0) hY1).trans (prod_eq Y0 Y1 7168 7 (by decide) rfl slices_S64x16384_o0_7168_S64x1024)) x
    · exact fun x => piece Y0 Y1 3 0 (by decide) (by decide) 3072 0 rfl rfl _ _ ((congr (congrArg (fun X Z => k0_pay10 X Z) hY0) hY1).trans (prod_eq Y0 Y1 6144 6 (by decide) rfl _)) x
    · exact fun x => piece Y0 Y1 2 1 (by decide) (by decide) 2048 64 rfl rfl _ _ ((congr (congrArg (fun X Z => k0_pay8 X Z) hY0) hY1).trans (prod_eq Y0 Y1 5120 5 (by decide) rfl _)) x
    · exact fun x => piece Y0 Y1 2 0 (by decide) (by decide) 2048 0 rfl rfl _ _ ((congr (congrArg (fun X Z => k0_pay7 X Z) hY0) hY1).trans (prod_eq Y0 Y1 4096 4 (by decide) rfl _)) x
    · exact fun x => piece Y0 Y1 1 1 (by decide) (by decide) 1024 64 rfl rfl _ _ ((congr (congrArg (fun X Z => k0_pay6 X Z) hY0) hY1).trans (prod_eq Y0 Y1 3072 3 (by decide) rfl _)) x
    · exact fun x => piece Y0 Y1 1 0 (by decide) (by decide) 1024 0 rfl rfl _ _ ((congr (congrArg (fun X Z => k0_pay5 X Z) hY0) hY1).trans (prod_eq Y0 Y1 2048 2 (by decide) rfl _)) x
    · exact fun x => piece Y0 Y1 0 1 (by decide) (by decide) 0 64 rfl rfl _ _ ((congr (congrArg (fun X Z => k0_pay4 X Z) hY0) hY1).trans (prod_eq Y0 Y1 1024 1 (by decide) rfl _)) x
    · exact fun x => piece Y0 Y1 0 0 (by decide) (by decide) 0 0 rfl rfl _ _ ((congr (congrArg (fun X Z => k0_pay3 X Z) hY0) hY1).trans (prod_eq Y0 Y1 0 0 (by decide) rfl _)) x
  · delta run.sl.H2_16
    have h0 := (y 0).isLt
    have h1 := (y 1).isLt
    change (y 0).val < 8192 at h0
    change (y 1).val < 128 at h1
    have key : ∀ (o0 o1 : ℕ) (inb : ∀ a, (![o0, o1] : Fin 2 → ℕ) a + (![1024, 64] : Fin 2 → ℕ) a ≤ S8192x128.size a),
        o0 ≤ (y 0).val → (y 0).val < o0 + 1024 → o1 ≤ (y 1).val → (y 1).val < o1 + 64 → y ∈ (Rect.unit (s := S8192x128) ![o0, o1] ![1024, 64] inb).set :=
      fun o0 o1 inb a b c d => Rect.mem_set_unit.mpr fun ax => by
        match ax with
        | 0 => exact ⟨a, b⟩
        | 1 => exact ⟨c, d⟩
    simp only [List.exists_mem_cons_iff]
    obtain ⟨g, hg⟩ : ∃ g, g = (y 0).val / 1024 := ⟨_, rfl⟩
    have hg8 : g < 8 := by omega
    rcases Nat.lt_or_ge (y 1).val 64 with hl | hl
    · interval_cases g
      · exact Or.inr (Or.inr (Or.inr (Or.inr (Or.inr (Or.inr (Or.inr (Or.inr (Or.inr (Or.inr (Or.inr (Or.inr (Or.inr (Or.inr (Or.inr (Or.inl (key _ _ _ (by omega) (by omega) (by omega) (by omega)))))))))))))))))
      · exact Or.inr (Or.inr (Or.inr (Or.inr (Or.inr (Or.inr (Or.inr (Or.inr (Or.inr (Or.inr (Or.inr (Or.inr (Or.inr (Or.inl (key _ _ _ (by omega) (by omega) (by omega) (by omega)))))))))))))))
      · exact Or.inr (Or.inr (Or.inr (Or.inr (Or.inr (Or.inr (Or.inr (Or.inr (Or.inr (Or.inr (Or.inr (Or.inl (key _ _ _ (by omega) (by omega) (by omega) (by omega)))))))))))))
      · exact Or.inr (Or.inr (Or.inr (Or.inr (Or.inr (Or.inr (Or.inr (Or.inr (Or.inr (Or.inl (key _ _ _ (by omega) (by omega) (by omega) (by omega)))))))))))
      · exact Or.inr (Or.inr (Or.inr (Or.inr (Or.inr (Or.inr (Or.inr (Or.inl (key _ _ _ (by omega) (by omega) (by omega) (by omega)))))))))
      · exact Or.inr (Or.inr (Or.inr (Or.inr (Or.inr (Or.inl (key _ _ _ (by omega) (by omega) (by omega) (by omega)))))))
      · exact Or.inr (Or.inr (Or.inr (Or.inl (key _ _ _ (by omega) (by omega) (by omega) (by omega)))))
      · exact Or.inr (Or.inl (key _ _ _ (by omega) (by omega) (by omega) (by omega)))
    · interval_cases g
      · exact Or.inr (Or.inr (Or.inr (Or.inr (Or.inr (Or.inr (Or.inr (Or.inr (Or.inr (Or.inr (Or.inr (Or.inr (Or.inr (Or.inr (Or.inl (key _ _ _ (by omega) (by omega) (by omega) (by omega))))))))))))))))
      · exact Or.inr (Or.inr (Or.inr (Or.inr (Or.inr (Or.inr (Or.inr (Or.inr (Or.inr (Or.inr (Or.inr (Or.inr (Or.inl (key _ _ _ (by omega) (by omega) (by omega) (by omega))))))))))))))
      · exact Or.inr (Or.inr (Or.inr (Or.inr (Or.inr (Or.inr (Or.inr (Or.inr (Or.inr (Or.inr (Or.inl (key _ _ _ (by omega) (by omega) (by omega) (by omega))))))))))))
      · exact Or.inr (Or.inr (Or.inr (Or.inr (Or.inr (Or.inr (Or.inr (Or.inr (Or.inl (key _ _ _ (by omega) (by omega) (by omega) (by omega))))))))))
      · exact Or.inr (Or.inr (Or.inr (Or.inr (Or.inr (Or.inr (Or.inl (key _ _ _ (by omega) (by omega) (by omega) (by omega))))))))
      · exact Or.inr (Or.inr (Or.inr (Or.inr (Or.inl (key _ _ _ (by omega) (by omega) (by omega) (by omega))))))
      · exact Or.inr (Or.inr (Or.inl (key _ _ _ (by omega) (by omega) (by omega) (by omega))))
      · exact Or.inl (key _ _ _ (by omega) (by omega) (by omega) (by omega))

end Cert.Proof.Repack

end
-- ==== Proof.Fused.lean ====
/-
  The third TensorCore call's body: one block of 2048 tokens, from the gathered rows to the scores, and their part of
  each segment's running maximum, sum and weighted sum.
-/
module

public import proofs.«01_k».proof.Proof.Repack
public import Idealize.ShloMosaic.Lib.ValueIdxCore
public import Idealize.ShloMosaic.Lib.ValueLayout
public import Idealize.ShloMosaic.Lib.Pipeline.Value

@[expose] public section

noncomputable section

namespace Cert.Proof.Fused

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Cert.Proof.Select (pt)

variable {F : FTy → Type} [FloatOps F]

local notation "𝕄" => MT nD τ sig (HIx 1) (Elt F) ℕ UU ℕ

/-- What the body reads of one block of tokens. -/
structure In (F : FTy → Type) where
  p : S2048x128.Idx → Elt F .f32
  hf : S1x2048.Idx → Elt F .i32
  rk : S1x2048.Idx → Elt F .i32
  lo : S16x1.Idx → Elt F .i32
  hi : S16x1.Idx → Elt F .i32
  us : S64x16.Idx → Elt F .f32
  r2 : S8x64.Idx → Elt F .f32
  w1p : S64x64.Idx → Elt F .f32
  w1r : S64x64.Idx → Elt F .f32
  b1 : S64x1.Idx → Elt F .f32
  w2 : S64x64.Idx → Elt F .f32
  b2 : S64x1.Idx → Elt F .f32
  a1o : S64x64.Idx → Elt F .f32
  a1u : S64x64.Idx → Elt F .f32
  a1b : S64x1.Idx → Elt F .f32
  a2 : S64x64.Idx → Elt F .f32
  a2b : S64x1.Idx → Elt F .f32
  a3 : S1x64.Idx → Elt F .f32
  a3b : S1x1.Idx → Elt F .f32

/-- What the body carries from block to block: each segment's maximum, sum and weighted sum so far. -/
structure St (F : FTy → Type) where
  m : S16x1.Idx → Elt F .f32
  z : S16x1.Idx → Elt F .f32
  out : S16x64.Idx → Elt F .f32

/-- The first layer before its bias. -/
def pre1 (Y : In F) : FVec F S64x2048 .f32 := k3_pay8 Y.p Y.w1p Y.w1p Y.hf Y.rk Y.w1r Y.r2
/-- The encoded tokens. -/
def enc (Y : In F) : FVec F S64x2048 .f32 := k3_pay9 (pre1 Y) Y.b1 Y.w2 Y.b2
/-- Which tokens belong to which segment. -/
def mask (i : grid3.Coords) (Y : In F) : IVec S16x2048 1 := k3_pay10 (F := F) (BitVec.ofNat 32 (i 0).val) Y.lo Y.hi
/-- The users' part of the attention's first layer. -/
def usr (Y : In F) : FVec F S64x16 .f32 := k3_pay11 Y.a1u Y.us Y.a1b
/-- The tokens' part of the attention's first layer. -/
def tok (Y : In F) : FVec F S64x2048 .f32 := k3_pay12 (pre1 Y) Y.b1 Y.w2 Y.b2 Y.a1o

/-- The carried state the body works from: the fresh one at the first block. -/
def start (i : grid3.Coords) (s : St F) : St F := if (i 0).val = 0 then ⟨k3_pay5, k3_pay6, k3_pay7⟩ else s

/-- One block's step before the last block's division. -/
def step (i : grid3.Coords) (Y : In F) (s : St F) : St F where
  m := k3_pay3 (k3_pay14 (mask i Y) (usr Y) (tok Y) Y.a2 Y.a2b Y.a3 Y.a3b s.m)
  z := k3_pay1 (k3_pay17 (mask i Y) (usr Y) (tok Y) Y.a2 Y.a2b Y.a3 Y.a3b s.m s.z) (k3_pay18 (mask i Y) (usr Y) (tok Y) Y.a2 Y.a2b Y.a3 Y.a3b s.m)
  out := k3_pay2 (enc Y) (k3_pay15 (mask i Y) (usr Y) (tok Y) Y.a2 Y.a2b Y.a3 Y.a3b s.m) (k3_pay16 (mask i Y) (usr Y) (tok Y) Y.a2 Y.a2b Y.a3 Y.a3b s.m) s.out

/-- The last block's division. -/
def finish (i : grid3.Coords) (s : St F) : St F := { s with out := if (i 0).val = 15 then k3_pay4 s.z s.out else s.out }

/-- The body as a function of the carried state. -/
def next (i : grid3.Coords) (Y : In F) (s : St F) : St F := finish i (step i Y (start i s))

/-- The body's tests for the first and the last block. -/
theorem first_iff : ∀ n : Fin 16, Scalar.cmpi .ne (Scalar.extui (Scalar.cmpi .eq (BitVec.ofNat 32 n.val) 0#32)) (0#32 : BitVec 32) = 1#1 ↔ n.val = 0 := by
  decide

/-- The kernel's test for its last grid point holds at the sixteenth only. -/
theorem last_iff : ∀ n : Fin 16, Scalar.cmpi .ne (Scalar.extui (Scalar.cmpi .eq (BitVec.ofNat 32 n.val) 15#32)) (0#32 : BitVec 32) = 1#1 ↔ n.val = 15 := by
  decide

/-- A whole load of a buffer that reads `x` is `x`. -/
theorem lw {sp : Space} {a b : ℕ} {e : EltTy} (v : View sig .tc sp ⟨2, ![a, b]⟩ e) (h) (x : (⟨2, ![a, b]⟩ : Shape).Idx → Elt F e) :
    v.readAt (Elt F) (Rect.unit (s := ⟨2, ![a, b]⟩) ![0, 0] (⟨2, ![a, b]⟩ : Shape).size h).toLoadRect (v.rep x) = x :=
  (load_whole (Val := Elt F) v (v.rep x) ![0, 0] zero2 h).trans (View.read_rep _ _)

/-- A whole load after the first block's test, of one part of the carried state. -/
theorem start_load {i : grid3.Coords} {sp : Space} {a b : ℕ} {e : EltTy} (v : View sig .tc sp ⟨2, ![a, b]⟩ e) (s : St F) (part : St F → (⟨2, ![a, b]⟩ : Shape).Idx → Elt F e)
    (w) (hw : w = part ⟨k3_pay5, k3_pay6, k3_pay7⟩) (q : BitVec 1) (hq : q = 1#1 ↔ (i 0).val = 0) (h h') :
    v.readAt (Elt F) (Rect.unit (s := ⟨2, ![a, b]⟩) ![0, 0] (⟨2, ![a, b]⟩ : Shape).size h).toLoadRect
      (if hc : q = 1#1 then v.writes (Elt F) (v.rep (part s)) [⟨Rect.unit (s := ⟨2, ![a, b]⟩) ![0, 0] (⟨2, ![a, b]⟩ : Shape).size h', w⟩] else v.rep (part s))
      = part (start i s) := by
  refine (load_whole (Val := Elt F) v _ ![0, 0] zero2 h).trans ?_
  unfold start
  by_cases h0 : (i 0).val = 0
  · rw [dif_pos (hq.mpr h0), if_pos h0, ← hw]
    exact read_store v _ _ zero2 _ _ []
  · rw [dif_neg (fun e => h0 (hq.mp e)), if_neg h0]
    exact View.read_rep _ _

set_option maxRecDepth 32768 in
/-- The body, run: its inputs read as before, the carried state as `next` says. -/
theorem run (c : Dev nD) (i : grid3.Coords) (M0 : Memref sig .tc .vmem S2048x128 .f32) (hM0 : M0.IsWhole) (M1 : Memref sig .tc .vmem S1x2048 .i32) (hM1 : M1.IsWhole) (M2 : Memref sig .tc .vmem S1x2048 .i32) (hM2 : M2.IsWhole) (M3 : Memref sig .tc .vmem S16x1 .i32) (hM3 : M3.IsWhole) (M4 : Memref sig .tc .vmem S16x1 .i32) (hM4 : M4.IsWhole) (M5 : Memref sig .tc .vmem S64x16 .f32) (hM5 : M5.IsWhole) (M6 : Memref sig .tc .vmem S8x64 .f32) (hM6 : M6.IsWhole) (M7 : Memref sig .tc .vmem S64x64 .f32) (hM7 : M7.IsWhole) (M8 : Memref sig .tc .vmem S64x64 .f32) (hM8 : M8.IsWhole) (M9 : Memref sig .tc .vmem S64x1 .f32) (hM9 : M9.IsWhole) (M10 : Memref sig .tc .vmem S64x64 .f32) (hM10 : M10.IsWhole) (M11 : Memref sig .tc .vmem S64x1 .f32) (hM11 : M11.IsWhole) (M12 : Memref sig .tc .vmem S64x64 .f32) (hM12 : M12.IsWhole) (M13 : Memref sig .tc .vmem S64x64 .f32) (hM13 : M13.IsWhole) (M14 : Memref sig .tc .vmem S64x1 .f32) (hM14 : M14.IsWhole) (M15 : Memref sig .tc .vmem S64x64 .f32) (hM15 : M15.IsWhole) (M16 : Memref sig .tc .vmem S64x1 .f32) (hM16 : M16.IsWhole) (M17 : Memref sig .tc .vmem S1x64 .f32) (hM17 : M17.IsWhole) (M18 : Memref sig .tc .vmem S1x1 .f32) (hM18 : M18.IsWhole) (MO : Memref sig .tc .vmem S16x64 .f32) (hMO : MO.IsWhole) (MM : Memref sig .tc .vmem S16x1 .f32) (hMM : MM.IsWhole) (MZ : Memref sig .tc .vmem S16x1 .f32) (hMZ : MZ.IsWhole)
    (Y : In F) (s : St F) (Q : PUnit → sProp 𝕄) :
    iprop(pt c M0 (M0.view.rep Y.p) ∗ pt c M1 (M1.view.rep Y.hf) ∗ pt c M2 (M2.view.rep Y.rk) ∗ pt c M3 (M3.view.rep Y.lo) ∗ pt c M4 (M4.view.rep Y.hi) ∗ pt c M5 (M5.view.rep Y.us) ∗ pt c M6 (M6.view.rep Y.r2) ∗ pt c M7 (M7.view.rep Y.w1p) ∗ pt c M8 (M8.view.rep Y.w1r) ∗ pt c M9 (M9.view.rep Y.b1) ∗ pt c M10 (M10.view.rep Y.w2) ∗ pt c M11 (M11.view.rep Y.b2) ∗ pt c M12 (M12.view.rep Y.a1o) ∗ pt c M13 (M13.view.rep Y.a1u) ∗ pt c M14 (M14.view.rep Y.a1b) ∗ pt c M15 (M15.view.rep Y.a2) ∗ pt c M16 (M16.view.rep Y.a2b) ∗ pt c M17 (M17.view.rep Y.a3) ∗ pt c M18 (M18.view.rep Y.a3b)
        ∗ pt c MO (MO.view.rep s.out) ∗ pt c MM (MM.view.rep s.m) ∗ pt c MZ (MZ.view.rep s.z)
        ∗ (iprop(pt c M0 (M0.view.rep Y.p) ∗ pt c M1 (M1.view.rep Y.hf) ∗ pt c M2 (M2.view.rep Y.rk) ∗ pt c M3 (M3.view.rep Y.lo) ∗ pt c M4 (M4.view.rep Y.hi) ∗ pt c M5 (M5.view.rep Y.us) ∗ pt c M6 (M6.view.rep Y.r2) ∗ pt c M7 (M7.view.rep Y.w1p) ∗ pt c M8 (M8.view.rep Y.w1r) ∗ pt c M9 (M9.view.rep Y.b1) ∗ pt c M10 (M10.view.rep Y.w2) ∗ pt c M11 (M11.view.rep Y.b2) ∗ pt c M12 (M12.view.rep Y.a1o) ∗ pt c M13 (M13.view.rep Y.a1u) ∗ pt c M14 (M14.view.rep Y.a1b) ∗ pt c M15 (M15.view.rep Y.a2) ∗ pt c M16 (M16.view.rep Y.a2b) ∗ pt c M17 (M17.view.rep Y.a3) ∗ pt c M18 (M18.view.rep Y.a3b)
          ∗ (∃ f, ⌜MO.view.read (Elt F) f = (next i Y s).out⌝ ∗ pt c MO f) ∗ (∃ f, ⌜MM.view.read (Elt F) f = (next i Y s).m⌝ ∗ pt c MM f) ∗ (∃ f, ⌜MZ.view.read (Elt F) f = (next i Y s).z⌝ ∗ pt c MZ f)) -∗ Q ⟨⟩))
      ⊢ wp frame (wpE (defs₀ (F := F)) Variants.none c none) Set.univ (cc3_body i M0 hM0 M1 hM1 M2 hM2 M3 hM3 M4 hM4 M5 hM5 M6 hM6 M7 hM7 M8 hM8 M9 hM9 M10 hM10 M11 hM11 M12 hM12 M13 hM13 M14 hM14 M15 hM15 M16 hM16 M17 hM17 M18 hM18 MO hMO MM hMM MZ hMZ) Q := by
  rw [cc3_body_eq_skeleton]
  unfold cc3_body_skel
  rw [k3_part1_eq_skeleton, k3_part2_eq_skeleton, k3_part3_eq_skeleton]
  unfold k3_part1_skel k3_part2_skel k3_part3_skel
  iintro ⟨H0, H1, H2, H3, H4, H5, H6, H7, H8, H9, H10, H11, H12, H13, H14, H15, H16, H17, H18, HO, HM, HZ, Hk⟩
  sl_exec!
  sl_step
  have hfirst : run.sl.v2 i = 1#1 ↔ (i 0).val = 0 := first_iff (i 0)
  have hlast : run.sl.v128 i = 1#1 ↔ (i 0).val = 15 := last_iff (i 0)
  have hm := start_load (i := i) MM.view s (fun s => s.m) k3_pay5 rfl (run.sl.v2 i) hfirst
  have hz := start_load (i := i) MZ.view s (fun s => s.z) k3_pay6 rfl (run.sl.v2 i) hfirst
  have e0 := lw (e := .f32) M0.view inb_S2048x128_S2048x128_0_0 Y.p
  have e1 := lw (e := .i32) M1.view inb_S1x2048_S1x2048_0_0 Y.hf
  have e2 := lw (e := .i32) M2.view inb_S1x2048_S1x2048_0_0 Y.rk
  have e3 := lw (e := .i32) M3.view inb_S16x1_S16x1_0_0 Y.lo
  have e4 := lw (e := .i32) M4.view inb_S16x1_S16x1_0_0 Y.hi
  have e5 := lw (e := .f32) M5.view inb_S64x16_S64x16_0_0 Y.us
  have e6 := lw (e := .f32) M6.view inb_S8x64_S8x64_0_0 Y.r2
  have e7 := lw (e := .f32) M7.view inb_S64x64_S64x64_0_0 Y.w1p
  have e8 := lw (e := .f32) M8.view inb_S64x64_S64x64_0_0 Y.w1r
  have e9 := lw (e := .f32) M9.view inb_S64x1_S64x1_0_0 Y.b1
  have e10 := lw (e := .f32) M10.view inb_S64x64_S64x64_0_0 Y.w2
  have e11 := lw (e := .f32) M11.view inb_S64x1_S64x1_0_0 Y.b2
  have e12 := lw (e := .f32) M12.view inb_S64x64_S64x64_0_0 Y.a1o
  have e13 := lw (e := .f32) M13.view inb_S64x64_S64x64_0_0 Y.a1u
  have e14 := lw (e := .f32) M14.view inb_S64x1_S64x1_0_0 Y.a1b
  have e15 := lw (e := .f32) M15.view inb_S64x64_S64x64_0_0 Y.a2
  have e16 := lw (e := .f32) M16.view inb_S64x1_S64x1_0_0 Y.a2b
  have e17 := lw (e := .f32) M17.view inb_S1x64_S1x64_0_0 Y.a3
  have e18 := lw (e := .f32) M18.view inb_S1x1_S1x1_0_0 Y.a3b
  have ho := start_load (i := i) MO.view s (fun s => s.out) k3_pay7 rfl (run.sl.v2 i) hfirst
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HO]
  · iexists _
    isplitr; swap; (· iexact HO)
    ipureintro
    by_cases hl : (i 0).val = 15
    · rw [dif_pos (hlast.mpr hl)]
      refine (read_store MO.view _ _ zero2 _ _ _).trans ?_
      delta run.sl.v129 run.sl.v132
      have hstep : (next i Y s).out = k3_pay4 (step i Y (start i s)).z (step i Y (start i s)).out := by
        show (if (i 0).val = 15 then _ else _) = _
        rw [if_pos hl]
      rw [hstep]
      refine congr (congrArg k3_pay4 ?_) ?_
      · refine (load_whole (Val := Elt F) MZ.view _ ![0, 0] zero2 _).trans ?_
        delta run.sl.HZ_1
        refine (read_store MZ.view _ _ zero2 _ _ _).trans ?_
        delta run.sl.r run.sl.r_1 run.sl.v99 run.sl.v108
        simp only [hm, hz, e0, e1, e2, e3, e4, e5, e6, e7, e8, e9, e10, e11, e12, e13, e14, e15, e16, e17, e18]
        rfl
      · refine (load_whole (Val := Elt F) MO.view _ ![0, 0] zero2 _).trans ?_
        delta run.sl.HO_1
        refine (read_store MO.view _ _ zero2 _ _ _).trans ?_
        delta run.sl.r run.sl.r_1 run.sl.v99 run.sl.v116
        simp only [hm, ho, e0, e1, e2, e3, e4, e5, e6, e7, e8, e9, e10, e11, e12, e13, e14, e15, e16, e17, e18]
        rfl
    · rw [dif_neg (fun e => hl (hlast.mp e))]
      have hstep : (next i Y s).out = (step i Y (start i s)).out := by
        show (if (i 0).val = 15 then _ else _) = _
        rw [if_neg hl]
      rw [hstep]
      delta run.sl.HO_1
      refine (read_store MO.view _ _ zero2 _ _ _).trans ?_
      delta run.sl.r run.sl.r_1 run.sl.v99 run.sl.v116
      simp only [hm, ho, e0, e1, e2, e3, e4, e5, e6, e7, e8, e9, e10, e11, e12, e13, e14, e15, e16, e17, e18]
      rfl
  isplitl [HM]
  · iexists _
    isplitr; swap; (· iexact HM)
    ipureintro
    delta run.sl.HM_1
    refine (read_store MM.view _ _ zero2 _ _ _).trans ?_
    delta run.sl.r run.sl.r_1 run.sl.v99
    simp only [hm, e0, e1, e2, e3, e4, e5, e6, e7, e8, e9, e10, e11, e12, e13, e14, e15, e16, e17, e18]
    rfl
  · iexists _
    isplitr; swap; (· iexact HZ)
    ipureintro
    delta run.sl.HZ_1
    refine (read_store MZ.view _ _ zero2 _ _ _).trans ?_
    delta run.sl.r run.sl.r_1 run.sl.v99 run.sl.v108
    simp only [hm, hz, e0, e1, e2, e3, e4, e5, e6, e7, e8, e9, e10, e11, e12, e13, e14, e15, e16, e17, e18]
    rfl

end Cert.Proof.Fused

end
-- ==== Proof.Bodies.lean ====
/-
  Facts about whole staging buffers, and about windows fetched once and then kept.
-/
module

public import proofs.«01_k».proof.Proof.Fused
public import Idealize.ShloMosaic.Lib.Pipeline.TableIdle

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Cert.Proof.Select (pt)

variable {F : FTy → Type} [FloatOps F]

local notation "𝕄" => MT nD τ sig (HIx 1) (Elt F) ℕ UU ℕ

/-- A whole buffer owned at contents `X` is its points-to there. -/
theorem owns_whole (c : Dev nD) {sp : Space} {S : Shape} {e : EltTy} (M : Memref sig .tc sp S e) (h : M.IsWhole) (X : S.Idx → Elt F e) :
    (owns (c : Thread nD τ) M fullShare X : sProp 𝕄) = pt c M (M.view.rep X) := by
  rw [owns_eq_rep, h.set_eq_univ]

/-- A whole buffer held at contents that read `X` is owned at `X`. -/
theorem owns_of (c : Dev nD) {sp : Space} {S : Shape} {e : EltTy} (M : Memref sig .tc sp S e) (h : M.IsWhole) (X : S.Idx → Elt F e) :
    (iprop(∃ f, ⌜M.view.read (Elt F) f = X⌝ ∗ pt c M f) : sProp 𝕄) ⊢ owns (c : Thread nD τ) M fullShare X := by
  unfold owns
  rw [h.set_eq_univ]

/-- A window fetched at the first point only, never written back and left as found, holds that fetch throughout. -/
theorem finds_kept {cfg : Pipeline.Cfg sig Λ₀} {c : Dev nD} (rd : RDat τ (Elt F) (HIx 1) ℕ UU ℕ cfg c) (w : Fin cfg.W)
    (hN : 0 < cfg.N) (h0 : (cfg.win w).fetch ⟨0, hN⟩ = true) (hf : ∀ t : Fin cfg.N, t.val ≠ 0 → (cfg.win w).fetch t = false)
    (hfl : ∀ t, (cfg.win w).flush t = false) (ha : ∀ t Y X, rd.after w t Y X → X = Y) :
    ∀ (n : ℕ) (hn : n < cfg.N) X, rd.Finds w ⟨n, hn⟩ X → ∃ d, X = rd.fetched w ⟨0, hN⟩ d
  | 0, _, X, h => (rd.finds_of_fetch h0 X).mp h
  | n + 1, hn, X, h => by
    rcases (rd.finds_of_pos (hf ⟨n + 1, hn⟩ (Nat.succ_ne_zero n)) (Nat.succ_ne_zero n) X).mp h with h | ⟨Y, hY, hX⟩
    · exact absurd h (by rw [hfl]; exact Bool.false_ne_true)
    · rw [ha _ _ _ hX]
      exact finds_kept rd w hN h0 hf hfl ha n (by omega) Y hY

end Cert.Proof

end
-- ==== Proof.SelectRegion.lean ====
/-
  The second TensorCore call as a region of @main.
-/
module

public import proofs.«01_k».proof.Proof.Bodies

@[expose] public section

noncomputable section

namespace Cert.Proof.Select

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)

variable {F : FTy → Type} [FloatOps F]

local notation "𝕄" => MT nD τ sig (HIx 1) (Elt F) ℕ UU ℕ

variable (V : Valuation τ sig (Elt F))

/-- A window's buffer just after the fetch of point `t`, if it held `d`. -/
abbrev got (w : Fin 3) (t : Fin cfg2.N) (d : (cfg2.win w).block.Idx → Elt F (cfg2.win w).elt) : (cfg2.win w).block.Idx → Elt F (cfg2.win w).elt :=
  (cfg2.win w).fill (cfg2.grid.coords t) d (((cfg2.win w).blk t).view.read (Elt F) (V (Proc.devRef .tc (arrRef spec2 w))))

/-- The proof data of the second call: the inputs are left as found, the selected columns go from block to block. -/
def rdat (c : Dev nD) : RDat τ (Elt F) (HIx 1) ℕ UU ℕ cfg2 c where
  A w := V (Proc.devRef .tc (arrRef spec2 w))
  after w t := match w with
    | ⟨0, _⟩ => fun Y X => X = Y
    | ⟨1, _⟩ => fun Y X => X = Y
    | ⟨2, _⟩ => fun Y X => ∃ d0 d1, X = next (grid2.coords t) (got V 0 t d0) (got V 1 ⟨0, by decide⟩ d1) Y
  Φ _ := Pipeline.scopedRest (cfgP (F := F) 1).spec c
  q _ := fullShare
  owed _ := (K (F := F)).Otc c 1
  recorded _ := recB (F := F) c 1

/-- The users' numbers are fetched at the first point only. -/
theorem fetch1_pos (t : Fin cfg2.N) (ht : t.val ≠ 0) : (cfg2.win 1).fetch t = false := by
  have h : t.val < 13 := lt_of_lt_of_eq t.isLt N_2
  rw [Bool.eq_false_iff]
  intro hh
  have := (fetch2_1 t).mp hh
  omega

/-- Each grid point's body runs and leaves the sum so far. -/
theorem body_ok (c : Dev nD) : (rdat V c).BodyObligation defs₀ 𝒱₀ none Set.univ := by
  intro t Y hY
  obtain ⟨d0, h0⟩ := ((rdat V c).finds_of_fetch (fetch2_0 t) (Y 0)).mp (hY 0)
  obtain ⟨d1, h1⟩ := finds_kept (rdat V c) 1 (by decide) ((fetch2_1 _).mpr rfl) fetch1_pos (fun _ => rfl) (fun _ _ _ h => h) t.val t.isLt (Y 1) (hY 1)
  rw [bigSep_W2, bigSep_W2]
  show _ ⊢ wp _ _ _ (bodyAt2 (F := F) t) _
  have E0 : ∀ X, (owns (c : Thread nD τ) ((cfg2.win 0).stage (cfg2.slots t 0)) fullShare X : sProp 𝕄) = pt c (st2_0 t) ((st2_0 t).view.rep X) :=
    owns_whole c (st2_0 t) (hstage2_0 ((cfg2.slots t 0).cast nbuf2_0))
  have E1 : ∀ X, (owns (c : Thread nD τ) ((cfg2.win 1).stage (cfg2.slots t 1)) fullShare X : sProp 𝕄) = pt c (st2_1 t) ((st2_1 t).view.rep X) :=
    owns_whole c (st2_1 t) (hstage2_1 ((cfg2.slots t 1).cast nbuf2_1))
  have E2 : ∀ X, (owns (c : Thread nD τ) ((cfg2.win 2).stage (cfg2.slots t 2)) fullShare X : sProp 𝕄) = pt c (st2_2 t) ((st2_2 t).view.rep X) :=
    owns_whole c (st2_2 t) (hstage2_2 ((cfg2.slots t 2).cast nbuf2_2))
  rw [E0 (Y 0), E1 (Y 1), E2 (Y 2), show (rdat V c).Φ t.succ = (rdat V c).Φ t.castSucc from rfl,
    show (rdat V c).owesAt none t.succ = (rdat V c).owesAt none t.castSucc from rfl]
  iintro ⟨HΦ, HO, H0, H1, H2⟩
  iapply (run c (grid2.coords t) _ (hstage2_0 ((cfg2.slots t 0).cast nbuf2_0)) _ (hstage2_1 ((cfg2.slots t 1).cast nbuf2_1)) _ (hstage2_2 ((cfg2.slots t 2).cast nbuf2_2)) (Y 0) (Y 1) (Y 2))
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists (Y 0)
    isplitr; · ipureintro; rfl
    rw [E0]
    iexact H0
  isplitl [H1]
  · iexists (Y 1)
    isplitr; · ipureintro; rfl
    rw [E1]
    iexact H1
  · iexists (next (grid2.coords t) (Y 0) (Y 1) (Y 2))
    isplitr
    · ipureintro
      exact ⟨d0, d1, by rw [h0, h1]; rfl⟩
    iapply (owns_of c _ (hstage2_2 ((cfg2.slots t 2).cast nbuf2_2)))
    iexact H2

/-- The invariant holds the scoped buffers no window of the call stages, from first to last. -/
theorem phi_eq (c : Dev nD) (t : Fin (cfg2.N + 1)) : (rdat V c).Φ t = (Pipeline.scopedRest (cfgP (F := F) 1).spec c : sProp 𝕄) := by
  unfold rdat
  with_reducible rfl

/-- The second call is one the run of a region covers. -/
theorem ok : RegOk (F := F) 1 1 (rdat V) V where
  owed _ _ := rfl
  recd _ _ := rfl
  share c w := (rdat V c).share_full (fun _ => rfl) w
  A _ _ := rfl
  body c := body_ok V c
  hin c := by rw [phi_eq V c]
  hout c := by rw [phi_eq V c]

end Cert.Proof.Select

end
-- ==== Proof.RepackRegion.lean ====
/-
  The first TensorCore call as a region of @main.
-/
module

public import proofs.«01_k».proof.Proof.Bodies

@[expose] public section

noncomputable section

namespace Cert.Proof.Repack

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Select (pt)
open Idealize.ShloMosaic.Pipeline (RDat arrRef arrRefs ucRefs)

variable {F : FTy → Type} [FloatOps F]

local notation "𝕄" => MT nD τ sig (HIx 1) (Elt F) ℕ UU ℕ

variable (V : Valuation τ sig (Elt F))

/-- A window's buffer just after the fetch of point `t`, if it held `d`. -/
abbrev got (w : Fin 3) (t : Fin cfg0.N) (d : (cfg0.win w).block.Idx → Elt F (cfg0.win w).elt) : (cfg0.win w).block.Idx → Elt F (cfg0.win w).elt :=
  (cfg0.win w).fill (cfg0.grid.coords t) d (((cfg0.win w).blk t).view.read (Elt F) (V (Proc.devRef .tc (arrRef spec0 w))))

/-- The proof data of the first call: the inputs are left as found, the result block is the two bands the body packs. -/
def rdat (c : Dev nD) : RDat τ (Elt F) (HIx 1) ℕ UU ℕ cfg0 c where
  A w := V (Proc.devRef .tc (arrRef spec0 w))
  after w t := match w with
    | ⟨0, _⟩ => fun Y X => X = Y
    | ⟨1, _⟩ => fun Y X => X = Y
    | ⟨2, _⟩ => fun Y X => ∃ d0 d1, X = packed (got V 0 t d0) (got V 1 ⟨0, by decide⟩ d1)
  Φ _ := Pipeline.scopedRest (cfgP (F := F) 0).spec c
  q _ := fullShare
  owed _ := (K (F := F)).Otc c 0
  recorded _ := recB (F := F) c 0

/-- The identity matrix is fetched at the first point only. -/
theorem fetch1_pos (t : Fin cfg0.N) (ht : t.val ≠ 0) : (cfg0.win 1).fetch t = false := by
  have h : t.val < 62 := lt_of_lt_of_eq t.isLt N_0
  rw [Bool.eq_false_iff]
  intro hh
  have := (fetch0_1 t).mp hh
  omega

/-- Each grid point's body runs and leaves the named block. -/
theorem body_ok (c : Dev nD) : (rdat V c).BodyObligation defs₀ 𝒱₀ none Set.univ := by
  intro t Y hY
  obtain ⟨d0, h0⟩ := ((rdat V c).finds_of_fetch (fetch0_0 t) (Y 0)).mp (hY 0)
  obtain ⟨d1, h1⟩ := finds_kept (rdat V c) 1 (by decide) ((fetch0_1 _).mpr rfl) fetch1_pos (fun _ => rfl) (fun _ _ _ h => h) t.val t.isLt (Y 1) (hY 1)
  rw [bigSep_W0, bigSep_W0]
  show _ ⊢ wp _ _ _ (bodyAt0 (F := F) t) _
  have E0 : ∀ X, (owns (c : Thread nD τ) ((cfg0.win 0).stage (cfg0.slots t 0)) fullShare X : sProp 𝕄) = pt c (st0_0 t) ((st0_0 t).view.rep X) :=
    owns_whole c (st0_0 t) (hstage0_0 ((cfg0.slots t 0).cast nbuf0_0))
  have E1 : ∀ X, (owns (c : Thread nD τ) ((cfg0.win 1).stage (cfg0.slots t 1)) fullShare X : sProp 𝕄) = pt c (st0_1 t) ((st0_1 t).view.rep X) :=
    owns_whole c (st0_1 t) (hstage0_1 ((cfg0.slots t 1).cast nbuf0_1))
  have E2 : ∀ X, (owns (c : Thread nD τ) ((cfg0.win 2).stage (cfg0.slots t 2)) fullShare X : sProp 𝕄) = pt c (st0_2 t) ((st0_2 t).view.rep X) :=
    owns_whole c (st0_2 t) (hstage0_2 ((cfg0.slots t 2).cast nbuf0_2))
  rw [E0 (Y 0), E1 (Y 1), E2 (Y 2), show (rdat V c).Φ t.succ = (rdat V c).Φ t.castSucc from rfl,
    show (rdat V c).owesAt none t.succ = (rdat V c).owesAt none t.castSucc from rfl]
  iintro ⟨HΦ, HO, H0, H1, H2⟩
  iapply (run c (grid0.coords t) _ (hstage0_0 ((cfg0.slots t 0).cast nbuf0_0)) _ (hstage0_1 ((cfg0.slots t 1).cast nbuf0_1)) _ (hstage0_2 ((cfg0.slots t 2).cast nbuf0_2)) (Y 0) (Y 1) (Y 2))
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists (Y 0)
    isplitr; · ipureintro; rfl
    rw [E0]
    iexact H0
  isplitl [H1]
  · iexists (Y 1)
    isplitr; · ipureintro; rfl
    rw [E1]
    iexact H1
  · iexists (packed (Y 0) (Y 1))
    isplitr
    · ipureintro
      exact ⟨d0, d1, by rw [h0, h1]; rfl⟩
    iapply (owns_of c _ (hstage0_2 ((cfg0.slots t 2).cast nbuf0_2)))
    iexact H2

/-- The invariant holds the scoped buffers no window of the call stages, from first to last. -/
theorem phi_eq (c : Dev nD) (t : Fin (cfg0.N + 1)) : (rdat V c).Φ t = (Pipeline.scopedRest (cfgP (F := F) 0).spec c : sProp 𝕄) := by
  unfold rdat
  with_reducible rfl

/-- The first call is one the run of a region covers. -/
theorem ok : RegOk (F := F) 0 0 (rdat V) V where
  owed _ _ := rfl
  recd _ _ := rfl
  share c w := (rdat V c).share_full (fun _ => rfl) w
  A _ _ := rfl
  body c := body_ok V c
  hin c := by rw [phi_eq V c]
  hout c := by rw [phi_eq V c]

end Cert.Proof.Repack

end
-- ==== Proof.FusedRegion.lean ====
/-
  The third TensorCore call as a region of @main.
-/
module

public import proofs.«01_k».proof.Proof.Bodies

@[expose] public section

noncomputable section

namespace Cert.Proof.Fused

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Cert.Proof.Select (pt)

variable {F : FTy → Type} [FloatOps F]

local notation "𝕄" => MT nD τ sig (HIx 1) (Elt F) ℕ UU ℕ

variable (V : Valuation τ sig (Elt F))

/-- A window's block at point `t` of the array's contents. -/
def blk (w : Fin 20) (t : Fin cfg3.N) : (cfg3.win w).block.Idx → Elt F (cfg3.win w).elt :=
  (cfg3.win w).fill (cfg3.grid.coords t) (fun _ => Classical.arbitrary _) (((cfg3.win w).blk t).view.read (Elt F) (V (Proc.devRef .tc (arrRef spec3 w))))

/-- The first point. -/
abbrev z0 : Fin cfg3.N := ⟨0, by decide⟩

/-- The blocks the body reads at point `t`. -/
def inp (t : Fin cfg3.N) : In F where
  p := blk V 0 t
  hf := blk V 1 t
  rk := blk V 2 t
  lo := blk V 3 z0
  hi := blk V 4 z0
  us := blk V 5 z0
  r2 := blk V 6 z0
  w1p := blk V 7 z0
  w1r := blk V 8 z0
  b1 := blk V 9 z0
  w2 := blk V 10 z0
  b2 := blk V 11 z0
  a1o := blk V 12 z0
  a1u := blk V 13 z0
  a1b := blk V 14 z0
  a2 := blk V 15 z0
  a2b := blk V 16 z0
  a3 := blk V 17 z0
  a3b := blk V 18 z0

/-- The carried state before point `n`. -/
def st : ℕ → St F
  | 0 => ⟨k3_pay5, k3_pay6, k3_pay7⟩
  | n + 1 => if h : n < cfg3.N then next (grid3.coords ⟨n, h⟩) (inp V ⟨n, h⟩) (st n) else st n

/-- The carried state after a point is the point's step from the state before. -/
theorem st_succ (t : Fin cfg3.N) : st V (t.val + 1) = next (grid3.coords t) (inp V t) (st V t.val) := by
  rw [st, dif_pos t.isLt]

/-- A point's one coordinate is its number. -/
theorem coords0 (t : Fin cfg3.N) : (grid3.coords t 0).val = t.val := by
  rw [Pipeline.Grid.coords_val t 0 (S := 1) (B := 16) (by decide) rfl]
  have h : t.val < 16 := lt_of_lt_of_eq t.isLt N_3
  omega

/-- At the first point the body ignores what was carried. -/
theorem next_first (t : Fin cfg3.N) (h : t.val = 0) (Y : In F) (s s' : St F) : next (grid3.coords t) Y s = next (grid3.coords t) Y s' := by
  unfold next start
  rw [if_pos (by rw [coords0]; exact h), if_pos (by rw [coords0]; exact h)]

/-- The scoped buffers of the other calls. -/
def rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))

/-- What is carried before point `t`: the two scratch buffers at the state's maximum and sum, any at the first. -/
def Φ (c : Dev nD) (t : Fin (cfg3.N + 1)) : sProp 𝕄 :=
  iprop(rest c ∗ ∃ m z : S16x1.Idx → Elt F .f32, ⌜t.val ≠ 0 → m = (st V t.val).m ∧ z = (st V t.val).z⌝
    ∗ pt c (Memref.whole cc3_scratch0) ((Memref.whole cc3_scratch0).view.rep m) ∗ pt c (Memref.whole cc3_scratch1) ((Memref.whole cc3_scratch1).view.rep z))

/-- The proof data of the third call: the inputs are left as found, the result's block follows the state. -/
def rdat (c : Dev nD) : RDat τ (Elt F) (HIx 1) ℕ UU ℕ cfg3 c where
  A w := V (Proc.devRef .tc (arrRef spec3 w))
  after w t Y X := (w.val ≠ 19 → X = Y) ∧ (w.val = 19 → HEq X (st V (t.val + 1)).out)
  Φ := Φ V c
  q _ := fullShare
  owed _ := (K (F := F)).Otc c 1
  recorded _ := recB (F := F) c 1

/-- A window fetched from inside its array holds exactly its block. -/
theorem fetched_eq (c : Dev nD) (w : Fin 20) (t : Fin cfg3.N) (d) (h : ∀ a, (cfg3.win w).clip (cfg3.grid.coords t) a = none) :
    (rdat V c).fetched w t d = blk V w t :=
  Pipeline.fill_of_clip_none (cfg := cfg3) w _ h _ _ _

/-- A fetch that happens at the first point only happens at no later one. -/
theorem pos_not {b : Fin cfg3.N → Bool} (h : ∀ t, b t = true ↔ t.val % 16 = 0) (t : Fin cfg3.N) (ht : t.val ≠ 0) : b t = false := by
  have h' : t.val < 16 := lt_of_lt_of_eq t.isLt N_3
  rw [Bool.eq_false_iff]
  intro hh
  have := (h t).mp hh
  omega

/-- At each point window 0 holds the point's own block. -/
theorem found0 (c : Dev nD) (t : Fin cfg3.N) (X) (h : (rdat V c).Finds 0 t X) : X = blk V 0 t := by
  obtain ⟨d, h⟩ := ((rdat V c).finds_of_fetch (fetch3_0 t) X).mp h
  rw [h]
  exact fetched_eq V c 0 t d (fun _ => rfl)

/-- At each point window 1 holds the point's own block. -/
theorem found1 (c : Dev nD) (t : Fin cfg3.N) (X) (h : (rdat V c).Finds 1 t X) : X = blk V 1 t := by
  obtain ⟨d, h⟩ := ((rdat V c).finds_of_fetch (fetch3_1 t) X).mp h
  rw [h]
  exact fetched_eq V c 1 t d (fun _ => rfl)

/-- At each point window 2 holds the point's own block. -/
theorem found2 (c : Dev nD) (t : Fin cfg3.N) (X) (h : (rdat V c).Finds 2 t X) : X = blk V 2 t := by
  obtain ⟨d, h⟩ := ((rdat V c).finds_of_fetch (fetch3_2 t) X).mp h
  rw [h]
  exact fetched_eq V c 2 t d (fun _ => rfl)

/-- At each point window 3 holds the block fetched at the first point. -/
theorem found3 (c : Dev nD) (t : Fin cfg3.N) (X) (h : (rdat V c).Finds 3 t X) : X = blk V 3 z0 := by
  obtain ⟨d, h⟩ := finds_kept (rdat V c) 3 (by decide) ((fetch3_3 _).mpr rfl) (pos_not fetch3_3) (fun _ => rfl) (fun _ _ _ h => h.1 (by decide)) t.val t.isLt X h
  rw [h]
  exact fetched_eq V c 3 z0 d (fun _ => rfl)

/-- At each point window 4 holds the block fetched at the first point. -/
theorem found4 (c : Dev nD) (t : Fin cfg3.N) (X) (h : (rdat V c).Finds 4 t X) : X = blk V 4 z0 := by
  obtain ⟨d, h⟩ := finds_kept (rdat V c) 4 (by decide) ((fetch3_4 _).mpr rfl) (pos_not fetch3_4) (fun _ => rfl) (fun _ _ _ h => h.1 (by decide)) t.val t.isLt X h
  rw [h]
  exact fetched_eq V c 4 z0 d (fun _ => rfl)

/-- At each point window 5 holds the block fetched at the first point. -/
theorem found5 (c : Dev nD) (t : Fin cfg3.N) (X) (h : (rdat V c).Finds 5 t X) : X = blk V 5 z0 := by
  obtain ⟨d, h⟩ := finds_kept (rdat V c) 5 (by decide) ((fetch3_5 _).mpr rfl) (pos_not fetch3_5) (fun _ => rfl) (fun _ _ _ h => h.1 (by decide)) t.val t.isLt X h
  rw [h]
  exact fetched_eq V c 5 z0 d (fun _ => rfl)

/-- At each point window 6 holds the block fetched at the first point. -/
theorem found6 (c : Dev nD) (t : Fin cfg3.N) (X) (h : (rdat V c).Finds 6 t X) : X = blk V 6 z0 := by
  obtain ⟨d, h⟩ := finds_kept (rdat V c) 6 (by decide) ((fetch3_6 _).mpr rfl) (pos_not fetch3_6) (fun _ => rfl) (fun _ _ _ h => h.1 (by decide)) t.val t.isLt X h
  rw [h]
  exact fetched_eq V c 6 z0 d (fun _ => rfl)

/-- At each point window 7 holds the block fetched at the first point. -/
theorem found7 (c : Dev nD) (t : Fin cfg3.N) (X) (h : (rdat V c).Finds 7 t X) : X = blk V 7 z0 := by
  obtain ⟨d, h⟩ := finds_kept (rdat V c) 7 (by decide) ((fetch3_7 _).mpr rfl) (pos_not fetch3_7) (fun _ => rfl) (fun _ _ _ h => h.1 (by decide)) t.val t.isLt X h
  rw [h]
  exact fetched_eq V c 7 z0 d (fun _ => rfl)

/-- At each point window 8 holds the block fetched at the first point. -/
theorem found8 (c : Dev nD) (t : Fin cfg3.N) (X) (h : (rdat V c).Finds 8 t X) : X = blk V 8 z0 := by
  obtain ⟨d, h⟩ := finds_kept (rdat V c) 8 (by decide) ((fetch3_8 _).mpr rfl) (pos_not fetch3_8) (fun _ => rfl) (fun _ _ _ h => h.1 (by decide)) t.val t.isLt X h
  rw [h]
  exact fetched_eq V c 8 z0 d (fun _ => rfl)

/-- At each point window 9 holds the block fetched at the first point. -/
theorem found9 (c : Dev nD) (t : Fin cfg3.N) (X) (h : (rdat V c).Finds 9 t X) : X = blk V 9 z0 := by
  obtain ⟨d, h⟩ := finds_kept (rdat V c) 9 (by decide) ((fetch3_9 _).mpr rfl) (pos_not fetch3_9) (fun _ => rfl) (fun _ _ _ h => h.1 (by decide)) t.val t.isLt X h
  rw [h]
  exact fetched_eq V c 9 z0 d (fun _ => rfl)

/-- At each point window 10 holds the block fetched at the first point. -/
theorem found10 (c : Dev nD) (t : Fin cfg3.N) (X) (h : (rdat V c).Finds 10 t X) : X = blk V 10 z0 := by
  obtain ⟨d, h⟩ := finds_kept (rdat V c) 10 (by decide) ((fetch3_10 _).mpr rfl) (pos_not fetch3_10) (fun _ => rfl) (fun _ _ _ h => h.1 (by decide)) t.val t.isLt X h
  rw [h]
  exact fetched_eq V c 10 z0 d (fun _ => rfl)

/-- At each point window 11 holds the block fetched at the first point. -/
theorem found11 (c : Dev nD) (t : Fin cfg3.N) (X) (h : (rdat V c).Finds 11 t X) : X = blk V 11 z0 := by
  obtain ⟨d, h⟩ := finds_kept (rdat V c) 11 (by decide) ((fetch3_11 _).mpr rfl) (pos_not fetch3_11) (fun _ => rfl) (fun _ _ _ h => h.1 (by decide)) t.val t.isLt X h
  rw [h]
  exact fetched_eq V c 11 z0 d (fun _ => rfl)

/-- At each point window 12 holds the block fetched at the first point. -/
theorem found12 (c : Dev nD) (t : Fin cfg3.N) (X) (h : (rdat V c).Finds 12 t X) : X = blk V 12 z0 := by
  obtain ⟨d, h⟩ := finds_kept (rdat V c) 12 (by decide) ((fetch3_12 _).mpr rfl) (pos_not fetch3_12) (fun _ => rfl) (fun _ _ _ h => h.1 (by decide)) t.val t.isLt X h
  rw [h]
  exact fetched_eq V c 12 z0 d (fun _ => rfl)

/-- At each point window 13 holds the block fetched at the first point. -/
theorem found13 (c : Dev nD) (t : Fin cfg3.N) (X) (h : (rdat V c).Finds 13 t X) : X = blk V 13 z0 := by
  obtain ⟨d, h⟩ := finds_kept (rdat V c) 13 (by decide) ((fetch3_13 _).mpr rfl) (pos_not fetch3_13) (fun _ => rfl) (fun _ _ _ h => h.1 (by decide)) t.val t.isLt X h
  rw [h]
  exact fetched_eq V c 13 z0 d (fun _ => rfl)

/-- At each point window 14 holds the block fetched at the first point. -/
theorem found14 (c : Dev nD) (t : Fin cfg3.N) (X) (h : (rdat V c).Finds 14 t X) : X = blk V 14 z0 := by
  obtain ⟨d, h⟩ := finds_kept (rdat V c) 14 (by decide) ((fetch3_14 _).mpr rfl) (pos_not fetch3_14) (fun _ => rfl) (fun _ _ _ h => h.1 (by decide)) t.val t.isLt X h
  rw [h]
  exact fetched_eq V c 14 z0 d (fun _ => rfl)

/-- At each point window 15 holds the block fetched at the first point. -/
theorem found15 (c : Dev nD) (t : Fin cfg3.N) (X) (h : (rdat V c).Finds 15 t X) : X = blk V 15 z0 := by
  obtain ⟨d, h⟩ := finds_kept (rdat V c) 15 (by decide) ((fetch3_15 _).mpr rfl) (pos_not fetch3_15) (fun _ => rfl) (fun _ _ _ h => h.1 (by decide)) t.val t.isLt X h
  rw [h]
  exact fetched_eq V c 15 z0 d (fun _ => rfl)

/-- At each point window 16 holds the block fetched at the first point. -/
theorem found16 (c : Dev nD) (t : Fin cfg3.N) (X) (h : (rdat V c).Finds 16 t X) : X = blk V 16 z0 := by
  obtain ⟨d, h⟩ := finds_kept (rdat V c) 16 (by decide) ((fetch3_16 _).mpr rfl) (pos_not fetch3_16) (fun _ => rfl) (fun _ _ _ h => h.1 (by decide)) t.val t.isLt X h
  rw [h]
  exact fetched_eq V c 16 z0 d (fun _ => rfl)

/-- At each point window 17 holds the block fetched at the first point. -/
theorem found17 (c : Dev nD) (t : Fin cfg3.N) (X) (h : (rdat V c).Finds 17 t X) : X = blk V 17 z0 := by
  obtain ⟨d, h⟩ := finds_kept (rdat V c) 17 (by decide) ((fetch3_17 _).mpr rfl) (pos_not fetch3_17) (fun _ => rfl) (fun _ _ _ h => h.1 (by decide)) t.val t.isLt X h
  rw [h]
  exact fetched_eq V c 17 z0 d (fun _ => rfl)

/-- At each point window 18 holds the block fetched at the first point. -/
theorem found18 (c : Dev nD) (t : Fin cfg3.N) (X) (h : (rdat V c).Finds 18 t X) : X = blk V 18 z0 := by
  obtain ⟨d, h⟩ := finds_kept (rdat V c) 18 (by decide) ((fetch3_18 _).mpr rfl) (pos_not fetch3_18) (fun _ => rfl) (fun _ _ _ h => h.1 (by decide)) t.val t.isLt X h
  rw [h]
  exact fetched_eq V c 18 z0 d (fun _ => rfl)

/-- After the first point the result's block is found as the point before left it. -/
theorem found19 (c : Dev nD) (t : Fin cfg3.N) (ht : t.val ≠ 0) (X) (h : (rdat V c).Finds 19 t X) : X = (st V t.val).out := by
  have h16 : t.val < 16 := lt_of_lt_of_eq t.isLt N_3
  rcases ((rdat V c).finds_of_pos rfl ht X).mp h with h | ⟨Y, -, hX⟩
  · have := (flush3_19 _).mp h
    simp only at this
    omega
  · have e : X = (st V (t.val - 1 + 1)).out := eq_of_heq (hX.2 rfl)
    rw [e, Nat.sub_add_cancel (Nat.one_le_iff_ne_zero.mpr ht)]

/-- The invariant of the region's data is the one stated here. -/
theorem phi_eq (c : Dev nD) (t) : (rdat V c).Φ t = Φ V c t := by
  unfold rdat
  with_reducible rfl

set_option maxHeartbeats 2000000 in
/-- Each grid point's body runs and keeps the invariant. -/
theorem body_ok (c : Dev nD) : (rdat V c).BodyObligation defs₀ 𝒱₀ none Set.univ := by
  intro t Y hY
  have h0 := found0 V c t (Y 0) (hY 0)
  have h1 := found1 V c t (Y 1) (hY 1)
  have h2 := found2 V c t (Y 2) (hY 2)
  have h3 := found3 V c t (Y 3) (hY 3)
  have h4 := found4 V c t (Y 4) (hY 4)
  have h5 := found5 V c t (Y 5) (hY 5)
  have h6 := found6 V c t (Y 6) (hY 6)
  have h7 := found7 V c t (Y 7) (hY 7)
  have h8 := found8 V c t (Y 8) (hY 8)
  have h9 := found9 V c t (Y 9) (hY 9)
  have h10 := found10 V c t (Y 10) (hY 10)
  have h11 := found11 V c t (Y 11) (hY 11)
  have h12 := found12 V c t (Y 12) (hY 12)
  have h13 := found13 V c t (Y 13) (hY 13)
  have h14 := found14 V c t (Y 14) (hY 14)
  have h15 := found15 V c t (Y 15) (hY 15)
  have h16 := found16 V c t (Y 16) (hY 16)
  have h17 := found17 V c t (Y 17) (hY 17)
  have h18 := found18 V c t (Y 18) (hY 18)
  rw [bigSep_W3, bigSep_W3]
  show _ ⊢ wp _ _ _ (bodyAt3 (F := F) t) _
  have E0 : ∀ X, (owns (c : Thread nD τ) ((cfg3.win 0).stage (cfg3.slots t 0)) fullShare X : sProp 𝕄) = pt c (st3_0 t) ((st3_0 t).view.rep X) :=
    owns_whole c (st3_0 t) (hstage3_0 ((cfg3.slots t 0).cast nbuf3_0))
  have E1 : ∀ X, (owns (c : Thread nD τ) ((cfg3.win 1).stage (cfg3.slots t 1)) fullShare X : sProp 𝕄) = pt c (st3_1 t) ((st3_1 t).view.rep X) :=
    owns_whole c (st3_1 t) (hstage3_1 ((cfg3.slots t 1).cast nbuf3_1))
  have E2 : ∀ X, (owns (c : Thread nD τ) ((cfg3.win 2).stage (cfg3.slots t 2)) fullShare X : sProp 𝕄) = pt c (st3_2 t) ((st3_2 t).view.rep X) :=
    owns_whole c (st3_2 t) (hstage3_2 ((cfg3.slots t 2).cast nbuf3_2))
  have E3 : ∀ X, (owns (c : Thread nD τ) ((cfg3.win 3).stage (cfg3.slots t 3)) fullShare X : sProp 𝕄) = pt c (st3_3 t) ((st3_3 t).view.rep X) :=
    owns_whole c (st3_3 t) (hstage3_3 ((cfg3.slots t 3).cast nbuf3_3))
  have E4 : ∀ X, (owns (c : Thread nD τ) ((cfg3.win 4).stage (cfg3.slots t 4)) fullShare X : sProp 𝕄) = pt c (st3_4 t) ((st3_4 t).view.rep X) :=
    owns_whole c (st3_4 t) (hstage3_4 ((cfg3.slots t 4).cast nbuf3_4))
  have E5 : ∀ X, (owns (c : Thread nD τ) ((cfg3.win 5).stage (cfg3.slots t 5)) fullShare X : sProp 𝕄) = pt c (st3_5 t) ((st3_5 t).view.rep X) :=
    owns_whole c (st3_5 t) (hstage3_5 ((cfg3.slots t 5).cast nbuf3_5))
  have E6 : ∀ X, (owns (c : Thread nD τ) ((cfg3.win 6).stage (cfg3.slots t 6)) fullShare X : sProp 𝕄) = pt c (st3_6 t) ((st3_6 t).view.rep X) :=
    owns_whole c (st3_6 t) (hstage3_6 ((cfg3.slots t 6).cast nbuf3_6))
  have E7 : ∀ X, (owns (c : Thread nD τ) ((cfg3.win 7).stage (cfg3.slots t 7)) fullShare X : sProp 𝕄) = pt c (st3_7 t) ((st3_7 t).view.rep X) :=
    owns_whole c (st3_7 t) (hstage3_7 ((cfg3.slots t 7).cast nbuf3_7))
  have E8 : ∀ X, (owns (c : Thread nD τ) ((cfg3.win 8).stage (cfg3.slots t 8)) fullShare X : sProp 𝕄) = pt c (st3_8 t) ((st3_8 t).view.rep X) :=
    owns_whole c (st3_8 t) (hstage3_8 ((cfg3.slots t 8).cast nbuf3_8))
  have E9 : ∀ X, (owns (c : Thread nD τ) ((cfg3.win 9).stage (cfg3.slots t 9)) fullShare X : sProp 𝕄) = pt c (st3_9 t) ((st3_9 t).view.rep X) :=
    owns_whole c (st3_9 t) (hstage3_9 ((cfg3.slots t 9).cast nbuf3_9))
  have E10 : ∀ X, (owns (c : Thread nD τ) ((cfg3.win 10).stage (cfg3.slots t 10)) fullShare X : sProp 𝕄) = pt c (st3_10 t) ((st3_10 t).view.rep X) :=
    owns_whole c (st3_10 t) (hstage3_10 ((cfg3.slots t 10).cast nbuf3_10))
  have E11 : ∀ X, (owns (c : Thread nD τ) ((cfg3.win 11).stage (cfg3.slots t 11)) fullShare X : sProp 𝕄) = pt c (st3_11 t) ((st3_11 t).view.rep X) :=
    owns_whole c (st3_11 t) (hstage3_11 ((cfg3.slots t 11).cast nbuf3_11))
  have E12 : ∀ X, (owns (c : Thread nD τ) ((cfg3.win 12).stage (cfg3.slots t 12)) fullShare X : sProp 𝕄) = pt c (st3_12 t) ((st3_12 t).view.rep X) :=
    owns_whole c (st3_12 t) (hstage3_12 ((cfg3.slots t 12).cast nbuf3_12))
  have E13 : ∀ X, (owns (c : Thread nD τ) ((cfg3.win 13).stage (cfg3.slots t 13)) fullShare X : sProp 𝕄) = pt c (st3_13 t) ((st3_13 t).view.rep X) :=
    owns_whole c (st3_13 t) (hstage3_13 ((cfg3.slots t 13).cast nbuf3_13))
  have E14 : ∀ X, (owns (c : Thread nD τ) ((cfg3.win 14).stage (cfg3.slots t 14)) fullShare X : sProp 𝕄) = pt c (st3_14 t) ((st3_14 t).view.rep X) :=
    owns_whole c (st3_14 t) (hstage3_14 ((cfg3.slots t 14).cast nbuf3_14))
  have E15 : ∀ X, (owns (c : Thread nD τ) ((cfg3.win 15).stage (cfg3.slots t 15)) fullShare X : sProp 𝕄) = pt c (st3_15 t) ((st3_15 t).view.rep X) :=
    owns_whole c (st3_15 t) (hstage3_15 ((cfg3.slots t 15).cast nbuf3_15))
  have E16 : ∀ X, (owns (c : Thread nD τ) ((cfg3.win 16).stage (cfg3.slots t 16)) fullShare X : sProp 𝕄) = pt c (st3_16 t) ((st3_16 t).view.rep X) :=
    owns_whole c (st3_16 t) (hstage3_16 ((cfg3.slots t 16).cast nbuf3_16))
  have E17 : ∀ X, (owns (c : Thread nD τ) ((cfg3.win 17).stage (cfg3.slots t 17)) fullShare X : sProp 𝕄) = pt c (st3_17 t) ((st3_17 t).view.rep X) :=
    owns_whole c (st3_17 t) (hstage3_17 ((cfg3.slots t 17).cast nbuf3_17))
  have E18 : ∀ X, (owns (c : Thread nD τ) ((cfg3.win 18).stage (cfg3.slots t 18)) fullShare X : sProp 𝕄) = pt c (st3_18 t) ((st3_18 t).view.rep X) :=
    owns_whole c (st3_18 t) (hstage3_18 ((cfg3.slots t 18).cast nbuf3_18))
  have E19 : ∀ X, (owns (c : Thread nD τ) ((cfg3.win 19).stage (cfg3.slots t 19)) fullShare X : sProp 𝕄) = pt c (st3_19 t) ((st3_19 t).view.rep X) :=
    owns_whole c (st3_19 t) (hstage3_19 ((cfg3.slots t 19).cast nbuf3_19))
  rw [E0 (Y 0), E1 (Y 1), E2 (Y 2), E3 (Y 3), E4 (Y 4), E5 (Y 5), E6 (Y 6), E7 (Y 7), E8 (Y 8), E9 (Y 9), E10 (Y 10), E11 (Y 11), E12 (Y 12), E13 (Y 13), E14 (Y 14), E15 (Y 15), E16 (Y 16), E17 (Y 17), E18 (Y 18), E19 (Y 19), h0, h1, h2, h3, h4, h5, h6, h7, h8, h9, h10, h11, h12, h13, h14, h15, h16, h17, h18,
    phi_eq V c t.castSucc, phi_eq V c t.succ, show (rdat V c).owesAt none t.succ = (rdat V c).owesAt none t.castSucc from rfl]
  unfold Φ
  iintro ⟨⟨HR, %m, %z, %hmz, HM, HZ⟩, HO, H0, H1, H2, H3, H4, H5, H6, H7, H8, H9, H10, H11, H12, H13, H14, H15, H16, H17, H18, H19⟩
  have hn : next (grid3.coords t) (inp V t) ⟨m, z, Y 19⟩ = st V (t.val + 1) := by
    rw [st_succ]
    by_cases ht : t.val = 0
    · exact next_first t ht _ _ _
    · obtain ⟨e1, e2⟩ := hmz ht
      rw [e1, e2, found19 V c t ht (Y 19) (hY 19)]
      rfl
  iapply (run c (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ (hstage3_6 ((cfg3.slots t 6).cast nbuf3_6)) _ (hstage3_7 ((cfg3.slots t 7).cast nbuf3_7)) _ (hstage3_8 ((cfg3.slots t 8).cast nbuf3_8)) _ (hstage3_9 ((cfg3.slots t 9).cast nbuf3_9)) _ (hstage3_10 ((cfg3.slots t 10).cast nbuf3_10)) _ (hstage3_11 ((cfg3.slots t 11).cast nbuf3_11)) _ (hstage3_12 ((cfg3.slots t 12).cast nbuf3_12)) _ (hstage3_13 ((cfg3.slots t 13).cast nbuf3_13)) _ (hstage3_14 ((cfg3.slots t 14).cast nbuf3_14)) _ (hstage3_15 ((cfg3.slots t 15).cast nbuf3_15)) _ (hstage3_16 ((cfg3.slots t 16).cast nbuf3_16)) _ (hstage3_17 ((cfg3.slots t 17).cast nbuf3_17)) _ (hstage3_18 ((cfg3.slots t 18).cast nbuf3_18)) _ (hstage3_19 ((cfg3.slots t 19).cast nbuf3_19)) _ (Memref.isWhole_whole _) _ (Memref.isWhole_whole _) (inp V t) ⟨m, z, Y 19⟩)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HM]; · iexact HM
  isplitl [HZ]; · iexact HZ
  iintro ⟨H0, H1, H2, H3, H4, H5, H6, H7, H8, H9, H10, H11, H12, H13, H14, H15, H16, H17, H18, H19, ⟨%fm, %hfm, HM⟩, %fz, %hfz, HZ⟩
  isplitl [HR HM HZ]
  · isplitl [HR]; · iexact HR
    iexists (st V (t.val + 1)).m
    iexists (st V (t.val + 1)).z
    isplitr; · ipureintro; exact fun _ => ⟨rfl, rfl⟩
    isplitl [HM]
    · rw [← owns_whole c (Memref.whole cc3_scratch0) (Memref.isWhole_whole _)]
      iapply (owns_of c (Memref.whole cc3_scratch0) (Memref.isWhole_whole _))
      iexists fm
      isplitr; · ipureintro; rw [hfm, hn]
      iexact HM
    · rw [← owns_whole c (Memref.whole cc3_scratch1) (Memref.isWhole_whole _)]
      iapply (owns_of c (Memref.whole cc3_scratch1) (Memref.isWhole_whole _))
      iexists fz
      isplitr; · ipureintro; rw [hfz, hn]
      iexact HZ
  isplitl [HO]; · iexact HO
  isplitl [H0]
  · iexists (blk V 0 t)
    isplitr; · ipureintro; exact ⟨fun _ => rfl, fun h => absurd h (by decide)⟩
    rw [E0]
    iexact H0
  isplitl [H1]
  · iexists (blk V 1 t)
    isplitr; · ipureintro; exact ⟨fun _ => rfl, fun h => absurd h (by decide)⟩
    rw [E1]
    iexact H1
  isplitl [H2]
  · iexists (blk V 2 t)
    isplitr; · ipureintro; exact ⟨fun _ => rfl, fun h => absurd h (by decide)⟩
    rw [E2]
    iexact H2
  isplitl [H3]
  · iexists (blk V 3 z0)
    isplitr; · ipureintro; exact ⟨fun _ => rfl, fun h => absurd h (by decide)⟩
    rw [E3]
    iexact H3
  isplitl [H4]
  · iexists (blk V 4 z0)
    isplitr; · ipureintro; exact ⟨fun _ => rfl, fun h => absurd h (by decide)⟩
    rw [E4]
    iexact H4
  isplitl [H5]
  · iexists (blk V 5 z0)
    isplitr; · ipureintro; exact ⟨fun _ => rfl, fun h => absurd h (by decide)⟩
    rw [E5]
    iexact H5
  isplitl [H6]
  · iexists (blk V 6 z0)
    isplitr; · ipureintro; exact ⟨fun _ => rfl, fun h => absurd h (by decide)⟩
    rw [E6]
    iexact H6
  isplitl [H7]
  · iexists (blk V 7 z0)
    isplitr; · ipureintro; exact ⟨fun _ => rfl, fun h => absurd h (by decide)⟩
    rw [E7]
    iexact H7
  isplitl [H8]
  · iexists (blk V 8 z0)
    isplitr; · ipureintro; exact ⟨fun _ => rfl, fun h => absurd h (by decide)⟩
    rw [E8]
    iexact H8
  isplitl [H9]
  · iexists (blk V 9 z0)
    isplitr; · ipureintro; exact ⟨fun _ => rfl, fun h => absurd h (by decide)⟩
    rw [E9]
    iexact H9
  isplitl [H10]
  · iexists (blk V 10 z0)
    isplitr; · ipureintro; exact ⟨fun _ => rfl, fun h => absurd h (by decide)⟩
    rw [E10]
    iexact H10
  isplitl [H11]
  · iexists (blk V 11 z0)
    isplitr; · ipureintro; exact ⟨fun _ => rfl, fun h => absurd h (by decide)⟩
    rw [E11]
    iexact H11
  isplitl [H12]
  · iexists (blk V 12 z0)
    isplitr; · ipureintro; exact ⟨fun _ => rfl, fun h => absurd h (by decide)⟩
    rw [E12]
    iexact H12
  isplitl [H13]
  · iexists (blk V 13 z0)
    isplitr; · ipureintro; exact ⟨fun _ => rfl, fun h => absurd h (by decide)⟩
    rw [E13]
    iexact H13
  isplitl [H14]
  · iexists (blk V 14 z0)
    isplitr; · ipureintro; exact ⟨fun _ => rfl, fun h => absurd h (by decide)⟩
    rw [E14]
    iexact H14
  isplitl [H15]
  · iexists (blk V 15 z0)
    isplitr; · ipureintro; exact ⟨fun _ => rfl, fun h => absurd h (by decide)⟩
    rw [E15]
    iexact H15
  isplitl [H16]
  · iexists (blk V 16 z0)
    isplitr; · ipureintro; exact ⟨fun _ => rfl, fun h => absurd h (by decide)⟩
    rw [E16]
    iexact H16
  isplitl [H17]
  · iexists (blk V 17 z0)
    isplitr; · ipureintro; exact ⟨fun _ => rfl, fun h => absurd h (by decide)⟩
    rw [E17]
    iexact H17
  isplitl [H18]
  · iexists (blk V 18 z0)
    isplitr; · ipureintro; exact ⟨fun _ => rfl, fun h => absurd h (by decide)⟩
    rw [E18]
    iexact H18
  · iexists (st V (t.val + 1)).out
    isplitr; · ipureintro; exact ⟨fun h => absurd rfl h, fun _ => HEq.rfl⟩
    iapply (owns_of c _ (hstage3_19 ((cfg3.slots t 19).cast nbuf3_19)))
    rw [← hn]
    iexact H19

/-- Owning a whole buffer is owning it with some content seen through its view. -/
theorem whole_ex (c : Dev nD) {sp : Space} {S : Shape} {e : EltTy} (M : Memref sig .tc sp S e) (h : M.IsWhole) (f : Buf (Elt F) (M.view.loc (c : Thread nD τ))) :
    (pt c M f : sProp 𝕄) ⊢ iprop(∃ X, pt c M (M.view.rep X)) := by
  iintro H
  iexists (M.view.read (Elt F) f)
  rw [← owns_whole c M h]
  iapply (owns_of c M h)
  iexists f
  isplitr; · ipureintro; rfl
  iexact H

/-- The scratch buffers at the start, whatever they hold, meet the invariant before the first point. -/
theorem hin (c : Dev nD) : (Pipeline.scopedRest (cfgP (F := F) 2).spec c : sProp 𝕄) ⊢ Φ V c 0 := by
  have e : (Pipeline.scopedRest (cfgP (F := F) 2).spec c : sProp 𝕄) = _ := scopedRest3_eq c
  rw [e]
  unfold Φ rest
  iintro ⟨R0, R1, R2, R3, R4, R5, R6, R7, R8, ⟨%fm, HM⟩, %fz, HZ⟩
  isplitl [R0 R1 R2 R3 R4 R5 R6 R7 R8]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  ihave HM := (whole_ex c (Memref.whole cc3_scratch0) (Memref.isWhole_whole _) fm) $$ HM
  ihave HZ := (whole_ex c (Memref.whole cc3_scratch1) (Memref.isWhole_whole _) fz) $$ HZ
  icases HM with ⟨%m, HM⟩
  icases HZ with ⟨%z, HZ⟩
  iexists m
  iexists z
  isplitr; · ipureintro; exact fun h => absurd rfl h
  isplitl [HM]; · iexact HM
  iexact HZ

/-- The third call is one the run of a region covers. -/
theorem ok : RegOk (F := F) 2 1 (rdat V) V where
  owed _ _ := rfl
  recd _ _ := rfl
  share c w := (rdat V c).share_full (fun _ => rfl) w
  A _ _ := rfl
  body c := body_ok V c
  hin c := by rw [phi_eq V c]; exact hin V c
  hout c := by
    rw [phi_eq V c]
    have e : (Pipeline.scopedRest (cfgP (F := F) 2).spec c : sProp 𝕄) = _ := scopedRest3_eq c
    rw [e]
    unfold Φ rest
    iintro ⟨⟨R0, R1, R2, R3, R4, R5, R6, R7, R8⟩, %m, %z, -, HM, HZ⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [HM]
    · iexists _
      iexact HM
    · iexists _
      iexact HZ

end Cert.Proof.Fused

end
-- ==== Proof.Main.lean ====
/-
  @main's run: the host stretches and the four calls in order, from the launch's contents to the result.
-/
module

public import proofs.«01_k».proof.Proof.Values
public import proofs.«01_k».proof.Proof.Call
public import proofs.«01_k».proof.Proof.SelectRegion
public import proofs.«01_k».proof.Proof.RepackRegion
public import proofs.«01_k».proof.Proof.FusedRegion
public import Idealize.ShloMosaic.Lib.Pipeline.RegionArrays

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Idealize.ShloMosaic.StableHlo
open Cert.Proof.Gather (wLoc iLoc oLoc gath tdP goP P st_of st_eq dn_eq u₀ hu₀ pipes facts tileObl vecSplit wPts_toks iPts_rows oPts_rows iSet oSet wid)

variable {F : FTy → Type} [FloatOps F]

local notation "𝕄" => MT nD τ sig (HIx 1) (Elt F) ℕ UU ℕ

variable (m : (ℓ : Loc nD τ sig) → Buf (Elt F) ℓ) (ρ : Dev nD → PrngReg)

/-- The launch's contents. -/
abbrev V0 (d : Dev nD) : Valuation τ sig (Elt F) := fun b => m (d, b)
/-- The contents the first call finds. -/
abbrev V1 (d : Dev nD) : Valuation τ sig (Elt F) := after ops1 (V0 m d)

/-- The row numbers the SparseCore call is given. -/
def J (d : Dev nD) : S32x8x128.Idx → BitVec 32 := shapeCast S32x8x128 (jrow (V0 m d (R main_arg1))) shapeCasts_S32768_S32x8x128

/-- What the first call can leave. -/
abbrev Left0 (d : Dev nD) (V2 : Valuation τ sig (Elt F)) : Prop := Left (F := F) 0 (Repack.rdat (V1 m d)) d (V1 m d) V2

/-- What the SparseCore call's table can hold. -/
def G (d : Dev nD) (W : S507904x128.Idx → Elt F .f32) : Prop := ∃ V2, Left0 m d V2 ∧ W = V2 (R main_v8)

/-- The contents with the gathered rows in place. -/
def putRows (V : Valuation τ sig (Elt F)) : Valuation τ sig (Elt F) :=
  Function.update V (R main_v17) (gath (V (R main_v8)) (V (R main_v16)) : S32768x128.Idx → Elt F .f32)

/-- The contents the second call finds, from what the first left. -/
abbrev V5 (V2 : Valuation τ sig (Elt F)) : Valuation τ sig (Elt F) := after ops3 (putRows (after ops2 V2))
/-- The contents the third call finds, from what the second left. -/
abbrev V7 (V6 : Valuation τ sig (Elt F)) : Valuation τ sig (Elt F) := after ops4 V6

/-- The final contents, through the calls. -/
def Rel (d : Dev nD) (V8 : Valuation τ sig (Elt F)) : Prop :=
  ∃ V2 V6, Left0 m d V2 ∧ Left (F := F) 1 (Select.rdat (V5 V2)) d (V5 V2) V6 ∧ Left (F := F) 2 (Fused.rdat (V7 V6)) d (V7 V6) V8

/-- A call of @main. -/
theorem region_last (p : Fin 3) (n : ℕ) (rd : RD (F := F) p) (V : Valuation τ sig (Elt F)) (hok : RegOk p n rd V)
    (kit : Pipeline.PLaunchFacts (nD := nD) (τ := τ) (pcfgs (F := F)) p) (hK : (pcfgs (F := F) p).pre.K = 0) (hS : arrRefs (τ := τ) (cfgP (F := F) p).spec ⊆ SS)
    (d : Dev nD) {Q : PUnit → sProp 𝕄} :
    iprop(boundary (d.tc : Thread nD τ) ∗ held (d.tc : Thread nD τ) SS V ∗ owesTc (F := F) d n ∗ levAts (K (F := F)).L (K (F := F)).lev
        ∗ Pipeline.cellsGhost (Pipeline.pin (pcfgs (F := F)) adm) EP p d ∗ Pipeline.toksInit (Pipeline.pin (pcfgs (F := F)) adm) EP p d
        ∗ (∀ V', ⌜Left p rd d V V'⌝ -∗ boundary (d.tc : Thread nD τ) -∗ held (d.tc : Thread nD τ) SS V' -∗ owesTc (F := F) d n -∗ Q ⟨⟩))
      ⊢ wp frame (wpE ((K (F := F)).defs D) 𝒱 (T d) none) Set.univ (Prog.lift (.customCall (SparseCore.inner (Pipeline.entry p)) ())) Q := by
  iintro ⟨Hb, HS, HO, HL, HC, HT, Hk⟩
  iapply (wp_wand_r Idealize.ShloMosaic.frame (wpE ((K (F := F)).defs D) 𝒱 (T d) none) Set.univ)
  isplitr [Hk]
  · iapply (wp_region (F := F) p n rd V SS hok hS kit hK d)
    isplitl [Hb]; · iexact Hb
    isplitl [HS]; · iexact HS
    isplitl [HO]; · iexact HO
    isplitl [HL]; · iexact HL
    isplitl [HC]; · iexact HC
    iexact HT
  iintro %a ⟨Hb, ⟨%V', %hV, HS⟩, HO⟩
  iapply Hk $$ [] [Hb] [HS] [HO]
  · ipureintro; exact hV
  · iexact Hb
  · iexact HS
  · iexact HO

/-- A call of @main, continued. -/
theorem region_then (p : Fin 3) (n : ℕ) (rd : RD (F := F) p) (V : Valuation τ sig (Elt F)) (hok : RegOk p n rd V)
    (kit : Pipeline.PLaunchFacts (nD := nD) (τ := τ) (pcfgs (F := F)) p) (hK : (pcfgs (F := F) p).pre.K = 0) (hS : arrRefs (τ := τ) (cfgP (F := F) p).spec ⊆ SS)
    (d : Dev nD) {k : PUnit → Prog (TpuEff nD τ sig (Elt F) (SparseCore.Sig (Pipeline.Sig Λ₀ (Fin 3) fun p => (pcfgs (F := F) p).Adm) 1) .tc) PUnit} {Q : PUnit → sProp 𝕄} :
    iprop(boundary (d.tc : Thread nD τ) ∗ held (d.tc : Thread nD τ) SS V ∗ owesTc (F := F) d n ∗ levAts (K (F := F)).L (K (F := F)).lev
        ∗ Pipeline.cellsGhost (Pipeline.pin (pcfgs (F := F)) adm) EP p d ∗ Pipeline.toksInit (Pipeline.pin (pcfgs (F := F)) adm) EP p d
        ∗ (∀ V', ⌜Left p rd d V V'⌝ -∗ boundary (d.tc : Thread nD τ) -∗ held (d.tc : Thread nD τ) SS V' -∗ owesTc (F := F) d n
            -∗ wp frame (wpE ((K (F := F)).defs D) 𝒱 (T d) none) Set.univ (k ⟨⟩) Q))
      ⊢ wp frame (wpE ((K (F := F)).defs D) 𝒱 (T d) none) Set.univ (Prog.lift (.customCall (SparseCore.inner (Pipeline.entry p)) ()) >>= k) Q := by
  rw [wp_bind]
  exact region_last p n rd V hok kit hK hS d (Q := fun a => wp frame (wpE ((K (F := F)).defs D) 𝒱 (T d) none) Set.univ (k a) Q)

/-- The three arrays of the SparseCore call. -/
abbrev three : Finset (DevRef τ sig) := {R main_v8, R main_v16, R main_v17}

/-- The gather's three arrays are among the host's buffers. -/
theorem three_sub : three ⊆ SS := by
  intro b hb
  simp only [three, Finset.mem_insert, Finset.mem_singleton] at hb
  rcases hb with rfl | rfl | rfl <;> exact Finset.mem_filter.mpr ⟨devRef_mem_tcRefs _, by decide⟩

/-- Holding them is owning each of the three. -/
theorem held_three (d : Dev nD) (V : Valuation τ sig (Elt F)) : (held (d.tc : Thread nD τ) three V : sProp 𝕄)
    = iprop((wLoc d ↦{fullShare} V (R main_v8)) ∗ (iLoc d ↦{fullShare} V (R main_v16)) ∗ oLoc d ↦{fullShare} V (R main_v17)) := by
  have h1 : R main_v8 ∉ ({R main_v16, R main_v17} : Finset (DevRef τ sig)) := by
    simp only [Finset.mem_insert, Finset.mem_singleton, not_or]
    exact ⟨devRef_ne_of_ne (by decide), devRef_ne_of_ne (by decide)⟩
  have h2 : R main_v16 ∉ ({R main_v17} : Finset (DevRef τ sig)) := by
    simp only [Finset.mem_singleton]
    exact devRef_ne_of_ne (by decide)
  unfold held three
  rw [SparseCore.bigSep_insert' h1, SparseCore.bigSep_insert' h2, bigSep_singleton]

/-- A resource kept while every member of a family is rewritten beside it. -/
theorem bigSep_beside {ι : Type} [DecidableEq ι] (S : Finset ι) (Q : sProp 𝕄) (Φ Ψ : ι → sProp 𝕄) (h : ∀ i, iprop(Q ∗ Φ i) ⊢ iprop(Q ∗ Ψ i)) :
    iprop(Q ∗ bigSep S Φ) ⊢ iprop(Q ∗ bigSep S Ψ) := by
  induction S using Finset.induction_on with
  | empty => exact .rfl
  | insert a S ha ih =>
    rw [SparseCore.bigSep_insert' ha, SparseCore.bigSep_insert' ha]
    iintro ⟨HQ, Ha, HS⟩
    ihave H := (h a) $$ [HQ Ha]
    · isplitl [HQ] <;> iassumption
    icases H with ⟨HQ, Ha⟩
    ihave H := ih $$ [HQ HS]
    · isplitl [HQ] <;> iassumption
    icases H with ⟨HQ, HS⟩
    isplitl [HQ]; · iexact HQ
    isplitl [Ha] <;> iassumption

/-- The pieces the tasks hand back, with the table's kept share, are the three arrays whole. -/
theorem join (G : Dev nD → (S507904x128.Idx → Elt F .f32) → Prop) (J : Dev nD → S32x8x128.Idx → BitVec 32) (d : Dev nD) (W0 : Buf (Elt F) (wLoc d)) :
    iprop((wLoc d ↦{Transfers.shareDrop fullShare 32} W0) ∗ (bigSep Finset.univ fun p : Fin 2 × Fin 16 => tdP G J d p))
      ⊢ (iprop((wLoc d ↦{fullShare} W0) ∗ (iLoc d ↦{fullShare} (J d : Buf (Elt F) (iLoc d))) ∗ (oLoc d ↦{fullShare} (gath W0 (J d) : Buf (Elt F) (oLoc d)))) : sProp 𝕄) := by
  have h1 (p : Fin 2 × Fin 16) : iprop((wLoc d ↦{Transfers.shareDrop fullShare 32} W0) ∗ tdP G J d p) ⊢ (iprop((wLoc d ↦{Transfers.shareDrop fullShare 32} W0)
      ∗ (wLoc d ↦{Transfers.shareTokN fullShare (wid p)} W0)
      ∗ (iLoc d ↦[iSet p]{fullShare} (J d : Buf (Elt F) (iLoc d))) ∗ (oLoc d ↦[oSet p]{fullShare} (gath W0 (J d) : Buf (Elt F) (oLoc d)))) : sProp 𝕄) := by
    unfold tdP
    iintro ⟨Hd, %W, -, Hw, Hi, Ho⟩
    ihave H := (persistent_entails_right (pointsTo_agree (ℓ := wLoc d) (I := Finset.univ) (J := Finset.univ) (q₁ := Transfers.shareDrop fullShare 32)
      (q₂ := Transfers.shareTokN fullShare (wid p)) (f := W0) (g := W))) $$ [Hd Hw]
    · isplitl [Hd] <;> iassumption
    icases H with ⟨%he, Hd, Hw⟩
    obtain rfl : W0 = W := funext fun i => (he i (by simp)).1
    isplitl [Hd]; · iexact Hd
    isplitl [Hw]; · iexact Hw
    isplitl [Hi]; · iexact Hi
    iexact Ho
  have hm := bigSep_beside Finset.univ _ _ _ h1
  rw [bigSep_sep', bigSep_sep'] at hm
  iintro H
  ihave H := hm $$ H
  icases H with ⟨Hd, Hw, Hi, Ho⟩
  isplitl [Hd Hw]
  · iapply (wPts_toks d _).2; isplitl [Hd]; · iexact Hd
    iexact Hw
  isplitl [Hi]; · iapply (Entails.of_eq (iPts_rows d _).symm); iexact Hi
  iapply (Entails.of_eq (oPts_rows d _).symm); iexact Ho

/-- The three buffers of the gather taken out of all. -/
theorem three_out (d : Dev nD) (V : Valuation τ sig (Elt F)) (J : S32x8x128.Idx → BitVec 32) (hJ : V (R main_v16) = J) :
    (held (d.tc : Thread nD τ) SS V : sProp 𝕄) ⊢ iprop(((wLoc d ↦{fullShare} V (R main_v8)) ∗ (iLoc d ↦{fullShare} (J : Buf (Elt F) (iLoc d)))
        ∗ (oLoc d ↦{fullShare} V (R main_v17))) ∗ held (d.tc : Thread nD τ) (SS \ three) V) := by
  subst hJ
  rw [held_sub_split (d.tc : Thread nD τ) three_sub V, held_three]

/-- The gathered rows put back among the buffers. -/
theorem back (d : Dev nD) (V : Valuation τ sig (Elt F)) (J : S32x8x128.Idx → BitVec 32) (hJ : V (R main_v16) = J) :
    iprop(((wLoc d ↦{fullShare} V (R main_v8)) ∗ (iLoc d ↦{fullShare} (J : Buf (Elt F) (iLoc d))) ∗ (oLoc d ↦{fullShare} (gath (V (R main_v8)) J : Buf (Elt F) (oLoc d))))
        ∗ held (d.tc : Thread nD τ) (SS \ three) V)
      ⊢ (held (d.tc : Thread nD τ) SS (putRows V) : sProp 𝕄) := by
  subst hJ
  have h1 : putRows V (R main_v8) = V (R main_v8) := Function.update_of_ne (devRef_ne_of_ne (by decide)) _ _
  have h2 : putRows V (R main_v16) = V (R main_v16) := Function.update_of_ne (devRef_ne_of_ne (by decide)) _ _
  have h3 : putRows V (R main_v17) = (gath (V (R main_v8)) (V (R main_v16)) : S32768x128.Idx → Elt F .f32) := Function.update_self _ _ _
  rw [held_sub_split (d.tc : Thread nD τ) three_sub (putRows V), held_three, h1, h2, h3,
    held_congr (d.tc : Thread nD τ) (S := SS \ three) (V := putRows V) (V' := V) (fun b hb => by
      refine Function.update_of_ne (fun h => ?_) _ _
      subst h
      exact (Finset.mem_sdiff.mp hb).2 (by simp))]

/-- What the run leaves: the buffers at contents the calls can have left. -/
abbrev FIN (d : Dev nD) : sProp 𝕄 := iprop(∃ V8, ⌜Rel m d V8⌝ ∗ held (d.tc : Thread nD τ) SS V8)

/-- What the TensorCore owes can be taken out of its state and put back. -/
theorem tcSt_open (d : Dev nD) (n : ℕ) : ((K (F := F)).tcSt EH d n : sProp 𝕄) ⊢ iprop(owesTc (F := F) d n ∗ (owesTc (F := F) d n -∗ (K (F := F)).tcSt EH d n)) := by
  unfold SparseCore.Cfg.tcSt owesTc
  iintro ⟨⟨%W, %hW, HO⟩, HR⟩
  isplitl [HO]
  · iexists W
    isplitr; · ipureintro; exact hW
    iexact HO
  iintro ⟨%W, %hW, HO⟩
  isplitl [HO]
  · iexists W
    isplitr; · ipureintro; exact hW
    iexact HO
  iexact HR

/-- The pipelines' cells, one pipeline at a time. -/
theorem pipes_split (d : Dev nD) : (pipes (F := F) d : sProp 𝕄) ⊢ iprop(
    (Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)
    ∗ (Pipeline.cellsGhost (Pipeline.pin (pcfgs (F := F)) adm) EP 2 d ∗ Pipeline.toksInit (Pipeline.pin (pcfgs (F := F)) adm) EP 2 d)) := by
  have h (Φ : Fin 3 → sProp 𝕄) : bigSep Finset.univ Φ = iprop(Φ 0 ∗ Φ 1 ∗ Φ 2) :=
    bigSep_univ_eq_bigSepL [(0 : Fin 3), (1 : Fin 3), (2 : Fin 3)] (by decide) (by decide) Φ
  unfold pipes
  rw [h, h]
  iintro ⟨⟨A0, A1, A2⟩, B0, B1, B2⟩
  isplitl [A0 B0]
  · isplitl [A0] <;> iassumption
  isplitl [A1 B1]
  · isplitl [A1] <;> iassumption
  isplitl [A2] <;> iassumption

/-- The repacking call's arrays are among the host's buffers. -/
theorem sub_arr0 : arrRefs (τ := τ) (cfgP (F := F) 0).spec ⊆ SS := Pipeline.arrRefs_sub_ucRefs spec0 (by decide)

/-- So are the selecting call's. -/
theorem sub_arr1 : arrRefs (τ := τ) (cfgP (F := F) 1).spec ⊆ SS := Pipeline.arrRefs_sub_ucRefs spec2 (by decide)

/-- So are the fused call's. -/
theorem sub_arr2 : arrRefs (τ := τ) (cfgP (F := F) 2).spec ⊆ SS := Pipeline.arrRefs_sub_ucRefs spec3 (by decide)

/-- A buffer that is no window's array is none of a call's arrays. -/
theorem not_arr {ι : ℕ} {gr : ℕ} (win : Fin ι → Pipeline.WinSpec sig gr) (b : Ref sig .tc) (h : ∀ w, arrRef win w ≠ b) : R b ∉ arrRefs (τ := τ) win := by
  intro hb
  obtain ⟨r, hr, he⟩ := Finset.mem_map.mp hb
  obtain rfl := Proc.devRef_injective _ he
  obtain ⟨w, _, hw⟩ := Finset.mem_image.mp hr
  exact h w hw

/-- A buffer that is no array of the first call is left as found by it. -/
theorem left0_arg1 (d : Dev nD) (V2 : Valuation τ sig (Elt F)) (h : Left0 m d V2) : V2 (R main_arg1) = V0 m d (R main_arg1) := by
  have e := h.2 (R main_arg1) (not_arr spec0 main_arg1 (by decide))
  rw [e]
  exact keep1 (V0 m d) main_arg1 (by decide)

/-- @main on device `d`'s TensorCore. -/
theorem hmain (κ : GSem nD τ sig → ℕ) (d : Dev nD) :
    iprop((K (F := F)).ctx EH (P (G m) (J m)) κ ∗ (K (F := F)).tcSt EH d 0 ∗ (K (F := F)).tcRes m ρ d ∗ pipes (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) SS (V0 m d) from Pipeline.unscopedBufs_held d (V0 m d)]
  iintro ⟨#Hctx, Hst, ⟨Hb, HV, Hts, -⟩, HP⟩
  ihave HP := (pipes_split d) $$ HP
  icases HP with ⟨⟨C0, T0⟩, ⟨C1, T1⟩, C2, T2⟩
  ihave #Hlev := (SparseCore.Cfg.ctx_levAts (K := K (F := F)) κ) $$ Hctx
  ihave Hst := (tcSt_open d 0) $$ Hst
  icases Hst with ⟨HO, Hback⟩
  iapply (wp_seq 𝒱 none Set.univ d SS _ ops1 (ops_uc ops1 sub1) (List.forall_iff_forall_mem.mp fresh1) (V0 m d)) $$ [Hb HV]
  · isplitl [Hb] <;> iassumption
  iintro ⟨Hb, HV⟩
  iapply (region_then 0 0 (Repack.rdat (V1 m d)) (V1 m d) (Repack.ok (V1 m d)) launch0.toP rfl sub_arr0 d)
  isplitl [Hb]; · iexact Hb
  isplitl [HV]; · iexact HV
  isplitl [HO]; · iexact HO
  isplitr; · iexact Hlev
  isplitl [C0]; · iexact C0
  isplitl [T0]; · iexact T0
  iintro %V2 %h2 Hb HV HO
  iapply (wp_seq 𝒱 none Set.univ d SS _ ops2 (ops_uc ops2 sub2) (List.forall_iff_forall_mem.mp fresh2) V2) $$ [Hb HV]
  · isplitl [Hb] <;> iassumption
  iintro ⟨Hb, HV⟩
  have hJ : after ops2 V2 (R main_v16) = J m d := by
    rw [v16_eq, left0_arg1 m d V2 h2]; rfl
  have hG : G m d (after ops2 V2 (R main_v8)) := ⟨V2, h2, keep2 V2 main_v8 (by decide)⟩
  ihave Hst := Hback $$ HO
  ihave HV := (three_out d (after ops2 V2) (J m d) hJ) $$ HV
  rw [wp_bind]
  icases HV with ⟨⟨Hw, Hi, Ho⟩, HR⟩
  ihave H := (st_of (G m) (J m) d _ hG _) $$ [Hw Hi Ho]
  · isplitl [Hw]; · iexact Hw
    isplitl [Hi]; · iexact Hi
    iexact Ho
  icases H with ⟨Hd, H⟩
  iapply ((K (F := F)).wp_run (D (F := F)) 𝒱 (EH := EH) (P := P (G m) (J m)) κ d 0)
  isplitr; · iexact Hctx
  isplitl [Hst]; · iexact Hst
  isplitl [H]
  · rw [st_eq]; iexact H
  iintro ⟨Hst, Hdn⟩
  ihave Hdn := (Entails.of_eq (dn_eq (G m) (J m) d)) $$ Hdn
  ihave H := (join (G m) (J m) d _) $$ [Hd Hdn]
  · isplitl [Hd]; · iexact Hd
    iexact Hdn
  ihave HV := (back d (after ops2 V2) (J m d) hJ) $$ [H HR]
  · isplitl [H]; · iexact H
    iexact HR
  ihave Hst := (Entails.of_eq (show ((K (F := F)).tcSt EH d ((0 : Fin 1).val + 1) : sProp 𝕄) = (K (F := F)).tcSt EH d 1 from rfl)) $$ Hst
  ihave Hst := (tcSt_open d 1) $$ Hst
  icases Hst with ⟨HO, Hback⟩
  iapply (wp_seq 𝒱 none Set.univ d SS _ ops3 (ops_uc ops3 sub3) (List.forall_iff_forall_mem.mp fresh3) (putRows (after ops2 V2))) $$ [Hb HV]
  · isplitl [Hb] <;> iassumption
  iintro ⟨Hb, HV⟩
  iapply (region_then 1 1 (Select.rdat (V5 V2)) (V5 V2) (Select.ok (V5 V2)) launch2.toP rfl sub_arr1 d)
  isplitl [Hb]; · iexact Hb
  isplitl [HV]; · iexact HV
  isplitl [HO]; · iexact HO
  isplitr; · iexact Hlev
  isplitl [C1]; · iexact C1
  isplitl [T1]; · iexact T1
  iintro %V6 %h6 Hb HV HO
  iapply (wp_seq 𝒱 none Set.univ d SS _ ops4 (ops_uc ops4 sub4) (List.forall_iff_forall_mem.mp fresh4) V6) $$ [Hb HV]
  · isplitl [Hb] <;> iassumption
  iintro ⟨Hb, HV⟩
  iapply (region_last 2 1 (Fused.rdat (V7 V6)) (V7 V6) (Fused.ok (V7 V6)) launch3.toP rfl sub_arr2 d)
  isplitl [Hb]; · iexact Hb
  isplitl [HV]; · iexact HV
  isplitl [HO]; · iexact HO
  isplitr; · iexact Hlev
  isplitl [C2]; · iexact C2
  isplitl [T2]; · iexact T2
  iintro %V8 %h8 Hb HV HO
  ihave Hst := Hback $$ HO
  isplitl [Hst]; · iexact Hst
  isplitl [HV]
  · iexists V8
    isplitr; · ipureintro; exact ⟨V2, V6, h2, h6, h8⟩
    iexact HV
  isplitl [Hb] <;> iassumption

/-- The arguments' buffers. -/
def argList : List (Ref sig .tc) := [main_arg0, main_arg1, main_arg2, main_arg3, main_arg4, main_arg5, main_arg6, main_arg7, main_arg8, main_arg9, main_arg10, main_arg11, main_arg12, main_arg13, main_arg14, main_arg15, main_arg16]

/-- The arguments are among the host's buffers. -/
theorem arg_sub : ∀ b ∈ argList, R b ∈ SS := by
  intro b hb
  refine Finset.mem_filter.mpr ⟨devRef_mem_tcRefs _, ?_⟩
  revert b
  decide

/-- No host operation writes an argument, nor does the gather. -/
theorem arg_wrote : ∀ b ∈ argList, b ∉ wrote1 ∧ b ∉ wrote2 ∧ b ∉ wrote3 ∧ b ∉ wrote4 ∧ b ≠ main_v17 := by decide

/-- No argument is an array of the repacking call. -/
theorem arg_arr0 : ∀ b ∈ argList, ∀ w, arrRef spec0 w ≠ b := by decide

/-- No argument is an array of the selecting call. -/
theorem arg_arr2 : ∀ b ∈ argList, ∀ w, arrRef spec2 w ≠ b := by decide

/-- The arguments the fused call takes are inputs of it. -/
theorem arg_arr3 : ∀ b ∈ argList, ∀ w, arrRef spec3 w = b → (spec3 w).isOut = false := by decide

/-- The arguments are as at the launch when the run ends. -/
theorem rel_args (d : Dev nD) (V8 : Valuation τ sig (Elt F)) (h : Rel m d V8) (b : Ref sig .tc) (hb : b ∈ argList) : V8 (R b) = m (d, R b) := by
  obtain ⟨V2, V6, h2, h6, h8⟩ := h
  obtain ⟨w1, w2, w3, w4, wg⟩ := arg_wrote b hb
  have e2 : V2 (R b) = m (d, R b) := (h2.2 (R b) (not_arr spec0 b (arg_arr0 b hb))).trans (keep1 (V0 m d) b w1)
  have e5 : V5 V2 (R b) = m (d, R b) := by
    refine (keep3 _ b w3).trans ?_
    refine (Function.update_of_ne (devRef_ne_of_ne wg) _ _).trans ?_
    exact (keep2 V2 b w2).trans e2
  have e6 : V6 (R b) = m (d, R b) := (h6.2 (R b) (not_arr spec2 b (arg_arr2 b hb))).trans e5
  have e7 : V7 V6 (R b) = m (d, R b) := (keep4 V6 b w4).trans e6
  by_cases hw : ∃ w, arrRef spec3 w = b
  · obtain ⟨w, rfl⟩ := hw
    have e := h8.1 w
    rw [(Fused.rdat (V7 V6) d).ArrAt_in w (arg_arr3 _ hb w rfl)] at e
    exact e.trans e7
  · exact (h8.2 (R b) (not_arr spec3 b (fun w hw' => hw ⟨w, hw'⟩))).trans e7

/-- What every final state satisfies on device `d`. -/
def fq (d : Dev nD) (s' : Phys nD τ sig (Elt F)) : Prop := ∃ V8, Rel m d V8 ∧ ∀ b ∈ SS, s'.mem.mem (d, b) = V8 b

/-- What the host holds of a buffer is what memory holds there. -/
theorem held_agree (d : Dev nD) (V : Valuation τ sig (Elt F)) (s' : Phys nD τ sig (Elt F)) (b : DevRef τ sig) (hb : b ∈ SS) :
    iprop(held (d.tc : Thread nD τ) SS V ∗ SI s') ⊢ (⌜s'.mem.mem (d, b) = V b⌝ : sProp 𝕄) := by
  rw [held_sub_split (d.tc : Thread nD τ) (Finset.singleton_subset_iff.mpr hb) V]
  unfold held
  rw [bigSep_singleton]
  iintro ⟨⟨Hb, -⟩, HSI⟩
  ihave H := (SI_pointsTo_agree (st := s') (ℓ := (d, b)) (I := Finset.univ) (q := fullShare) (f := V b)) $$ [HSI Hb]
  · isplitl [HSI] <;> iassumption
  icases H with %h
  ipureintro
  exact funext fun i => h i (Finset.mem_univ i)

/-- The host's last resources say what memory holds at the end. -/
theorem hfin (d : Dev nD) (s' : Phys nD τ sig (Elt F)) : iprop(FIN m d ∗ SI s') ⊢ (⌜fq m d s'⌝ : sProp 𝕄) := by
  have h (V8 : Valuation τ sig (Elt F)) : iprop(held (d.tc : Thread nD τ) SS V8 ∗ SI s') ⊢ (⌜∀ b, b ∈ SS → s'.mem.mem (d, b) = V8 b⌝ : sProp 𝕄) :=
    (forall_intro fun b => (forall_intro fun hb => held_agree d V8 s' b hb).trans pure_forall.2).trans pure_forall.2
  unfold FIN
  iintro ⟨⟨%V8, %hV, H⟩, HSI⟩
  ihave H := (h V8) $$ [H HSI]
  · isplitl [H] <;> iassumption
  icases H with %h'
  ipureintro
  exact ⟨V8, hV, h'⟩

/-- What every execution ends with: the result as the calls can leave it, the arguments unchanged, the counters at zero. -/
def QC : PUnit × MemSt nD τ sig (Elt F) → Prop := fun r =>
  (∀ c : Dev nD, (∃ V8, Rel m c V8 ∧ r.2.mem ((c.tc : Thread nD τ).loc main_v36) = V8 (R main_v36)) ∧
    (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16)))
    ∧ r.2.sem = fun _ => 0

/-- The end of the run in the form the adequacy theorem asks for. -/
theorem qc_of (s' : MemSt nD τ sig (Elt F)) (h : ∀ d, ∃ V8, Rel m d V8 ∧ ∀ b ∈ SS, s'.mem (d, b) = V8 b) (hz : s'.sem = fun _ => 0) : QC m ((), s') := by
  refine ⟨fun c => ?_, hz⟩
  obtain ⟨V8, hR, hb⟩ := h c
  have hk (b : Ref sig .tc) (hmem : b ∈ argList) : s'.mem ((c.tc : Thread nD τ).loc b) = m ((c.tc : Thread nD τ).loc b) :=
    (hb (R b) (arg_sub b hmem)).trans (rel_args m c V8 hR b hmem)
  refine ⟨⟨V8, hR, hb (R main_v36) (Finset.mem_filter.mpr ⟨devRef_mem_tcRefs _, by decide⟩)⟩, ?_⟩
  exact ⟨hk main_arg0 (by decide), hk main_arg1 (by decide), hk main_arg2 (by decide), hk main_arg3 (by decide), hk main_arg4 (by decide), hk main_arg5 (by decide), hk main_arg6 (by decide), hk main_arg7 (by decide), hk main_arg8 (by decide), hk main_arg9 (by decide), hk main_arg10 (by decide), hk main_arg11 (by decide), hk main_arg12 (by decide), hk main_arg13 (by decide), hk main_arg14 (by decide), hk main_arg15 (by decide), hk main_arg16 (by decide)⟩

/-- Every execution of the whole program ends so. -/
theorem run_main [∀ e, Nonempty (Elt F e)] (hJ : ∀ d x, (J m d x).toNat < 507904) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (G m) (J m)) (A := ∅) facts v₀
    (fun q hq => match q with | 0 => nomatch hq)
    (fun q _ => match q with | 0 => tileObl (G m) (J m) facts hJ)
    (fun q _ => match q with | 0 => SparseCore.Cfg.VecSplit.of_plain (vecSplit (G m) (J m)))
    m ρ main (fun d => pipes d) (FIN m) (u₀ (F := F)) (sep_elim_left.trans (hu₀ (G m) (J m))) (hmain m ρ) (fq m) (hfin m) (QC m) (fun r h hz => qc_of m r.mem h hz)

end Cert.Proof

end
-- ==== Proof.Online.lean ====
/-
  The attention pooling in real numbers: the running maximum, sum and weighted sum over blocks of tokens,
  and the ratio they end in.
-/
module

public import Idealize.ShloMosaic.PureOps.Ideal.Laws
public import Idealize.ShloMosaic.Lib.ValueIdxCore
public import Idealize.ShloMosaic.Lib.ValueIdx

@[expose] public section

noncomputable section

namespace Cert.Proof.Online

open Finset Idealize.ShloMosaic

/-- The sum of real numbers, read in the extended ones. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers, read in the extended ones. -/
theorem coe_dot {ι : Type*} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- The larger of a real number and zero. -/
theorem coe_relu (x : ℝ) : max (x : EReal) 0 = ((max x 0 : ℝ) : EReal) := by
  rw [← EReal.coe_zero]; exact (EReal.coe_strictMono.monotone.map_max).symm

/-- The larger of two reals, taken among the extended reals. -/
theorem coe_max (x y : ℝ) : max (x : EReal) (y : EReal) = ((max x y : ℝ) : EReal) :=
  (EReal.coe_strictMono.monotone.map_max).symm

/-- The largest of a non-empty family of reals, from the bottom, is a real number. -/
theorem fold_max_real {ι : Type*} (s : Finset ι) (f : ι → EReal) (hf : ∀ i ∈ s, f i ≠ ⊤) (i₀ : ι) (h₀ : i₀ ∈ s) (hb : f i₀ ≠ ⊥) :
    ∃ r : ℝ, s.fold max (⊥ : EReal) f = (r : EReal) := by
  have h1 : s.fold max (⊥ : EReal) f ≠ ⊤ := by
    have : s.fold max (⊥ : EReal) f < ⊤ := by
      rw [Finset.fold_max_lt]
      exact ⟨bot_lt_top, fun x hx => lt_top_iff_ne_top.2 (hf x hx)⟩
    exact this.ne
  have h2 : s.fold max (⊥ : EReal) f ≠ ⊥ := by
    have : f i₀ ≤ s.fold max (⊥ : EReal) f := by
      rw [Finset.le_fold_max]
      exact Or.inr ⟨i₀, h₀, le_rfl⟩
    intro e
    rw [e] at this
    exact hb (le_bot_iff.1 this)
  exact ⟨_, (EReal.coe_toReal h1 h2).symm⟩

/-- The weights of the first `n` tokens that `mine` picks, from the level `M`. -/
def wsum (mine : ℕ → Prop) [DecidablePred mine] (sc v : ℕ → ℝ) (M : ℝ) (n : ℕ) : ℝ :=
  ∑ t ∈ range n, if mine t then Real.exp (sc t - M) * v t else 0

variable (mine : ℕ → Prop) [DecidablePred mine] (sc v : ℕ → ℝ)

/-- A change of level scales the weights. -/
theorem wsum_level (M M' : ℝ) (n : ℕ) : wsum mine sc v M n * Real.exp (M - M') = wsum mine sc v M' n := by
  unfold wsum
  rw [Finset.sum_mul]
  refine Finset.sum_congr rfl fun t _ => ?_
  split
  · rw [mul_right_comm, ← Real.exp_add]; congr 2; ring
  · exact zero_mul _

/-- One block more. -/
theorem wsum_step (M : ℝ) (n k : ℕ) : wsum mine sc v M (n + k)
    = wsum mine sc v M n + ∑ t : Fin k, if mine (n + t.val) then Real.exp (sc (n + t.val) - M) * v (n + t.val) else 0 := by
  unfold wsum
  rw [Finset.sum_range_add, Finset.sum_range (fun x => if mine (n + x) then Real.exp (sc (n + x) - M) * v (n + x) else 0)]

/-- No token seen: the weighted sum is zero. -/
theorem wsum_zero (M : ℝ) : wsum mine sc v M 0 = 0 := by simp [wsum]

/-- The ratio does not depend on the level. -/
theorem ratio_level (w : ℕ → ℝ) (M M' : ℝ) (n : ℕ) : wsum mine sc v M n / wsum mine sc w M n = wsum mine sc v M' n / wsum mine sc w M' n := by
  rw [← wsum_level mine sc v M M', ← wsum_level mine sc w M M', mul_div_mul_right _ _ (Real.exp_pos _).ne']

/-- The weighted sum of values that aren't negative isn't negative. -/
theorem wsum_nonneg (hv : ∀ t, 0 ≤ v t) (M : ℝ) (n : ℕ) : 0 ≤ wsum mine sc v M n :=
  Finset.sum_nonneg fun t _ => by
    split
    · exact mul_nonneg (Real.exp_pos _).le (hv t)
    · exact le_rfl

/-- The sum of weights is positive once a token of the segment is seen. -/
theorem wsum_pos (M : ℝ) (n t : ℕ) (ht : t < n) (hm : mine t) : 0 < wsum mine sc (fun _ => 1) M n := by
  refine Finset.sum_pos' (fun t _ => ?_) ⟨t, Finset.mem_range.2 ht, ?_⟩
  · split
    · exact mul_nonneg (Real.exp_pos _).le zero_le_one
    · exact le_rfl
  · rw [if_pos hm]; exact mul_pos (Real.exp_pos _) zero_lt_one

/-- With no token the weights are nought. -/
theorem wsum_none (M : ℝ) (n : ℕ) (h : ∀ t < n, ¬ mine t) : wsum mine sc v M n = 0 :=
  Finset.sum_eq_zero fun t ht => if_neg (h t (Finset.mem_range.1 ht))

/-- The pooled value: the weighted mean over the first `n` tokens that `mine` picks, nought where there is none. -/
def pooled (n : ℕ) : ℝ := wsum mine sc v 0 n / wsum mine sc (fun _ => 1) 0 n

/-- Weights divided first and summed after come to the pooled value. -/
theorem pooled_of_att (S : ℝ) (n : ℕ) :
    (∑ t ∈ range n, if mine t then v t * (Real.exp (sc t - S) / wsum mine sc (fun _ => 1) S n) else 0) = pooled mine sc v n := by
  unfold pooled
  rw [ratio_level mine sc v (fun _ => 1) 0 S]
  generalize wsum mine sc (fun _ => 1) S n = D
  conv_rhs => rw [wsum, Finset.sum_div]
  refine Finset.sum_congr rfl fun t _ => ?_
  split
  · ring
  · rw [zero_div]

/-- The guarded quotient of the carried sums is the pooled value. -/
theorem pooled_of_carried (M : ℝ) (n : ℕ) :
    (if 0 < wsum mine sc (fun _ => 1) M n then wsum mine sc v M n / wsum mine sc (fun _ => 1) M n else 0) = pooled mine sc v n := by
  unfold pooled
  rw [ratio_level mine sc v (fun _ => 1) 0 M]
  split
  · rfl
  · rename_i h
    have : wsum mine sc (fun _ => 1) M n = 0 := le_antisymm (not_lt.1 h) (wsum_nonneg mine sc _ (fun _ => zero_le_one) M n)
    rw [this, div_zero]

/-- Division of reals, the divisor not nought. -/
theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-! ## Words and selects -/

/-- The equality test's bit is one exactly when the words are equal. -/
theorem eq_bit (a b : BitVec 32) : IntOp.cmpi .eq a b = 1#1 ↔ a = b := by
  simp only [IntOp.cmpi]
  by_cases h : a = b
  · simp [h]
  · simp [beq_eq_false_iff_ne.2 h, h]

/-- The inequality test's bit is one exactly when they differ. -/
theorem ne_bit (a b : BitVec 32) : IntOp.cmpi .ne a b = 1#1 ↔ a ≠ b := by
  simp only [IntOp.cmpi]
  by_cases h : a = b
  · simp [h]
  · simp [bne_iff_ne.2 h, h]

/-- A select by a bit. -/
theorem sel {α : Type} (c : BitVec 1) (x y : α) : Scalar.select c x y = if c = 1#1 then x else y := rfl

/-- The pattern of minus infinity is the least extended real. -/
theorem bot_bits : Ideal.ofBits .f32 0xFF800000#32 = (⊥ : EReal) := by simp [Ideal.ofBits, Ideal.ieee]

/-- The pattern of the running maximum's first value is a real number. -/
theorem low_bits : ∃ r : ℝ, Ideal.ofBits .f32 0xF149F2CA#32 = (r : EReal) := by
  simp [Ideal.ofBits, Ideal.ieee]
  exact ⟨_, rfl⟩

/-- A bit widened and read as a number. -/
theorem bit_val (b : BitVec 1) : (FloatOps.sitofp FTy.f32 (BitVec.setWidth 32 b) : Ideal .f32) = (((if b = 1#1 then 1 else 0 : ℝ)) : EReal) := by
  rcases (by revert b; decide : b = 0#1 ∨ b = 1#1) with rfl | rfl
  · show ((((BitVec.setWidth 32 0#1).toInt : ℝ)) : EReal) = _
    rw [show (BitVec.setWidth 32 0#1).toInt = 0 by decide]; simp
  · show ((((BitVec.setWidth 32 1#1).toInt : ℝ)) : EReal) = _
    rw [show (BitVec.setWidth 32 1#1).toInt = 1 by decide]; simp

end Cert.Proof.Online

end
-- ==== Proof.Model.lean ====
/-
  The attention pooling as a formula in real numbers: an encoder and a scorer of two layers each, and the
  weighted mean of every segment.
-/
module

public import proofs.«01_k».proof.Proof.Online

@[expose] public section

noncomputable section

namespace Cert.Proof.Model

open Cert.Proof.Online

/-- The rows that every token reads, and the layers' weights. -/
structure Data where
  p : ℕ → Fin 64 → ℝ
  r : ℕ → Fin 64 → ℝ
  u : Fin 16 → Fin 64 → ℝ
  seg : ℕ → Fin 16
  w1p : Fin 64 → Fin 64 → ℝ
  w1r : Fin 64 → Fin 64 → ℝ
  b1 : Fin 64 → ℝ
  w2 : Fin 64 → Fin 64 → ℝ
  b2 : Fin 64 → ℝ
  a1o : Fin 64 → Fin 64 → ℝ
  a1u : Fin 64 → Fin 64 → ℝ
  a1b : Fin 64 → ℝ
  a2 : Fin 64 → Fin 64 → ℝ
  a2b : Fin 64 → ℝ
  a3 : Fin 64 → ℝ
  a3b : ℝ

variable (D : Data)

/-- The encoder's first layer before its bias. -/
def Data.pre (t : ℕ) (j : Fin 64) : ℝ := (∑ k, D.w1p j k * D.p t k) + ∑ k, D.w1r j k * D.r t k
/-- The encoder's first layer. -/
def Data.x (t : ℕ) (j : Fin 64) : ℝ := max (D.pre t j + D.b1 j) 0
/-- The encoded token. -/
def Data.o (t : ℕ) (j : Fin 64) : ℝ := max ((∑ k, D.w2 j k * D.x t k) + D.b2 j) 0
/-- The user's part of the scorer's first layer, with its bias. -/
def Data.usr (b : Fin 16) (j : Fin 64) : ℝ := (∑ k, D.a1u j k * D.u b k) + D.a1b j
/-- The scorer's first layer. -/
def Data.h (t : ℕ) (j : Fin 64) : ℝ := max ((∑ k, D.a1o j k * D.o t k) + D.usr (D.seg t) j) 0
/-- The scorer's second layer. -/
def Data.g (t : ℕ) (j : Fin 64) : ℝ := max ((∑ k, D.a2 j k * D.h t k) + D.a2b j) 0
/-- The score. -/
def Data.sc (t : ℕ) : ℝ := (∑ k, D.a3 k * D.g t k) + D.a3b

/-- The pooled rows: each segment's mean of encoded tokens, weighted by the exponentials of their scores. -/
def Data.val (b : Fin 16) (j : Fin 64) : ℝ := pooled (fun t => D.seg t = b) D.sc (fun t => D.o t j) 32768

end Cert.Proof.Model

end
-- ==== Proof.Range.lean ====
/-
    What the precondition says of the index arrays.
-/
module

public import proofs.«01_k».proof.Defs
public import Idealize.ShloMosaic.Lib.ReduceAll
public import Idealize.ShloMosaic.Lib.ValueIdxCore
public import Idealize.ShloMosaic.PureOps.Ideal

@[expose] public section

noncomputable section

namespace Cert.Proof.Range

open Idealize.ShloMosaic Idealize.ShloMosaic.ValueIdx
open Cert.Pre_finite (S16 S32768 S17 S100000x64 S1000000x64 S5x64 S64x128 S64 S64x64 S1x64 S1 S_)

variable {F : FTy → Type} [FloatOps F] [Cert.Pre_in_range.Facts] [Cert.Pre_finite.Facts]

/-- A conjunction's bit is one exactly when both bits are. -/
theorem and_one (p q : BitVec 1) : IntOp.andi p q = 1#1 ↔ p = 1#1 ∧ q = 1#1 := by revert p q; decide

/-- A truth value's bit is one exactly when it is true. -/
theorem ofBool_one (p : Bool) : (BitVec.ofBool p = 1#1) ↔ p = true := by cases p <;> decide

/-- A word between bounds as a signed word is so as a number. -/
theorem word_lt (v : BitVec 32) (n : ℕ) (hn : n < 2147483648) (h0 : IntOp.cmpi .sge v 0#32 = 1#1) (h1 : IntOp.cmpi .slt v (BitVec.ofNat 32 n) = 1#1) : v.toNat < n := by
  have e2 : (BitVec.ofNat 32 n).toNat = n := by rw [BitVec.toNat_ofNat]; omega
  simp only [IntOp.cmpi, ofBool_one, BitVec.sle_eq_decide, BitVec.slt_eq_decide,
    decide_eq_true_eq, BitVec.toInt_eq_toNat_cond, e2] at h0 h1
  simp at h0
  omega

/-- Equality of words, as the compare says it. -/
theorem word_eq (v w : BitVec 32) (h : IntOp.cmpi .eq v w = 1#1) : v = w := by
  simpa [IntOp.cmpi, ofBool_one] using h

/-- Signed order. -/
theorem word_le (v w : BitVec 32) (h : IntOp.cmpi .sle v w = 1#1) : v.toInt ≤ w.toInt := by
  simpa [IntOp.cmpi, ofBool_one, BitVec.sle_eq_decide] using h

instance : Subsingleton S_.Idx := ⟨fun a b => funext fun i => i.elim0⟩

/-- The first precondition bounds the items' indices. -/
theorem items_of_pre (x0 : S16.Idx → BitVec 32) (x1 x2 : S32768.Idx → BitVec 32) (x3 : S17.Idx → BitVec 32) (x4 : FVec F S100000x64 .f32) (x5 : FVec F S1000000x64 .f32)
    (x6 : FVec F S5x64 .f32) (x7 : FVec F S64x128 .f32) (x8 : FVec F S64 .f32) (x9 : FVec F S64x64 .f32) (x10 : FVec F S64 .f32) (x11 : FVec F S64x128 .f32)
    (x12 : FVec F S64 .f32) (x13 : FVec F S64x64 .f32) (x14 : FVec F S64 .f32) (x15 : FVec F S1x64 .f32) (x16 : FVec F S1 .f32)
    (h : Cert.Pre_in_range.fn (F := F) x0 x1 x2 x3 x4 x5 x6 x7 x8 x9 x10 x11 x12 x13 x14 x15 x16 = fun _ => 1#1) : ∀ i, (x1 i).toNat < 1000000 := by
  have e := congrFun h (fun i => i.elim0)
  unfold Cert.Pre_in_range.fn Cert.Pre_in_range.fn_part1 at e
  dsimp only [andi] at e
  simp only [and_one] at e
  obtain ⟨⟨⟨⟨⟨e1, e2⟩, e3⟩, e4⟩, e5⟩, e6⟩ := e
  have r2 := fun i => (and_one _ _).mp (Host.reduce_andi_all _ _ _ _ (fun i => i.elim0) e2 i)
  exact fun i => word_lt _ 1000000 (by decide) (r2 i).1 (r2 i).2

/-- A value whose absolute value is below infinity is finite. -/
theorem fin_of_abs (v : EReal) (h : FloatOps.cmpf (F := Ideal) (φ := .f32) .olt (FloatOps.hostAbsf (F := Ideal) (φ := .f32) v) (FloatOps.ofBits (F := Ideal) .f32 0x7F800000#32) = 1#1) : v ≠ ⊤ ∧ v ≠ ⊥ := by
  have e1 : (FloatOps.ofBits (F := Ideal) .f32 0x7F800000#32 : EReal) = ⊤ := by
    show Ideal.ofBits .f32 0x7F800000#32 = ⊤
    simp [Ideal.ofBits, Ideal.ieee]
  have h' : max v (-v) < ⊤ := by
    rw [e1] at h
    exact of_decide_eq_true ((ofBool_one _).mp h)
  constructor
  · rintro rfl; simp at h'
  · rintro rfl; simp at h'

/-- What the second precondition says of the integer arrays. -/
structure Ints (x0 : S16.Idx → BitVec 32) (x1 x2 : S32768.Idx → BitVec 32) (x3 : S17.Idx → BitVec 32) : Prop where
  nodes : ∀ i, (x0 i).toNat < 100000
  items : ∀ i, (x1 i).toNat < 1000000
  ratings : ∀ i, (x2 i).toNat < 5
  first : x3 (ix1 (0 : Fin 17)) = 0#32
  last : x3 (ix1 (16 : Fin 17)) = 32768#32
  mono : ∀ j : Fin 16, (x3 (ix1 j.castSucc)).toInt ≤ (x3 (ix1 j.succ)).toInt

/-- A finite array. -/
abbrev Fin' {s : Shape} (x : FVec Ideal s .f32) : Prop := ∀ i, x i ≠ (⊤ : EReal) ∧ x i ≠ (⊥ : EReal)

/-- The second precondition: the ranges of the three index arrays, the first and last bound, the bounds' order, and the floats finite. -/
theorem of_pre (x0 : S16.Idx → BitVec 32) (x1 x2 : S32768.Idx → BitVec 32) (x3 : S17.Idx → BitVec 32) (x4 : FVec Ideal S100000x64 .f32) (x5 : FVec Ideal S1000000x64 .f32)
    (x6 : FVec Ideal S5x64 .f32) (x7 : FVec Ideal S64x128 .f32) (x8 : FVec Ideal S64 .f32) (x9 : FVec Ideal S64x64 .f32) (x10 : FVec Ideal S64 .f32) (x11 : FVec Ideal S64x128 .f32)
    (x12 : FVec Ideal S64 .f32) (x13 : FVec Ideal S64x64 .f32) (x14 : FVec Ideal S64 .f32) (x15 : FVec Ideal S1x64 .f32) (x16 : FVec Ideal S1 .f32)
    (h : Cert.Pre_finite.fn (F := Ideal) x0 x1 x2 x3 x4 x5 x6 x7 x8 x9 x10 x11 x12 x13 x14 x15 x16 = fun _ => 1#1) :
    Ints x0 x1 x2 x3 ∧ Fin' x4 ∧ Fin' x5 ∧ Fin' x6 ∧ Fin' x7 ∧ Fin' x8 ∧ Fin' x9 ∧ Fin' x10 ∧ Fin' x11 ∧ Fin' x12 ∧ Fin' x13 ∧ Fin' x14 ∧ Fin' x15 ∧ Fin' x16 := by
  have e := congrFun h (fun i => i.elim0)
  unfold Cert.Pre_finite.fn Cert.Pre_finite.fn_part1 Cert.Pre_finite.fn_part2 Cert.Pre_finite.fn_part3 Cert.Pre_finite.fn_part4 Cert.Pre_finite.fn_part5 at e
  dsimp only [andi] at e
  simp only [and_one] at e
  obtain ⟨⟨⟨⟨⟨⟨⟨⟨⟨⟨⟨⟨⟨⟨⟨⟨⟨⟨e1, e2⟩, e3⟩, e4⟩, e5⟩, e6⟩, f4⟩, f5⟩, f6⟩, f7⟩, f8⟩, f9⟩, f10⟩, f11⟩, f12⟩, f13⟩, f14⟩, f15⟩, f16⟩ := e
  have r1 := fun i => (and_one _ _).mp (Host.reduce_andi_all _ _ _ _ (fun i => i.elim0) e1 i)
  have r2 := fun i => (and_one _ _).mp (Host.reduce_andi_all _ _ _ _ (fun i => i.elim0) e2 i)
  have r3 := fun i => (and_one _ _).mp (Host.reduce_andi_all _ _ _ _ (fun i => i.elim0) e3 i)
  have r6 := fun i => Host.reduce_andi_all _ _ _ _ (fun i => i.elim0) e6 i
  refine ⟨⟨fun i => word_lt _ 100000 (by decide) (r1 i).1 (r1 i).2, fun i => word_lt _ 1000000 (by decide) (r2 i).1 (r2 i).2,
    fun i => word_lt _ 5 (by decide) (r3 i).1 (r3 i).2, ?_, ?_, fun j => ?_⟩, fun i => fin_of_abs _ (Host.reduce_andi_all _ _ _ _ (fun i => i.elim0) f4 i), fun i => fin_of_abs _ (Host.reduce_andi_all _ _ _ _ (fun i => i.elim0) f5 i), fun i => fin_of_abs _ (Host.reduce_andi_all _ _ _ _ (fun i => i.elim0) f6 i), fun i => fin_of_abs _ (Host.reduce_andi_all _ _ _ _ (fun i => i.elim0) f7 i), fun i => fin_of_abs _ (Host.reduce_andi_all _ _ _ _ (fun i => i.elim0) f8 i), fun i => fin_of_abs _ (Host.reduce_andi_all _ _ _ _ (fun i => i.elim0) f9 i), fun i => fin_of_abs _ (Host.reduce_andi_all _ _ _ _ (fun i => i.elim0) f10 i), fun i => fin_of_abs _ (Host.reduce_andi_all _ _ _ _ (fun i => i.elim0) f11 i), fun i => fin_of_abs _ (Host.reduce_andi_all _ _ _ _ (fun i => i.elim0) f12 i), fun i => fin_of_abs _ (Host.reduce_andi_all _ _ _ _ (fun i => i.elim0) f13 i), fun i => fin_of_abs _ (Host.reduce_andi_all _ _ _ _ (fun i => i.elim0) f14 i), fun i => fin_of_abs _ (Host.reduce_andi_all _ _ _ _ (fun i => i.elim0) f15 i), fun i => fin_of_abs _ (Host.reduce_andi_all _ _ _ _ (fun i => i.elim0) f16 i)⟩
  · refine Eq.trans (congrArg x3 ?_) (word_eq _ _ e4)
    funext k
    have hk : k = 0 := Subsingleton.elim k 0
    subst hk
    have h1 (q : Fin 1) : (0 : Fin 17) = (⟨0 + q.val, by omega⟩ : Fin 17) := Fin.ext (by have := q.2; show 0 = 0 + q.val; omega)
    exact h1 _
  · refine Eq.trans (congrArg x3 ?_) (word_eq _ _ e5)
    funext k
    have hk : k = 0 := Subsingleton.elim k 0
    subst hk
    have h1 (q : Fin 1) : (16 : Fin 17) = (⟨16 + q.val, by omega⟩ : Fin 17) := Fin.ext (by have := q.2; show 16 = 16 + q.val; omega)
    exact h1 _
  · have := word_le _ _ (r6 (ix1 j))
    have f1 : (extractStridedSlice S16 ![0] x3 Cert.Pre_finite.Facts.slices_S17_S16_0) (ix1 j) = x3 (ix1 j.castSucc) := by
      refine congrArg x3 (funext fun k => ?_)
      have hk : k = 0 := Subsingleton.elim k 0
      subst hk
      refine Fin.ext ?_
      show 0 + j.val = j.val
      omega
    have f2 : (extractStridedSlice S16 ![1] x3 Cert.Pre_finite.Facts.slices_S17_S16_1) (ix1 j) = x3 (ix1 j.succ) := by
      refine congrArg x3 (funext fun k => ?_)
      have hk : k = 0 := Subsingleton.elim k 0
      subst hk
      refine Fin.ext ?_
      show 1 + j.val = j.val + 1
      omega
    rw [← f1, ← f2]
    exact this

end Cert.Proof.Range

end
-- ==== Proof.Lift.lean ====
/-
  The arguments as real data.
-/
module

public import proofs.«01_k».proof.Proof.Model
public import proofs.«01_k».proof.Proof.Range
public import Idealize.ShloMosaic.Lib.Pointwise

@[expose] public section

noncomputable section

namespace Cert.Proof.Lift

open Cert.ReferenceIdeal
open Idealize.ShloMosaic
open Cert.Proof.Model Cert.Proof.Range

/-- The data are what the arrays hold: the taken rows, the weights, and the segment of each token. -/
structure Of (D : Data) (x0 : S16.Idx → BitVec 32) (x1 x2 : S32768.Idx → BitVec 32) (x3 : S17.Idx → BitVec 32) (x4 : S100000x64.Idx → EReal) (x5 : S1000000x64.Idx → EReal) (x6 : S5x64.Idx → EReal) (x7 : S64x128.Idx → EReal) (x8 : S64.Idx → EReal) (x9 : S64x64.Idx → EReal) (x10 : S64.Idx → EReal) (x11 : S64x128.Idx → EReal) (x12 : S64.Idx → EReal) (x13 : S64x64.Idx → EReal) (x14 : S64.Idx → EReal) (x15 : S1x64.Idx → EReal) (x16 : S1.Idx → EReal) : Prop where
  p : ∀ (t : Fin 32768) (k : Fin 64) (h : (x1 (ix1 t)).toNat < 1000000), x5 (ix2 ⟨(x1 (ix1 t)).toNat, h⟩ k) = (D.p t.val k : EReal)
  r : ∀ (t : Fin 32768) (k : Fin 64) (h : (x2 (ix1 t)).toNat < 5), x6 (ix2 ⟨(x2 (ix1 t)).toNat, h⟩ k) = (D.r t.val k : EReal)
  u : ∀ (b : Fin 16) (k : Fin 64) (h : (x0 (ix1 b)).toNat < 100000), x4 (ix2 ⟨(x0 (ix1 b)).toNat, h⟩ k) = (D.u b k : EReal)
  seg : ∀ (t : Fin 32768) (b : Fin 16), D.seg t.val = b ↔ (x3 (ix1 b.castSucc)).toNat ≤ t.val ∧ t.val < (x3 (ix1 b.succ)).toNat
  cu : ∀ i j : Fin 17, i ≤ j → (x3 (ix1 i)).toNat ≤ (x3 (ix1 j)).toNat
  top : ∀ i : Fin 17, (x3 (ix1 i)).toNat ≤ 32768
  w1p : ∀ j k : Fin 64, x7 (ix2 j ⟨k.val, by omega⟩) = (D.w1p j k : EReal)
  w1r : ∀ j k : Fin 64, x7 (ix2 j ⟨64 + k.val, by omega⟩) = (D.w1r j k : EReal)
  b1 : ∀ j : Fin 64, x8 (ix1 j) = (D.b1 j : EReal)
  w2 : ∀ j k : Fin 64, x9 (ix2 j k) = (D.w2 j k : EReal)
  b2 : ∀ j : Fin 64, x10 (ix1 j) = (D.b2 j : EReal)
  a1o : ∀ j k : Fin 64, x11 (ix2 j ⟨k.val, by omega⟩) = (D.a1o j k : EReal)
  a1u : ∀ j k : Fin 64, x11 (ix2 j ⟨64 + k.val, by omega⟩) = (D.a1u j k : EReal)
  a1b : ∀ j : Fin 64, x12 (ix1 j) = (D.a1b j : EReal)
  a2 : ∀ j k : Fin 64, x13 (ix2 j k) = (D.a2 j k : EReal)
  a2b : ∀ j : Fin 64, x14 (ix1 j) = (D.a2b j : EReal)
  a3 : ∀ k : Fin 64, x15 (ix2 0 k) = (D.a3 k : EReal)
  a3b : x16 (ix1 0) = (D.a3b : EReal)

/-- The bounds in order, and none past the last token. -/
theorem bounds {x0 : S16.Idx → BitVec 32} {x1 x2 : S32768.Idx → BitVec 32} {x3 : S17.Idx → BitVec 32} (hI : Ints x0 x1 x2 x3) :
    (∀ i j : Fin 17, i ≤ j → (x3 (ix1 i)).toNat ≤ (x3 (ix1 j)).toNat) ∧ (∀ i : Fin 17, (x3 (ix1 i)).toNat ≤ 32768)
      ∧ (x3 (ix1 (0 : Fin 17))).toNat = 0 ∧ (x3 (ix1 (16 : Fin 17))).toNat = 32768 := by
  have hm : Monotone (fun i : Fin 17 => (x3 (ix1 i)).toInt) := Fin.monotone_iff_le_succ.2 hI.mono
  have h0 : x3 (ix1 (0 : Fin 17)) = 0#32 := hI.first
  have h16 : x3 (ix1 (16 : Fin 17)) = 32768#32 := hI.last
  have hn : ∀ i : Fin 17, (x3 (ix1 i)).toInt = (x3 (ix1 i)).toNat := fun i => by
    have := hm (Fin.zero_le i)
    simp only [h0] at this
    have h2 : (0 : ℤ) ≤ (x3 (ix1 i)).toInt := by simpa using this
    rw [BitVec.toInt_eq_toNat_cond] at h2 ⊢
    have := (x3 (ix1 i)).isLt
    split at h2 <;> omega
  have hk : ∀ i j : Fin 17, i ≤ j → (x3 (ix1 i)).toNat ≤ (x3 (ix1 j)).toNat := fun i j h => by
    have := hm h
    simp only [hn] at this
    exact_mod_cast this
  have e16 : (x3 (ix1 (16 : Fin 17))).toNat = 32768 := by rw [h16]; rfl
  exact ⟨hk, fun i => e16 ▸ hk i 16 (Fin.le_last i), by rw [h0]; rfl, e16⟩

/-- Every token lies in a segment. -/
theorem in_seg (cu : Fin 17 → ℕ) (h0 : cu 0 = 0) (h16 : cu 16 = 32768) (t : ℕ) (ht : t < 32768) :
    ∃ b : Fin 16, cu b.castSucc ≤ t ∧ t < cu b.succ := by
  by_contra hc
  push Not at hc
  have h : ∀ i : Fin 17, cu i ≤ t := fun i => by
    induction i using Fin.induction with
    | zero => omega
    | succ b ih => exact hc b ih
  have := h 16
  omega

/-- And in only one. -/
theorem one_seg (cu : Fin 17 → ℕ) (hk : ∀ i j, i ≤ j → cu i ≤ cu j) (t : ℕ) (a b : Fin 16)
    (ha : cu a.castSucc ≤ t ∧ t < cu a.succ) (hb : cu b.castSucc ≤ t ∧ t < cu b.succ) : a = b := by
  rcases lt_trichotomy a b with h | h | h
  · have := hk a.succ b.castSucc (Fin.succ_le_castSucc_iff.2 h); omega
  · exact h
  · have := hk b.succ a.castSucc (Fin.succ_le_castSucc_iff.2 h); omega

/-- A finite value is its real. -/
theorem real {x : EReal} (h : x ≠ ⊤ ∧ x ≠ ⊥) : x = (x.toReal : EReal) := (EReal.coe_toReal h.1 h.2).symm

/-- Finite arrays hold real data. -/
theorem exists_of (x0 : S16.Idx → BitVec 32) (x1 x2 : S32768.Idx → BitVec 32) (x3 : S17.Idx → BitVec 32) (x4 : S100000x64.Idx → EReal) (x5 : S1000000x64.Idx → EReal) (x6 : S5x64.Idx → EReal) (x7 : S64x128.Idx → EReal) (x8 : S64.Idx → EReal) (x9 : S64x64.Idx → EReal) (x10 : S64.Idx → EReal) (x11 : S64x128.Idx → EReal) (x12 : S64.Idx → EReal) (x13 : S64x64.Idx → EReal) (x14 : S64.Idx → EReal) (x15 : S1x64.Idx → EReal) (x16 : S1.Idx → EReal) (hI : Ints x0 x1 x2 x3) (h4 : Range.Fin' x4) (h5 : Range.Fin' x5) (h6 : Range.Fin' x6) (h7 : Range.Fin' x7) (h8 : Range.Fin' x8) (h9 : Range.Fin' x9) (h10 : Range.Fin' x10) (h11 : Range.Fin' x11) (h12 : Range.Fin' x12) (h13 : Range.Fin' x13) (h14 : Range.Fin' x14) (h15 : Range.Fin' x15) (h16 : Range.Fin' x16) : ∃ D : Data, Of D x0 x1 x2 x3 x4 x5 x6 x7 x8 x9 x10 x11 x12 x13 x14 x15 x16 := by
  classical
  obtain ⟨hk, ht, e0, e16⟩ := bounds hI
  let cu : Fin 17 → ℕ := fun i => (x3 (ix1 i)).toNat
  let sg : ℕ → Fin 16 := fun t => if h : t < 32768 then (in_seg cu e0 e16 t h).choose else 0
  have hsg : ∀ t (h : t < 32768), cu (sg t).castSucc ≤ t ∧ t < cu (sg t).succ := fun t h => by
    have e : sg t = (in_seg cu e0 e16 t h).choose := dif_pos h
    rw [e]; exact (in_seg cu e0 e16 t h).choose_spec
  refine ⟨⟨fun t k => (x5 (ix2 ⟨(x1 (ix1 ⟨t % 32768, Nat.mod_lt _ (by decide)⟩)).toNat % 1000000, Nat.mod_lt _ (by decide)⟩ k)).toReal,
    fun t k => (x6 (ix2 ⟨(x2 (ix1 ⟨t % 32768, Nat.mod_lt _ (by decide)⟩)).toNat % 5, Nat.mod_lt _ (by decide)⟩ k)).toReal,
    fun b k => (x4 (ix2 ⟨(x0 (ix1 b)).toNat % 100000, Nat.mod_lt _ (by decide)⟩ k)).toReal,
    sg,
    fun j k => (x7 (ix2 j ⟨k.val, by omega⟩)).toReal, fun j k => (x7 (ix2 j ⟨64 + k.val, by omega⟩)).toReal,
    fun j => (x8 (ix1 j)).toReal, fun j k => (x9 (ix2 j k)).toReal, fun j => (x10 (ix1 j)).toReal,
    fun j k => (x11 (ix2 j ⟨k.val, by omega⟩)).toReal, fun j k => (x11 (ix2 j ⟨64 + k.val, by omega⟩)).toReal,
    fun j => (x12 (ix1 j)).toReal, fun j k => (x13 (ix2 j k)).toReal, fun j => (x14 (ix1 j)).toReal,
    fun k => (x15 (ix2 0 k)).toReal, (x16 (ix1 0)).toReal⟩, ?_⟩
  have em : ∀ t : Fin 32768, (⟨t.val % 32768, Nat.mod_lt _ (by decide)⟩ : Fin 32768) = t := fun t => Fin.ext (Nat.mod_eq_of_lt t.isLt)
  exact {
    p := fun t k h => by
      have e : (⟨(x1 (ix1 t)).toNat % 1000000, Nat.mod_lt _ (by decide)⟩ : Fin 1000000) = ⟨(x1 (ix1 t)).toNat, h⟩ := Fin.ext (Nat.mod_eq_of_lt h)
      simp only [em, e]
      exact real (h5 _)
    r := fun t k h => by
      have e : (⟨(x2 (ix1 t)).toNat % 5, Nat.mod_lt _ (by decide)⟩ : Fin 5) = ⟨(x2 (ix1 t)).toNat, h⟩ := Fin.ext (Nat.mod_eq_of_lt h)
      simp only [em, e]
      exact real (h6 _)
    u := fun b k h => by
      have e : (⟨(x0 (ix1 b)).toNat % 100000, Nat.mod_lt _ (by decide)⟩ : Fin 100000) = ⟨(x0 (ix1 b)).toNat, h⟩ := Fin.ext (Nat.mod_eq_of_lt h)
      simp only [e]
      exact real (h4 _)
    seg := fun t b => ⟨fun h => h ▸ hsg t.val t.isLt, fun h => one_seg cu hk t.val _ _ (hsg t.val t.isLt) h⟩
    cu := hk
    top := ht
    w1p := fun _ _ => real (h7 _)
    w1r := fun _ _ => real (h7 _)
    b1 := fun _ => real (h8 _)
    w2 := fun _ _ => real (h9 _)
    b2 := fun _ => real (h10 _)
    a1o := fun _ _ => real (h11 _)
    a1u := fun _ _ => real (h11 _)
    a1b := fun _ => real (h12 _)
    a2 := fun _ _ => real (h13 _)
    a2b := fun _ => real (h14 _)
    a3 := fun _ => real (h15 _)
    a3b := real (h16 _) }

end Cert.Proof.Lift

end
-- ==== Proof.RepackValue.lean ====
/-
  The packed table: where each item's row lies in what the first call leaves.
-/
module

public import proofs.«01_k».proof.Proof.RepackRegion
public import Idealize.ShloMosaic.Lib.Pointwise
public import Idealize.ShloMosaic.Lib.Pipeline.ArrRel
public import Idealize.ShloMosaic.Lib.Pipeline.ValueKit

@[expose] public section

noncomputable section

namespace Cert.Proof.RepackValue

open Cert.KernelIdeal Cert.KernelIdeal.Gen
open Idealize.ShloMosaic
open Idealize.ShloMosaic.TcCoe
open Idealize.ShloMosaic.SparseCore.Cfg (HIx Pay)
open Idealize.ShloMosaic.Pipeline (RDat arrRef arrRefs ucRefs)
open Cert.Proof.Repack

set_option maxRecDepth 16384

variable (V : Valuation τ sig (Elt Ideal))

/-- Every element type has a value at the ideal instance. -/
theorem nonempty_ideal (e : EltTy) : Nonempty (Elt Ideal e) := by cases e <;> first | exact ⟨(0 : BitVec _)⟩ | exact ⟨(0 : EReal)⟩

/-- Where the blocks lie. -/
theorem idx0 : ∀ t : Fin cfg0.N, win0_0.index t = ![0, t.val] := by decide +kernel

/-- The identity matrix is the same block at every point. -/
theorem idx1 : ∀ t : Fin cfg0.N, win0_1.index t = ![0, 0] := by decide +kernel

/-- The output's block is the point's own. -/
theorem idx2 : ∀ t : Fin cfg0.N, win0_2.index t = ![t.val, 0] := by decide +kernel

/-- The part of a block inside the table, at every point. -/
theorem size0 : ∀ t : Fin cfg0.N, (cfg0.win 0).xsize (cfg0.grid.coords t) = ![64, min 16384 (1000000 - 16384 * t.val)] := by decide +kernel

/-- A band's product with the identity is the band turned. -/
theorem prod_eye (Y0 : S64x16384.Idx → EReal) (Y1 : S64x64.Idx → EReal) (hE : ∀ k j : Fin 64, Y1 (ix2 k j) = if k = j then 1 else 0)
    (b : ℕ) (hb : b < 16) (r : Fin 1024) (c : Fin 64) :
    prod (F := Ideal) Y0 Y1 b hb (ix2 r c) = Y0 (ix2 c ⟨1024 * b + r.val, by omega⟩) := by
  have h : prod (F := Ideal) Y0 Y1 b hb (ix2 r c) = ∑ k : Fin 64, band (F := Ideal) Y0 b hb (ix2 k r) * Y1 (ix2 k c) := by
    pointwise [prod]
  rw [h, Finset.sum_eq_single c]
  · rw [hE, if_pos rfl, mul_one]; rfl
  · intro k _ hk; rw [hE, if_neg hk, mul_zero]
  · intro h; exact absurd (Finset.mem_univ _) h

/-- The block of the transposed table at a column inside the table. -/
theorem got0 (T : S64x1000000.Idx → EReal) (hT : V (Proc.devRef .tc main_v0) = T) (t : Fin cfg0.N) (d) (k : Fin 64) (col : Fin 16384) (h : 16384 * t.val + col.val < 1000000) :
    got V 0 t d (ix2 k col) = T (ix2 k ⟨16384 * t.val + col.val, h⟩) := by
  subst hT
  unfold got Pipeline.Window.fill
  rw [dif_pos]
  · blk_ext [idx0]
  · refine ((cfg0.win 0).moved_iff _ _).2 fun a => ?_
    rw [size0]
    have := col.isLt
    have := k.isLt
    match a with
    | ⟨0, _⟩ => show k.val < 64; omega
    | ⟨1, _⟩ => show col.val < min 16384 (1000000 - 16384 * t.val); omega

/-- At every point the second window holds the identity matrix. -/
theorem got1 (T : S64x64.Idx → EReal) (hT : V (Proc.devRef .tc main_v7) = T) (t : Fin cfg0.N) (d) (k j : Fin 64) : got V 1 t d (ix2 k j) = T (ix2 k j) := by
  subst hT
  unfold got Pipeline.Window.fill
  rw [dif_pos (show (cfg0.win 1).moved (cfg0.grid.coords t) (ix2 k j) = true from rfl)]
  blk_ext [idx1]

/-- The packed array holds every row of the items' table, at the place and half the host computes. -/
theorem table (c : Dev nD) (E : S64x64.Idx → EReal) (hE : V (Proc.devRef .tc main_v7) = E) (hI : ∀ k j : Fin 64, E (ix2 k j) = if k = j then 1 else 0)
    (T : S64x1000000.Idx → EReal) (hT : V (Proc.devRef .tc main_v0) = T)
    (G : S507904x128.Idx → EReal) (hG : (rdat V c).ArrAt 2 cfg0.N G) (n : ℕ) (hn : n < 1000000) (k : Fin 64) :
    G (ix2 ⟨n / 2048 * 1024 + n % 1024, by omega⟩ ⟨64 * (n / 1024 % 2) + k.val, by omega⟩) = T (ix2 k ⟨n, hn⟩) := by
  haveI : ∀ e, Nonempty (Elt Ideal e) := fun e => nonempty_ideal e
  obtain ⟨X, hX, hA⟩ := hG.exists_exact
  have e := hA (Function.update (fun _ _ _ => Classical.arbitrary _) 2 X) fun u _ _ => by rw [Function.update_self]
  rw [e]
  have key := ((rdat V c).withAfter (Function.update (fun _ _ _ => Classical.arbitrary _) 2 X)).arrAt_forall_of_covers 2
    (fun i v => ∀ n (hn : n < 1000000) (k : Fin 64), ((i : S507904x128.Idx) 0).val = n / 2048 * 1024 + n % 1024 →
      ((i : S507904x128.Idx) 1).val = 64 * (n / 1024 % 2) + k.val → (v : EReal) = T (ix2 k ⟨n, hn⟩)) (by decide +kernel) (fun t hf y => ?_)
      (ix2 ⟨n / 2048 * 1024 + n % 1024, by omega⟩ ⟨64 * (n / 1024 % 2) + k.val, by omega⟩)
  · exact key n hn k rfl rfl
  have hl := hX t t.isLt hf
  intro n hn k h0 h1
  obtain ⟨Y, -, d0, d1, hp⟩ := hl
  blk_simp [idx2] at h0 h1 ⊢
  rw [RDat.withAfter_after, Function.update_self, hp]
  have hy0 : (y 0).val < 8192 := (y 0).isLt
  have hy1 : (y 1).val < 128 := (y 1).isLt
  have ht : t.val < 62 := t.isLt
  simp at h0 h1
  have hr : 16384 * t.val + (1024 * (2 * ((y 0).val / 1024) + (y 1).val / 64) + (y 0).val % 1024) = n := by omega
  have hk : (y 1).val % 64 = k.val := by omega
  show prod (F := Ideal) (got V 0 t d0) (got V 1 ⟨0, by decide⟩ d1) (2 * ((y 0).val / 1024) + (y 1).val / 64) (by omega)
    (ix2 ⟨(y 0).val % 1024, by omega⟩ ⟨(y 1).val % 64, by omega⟩) = _
  rw [prod_eye _ _ fun k j => (got1 V E hE _ d1 k j).trans (hI k j)]
  rw [got0 V T hT t d0 _ _ (by show 16384 * t.val + (1024 * (2 * ((y 0).val / 1024) + (y 1).val / 64) + (y 0).val % 1024) < _; omega)]
  congr 2
  · exact Fin.ext hk
  · exact Fin.ext hr

end Cert.Proof.RepackValue

end
-- ==== Proof.SelectValue.lean ====
/-
  The selected columns: what the second call leaves of the transposed user table.
-/
module

public import proofs.«01_k».proof.Proof.SelectRegion
public import proofs.«01_k».proof.Proof.Online
public import Idealize.ShloMosaic.Lib.Pointwise
public import Idealize.ShloMosaic.Lib.Pipeline.ArrRel
public import Idealize.ShloMosaic.Lib.Pipeline.ValueKit

@[expose] public section

noncomputable section

namespace Cert.Proof.SelectValue

open Cert.KernelIdeal Cert.KernelIdeal.Gen
open Idealize.ShloMosaic
open Idealize.ShloMosaic.TcCoe
open Idealize.ShloMosaic.SparseCore.Cfg (HIx Pay)
open Idealize.ShloMosaic.Pipeline (RDat arrRef arrRefs ucRefs)
open Cert.Proof.Select Cert.Proof.Online

set_option maxRecDepth 16384

variable (V : Valuation τ sig (Elt Ideal))

/-- Where the blocks lie. -/
theorem idx0 : ∀ t : Fin cfg2.N, win2_0.index t = ![0, t.val] := by decide +kernel

/-- The users' numbers are the same block at every point. -/
theorem idx1 : ∀ t : Fin cfg2.N, win2_1.index t = ![0, 0] := by decide +kernel

/-- The part of a block inside the table, at every point. -/
theorem size0 : ∀ t : Fin cfg2.N, (cfg2.win 0).xsize (cfg2.grid.coords t) = ![64, min 8192 (100000 - 8192 * t.val)] := by decide +kernel

/-- The grid point's only coordinate is its number. -/
theorem coords : ∀ t : Fin cfg2.N, (cfg2.grid.coords t 0).val = t.val := by decide +kernel

/-- The output is written back at the last point only. -/
theorem flush : ∀ t : Fin cfg2.N, t.val ≠ 12 → (cfg2.win 2).flush t = false := by decide +kernel

/-- The output is never fetched. -/
theorem fetch : ∀ t : Fin cfg2.N, (cfg2.win 2).fetch t = false := by decide +kernel

/-- The block of the transposed table at a column inside the table. -/
theorem got0 (T : S64x100000.Idx → EReal) (hT : V (Proc.devRef .tc main_v1) = T) (t : Fin cfg2.N) (d) (k : Fin 64) (col : Fin 8192) (h : 8192 * t.val + col.val < 100000) :
    got V 0 t d (ix2 k col) = T (ix2 k ⟨8192 * t.val + col.val, h⟩) := by
  subst hT
  unfold got Pipeline.Window.fill
  rw [dif_pos]
  · blk_ext [idx0]
  · refine ((cfg2.win 0).moved_iff _ _).2 fun a => ?_
    rw [size0]
    have := col.isLt
    have := k.isLt
    match a with
    | ⟨0, _⟩ => show k.val < 64; omega
    | ⟨1, _⟩ => show col.val < min 8192 (100000 - 8192 * t.val); omega

/-- At every point the second window holds the users' numbers. -/
theorem got1 (I : S1x16.Idx → BitVec 32) (hI : V (Proc.devRef .tc main_v18) = I) (t : Fin cfg2.N) (d) (b : Fin 16) : got V 1 t d (ix2 0 b) = I (ix2 0 b) := by
  subst hI
  unfold got Pipeline.Window.fill
  rw [dif_pos (show (cfg2.win 1).moved (cfg2.grid.coords t) (ix2 0 b) = true from rfl)]
  blk_ext [idx1]

/-- A column's number, as the body counts it. -/
theorem col_word (n c : ℕ) (hn : n < 13) (hc : c < 8192) : IntOp.addi (BitVec.ofNat 32 c) (Scalar.muli (BitVec.ofNat 32 n) 8192#32) = BitVec.ofNat 32 (8192 * n + c) := by
  apply BitVec.eq_of_toNat_eq
  show (BitVec.ofNat 32 c + BitVec.ofNat 32 n * 8192#32).toNat = _
  simp
  omega

/-- One block's part of the selected columns. -/
theorem pay2_val (i : grid2.Coords) (n : ℕ) (hi : (i 0).val = n) (hn : n < 13) (Y0 : S64x8192.Idx → EReal) (Y1 : S1x16.Idx → BitVec 32) (Y2 : S64x16.Idx → EReal) (k : Fin 64) (b : Fin 16)
    (h1 : (Y1 (ix2 0 b)).toNat < 100000) :
    k2_pay2 (F := Ideal) i Y1 Y0 Y2 (ix2 k b)
      = Y2 (ix2 k b) + if h : 8192 * n ≤ (Y1 (ix2 0 b)).toNat ∧ (Y1 (ix2 0 b)).toNat < 8192 * (n + 1) then Y0 (ix2 k ⟨(Y1 (ix2 0 b)).toNat - 8192 * n, by omega⟩) else 0 := by
  pointwise [k2_pay2]
  simp only [hi]
  have hw : ∀ x : Fin 8192, IntOp.addi (BitVec.ofNat 32 x.val) (Scalar.muli (BitVec.ofNat 32 n) 8192#32) = BitVec.ofNat 32 (8192 * n + x.val) := fun x => col_word n x.val hn x.isLt
  have hv : ∀ x : Fin 8192, (BitVec.ofNat 32 (8192 * n + x.val)).toNat = 8192 * n + x.val := fun x => by
    have := x.isLt
    rw [BitVec.toNat_ofNat]; omega
  have hs : ∀ x : Fin 8192, IntOp.cmpi .slt (BitVec.ofNat 32 (8192 * n + x.val)) 100000#32 = 1#1 ↔ 8192 * n + x.val < 100000 := fun x => by
    have := x.isLt
    rw [IntOp.cmpi_slt, BitVec.toInt_eq_toNat_of_lt (by rw [hv]; omega), hv]
    show ((8192 * n + x.val : ℕ) : ℤ) < 100000 ↔ _
    omega
  have he : ∀ x : Fin 8192, BitVec.ofNat 32 (8192 * n + x.val) = Y1 (ix2 0 b) ↔ 8192 * n + x.val = (Y1 (ix2 0 b)).toNat := fun x => by
    rw [← BitVec.toNat_inj, hv]
  simp only [hw, bit_val, sel, hs, eq_bit, he]
  congr 1
  by_cases h : 8192 * n ≤ (Y1 (ix2 0 b)).toNat ∧ (Y1 (ix2 0 b)).toNat < 8192 * (n + 1)
  · rw [dif_pos h, Finset.sum_eq_single (⟨(Y1 (ix2 0 b)).toNat - 8192 * n, by omega⟩ : Fin 8192)]
    · rw [if_pos (by show 8192 * n + ((Y1 (ix2 0 b)).toNat - 8192 * n) < _; omega), if_pos (by show 8192 * n + ((Y1 (ix2 0 b)).toNat - 8192 * n) = _; omega)]
      rw [EReal.coe_one, mul_one]
    · intro x _ hx
      have : ¬ 8192 * n + x.val = (Y1 (ix2 0 b)).toNat := fun e => hx (Fin.ext (by show x.val = (Y1 (ix2 0 b)).toNat - 8192 * n; omega))
      rw [if_neg this, EReal.coe_zero, mul_zero, ite_self]
    · intro h; exact absurd (Finset.mem_univ _) h
  · rw [dif_neg h]
    refine Finset.sum_eq_zero fun x _ => ?_
    have : ¬ 8192 * n + x.val = (Y1 (ix2 0 b)).toNat := fun e => h (by have := x.isLt; omega)
    rw [if_neg this, EReal.coe_zero, mul_zero, ite_self]

/-- After each block, the columns whose number lies in the blocks so far are selected, the others zero. -/
theorem leaves (c : Dev nD) (T : S64x100000.Idx → EReal) (hT : V (Proc.devRef .tc main_v1) = T) (I : S1x16.Idx → BitVec 32) (hI : V (Proc.devRef .tc main_v18) = I)
    (hn : ∀ b : Fin 16, (I (ix2 0 b)).toNat < 100000) (n : ℕ) (h : n < cfg2.N) (X : S64x16.Idx → EReal) (hX : (rdat V c).Leaves 2 ⟨n, h⟩ X) (k : Fin 64) (b : Fin 16) :
    X (ix2 k b) = if (I (ix2 0 b)).toNat < 8192 * (n + 1) then T (ix2 k ⟨(I (ix2 0 b)).toNat, hn b⟩) else 0 := by
  have hN : n < 13 := h
  induction n generalizing X with
  | zero =>
    obtain ⟨Y, -, d0, d1, rfl⟩ := hX
    have e1 := got1 V I hI ⟨0, by decide⟩ d1 b
    have hc := coords ⟨0, h⟩
    show k2_pay2 (F := Ideal) _ _ _ (if _ then _ else _) _ = _
    rw [if_pos hc, pay2_val _ 0 hc (by decide) _ _ _ k b (by rw [e1]; exact hn b)]
    have z : k2_pay1 (F := Ideal) (ix2 k b) = (0 : EReal) := by pointwise [k2_pay1]
    simp only [e1]
    rw [z, zero_add]
    by_cases hb : (I (ix2 0 b)).toNat < 8192 * (0 + 1)
    · rw [if_pos hb, dif_pos ⟨by omega, hb⟩, got0 V T hT ⟨0, h⟩ d0 k _ (by have := hn b; show 8192 * 0 + ((I (ix2 0 b)).toNat - 8192 * 0) < _; omega)]
      exact congrArg T (congrArg (ix2 k) (Fin.ext (by show 8192 * 0 + ((I (ix2 0 b)).toNat - 8192 * 0) = (I (ix2 0 b)).toNat; omega)))
    · rw [if_neg hb, dif_neg (fun h => hb h.2)]
  | succ n ih =>
    obtain ⟨Y, hY, d0, d1, rfl⟩ := hX
    have hl := ((rdat V c).finds_of_pos (fetch _) (Nat.succ_ne_zero n) Y).1 hY
    have hf : (cfg2.win 2).flush ⟨n, Nat.lt_of_succ_lt h⟩ = false := flush _ (by show n ≠ 12; omega)
    have hl' : (rdat V c).Leaves 2 ⟨n, Nat.lt_of_succ_lt h⟩ Y := hl.resolve_left (by show ¬ (cfg2.win 2).flush ⟨n, _⟩ = true; rw [hf]; decide)
    have hp := ih (Nat.lt_of_succ_lt h) Y hl' (by omega)
    have e1 := got1 V I hI ⟨0, by decide⟩ d1 b
    have hc := coords ⟨n + 1, h⟩
    show k2_pay2 (F := Ideal) _ _ _ (if _ then _ else _) _ = _
    rw [if_neg (by rw [hc]; exact Nat.succ_ne_zero n), pay2_val _ (n + 1) hc hN _ _ _ k b (by rw [e1]; exact hn b)]
    simp only [e1]
    rw [hp]
    by_cases hb : (I (ix2 0 b)).toNat < 8192 * (n + 1)
    · rw [if_pos hb, dif_neg (fun h => by omega), if_pos (by omega), add_zero]
    · rw [if_neg hb, zero_add]
      by_cases hb2 : (I (ix2 0 b)).toNat < 8192 * (n + 1 + 1)
      · have hlt := hn b
        rw [if_pos hb2, dif_pos ⟨by omega, hb2⟩, got0 V T hT ⟨n + 1, h⟩ d0 k _ (by show 8192 * (n + 1) + ((I (ix2 0 b)).toNat - 8192 * (n + 1)) < _; omega)]
        exact congrArg T (congrArg (ix2 k) (Fin.ext (by show 8192 * (n + 1) + ((I (ix2 0 b)).toNat - 8192 * (n + 1)) = (I (ix2 0 b)).toNat; omega)))
      · rw [if_neg hb2, dif_neg (fun h => hb2 h.2)]

/-- Every element type has a value at the ideal instance. -/
theorem nonempty_ideal (e : EltTy) : Nonempty (Elt Ideal e) := by cases e <;> first | exact ⟨(0 : BitVec _)⟩ | exact ⟨(0 : EReal)⟩

/-- After the call, each selected column is its own. -/
theorem columns (c : Dev nD) (T : S64x100000.Idx → EReal) (hT : V (Proc.devRef .tc main_v1) = T) (I : S1x16.Idx → BitVec 32) (hI : V (Proc.devRef .tc main_v18) = I)
    (hn : ∀ b : Fin 16, (I (ix2 0 b)).toNat < 100000) (G : S64x16.Idx → EReal) (hG : (rdat V c).ArrAt 2 cfg2.N G) (k : Fin 64) (b : Fin 16) :
    G (ix2 k b) = T (ix2 k ⟨(I (ix2 0 b)).toNat, hn b⟩) := by
  haveI : ∀ e, Nonempty (Elt Ideal e) := fun e => nonempty_ideal e
  obtain ⟨X, hX, hA⟩ := RDat.ArrAt.emb_eq_of_wholeAt (t₀ := ⟨12, by decide⟩) hG (by decide +kernel)
  refine (hA (ix2 k b)).trans ?_
  have e := leaves V c T hT I hI hn 12 (by decide) X hX k b
  rw [if_pos (by have := hn b; omega)] at e
  exact e

end Cert.Proof.SelectValue

end
-- ==== Proof.FusedValue.lean ====
/-
  The third call's body in real numbers: a block's step keeps the running sums, and the last block divides them.
-/
module

public import proofs.«01_k».proof.Proof.Fused
public import proofs.«01_k».proof.Proof.Model
public import Idealize.ShloMosaic.Lib.Pointwise

@[expose] public section

noncomputable section

namespace Cert.Proof.FusedValue

open Cert.KernelIdeal Cert.KernelIdeal.Gen
open Idealize.ShloMosaic
open Cert.Proof.Online Cert.Proof.Model Cert.Proof.Fused

set_option maxRecDepth 16384

/-- What a block's inputs hold. -/
structure Holds (D : Data) (n : ℕ) (msk : IVec S16x2048 1) (Y : In Ideal) (R : Fin 8 → Fin 64 → ℝ) (q : Fin 2048 → Fin 8) : Prop where
  p0 : ∀ t : Fin 2048, Y.hf (ix2 0 t) = 0#32 → ∀ k : Fin 64, Y.p (ix2 t ⟨k.val, by omega⟩) = ((D.p (2048 * n + t.val) k : ℝ) : EReal)
  p1 : ∀ t : Fin 2048, Y.hf (ix2 0 t) ≠ 0#32 → ∀ k : Fin 64, Y.p (ix2 t ⟨64 + k.val, by omega⟩) = ((D.p (2048 * n + t.val) k : ℝ) : EReal)
  rk : ∀ t : Fin 2048, Y.rk (ix2 0 t) = BitVec.ofNat 32 (q t).val
  r2 : ∀ (m : Fin 8) (k : Fin 64), Y.r2 (ix2 m k) = ((R m k : ℝ) : EReal)
  r : ∀ (t : Fin 2048) (k : Fin 64), R (q t) k = D.r (2048 * n + t.val) k
  msk : ∀ (b : Fin 16) (t : Fin 2048), msk (ix2 b t) = 1#1 ↔ D.seg (2048 * n + t.val) = b
  us : ∀ (k : Fin 64) (b : Fin 16), Y.us (ix2 k b) = ((D.u b k : ℝ) : EReal)
  w1p : ∀ j k : Fin 64, Y.w1p (ix2 j k) = ((D.w1p j k : ℝ) : EReal)
  w1r : ∀ j k : Fin 64, Y.w1r (ix2 j k) = ((D.w1r j k : ℝ) : EReal)
  b1 : ∀ j : Fin 64, Y.b1 (ix2 j 0) = ((D.b1 j : ℝ) : EReal)
  w2 : ∀ j k : Fin 64, Y.w2 (ix2 j k) = ((D.w2 j k : ℝ) : EReal)
  b2 : ∀ j : Fin 64, Y.b2 (ix2 j 0) = ((D.b2 j : ℝ) : EReal)
  a1o : ∀ j k : Fin 64, Y.a1o (ix2 j k) = ((D.a1o j k : ℝ) : EReal)
  a1u : ∀ j k : Fin 64, Y.a1u (ix2 j k) = ((D.a1u j k : ℝ) : EReal)
  a1b : ∀ j : Fin 64, Y.a1b (ix2 j 0) = ((D.a1b j : ℝ) : EReal)
  a2 : ∀ j k : Fin 64, Y.a2 (ix2 j k) = ((D.a2 j k : ℝ) : EReal)
  a2b : ∀ j : Fin 64, Y.a2b (ix2 j 0) = ((D.a2b j : ℝ) : EReal)
  a3 : ∀ k : Fin 64, Y.a3 (ix2 0 k) = ((D.a3 k : ℝ) : EReal)
  a3b : Y.a3b (ix2 0 0) = ((D.a3b : ℝ) : EReal)

variable {D : Data} {n : ℕ} {msk : IVec S16x2048 1} {Y : In Ideal} {R : Fin 8 → Fin 64 → ℝ} {q : Fin 2048 → Fin 8}

/-- The encoder's first layer before its activation, as real numbers. -/
theorem pre1_val (H : Holds D n msk Y R q) (j : Fin 64) (t : Fin 2048) : pre1 Y (ix2 j t) = ((D.pre (2048 * n + t.val) j : ℝ) : EReal) := by
  have e : ∀ m : Fin 8, (IntOp.cmpi .eq (BitVec.ofNat 32 m.val) (Y.rk (ix2 0 t)) = 1#1) ↔ m = q t := fun m => by
    rw [eq_bit, H.rk]
    generalize q t = s
    revert m s
    decide
  unfold pre1
  pointwise [k3_pay8]
  simp only [bit_val, e, H.w1r, H.r2, coe_dot]
  rw [sel]
  have hs : (∑ m : Fin 8, (∑ k, D.w1r j k * R m k) * (if m = q t then 1 else 0 : ℝ)) = ∑ k, D.w1r j k * D.r (2048 * n + t.val) k := by
    rw [Finset.sum_eq_single (q t)]
    · rw [if_pos rfl, mul_one]
      exact Finset.sum_congr rfl fun k _ => by rw [H.r]
    · intro m _ hm; rw [if_neg hm, mul_zero]
    · intro h; exact absurd (Finset.mem_univ _) h
  rw [hs]
  unfold Data.pre
  rw [EReal.coe_add]
  congr 1
  split
  · next h =>
    rw [← coe_dot]
    refine Finset.sum_congr rfl fun k _ => ?_
    rw [H.w1p, H.p1 t ((ne_bit _ _).1 h)]
  · next h =>
    have h0 : Y.hf (ix2 0 t) = 0#32 := by
      by_contra h'
      exact h ((ne_bit _ _).2 h')
    rw [← coe_dot]
    refine Finset.sum_congr rfl fun k _ => ?_
    rw [H.w1p, H.p0 t h0]

/-- The encoded token, as real numbers. -/
theorem enc_val (H : Holds D n msk Y R q) (j : Fin 64) (t : Fin 2048) : enc Y (ix2 j t) = ((D.o (2048 * n + t.val) j : ℝ) : EReal) := by
  unfold enc
  pointwise [k3_pay9]
  simp only [pre1_val H, H.b1, H.w2, H.b2, ← EReal.coe_add, coe_relu, coe_dot]
  rfl

/-- The user's share of the scorer's first layer, as real numbers. -/
theorem usr_val (H : Holds D n msk Y R q) (j : Fin 64) (b : Fin 16) : usr Y (ix2 j b) = ((D.usr b j : ℝ) : EReal) := by
  unfold usr
  pointwise [k3_pay11]
  simp only [H.a1u, H.us, H.a1b, coe_dot, ← EReal.coe_add]
  rfl

/-- The token's share of the scorer's first layer, as real numbers. -/
theorem tok_val (H : Holds D n msk Y R q) (j : Fin 64) (t : Fin 2048) :
    tok Y (ix2 j t) = ((∑ k, D.a1o j k * D.o (2048 * n + t.val) k : ℝ) : EReal) := by
  have e : ∀ k, k3_pay9 (pre1 Y) Y.b1 Y.w2 Y.b2 (ix2 k t) = ((D.o (2048 * n + t.val) k : ℝ) : EReal) := fun k => enc_val H k t
  unfold tok
  pointwise [k3_pay12]
  simp only [e, H.a1o, coe_dot]

/-- The scores of a block. -/
theorem score_val (H : Holds D n msk Y R q) (b : Fin 16) (t : Fin 2048) :
    k3_pay13 (F := Ideal) msk (usr Y) (tok Y) Y.a2 Y.a2b Y.a3 Y.a3b (ix2 b t) = ((D.sc (2048 * n + t.val) : ℝ) : EReal) := by
  have hs : ∀ j : Fin 64, (∑ b : Fin 16, D.usr b j * (if D.seg (2048 * n + t.val) = b then 1 else 0 : ℝ)) = D.usr (D.seg (2048 * n + t.val)) j := fun j => by
    rw [Finset.sum_eq_single (D.seg (2048 * n + t.val))]
    · rw [if_pos rfl, mul_one]
    · intro m _ hm; rw [if_neg (Ne.symm hm), mul_zero]
    · intro h; exact absurd (Finset.mem_univ _) h
  pointwise [k3_pay13]
  simp only [bit_val, H.msk, usr_val H, tok_val H, H.a2, H.a2b, H.a3, H.a3b, coe_dot, hs, ← EReal.coe_add, coe_relu]
  rfl

/-- What the running sums hold after the first `n` blocks. -/
def Inv (D : Data) (n : ℕ) (s : St Ideal) : Prop :=
  ∀ b : Fin 16, ∃ M : ℝ, s.m (ix2 b 0) = (M : EReal)
    ∧ s.z (ix2 b 0) = ((wsum (fun t => D.seg t = b) D.sc (fun _ => 1) M (2048 * n) : ℝ) : EReal)
    ∧ ∀ j : Fin 64, s.out (ix2 b j) = ((wsum (fun t => D.seg t = b) D.sc (fun t => D.o t j) M (2048 * n) : ℝ) : EReal)

/-- The new level is a real number. -/
theorem level_real (H : Holds D n msk Y R q) (b : Fin 16) (m : FVec Ideal S16x1 .f32) (M : ℝ) (hm : m (ix2 b 0) = (M : EReal)) :
    ∃ M' : ℝ, k3_pay14 (F := Ideal) msk (usr Y) (tok Y) Y.a2 Y.a2b Y.a3 Y.a3b m (ix2 b 0) = (M' : EReal) := by
  obtain ⟨c, hc⟩ := low_bits
  pointwise [k3_pay14]
  simp only [score_val H, bot_bits, hc, sel]
  have hr : ∀ t : Fin 2048, ∃ r : ℝ, (if msk (ix2 b t) = 1#1 then ((D.sc (2048 * n + t.val) : ℝ) : EReal) else (c : EReal)) = (r : EReal) := fun t => by
    split
    · exact ⟨_, rfl⟩
    · exact ⟨_, rfl⟩
  obtain ⟨r, hr'⟩ := fold_max_real (Finset.univ : Finset (Fin 2048)) (fun t => if msk (ix2 b t) = 1#1 then ((D.sc (2048 * n + t.val) : ℝ) : EReal) else (c : EReal))
    (fun t _ => by obtain ⟨r, e⟩ := hr t; simp only [e]; exact EReal.coe_ne_top r) 0 (Finset.mem_univ _) (by obtain ⟨r, e⟩ := hr 0; simp only [e]; exact EReal.coe_ne_bot r)
  rw [hr', hm]
  exact ⟨_, coe_max _ _⟩

/-- The weights of a block, from its new level. -/
theorem weight_val (H : Holds D n msk Y R q) (b : Fin 16) (t : Fin 2048) (m : FVec Ideal S16x1 .f32) (M' : ℝ)
    (hM : k3_pay14 (F := Ideal) msk (usr Y) (tok Y) Y.a2 Y.a2b Y.a3 Y.a3b m (ix2 b 0) = (M' : EReal)) :
    k3_pay16 (F := Ideal) msk (usr Y) (tok Y) Y.a2 Y.a2b Y.a3 Y.a3b m (ix2 b t)
      = ((if D.seg (2048 * n + t.val) = b then Real.exp (D.sc (2048 * n + t.val) - M') else 0 : ℝ) : EReal) := by
  pointwise [k3_pay16]
  rw [score_val H, hM, sel]
  simp only [H.msk]
  split
  · rw [← EReal.coe_sub]; rfl
  · rfl

/-- One block's step. -/
theorem step_inv (i : grid3.Coords) (hi : (i 0).val = n) (H : Holds D n (mask i Y) Y R q) (s : St Ideal) (hs : Inv D n s) : Inv D (n + 1) (step i Y s) := by
  intro b
  obtain ⟨M, hm, hz, ho⟩ := hs b
  obtain ⟨M', hM'⟩ := level_real H b s.m M hm
  have hsc : k3_pay15 (F := Ideal) (mask i Y) (usr Y) (tok Y) Y.a2 Y.a2b Y.a3 Y.a3b s.m (ix2 b 0) = ((Real.exp (M - M') : ℝ) : EReal) := by
    pointwise [k3_pay15]
    rw [hM', hm, ← EReal.coe_sub]; rfl
  have hw := fun t => weight_val H b t s.m M' hM'
  refine ⟨M', ?_, ?_, fun j => ?_⟩
  · simp only [step]
    pointwise [k3_pay3]
    exact hM'
  · simp only [step]
    have e18 : k3_pay18 (F := Ideal) (mask i Y) (usr Y) (tok Y) Y.a2 Y.a2b Y.a3 Y.a3b s.m (ix2 b 0)
        = ((∑ t : Fin 2048, if D.seg (2048 * n + t.val) = b then Real.exp (D.sc (2048 * n + t.val) - M') else 0 : ℝ) : EReal) := by
      pointwise [k3_pay18]
      simp only [hw, coe_sum]
    have e17 : k3_pay17 (F := Ideal) (mask i Y) (usr Y) (tok Y) Y.a2 Y.a2b Y.a3 Y.a3b s.m s.z (ix2 b 0)
        = ((wsum (fun t => D.seg t = b) D.sc (fun _ => 1) M' (2048 * n) : ℝ) : EReal) := by
      pointwise [k3_pay17]
      rw [hsc, hz, ← EReal.coe_mul, wsum_level]
    pointwise [k3_pay1]
    rw [e17, e18, ← EReal.coe_add, Nat.mul_succ, wsum_step]
    simp only [mul_one]
  · simp only [step]
    pointwise [k3_pay2]
    simp only [hsc, hw, enc_val H, coe_dot]
    rw [ho, ← EReal.coe_mul, ← EReal.coe_add, wsum_level, Nat.mul_succ, wsum_step]
    simp only [ite_mul, zero_mul]

/-- Before the first block. -/
theorem fresh_inv : Inv D 0 (⟨k3_pay5 (F := Ideal), k3_pay6 (F := Ideal), k3_pay7 (F := Ideal)⟩ : St Ideal) := by
  obtain ⟨c, hc⟩ := low_bits
  intro b
  refine ⟨c, ?_, ?_, fun j => ?_⟩
  · pointwise [k3_pay5]; exact hc
  · pointwise [k3_pay6]; rw [wsum_zero]; rfl
  · pointwise [k3_pay7]; rw [wsum_zero]; rfl

/-- The last block's division. -/
theorem divided (s : St Ideal) (hs : Inv D 16 s) (b : Fin 16) (j : Fin 64) : k3_pay4 (F := Ideal) s.z s.out (ix2 b j) = ((D.val b j : ℝ) : EReal) := by
  obtain ⟨M, -, hz, ho⟩ := hs b
  pointwise [k3_pay4]
  rw [hz, ho]
  unfold Data.val
  rw [← pooled_of_carried _ D.sc _ M]
  by_cases h : 0 < wsum (fun t => D.seg t = b) D.sc (fun _ => 1) M (2048 * 16)
  · rw [if_pos (by exact_mod_cast h), if_pos h, div_real _ _ h.ne']
  · rw [if_neg (by exact_mod_cast h), if_neg h]; rfl

end Cert.Proof.FusedValue

end
-- ==== Proof.FusedResult.lean ====
/-
  The fused call's result: its blocks' reads, the run through its points, and what it leaves.
-/
module

public import proofs.«01_k».proof.Proof.FusedRegion
public import proofs.«01_k».proof.Proof.FusedValue
public import Idealize.ShloMosaic.Lib.Pointwise
public import Idealize.ShloMosaic.Lib.Pipeline.ArrRel
public import Idealize.ShloMosaic.Lib.Pipeline.ValueKit

@[expose] public section

noncomputable section

namespace Cert.Proof.FusedResult

open Cert.KernelIdeal Cert.KernelIdeal.Gen
open Idealize.ShloMosaic
open Idealize.ShloMosaic.TcCoe
open Idealize.ShloMosaic.SparseCore.Cfg (HIx Pay)
open Idealize.ShloMosaic.Pipeline (RDat arrRef arrRefs ucRefs)
open Cert.Proof.Online Cert.Proof.Model Cert.Proof.Fused Cert.Proof.FusedValue

set_option maxRecDepth 16384

variable (V : Valuation τ sig (Elt Ideal))

/-- Where the blocks of window 0 lie. -/
theorem idx0 : ∀ t : Fin cfg3.N, win3_0.index t = ![t.val, 0] := by decide +kernel
/-- Where the blocks of window 1 lie. -/
theorem idx1 : ∀ t : Fin cfg3.N, win3_1.index t = ![0, t.val] := by decide +kernel
/-- Where the blocks of window 2 lie. -/
theorem idx2 : ∀ t : Fin cfg3.N, win3_2.index t = ![0, t.val] := by decide +kernel
/-- Where the blocks of window 3 lie. -/
theorem idx3 : ∀ t : Fin cfg3.N, win3_3.index t = ![0, 0] := by decide +kernel
/-- Where the blocks of window 4 lie. -/
theorem idx4 : ∀ t : Fin cfg3.N, win3_4.index t = ![0, 0] := by decide +kernel
/-- Where the blocks of window 5 lie. -/
theorem idx5 : ∀ t : Fin cfg3.N, win3_5.index t = ![0, 0] := by decide +kernel
/-- Where the blocks of window 6 lie. -/
theorem idx6 : ∀ t : Fin cfg3.N, win3_6.index t = ![0, 0] := by decide +kernel
/-- Where the blocks of window 7 lie. -/
theorem idx7 : ∀ t : Fin cfg3.N, win3_7.index t = ![0, 0] := by decide +kernel
/-- Where the blocks of window 8 lie. -/
theorem idx8 : ∀ t : Fin cfg3.N, win3_8.index t = ![0, 0] := by decide +kernel
/-- Where the blocks of window 9 lie. -/
theorem idx9 : ∀ t : Fin cfg3.N, win3_9.index t = ![0, 0] := by decide +kernel
/-- Where the blocks of window 10 lie. -/
theorem idx10 : ∀ t : Fin cfg3.N, win3_10.index t = ![0, 0] := by decide +kernel
/-- Where the blocks of window 11 lie. -/
theorem idx11 : ∀ t : Fin cfg3.N, win3_11.index t = ![0, 0] := by decide +kernel
/-- Where the blocks of window 12 lie. -/
theorem idx12 : ∀ t : Fin cfg3.N, win3_12.index t = ![0, 0] := by decide +kernel
/-- Where the blocks of window 13 lie. -/
theorem idx13 : ∀ t : Fin cfg3.N, win3_13.index t = ![0, 0] := by decide +kernel
/-- Where the blocks of window 14 lie. -/
theorem idx14 : ∀ t : Fin cfg3.N, win3_14.index t = ![0, 0] := by decide +kernel
/-- Where the blocks of window 15 lie. -/
theorem idx15 : ∀ t : Fin cfg3.N, win3_15.index t = ![0, 0] := by decide +kernel
/-- Where the blocks of window 16 lie. -/
theorem idx16 : ∀ t : Fin cfg3.N, win3_16.index t = ![0, 0] := by decide +kernel
/-- Where the blocks of window 17 lie. -/
theorem idx17 : ∀ t : Fin cfg3.N, win3_17.index t = ![0, 0] := by decide +kernel
/-- Where the blocks of window 18 lie. -/
theorem idx18 : ∀ t : Fin cfg3.N, win3_18.index t = ![0, 0] := by decide +kernel
/-- Where the result's block lies. -/
theorem idx19 : ∀ t : Fin cfg3.N, win3_19.index t = ![0, 0] := by decide +kernel

/-- The gathered rows' block. -/
theorem blk0 (T : S32768x128.Idx → EReal) (hT : V (Proc.devRef .tc main_v17) = T) (t : Fin cfg3.N) (a : Fin 2048) (b : Fin 128) :
    blk V 0 t (ix2 a b) = T (ix2 ⟨2048 * t.val + a.val, by have : t.val < 16 := t.isLt; omega⟩ b) := by
  subst hT
  unfold blk Pipeline.Window.fill
  rw [dif_pos (show (cfg3.win 0).moved (cfg3.grid.coords t) (ix2 a b) = true from rfl)]
  blk_ext [idx0]

/-- Window 1's block: a run of the row. -/
theorem blk1 (T : S1x32768.Idx → BitVec 32) (hT : V (Proc.devRef .tc main_v21) = T) (t : Fin cfg3.N) (b : Fin 2048) :
    blk V 1 t (ix2 0 b) = T (ix2 0 ⟨2048 * t.val + b.val, by have : t.val < 16 := t.isLt; omega⟩) := by
  subst hT
  unfold blk Pipeline.Window.fill
  rw [dif_pos (show (cfg3.win 1).moved (cfg3.grid.coords t) (ix2 0 b) = true from rfl)]
  blk_ext [idx1]

/-- Window 2's block: a run of the row. -/
theorem blk2 (T : S1x32768.Idx → BitVec 32) (hT : V (Proc.devRef .tc main_v20) = T) (t : Fin cfg3.N) (b : Fin 2048) :
    blk V 2 t (ix2 0 b) = T (ix2 0 ⟨2048 * t.val + b.val, by have : t.val < 16 := t.isLt; omega⟩) := by
  subst hT
  unfold blk Pipeline.Window.fill
  rw [dif_pos (show (cfg3.win 2).moved (cfg3.grid.coords t) (ix2 0 b) = true from rfl)]
  blk_ext [idx2]

/-- Window 3's block is the whole array. -/
theorem blk3 (T : S16x1.Idx → BitVec 32) (hT : V (Proc.devRef .tc main_v23) = T) (a : Fin 16) (b : Fin 1) : blk V 3 z0 (ix2 a b) = T (ix2 a b) := by
  subst hT
  unfold blk Pipeline.Window.fill
  rw [dif_pos (show (cfg3.win 3).moved (cfg3.grid.coords z0) (ix2 a b) = true from rfl)]
  blk_ext [idx3]

/-- Window 4's block is the whole array. -/
theorem blk4 (T : S16x1.Idx → BitVec 32) (hT : V (Proc.devRef .tc main_v25) = T) (a : Fin 16) (b : Fin 1) : blk V 4 z0 (ix2 a b) = T (ix2 a b) := by
  subst hT
  unfold blk Pipeline.Window.fill
  rw [dif_pos (show (cfg3.win 4).moved (cfg3.grid.coords z0) (ix2 a b) = true from rfl)]
  blk_ext [idx4]

/-- Window 5's block is the whole array. -/
theorem blk5 (T : S64x16.Idx → EReal) (hT : V (Proc.devRef .tc main_v19) = T) (a : Fin 64) (b : Fin 16) : blk V 5 z0 (ix2 a b) = T (ix2 a b) := by
  subst hT
  unfold blk Pipeline.Window.fill
  rw [dif_pos (show (cfg3.win 5).moved (cfg3.grid.coords z0) (ix2 a b) = true from rfl)]
  blk_ext [idx5]

/-- Window 6's block is the whole array. -/
theorem blk6 (T : S8x64.Idx → EReal) (hT : V (Proc.devRef .tc main_v26) = T) (a : Fin 8) (b : Fin 64) : blk V 6 z0 (ix2 a b) = T (ix2 a b) := by
  subst hT
  unfold blk Pipeline.Window.fill
  rw [dif_pos (show (cfg3.win 6).moved (cfg3.grid.coords z0) (ix2 a b) = true from rfl)]
  blk_ext [idx6]

/-- Window 7's block is the whole array. -/
theorem blk7 (T : S64x64.Idx → EReal) (hT : V (Proc.devRef .tc main_v27) = T) (a : Fin 64) (b : Fin 64) : blk V 7 z0 (ix2 a b) = T (ix2 a b) := by
  subst hT
  unfold blk Pipeline.Window.fill
  rw [dif_pos (show (cfg3.win 7).moved (cfg3.grid.coords z0) (ix2 a b) = true from rfl)]
  blk_ext [idx7]

/-- Window 8's block is the whole array. -/
theorem blk8 (T : S64x64.Idx → EReal) (hT : V (Proc.devRef .tc main_v28) = T) (a : Fin 64) (b : Fin 64) : blk V 8 z0 (ix2 a b) = T (ix2 a b) := by
  subst hT
  unfold blk Pipeline.Window.fill
  rw [dif_pos (show (cfg3.win 8).moved (cfg3.grid.coords z0) (ix2 a b) = true from rfl)]
  blk_ext [idx8]

/-- Window 9's block is the whole array. -/
theorem blk9 (T : S64x1.Idx → EReal) (hT : V (Proc.devRef .tc main_v31) = T) (a : Fin 64) (b : Fin 1) : blk V 9 z0 (ix2 a b) = T (ix2 a b) := by
  subst hT
  unfold blk Pipeline.Window.fill
  rw [dif_pos (show (cfg3.win 9).moved (cfg3.grid.coords z0) (ix2 a b) = true from rfl)]
  blk_ext [idx9]

/-- Window 10's block is the whole array. -/
theorem blk10 (T : S64x64.Idx → EReal) (hT : V (Proc.devRef .tc main_arg9) = T) (a : Fin 64) (b : Fin 64) : blk V 10 z0 (ix2 a b) = T (ix2 a b) := by
  subst hT
  unfold blk Pipeline.Window.fill
  rw [dif_pos (show (cfg3.win 10).moved (cfg3.grid.coords z0) (ix2 a b) = true from rfl)]
  blk_ext [idx10]

/-- Window 11's block is the whole array. -/
theorem blk11 (T : S64x1.Idx → EReal) (hT : V (Proc.devRef .tc main_v32) = T) (a : Fin 64) (b : Fin 1) : blk V 11 z0 (ix2 a b) = T (ix2 a b) := by
  subst hT
  unfold blk Pipeline.Window.fill
  rw [dif_pos (show (cfg3.win 11).moved (cfg3.grid.coords z0) (ix2 a b) = true from rfl)]
  blk_ext [idx11]

/-- Window 12's block is the whole array. -/
theorem blk12 (T : S64x64.Idx → EReal) (hT : V (Proc.devRef .tc main_v29) = T) (a : Fin 64) (b : Fin 64) : blk V 12 z0 (ix2 a b) = T (ix2 a b) := by
  subst hT
  unfold blk Pipeline.Window.fill
  rw [dif_pos (show (cfg3.win 12).moved (cfg3.grid.coords z0) (ix2 a b) = true from rfl)]
  blk_ext [idx12]

/-- Window 13's block is the whole array. -/
theorem blk13 (T : S64x64.Idx → EReal) (hT : V (Proc.devRef .tc main_v30) = T) (a : Fin 64) (b : Fin 64) : blk V 13 z0 (ix2 a b) = T (ix2 a b) := by
  subst hT
  unfold blk Pipeline.Window.fill
  rw [dif_pos (show (cfg3.win 13).moved (cfg3.grid.coords z0) (ix2 a b) = true from rfl)]
  blk_ext [idx13]

/-- Window 14's block is the whole array. -/
theorem blk14 (T : S64x1.Idx → EReal) (hT : V (Proc.devRef .tc main_v33) = T) (a : Fin 64) (b : Fin 1) : blk V 14 z0 (ix2 a b) = T (ix2 a b) := by
  subst hT
  unfold blk Pipeline.Window.fill
  rw [dif_pos (show (cfg3.win 14).moved (cfg3.grid.coords z0) (ix2 a b) = true from rfl)]
  blk_ext [idx14]

/-- Window 15's block is the whole array. -/
theorem blk15 (T : S64x64.Idx → EReal) (hT : V (Proc.devRef .tc main_arg13) = T) (a : Fin 64) (b : Fin 64) : blk V 15 z0 (ix2 a b) = T (ix2 a b) := by
  subst hT
  unfold blk Pipeline.Window.fill
  rw [dif_pos (show (cfg3.win 15).moved (cfg3.grid.coords z0) (ix2 a b) = true from rfl)]
  blk_ext [idx15]

/-- Window 16's block is the whole array. -/
theorem blk16 (T : S64x1.Idx → EReal) (hT : V (Proc.devRef .tc main_v34) = T) (a : Fin 64) (b : Fin 1) : blk V 16 z0 (ix2 a b) = T (ix2 a b) := by
  subst hT
  unfold blk Pipeline.Window.fill
  rw [dif_pos (show (cfg3.win 16).moved (cfg3.grid.coords z0) (ix2 a b) = true from rfl)]
  blk_ext [idx16]

/-- Window 17's block is the whole array. -/
theorem blk17 (T : S1x64.Idx → EReal) (hT : V (Proc.devRef .tc main_arg15) = T) (a : Fin 1) (b : Fin 64) : blk V 17 z0 (ix2 a b) = T (ix2 a b) := by
  subst hT
  unfold blk Pipeline.Window.fill
  rw [dif_pos (show (cfg3.win 17).moved (cfg3.grid.coords z0) (ix2 a b) = true from rfl)]
  blk_ext [idx17]

/-- Window 18's block is the whole array. -/
theorem blk18 (T : S1x1.Idx → EReal) (hT : V (Proc.devRef .tc main_v35) = T) (a : Fin 1) (b : Fin 1) : blk V 18 z0 (ix2 a b) = T (ix2 a b) := by
  subst hT
  unfold blk Pipeline.Window.fill
  rw [dif_pos (show (cfg3.win 18).moved (cfg3.grid.coords z0) (ix2 a b) = true from rfl)]
  blk_ext [idx18]

/-- What the buffers the call reads hold. -/
structure Reads (D : Data) : Prop where
  p : ∃ (P : S32768x128.Idx → EReal) (H : S1x32768.Idx → BitVec 32), V (Proc.devRef .tc main_v17) = P ∧ V (Proc.devRef .tc main_v21) = H ∧
    ∀ t : Fin 32768, (H (ix2 0 t) = 0#32 → ∀ k : Fin 64, P (ix2 t ⟨k.val, by omega⟩) = ((D.p t.val k : ℝ) : EReal)) ∧
      (H (ix2 0 t) ≠ 0#32 → ∀ k : Fin 64, P (ix2 t ⟨64 + k.val, by omega⟩) = ((D.p t.val k : ℝ) : EReal))
  rk : ∃ (Q : S1x32768.Idx → BitVec 32) (T : S8x64.Idx → EReal), V (Proc.devRef .tc main_v20) = Q ∧ V (Proc.devRef .tc main_v26) = T ∧
    ∃ (q : Fin 32768 → Fin 8) (R : Fin 8 → Fin 64 → ℝ), (∀ t, Q (ix2 0 t) = BitVec.ofNat 32 (q t).val) ∧ (∀ m k, T (ix2 m k) = ((R m k : ℝ) : EReal)) ∧
      ∀ (t : Fin 32768) (k : Fin 64), R (q t) k = D.r t.val k
  seg : ∃ lo hi : S16x1.Idx → BitVec 32, V (Proc.devRef .tc main_v23) = lo ∧ V (Proc.devRef .tc main_v25) = hi ∧
    ∀ b : Fin 16, (lo (ix2 b 0)).toNat ≤ 32768 ∧ (hi (ix2 b 0)).toNat ≤ 32768 ∧
      ∀ t : Fin 32768, D.seg t.val = b ↔ (lo (ix2 b 0)).toNat ≤ t.val ∧ t.val < (hi (ix2 b 0)).toNat
  us : ∃ T : S64x16.Idx → EReal, V (Proc.devRef .tc main_v19) = T ∧ ∀ (k : Fin 64) (b : Fin 16), T (ix2 k b) = ((D.u b k : ℝ) : EReal)
  w1p : ∃ T : S64x64.Idx → EReal, V (Proc.devRef .tc main_v27) = T ∧ ∀ j k : Fin 64, T (ix2 j k) = ((D.w1p j k : ℝ) : EReal)
  w1r : ∃ T : S64x64.Idx → EReal, V (Proc.devRef .tc main_v28) = T ∧ ∀ j k : Fin 64, T (ix2 j k) = ((D.w1r j k : ℝ) : EReal)
  b1 : ∃ T : S64x1.Idx → EReal, V (Proc.devRef .tc main_v31) = T ∧ ∀ j : Fin 64, T (ix2 j 0) = ((D.b1 j : ℝ) : EReal)
  w2 : ∃ T : S64x64.Idx → EReal, V (Proc.devRef .tc main_arg9) = T ∧ ∀ j k : Fin 64, T (ix2 j k) = ((D.w2 j k : ℝ) : EReal)
  b2 : ∃ T : S64x1.Idx → EReal, V (Proc.devRef .tc main_v32) = T ∧ ∀ j : Fin 64, T (ix2 j 0) = ((D.b2 j : ℝ) : EReal)
  a1o : ∃ T : S64x64.Idx → EReal, V (Proc.devRef .tc main_v29) = T ∧ ∀ j k : Fin 64, T (ix2 j k) = ((D.a1o j k : ℝ) : EReal)
  a1u : ∃ T : S64x64.Idx → EReal, V (Proc.devRef .tc main_v30) = T ∧ ∀ j k : Fin 64, T (ix2 j k) = ((D.a1u j k : ℝ) : EReal)
  a1b : ∃ T : S64x1.Idx → EReal, V (Proc.devRef .tc main_v33) = T ∧ ∀ j : Fin 64, T (ix2 j 0) = ((D.a1b j : ℝ) : EReal)
  a2 : ∃ T : S64x64.Idx → EReal, V (Proc.devRef .tc main_arg13) = T ∧ ∀ j k : Fin 64, T (ix2 j k) = ((D.a2 j k : ℝ) : EReal)
  a2b : ∃ T : S64x1.Idx → EReal, V (Proc.devRef .tc main_v34) = T ∧ ∀ j : Fin 64, T (ix2 j 0) = ((D.a2b j : ℝ) : EReal)
  a3 : ∃ T : S1x64.Idx → EReal, V (Proc.devRef .tc main_arg15) = T ∧ ∀ k : Fin 64, T (ix2 0 k) = ((D.a3 k : ℝ) : EReal)
  a3b : ∃ T : S1x1.Idx → EReal, V (Proc.devRef .tc main_v35) = T ∧ T (ix2 0 0) = ((D.a3b : ℝ) : EReal)

/-- Two bits are both set exactly when their conjunction is. -/
theorem and_bit : ∀ a b : BitVec 1, IntOp.andi a b = 1#1 ↔ a = 1#1 ∧ b = 1#1 := by decide

/-- The signed comparisons of small words are those of their numbers. -/
theorem sge_bit (a b : BitVec 32) (ha : a.toNat < 2 ^ 31) (hb : b.toNat < 2 ^ 31) : IntOp.cmpi .sge a b = 1#1 ↔ b.toNat ≤ a.toNat := by
  rw [IntOp.cmpi_sge, BitVec.toInt_eq_toNat_of_lt (by omega), BitVec.toInt_eq_toNat_of_lt (by omega)]
  omega
/-- The same for the strict one. -/
theorem slt_bit (a b : BitVec 32) (ha : a.toNat < 2 ^ 31) (hb : b.toNat < 2 ^ 31) : IntOp.cmpi .slt a b = 1#1 ↔ a.toNat < b.toNat := by
  rw [IntOp.cmpi_slt, BitVec.toInt_eq_toNat_of_lt (by omega), BitVec.toInt_eq_toNat_of_lt (by omega)]
  omega

/-- A token's number, as the body counts it. -/
theorem tok_word (n c : ℕ) (hn : n < 16) (hc : c < 2048) : (IntOp.addi (BitVec.ofNat 32 c) (Scalar.muli (BitVec.ofNat 32 n) 2048#32)).toNat = 2048 * n + c := by
  show (BitVec.ofNat 32 c + BitVec.ofNat 32 n * 2048#32).toNat = _
  simp
  omega

/-- A block's mask marks the tokens of each segment. -/
theorem mask_val (i : grid3.Coords) (n : ℕ) (hi : (i 0).val = n) (hn : n < 16) (Y : In Ideal) (b : Fin 16) (t : Fin 2048)
    (hl : (Y.lo (ix2 b 0)).toNat ≤ 32768) (hh : (Y.hi (ix2 b 0)).toNat ≤ 32768) :
    mask i Y (ix2 b t) = 1#1 ↔ (Y.lo (ix2 b 0)).toNat ≤ 2048 * n + t.val ∧ 2048 * n + t.val < (Y.hi (ix2 b 0)).toNat := by
  unfold mask
  pointwise [k3_pay10]
  have e := tok_word n t.val hn t.isLt
  have := t.isLt
  simp only [hi]
  rw [and_bit, sge_bit _ _ (by rw [e]; omega) (by omega), slt_bit _ _ (by rw [e]; omega) (by omega), e]

variable {V} {D : Data}

/-- What each block's inputs hold. -/
theorem holds (H : Reads V D) : ∃ (R : Fin 8 → Fin 64 → ℝ), ∀ t : Fin cfg3.N, ∃ q : Fin 2048 → Fin 8,
    Holds D t.val (mask (grid3.coords t) (inp V t)) (inp V t) R q := by
  obtain ⟨P, Hf, eP, eH, hp⟩ := H.p
  obtain ⟨Q, T, eQ, eT, q, R, hq, hR, hr⟩ := H.rk
  obtain ⟨lo, hi, elo, ehi, hs⟩ := H.seg
  obtain ⟨Tus, eus, hus⟩ := H.us
  obtain ⟨Tw1p, ew1p, hw1p⟩ := H.w1p
  obtain ⟨Tw1r, ew1r, hw1r⟩ := H.w1r
  obtain ⟨Tb1, eb1, hb1⟩ := H.b1
  obtain ⟨Tw2, ew2, hw2⟩ := H.w2
  obtain ⟨Tb2, eb2, hb2⟩ := H.b2
  obtain ⟨Ta1o, ea1o, ha1o⟩ := H.a1o
  obtain ⟨Ta1u, ea1u, ha1u⟩ := H.a1u
  obtain ⟨Ta1b, ea1b, ha1b⟩ := H.a1b
  obtain ⟨Ta2, ea2, ha2⟩ := H.a2
  obtain ⟨Ta2b, ea2b, ha2b⟩ := H.a2b
  obtain ⟨Ta3, ea3, ha3⟩ := H.a3
  obtain ⟨Ta3b, ea3b, ha3b⟩ := H.a3b
  refine ⟨R, fun t => ⟨fun x => q ⟨2048 * t.val + x.val, by have : t.val < 16 := t.isLt; omega⟩, ?_⟩⟩
  have ht : t.val < 16 := t.isLt
  have f1 : ∀ x : Fin 2048, (inp V t).hf (ix2 0 x) = Hf (ix2 0 ⟨2048 * t.val + x.val, by omega⟩) := fun x => blk1 V Hf eH t x
  have f3 : ∀ b : Fin 16, (inp V t).lo (ix2 b 0) = lo (ix2 b 0) := fun b => blk3 V lo elo b 0
  have f4 : ∀ b : Fin 16, (inp V t).hi (ix2 b 0) = hi (ix2 b 0) := fun b => blk4 V hi ehi b 0
  constructor
  · intro x h k
    rw [f1] at h
    exact (blk0 V P eP t x ⟨k.val, by omega⟩).trans ((hp ⟨2048 * t.val + x.val, by omega⟩).1 h k)
  · intro x h k
    rw [f1] at h
    exact (blk0 V P eP t x ⟨64 + k.val, by omega⟩).trans ((hp ⟨2048 * t.val + x.val, by omega⟩).2 h k)
  · intro x
    exact (blk2 V Q eQ t x).trans (hq _)
  · intro m k
    exact (blk6 V T eT m k).trans (hR m k)
  · intro x k
    exact hr ⟨2048 * t.val + x.val, by omega⟩ k
  · intro b x
    obtain ⟨h1, h2, h3⟩ := hs b
    rw [mask_val _ t.val (coords0 t) ht _ b x (by rw [f3]; exact h1) (by rw [f4]; exact h2), f3, f4]
    exact (h3 ⟨2048 * t.val + x.val, by omega⟩).symm
  · exact fun k b => (blk5 V Tus eus k b).trans (hus k b)
  · exact fun j k => (blk7 V Tw1p ew1p j k).trans (hw1p j k)
  · exact fun j k => (blk8 V Tw1r ew1r j k).trans (hw1r j k)
  · exact fun j => (blk9 V Tb1 eb1 j 0).trans (hb1 j)
  · exact fun j k => (blk10 V Tw2 ew2 j k).trans (hw2 j k)
  · exact fun j => (blk11 V Tb2 eb2 j 0).trans (hb2 j)
  · exact fun j k => (blk12 V Ta1o ea1o j k).trans (ha1o j k)
  · exact fun j k => (blk13 V Ta1u ea1u j k).trans (ha1u j k)
  · exact fun j => (blk14 V Ta1b ea1b j 0).trans (ha1b j)
  · exact fun j k => (blk15 V Ta2 ea2 j k).trans (ha2 j k)
  · exact fun j => (blk16 V Ta2b ea2b j 0).trans (ha2b j)
  · exact fun k => (blk17 V Ta3 ea3 0 k).trans (ha3 k)
  · exact (blk18 V Ta3b ea3b 0 0).trans ha3b

/-- At the first block the body starts from what the state begins with. -/
theorem start_eq (t : Fin cfg3.N) : start (grid3.coords t) (st V t.val) = st V t.val := by
  unfold start
  split
  · next h =>
    rw [coords0] at h
    rw [h]
    rfl
  · rfl

/-- The running sums before each block. -/
theorem inv_at (H : Reads V D) (n : ℕ) (hn : n ≤ 15) : Inv D n (st V n) := by
  obtain ⟨R, hR⟩ := holds H
  induction n with
  | zero => exact fresh_inv
  | succ n ih =>
    obtain ⟨q, hq⟩ := hR ⟨n, by show n < 16; omega⟩
    have e := st_succ V ⟨n, by show n < 16; omega⟩
    have e' : st V (n + 1) = next (grid3.coords ⟨n, by show n < 16; omega⟩) (inp V ⟨n, by show n < 16; omega⟩) (st V n) := e
    rw [e']
    unfold next finish
    rw [if_neg (by rw [coords0]; show n ≠ 15; omega)]
    have s : start (grid3.coords ⟨n, by show n < 16; omega⟩) (st V n) = st V n := start_eq ⟨n, by show n < 16; omega⟩
    rw [s]
    exact step_inv _ (coords0 _) hq _ (ih (by omega))

/-- After the last block the result is divided. -/
theorem last_out (H : Reads V D) (b : Fin 16) (j : Fin 64) : (st V 16).out (ix2 b j) = ((D.val b j : ℝ) : EReal) := by
  obtain ⟨R, hR⟩ := holds H
  obtain ⟨q, hq⟩ := hR ⟨15, by decide⟩
  have key : ∀ t : Fin cfg3.N, t.val = 15 → Holds D t.val (mask (grid3.coords t) (inp V t)) (inp V t) R q → (st V (t.val + 1)).out (ix2 b j) = ((D.val b j : ℝ) : EReal) := by
    intro t ht hq
    rw [st_succ V t]
    unfold next finish
    rw [if_pos (by rw [coords0]; exact ht), start_eq]
    have hi := step_inv _ (coords0 t) hq _ (inv_at H t.val (by omega))
    rw [show t.val + 1 = 16 by omega] at hi
    exact divided _ hi b j
  exact key ⟨15, by decide⟩ rfl hq

/-- Every element type has a value at the ideal instance. -/
theorem nonempty_ideal (e : EltTy) : Nonempty (Elt Ideal e) := by
  cases e <;> first | exact ⟨(0 : BitVec _)⟩ | exact ⟨(0 : EReal)⟩

/-- What the fused call leaves: the pooled rows. -/
theorem pooled (c : Dev nD) (H : Reads V D) (G : S16x64.Idx → EReal) (hG : (rdat V c).ArrAt 19 cfg3.N G) (b : Fin 16) (j : Fin 64) :
    G (ix2 b j) = ((D.val b j : ℝ) : EReal) := by
  haveI : ∀ e, Nonempty (Elt Ideal e) := fun e => nonempty_ideal e
  obtain ⟨X, ⟨Y, -, -, hX⟩, hA⟩ := RDat.ArrAt.emb_eq_of_wholeAt (t₀ := ⟨15, by decide⟩) hG (by decide +kernel)
  have hX' : X = (st V 16).out := eq_of_heq (hX rfl)
  subst hX'
  refine (hA (ix2 b j)).trans ?_
  exact last_out H b j

end Cert.Proof.FusedResult

end
-- ==== Proof.HostValues.lean ====
/-
  The buffers the TensorCore calls read, as the host stretches leave them.
-/
module

public import proofs.«01_k».proof.Proof.Values

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (RDat arrRef arrRefs ucRefs)
open Idealize.ShloMosaic.StableHlo

variable {F : FTy → Type} [FloatOps F]

local notation "𝕄" => MT nD τ sig (HIx 1) (Elt F) ℕ UU ℕ

set_option maxRecDepth 8192 in
/-- What `v0` holds: the items' table, turned. -/
theorem v0_eq (V : Valuation τ sig (Elt F)) : after ops1 V (R main_v0) = (transpose S64x1000000 [1, 0] (V (R main_arg5)) transposes_S1000000x64_S64x1000000_1_0) := by
  after_results_simp
  try simp only [TRef.ofBuf, TRef.toBuf, cast_cast, cast_eq]
  all_goals rfl

set_option maxRecDepth 8192 in
/-- What `v1` holds: the users' table, turned. -/
theorem v1_eq (V : Valuation τ sig (Elt F)) : after ops1 V (R main_v1) = (transpose S64x100000 [1, 0] (V (R main_arg4)) transposes_S100000x64_S64x100000_1_0) := by
  after_results_simp
  try simp only [TRef.ofBuf, TRef.toBuf, cast_cast, cast_eq]
  all_goals rfl

set_option maxRecDepth 8192 in
/-- What `v7` holds: the identity matrix. -/
theorem v7_eq (V : Valuation τ sig (Elt F)) : after ops1 V (R main_v7) = (uitofp .f32 (cmpi .eq (addi (iotaInDim S64x64 32 0) (broadcastInDim S64x64 ![] bcast_S_S64x64 (constantI S_ 32 0#32))) (iotaInDim S64x64 32 1))) := by
  after_results_simp
  try simp only [TRef.ofBuf, TRef.toBuf, cast_cast, cast_eq]
  all_goals rfl

set_option maxRecDepth 8192 in
/-- What `v18` holds: the users' numbers as a row. -/
theorem v18_eq (V : Valuation τ sig (Elt F)) : after ops3 V (R main_v18) = (shapeCast S1x16 (V (R main_arg0)) shapeCasts_S16_S1x16) := by
  after_results_simp
  try simp only [TRef.ofBuf, TRef.toBuf, cast_cast, cast_eq]
  all_goals rfl

set_option maxRecDepth 8192 in
/-- What `v20` holds: the ratings as a row. -/
theorem v20_eq (V : Valuation τ sig (Elt F)) : after ops4 V (R main_v20) = (shapeCast S1x32768 (V (R main_arg2)) shapeCasts_S32768_S1x32768) := by
  after_results_simp
  try simp only [TRef.ofBuf, TRef.toBuf, cast_cast, cast_eq]
  all_goals rfl

set_option maxRecDepth 8192 in
/-- What `v21` holds: the half each item lies in, as a row. -/
theorem v21_eq (V : Valuation τ sig (Elt F)) : after ops4 V (R main_v21) = (shapeCast S1x32768 (V (R main_v15)) shapeCasts_S32768_S1x32768) := by
  after_results_simp
  try simp only [TRef.ofBuf, TRef.toBuf, cast_cast, cast_eq]
  all_goals rfl

set_option maxRecDepth 8192 in
/-- What `v23` holds: the segments' beginnings as a column. -/
theorem v23_eq (V : Valuation τ sig (Elt F)) : after ops4 V (R main_v23) = (shapeCast S16x1 (extractStridedSlice S16 ![0] (V (R main_arg3)) slices_S17_S16_0) shapeCasts_S16_S16x1) := by
  after_results_simp
  try simp only [TRef.ofBuf, TRef.toBuf, cast_cast, cast_eq]
  all_goals rfl

set_option maxRecDepth 8192 in
/-- What `v25` holds: the segments' ends as a column. -/
theorem v25_eq (V : Valuation τ sig (Elt F)) : after ops4 V (R main_v25) = (shapeCast S16x1 (extractStridedSlice S16 ![1] (V (R main_arg3)) slices_S17_S16_1) shapeCasts_S16_S16x1) := by
  after_results_simp
  try simp only [TRef.ofBuf, TRef.toBuf, cast_cast, cast_eq]
  all_goals rfl

set_option maxRecDepth 8192 in
/-- What `v26` holds: the ratings' table with three rows of zeros below. -/
theorem v26_eq (V : Valuation τ sig (Elt F)) : after ops4 V (R main_v26) = (pad S8x64 ![0, 0] ![3, 0] ![0, 0] (V (R main_arg6)) (sitofp .f32 (constantI S_ 32 0#32) : S_.Idx → Elt F .f32) pads_S5x64_S8x64_030_000 h_S_) := by
  after_results_simp
  try simp only [TRef.ofBuf, TRef.toBuf, cast_cast, cast_eq]
  all_goals rfl

set_option maxRecDepth 8192 in
/-- What `v27` holds: the left half of the encoder's first weights. -/
theorem v27_eq (V : Valuation τ sig (Elt F)) : after ops4 V (R main_v27) = (extractStridedSlice S64x64 ![0, 0] (V (R main_arg7)) slices_S64x128_S64x64_0_0) := by
  after_results_simp
  try simp only [TRef.ofBuf, TRef.toBuf, cast_cast, cast_eq]
  all_goals rfl

set_option maxRecDepth 8192 in
/-- What `v28` holds: their right half. -/
theorem v28_eq (V : Valuation τ sig (Elt F)) : after ops4 V (R main_v28) = (extractStridedSlice S64x64 ![0, 64] (V (R main_arg7)) slices_S64x128_S64x64_0_64) := by
  after_results_simp
  try simp only [TRef.ofBuf, TRef.toBuf, cast_cast, cast_eq]
  all_goals rfl

set_option maxRecDepth 8192 in
/-- What `v29` holds: the left half of the scorer's first weights. -/
theorem v29_eq (V : Valuation τ sig (Elt F)) : after ops4 V (R main_v29) = (extractStridedSlice S64x64 ![0, 0] (V (R main_arg11)) slices_S64x128_S64x64_0_0) := by
  after_results_simp
  try simp only [TRef.ofBuf, TRef.toBuf, cast_cast, cast_eq]
  all_goals rfl

set_option maxRecDepth 8192 in
/-- What `v30` holds: their right half. -/
theorem v30_eq (V : Valuation τ sig (Elt F)) : after ops4 V (R main_v30) = (extractStridedSlice S64x64 ![0, 64] (V (R main_arg11)) slices_S64x128_S64x64_0_64) := by
  after_results_simp
  try simp only [TRef.ofBuf, TRef.toBuf, cast_cast, cast_eq]
  all_goals rfl

set_option maxRecDepth 8192 in
/-- What `v31` holds: the encoder's first bias as a column. -/
theorem v31_eq (V : Valuation τ sig (Elt F)) : after ops4 V (R main_v31) = (shapeCast S64x1 (V (R main_arg8)) shapeCasts_S64_S64x1) := by
  after_results_simp
  try simp only [TRef.ofBuf, TRef.toBuf, cast_cast, cast_eq]
  all_goals rfl

set_option maxRecDepth 8192 in
/-- What `v32` holds: the encoder's second bias as a column. -/
theorem v32_eq (V : Valuation τ sig (Elt F)) : after ops4 V (R main_v32) = (shapeCast S64x1 (V (R main_arg10)) shapeCasts_S64_S64x1) := by
  after_results_simp
  try simp only [TRef.ofBuf, TRef.toBuf, cast_cast, cast_eq]
  all_goals rfl

set_option maxRecDepth 8192 in
/-- What `v33` holds: the scorer's first bias as a column. -/
theorem v33_eq (V : Valuation τ sig (Elt F)) : after ops4 V (R main_v33) = (shapeCast S64x1 (V (R main_arg12)) shapeCasts_S64_S64x1) := by
  after_results_simp
  try simp only [TRef.ofBuf, TRef.toBuf, cast_cast, cast_eq]
  all_goals rfl

set_option maxRecDepth 8192 in
/-- What `v34` holds: the scorer's second bias as a column. -/
theorem v34_eq (V : Valuation τ sig (Elt F)) : after ops4 V (R main_v34) = (shapeCast S64x1 (V (R main_arg14)) shapeCasts_S64_S64x1) := by
  after_results_simp
  try simp only [TRef.ofBuf, TRef.toBuf, cast_cast, cast_eq]
  all_goals rfl

set_option maxRecDepth 8192 in
/-- What `v35` holds: the scorer's last bias as a one-by-one array. -/
theorem v35_eq (V : Valuation τ sig (Elt F)) : after ops4 V (R main_v35) = (shapeCast S1x1 (V (R main_arg16)) shapeCasts_S1_S1x1) := by
  after_results_simp
  try simp only [TRef.ofBuf, TRef.toBuf, cast_cast, cast_eq]
  all_goals rfl

end Cert.Proof

end
-- ==== Proof.HostIdeal.lean ====
/-
  The host's rearrangements read at an index, and the two numbers of an item: its packed row and its half of that row.
-/
module

public import proofs.«01_k».proof.Proof.HostValues
public import proofs.«01_k».proof.Proof.Online
public import Idealize.ShloMosaic.Lib.Pointwise
public import Idealize.ShloMosaic.Lib.Routing.Words

@[expose] public section

noncomputable section

namespace Cert.Proof.HostIdeal

open Cert.KernelIdeal Cert.KernelIdeal.Gen
open Idealize.ShloMosaic
open Cert.Proof.Online

set_option maxRecDepth 16384

/-- The identity matrix as the host builds it. -/
theorem eye (k j : Fin 64) : (uitofp (F := Ideal) .f32 (cmpi .eq (addi (iotaInDim S64x64 32 0) (broadcastInDim S64x64 ![] bcast_S_S64x64 (constantI S_ 32 0#32))) (iotaInDim S64x64 32 1))) (ix2 k j)
    = if k = j then (1 : EReal) else 0 := by
  pointwise
  have hw : IntOp.addi (BitVec.ofNat 32 k.val) 0#32 = BitVec.ofNat 32 k.val := BitVec.add_zero _
  have he : BitVec.ofNat 32 k.val = BitVec.ofNat 32 j.val ↔ k = j := by
    rw [← BitVec.toNat_inj, Fin.ext_iff, BitVec.toNat_ofNat, BitVec.toNat_ofNat]
    have := k.isLt
    have := j.isLt
    omega
  rw [hw]
  show ((((IntOp.cmpi .eq (BitVec.ofNat 32 k.val) (BitVec.ofNat 32 j.val)).toNat : ℝ)) : EReal) = _
  by_cases h : k = j
  · rw [if_pos h, (eq_bit _ _).2 (he.2 h)]; simp
  · rw [if_neg h, show IntOp.cmpi .eq (BitVec.ofNat 32 k.val) (BitVec.ofNat 32 j.val) = 0#1 by
      rcases (by generalize IntOp.cmpi .eq (BitVec.ofNat 32 k.val) (BitVec.ofNat 32 j.val) = b; revert b; decide :
        IntOp.cmpi .eq (BitVec.ofNat 32 k.val) (BitVec.ofNat 32 j.val) = 0#1 ∨ IntOp.cmpi .eq (BitVec.ofNat 32 k.val) (BitVec.ofNat 32 j.val) = 1#1) with e | e
      · exact e
      · exact absurd (he.1 ((eq_bit _ _).1 e)) h]
    simp

/-- The items' table turned, at an index. -/
theorem turned0 (x : S1000000x64.Idx → EReal) (k : Fin 64) (n : Fin 1000000) : transpose S64x1000000 [1, 0] x transposes_S1000000x64_S64x1000000_1_0 (ix2 k n) = x (ix2 n k) := by pointwise

/-- The users' table turned, at an index. -/
theorem turned1 (x : S100000x64.Idx → EReal) (k : Fin 64) (n : Fin 100000) : transpose S64x100000 [1, 0] x transposes_S100000x64_S64x100000_1_0 (ix2 k n) = x (ix2 n k) := by pointwise

/-- Sixteen words as a row. -/
theorem row16 {α : Type} (x : S16.Idx → α) (b : Fin 16) : shapeCast S1x16 x shapeCasts_S16_S1x16 (ix2 0 b) = x (ix1 b) := by pointwise

/-- The tokens' words as a row. -/
theorem row32768 {α : Type} (x : S32768.Idx → α) (b : Fin 32768) : shapeCast S1x32768 x shapeCasts_S32768_S1x32768 (ix2 0 b) = x (ix1 b) := by pointwise

/-- Where each segment begins, as a column. -/
theorem lows {α : Type} (x : S17.Idx → α) (b : Fin 16) : shapeCast S16x1 (extractStridedSlice S16 ![0] x slices_S17_S16_0) shapeCasts_S16_S16x1 (ix2 b 0) = x (ix1 b.castSucc) := by
  pointwise
  rfl

/-- Where each segment ends, as a column. -/
theorem highs {α : Type} (x : S17.Idx → α) (b : Fin 16) : shapeCast S16x1 (extractStridedSlice S16 ![1] x slices_S17_S16_1) shapeCasts_S16_S16x1 (ix2 b 0) = x (ix1 b.succ) := by
  pointwise
  exact congrArg x (congrArg ix1 (Fin.ext (Nat.add_comm _ _)))

/-- A bias as a column. -/
theorem col64 {α : Type} (x : S64.Idx → α) (b : Fin 64) : shapeCast S64x1 x shapeCasts_S64_S64x1 (ix2 b 0) = x (ix1 b) := by pointwise

/-- The last bias as a one-by-one array. -/
theorem one1 {α : Type} (x : S1.Idx → α) : shapeCast S1x1 x shapeCasts_S1_S1x1 (ix2 0 0) = x (ix1 0) := by pointwise

/-- The left half of a weight matrix. -/
theorem left64 {α : Type} (x : S64x128.Idx → α) (j k : Fin 64) : extractStridedSlice S64x64 ![0, 0] x slices_S64x128_S64x64_0_0 (ix2 j k) = x (ix2 j ⟨k.val, by omega⟩) := by pointwise

/-- The right half of a weight matrix. -/
theorem right64 {α : Type} (x : S64x128.Idx → α) (j k : Fin 64) : extractStridedSlice S64x64 ![0, 64] x slices_S64x128_S64x64_0_64 (ix2 j k) = x (ix2 j ⟨64 + k.val, by omega⟩) := by pointwise

/-- The rating table with three rows of zeros below. -/
theorem padded (x : S5x64.Idx → EReal) (q : Fin 8) (k : Fin 64) :
    pad S8x64 ![0, 0] ![3, 0] ![0, 0] x (sitofp (F := Ideal) .f32 (constantI S_ 32 0#32)) pads_S5x64_S8x64_030_000 h_S_ (ix2 q k)
      = if h : q.val < 5 then x (ix2 ⟨q.val, h⟩ k) else 0 := by
  pointwise
  have h0 : (FloatOps.sitofp FTy.f32 0#32 : Ideal .f32) = (0 : EReal) := by
    show (((0#32 : BitVec 32).toInt : ℝ) : EReal) = 0
    simp
  rw [h0]

/-- The packed row of an item. -/
theorem jrow_val (x : S32768.Idx → BitVec 32) (t : Fin 32768) (h : (x (ix1 t)).toNat < 1000000) :
    (jrow x (ix1 t)).toNat = (x (ix1 t)).toNat / 2048 * 1024 + (x (ix1 t)).toNat % 1024 := by
  have hx : x (ValueIdx.ix1 t) = BitVec.ofNat 32 (x (ix1 t)).toNat := BitVec.eq_of_toNat_eq (by rw [BitVec.toNat_ofNat, Nat.mod_eq_of_lt (x _).isLt]; rfl)
  have hd : fdiv x 2048#32 (ValueIdx.ix1 t) = BitVec.ofNat 32 ((x (ix1 t)).toNat / 2048) :=
    Routing.pyDiv_ap bcast_S_S32768 x (constantI S_ 32 2048#32) (ValueIdx.ix1 t) hx rfl (by omega) (by decide) (by decide)
  have hr : frem x 1024#32 (ValueIdx.ix1 t) = BitVec.ofNat 32 ((x (ix1 t)).toNat % 1024) :=
    Routing.pyRem_ap bcast_S_S32768 x (constantI S_ 32 1024#32) (ValueIdx.ix1 t) hx rfl (by omega) (by decide) (by decide)
  show (fdiv x 2048#32 (ValueIdx.ix1 t) * 1024#32 + frem x 1024#32 (ValueIdx.ix1 t)).toNat = _
  rw [hd, hr]
  simp
  omega

/-- The half of the packed row an item lies in. -/
theorem half_val (x : S32768.Idx → BitVec 32) (t : Fin 32768) (h : (x (ix1 t)).toNat < 1000000) :
    half x (ix1 t) = BitVec.ofNat 32 ((x (ix1 t)).toNat / 1024 % 2) := by
  have hx : x (ValueIdx.ix1 t) = BitVec.ofNat 32 (x (ix1 t)).toNat := BitVec.eq_of_toNat_eq (by rw [BitVec.toNat_ofNat, Nat.mod_eq_of_lt (x _).isLt]; rfl)
  have hd : fdiv x 1024#32 (ValueIdx.ix1 t) = BitVec.ofNat 32 ((x (ix1 t)).toNat / 1024) :=
    Routing.pyDiv_ap bcast_S_S32768 x (constantI S_ 32 1024#32) (ValueIdx.ix1 t) hx rfl (by omega) (by decide) (by decide)
  exact Routing.pyRem_ap bcast_S_S32768 (fdiv x 1024#32) (constantI S_ 32 2#32) (ValueIdx.ix1 t) hd rfl (by omega) (by decide) (by decide)

/-- The row numbers as the SparseCore call is given them. -/
theorem dealt {α : Type} (x : S32768.Idx → α) (a : Fin 32) (b : Fin 8) (c : Fin 128) :
    shapeCast S32x8x128 x shapeCasts_S32768_S32x8x128 (ix3 a b c) = x (ix1 ⟨1024 * a.val + 128 * b.val + c.val, by omega⟩) := by
  pointwise
  exact congrArg x (congrArg ix1 (Fin.ext (by show a.val * 1024 + b.val * 128 + c.val = 1024 * a.val + 128 * b.val + c.val; omega)))

end Cert.Proof.HostIdeal

end
-- ==== Proof.KernelValue.lean ====
/-
  The kernel's result from its arguments: what each call finds, call after call, down to the pooled rows.
-/
module

public import proofs.«01_k».proof.Proof.Main
public import proofs.«01_k».proof.Proof.Lift
public import proofs.«01_k».proof.Proof.RepackValue
public import proofs.«01_k».proof.Proof.SelectValue
public import proofs.«01_k».proof.Proof.FusedResult
public import proofs.«01_k».proof.Proof.HostIdeal

@[expose] public section

noncomputable section

namespace Cert.Proof.KernelValue

open Cert.KernelIdeal Cert.KernelIdeal.Gen
open Idealize.ShloMosaic
open Idealize.ShloMosaic.TcCoe
open Idealize.ShloMosaic.Pipeline (RDat arrRef arrRefs ucRefs)
open Idealize.ShloMosaic.StableHlo
open Cert.Proof
open Cert.Proof.Gather (gath)
open Cert.Proof.Model Cert.Proof.Lift Cert.Proof.Range Cert.Proof.HostIdeal

set_option maxRecDepth 16384

section Rows
variable {F : FTy → Type} [FloatOps F] (m : (ℓ : Loc nD τ sig) → Buf (Elt F) ℓ)

/-- A word of the dealt row numbers is a row of the packed table. -/
theorem rows_lt (x : S32768.Idx → BitVec 32) (hx : ∀ i, (x i).toNat < 1000000) (a : Fin 32) (b : Fin 8) (c : Fin 128) :
    (shapeCast S32x8x128 (jrow x) shapeCasts_S32768_S32x8x128 (ix3 a b c)).toNat < 507904 := by
  rw [dealt, jrow_val x _ (hx _)]
  have := hx (ix1 ⟨1024 * a.val + 128 * b.val + c.val, by omega⟩)
  omega

/-- The row numbers the SparseCore call is given are rows of the packed table. -/
theorem J_lt (d : Dev nD) (hx : ∀ i : S32768.Idx, ((m (d, R main_arg1) : S32768.Idx → BitVec 32) i).toNat < 1000000) (x : S32x8x128.Idx) : (J m d x).toNat < 507904 := by
  obtain ⟨a, b, c, rfl⟩ : ∃ (a : Fin 32) (b : Fin 8) (c : Fin 128), x = ix3 a b c := ⟨x 0, x 1, x 2, ValueIdx.eq_ix3 x⟩
  exact rows_lt _ hx a b c

/-- An argument is as at the launch before the second call's host stretch. -/
theorem arg2 (d : Dev nD) (V2 : Valuation τ sig (Elt F)) (h2 : Left0 m d V2) (b : Ref sig .tc) (hb : b ∈ argList) : V2 (R b) = m (d, R b) :=
  (h2.2 (R b) (not_arr spec0 b (arg_arr0 b hb))).trans (keep1 (V0 m d) b (arg_wrote b hb).1)

/-- A buffer neither the gather nor the two host stretches around it write. -/
theorem across (V2 : Valuation τ sig (Elt F)) (b : Ref sig .tc) (h3 : b ∉ wrote3) (hg : b ≠ main_v17) : V5 V2 (R b) = after ops2 V2 (R b) :=
  (keep3 _ b h3).trans (Function.update_of_ne (devRef_ne_of_ne hg) _ _)

/-- An argument is as at the launch when the second call begins. -/
theorem arg5 (d : Dev nD) (V2 : Valuation τ sig (Elt F)) (h2 : Left0 m d V2) (b : Ref sig .tc) (hb : b ∈ argList) : V5 V2 (R b) = m (d, R b) := by
  obtain ⟨w1, w2, w3, w4, wg⟩ := arg_wrote b hb
  exact (across V2 b w3 wg).trans ((keep2 V2 b w2).trans (arg2 m d V2 h2 b hb))

/-- The gathered rows are still there when the second call begins. -/
theorem rows5 (V2 : Valuation τ sig (Elt F)) : V5 V2 (R main_v17) = (gath (after ops2 V2 (R main_v8)) (after ops2 V2 (R main_v16)) : S32768x128.Idx → Elt F .f32) :=
  (keep3 _ main_v17 (by decide)).trans (Function.update_self _ _ _)

end Rows

/-- The tokens' halves as the third call's row. -/
def half_row (x : S32768.Idx → BitVec 32) : S1x32768.Idx → BitVec 32 := shapeCast S1x32768 (half x) shapeCasts_S32768_S1x32768

variable (m : (ℓ : Loc nD τ sig) → Buf (Elt Ideal) ℓ) (d : Dev nD)

/-- The packed table's rows after the first call. -/
theorem packed (V2 : Valuation τ sig (Elt Ideal)) (h2 : Left0 m d V2) (x5 : S1000000x64.Idx → EReal) (e5 : m (d, R main_arg5) = x5)
    (G : S507904x128.Idx → EReal) (hG : V2 (R main_v8) = G) (n : ℕ) (hn : n < 1000000) (k : Fin 64) :
    G (ix2 ⟨n / 2048 * 1024 + n % 1024, by omega⟩ ⟨64 * (n / 1024 % 2) + k.val, by omega⟩) = x5 (ix2 ⟨n, hn⟩ k) := by
  subst hG e5
  have hA := h2.1 2
  exact (RepackValue.table (V1 m d) d _ (v7_eq (V0 m d)) eye _ (v0_eq (V0 m d)) _ hA n hn k).trans (turned0 _ k ⟨n, hn⟩)

/-- A gathered row's words: the item's row of the table, in its half. -/
theorem gathered (V2 : Valuation τ sig (Elt Ideal)) (h2 : Left0 m d V2) (x1 : S32768.Idx → BitVec 32) (e1 : m (d, R main_arg1) = x1)
    (x5 : S1000000x64.Idx → EReal) (e5 : m (d, R main_arg5) = x5) (h1 : ∀ i, (x1 i).toNat < 1000000)
    (P : S32768x128.Idx → EReal) (hP : V5 V2 (R main_v17) = P) (t : Fin 32768) (k : Fin 64) :
    P (ix2 t ⟨64 * ((x1 (ix1 t)).toNat / 1024 % 2) + k.val, by omega⟩) = x5 (ix2 ⟨(x1 (ix1 t)).toNat, h1 _⟩ k) := by
  rw [rows5] at hP
  subst hP
  have k8 : after ops2 V2 (R main_v8) = V2 (R main_v8) := keep2 V2 main_v8 (by decide)
  have k16 := v16_eq V2
  rw [arg2 m d V2 h2 main_arg1 (by decide), e1] at k16
  rw [k8, k16]
  refine Eq.trans ?_ (packed m d V2 h2 x5 e5 _ rfl (x1 (ix1 t)).toNat (h1 _) k)
  unfold gath
  refine congrArg (V2 (R main_v8)) (congrArg (fun r => ix2 r _) (Fin.ext ?_))
  show (shapeCast S32x8x128 (jrow x1) shapeCasts_S32768_S32x8x128 (ix3 ⟨t.val / 1024, _⟩ ⟨t.val / 128 % 8, _⟩ ⟨t.val % 128, _⟩)).toNat % 507904 = (x1 (ix1 t)).toNat / 2048 * 1024 + (x1 (ix1 t)).toNat % 1024
  rw [dealt]
  have ht : (ix1 ⟨1024 * (t.val / 1024) + 128 * (t.val / 128 % 8) + t.val % 128, by have := t.isLt; omega⟩ : S32768.Idx) = ix1 t :=
    congrArg ix1 (Fin.ext (by show 1024 * (t.val / 1024) + 128 * (t.val / 128 % 8) + t.val % 128 = t.val; omega))
  refine Eq.trans (congrArg (fun i => (jrow x1 i).toNat % 507904) ht) ?_
  show (jrow x1 (ix1 t)).toNat % 507904 = _
  rw [jrow_val x1 t (h1 _)]
  have := h1 (ix1 t)
  exact Nat.mod_eq_of_lt (by omega)

/-- What the third call finds, from the arguments. -/
theorem reads (V2 V6 : Valuation τ sig (Elt Ideal)) (h2 : Left0 m d V2) (h6 : Left (F := Ideal) 1 (Select.rdat (V5 V2)) d (V5 V2) V6)
     {x0 : S16.Idx → BitVec 32} {x1 : S32768.Idx → BitVec 32} {x2 : S32768.Idx → BitVec 32} {x3 : S17.Idx → BitVec 32} {x4 : S100000x64.Idx → EReal} {x5 : S1000000x64.Idx → EReal} {x6 : S5x64.Idx → EReal} {x7 : S64x128.Idx → EReal} {x8 : S64.Idx → EReal} {x9 : S64x64.Idx → EReal} {x10 : S64.Idx → EReal} {x11 : S64x128.Idx → EReal} {x12 : S64.Idx → EReal} {x13 : S64x64.Idx → EReal} {x14 : S64.Idx → EReal} {x15 : S1x64.Idx → EReal} {x16 : S1.Idx → EReal}
    (e0 : m (d, R main_arg0) = x0)
    (e1 : m (d, R main_arg1) = x1)
    (e2 : m (d, R main_arg2) = x2)
    (e3 : m (d, R main_arg3) = x3)
    (e4 : m (d, R main_arg4) = x4)
    (e5 : m (d, R main_arg5) = x5)
    (e6 : m (d, R main_arg6) = x6)
    (e7 : m (d, R main_arg7) = x7)
    (e8 : m (d, R main_arg8) = x8)
    (e9 : m (d, R main_arg9) = x9)
    (e10 : m (d, R main_arg10) = x10)
    (e11 : m (d, R main_arg11) = x11)
    (e12 : m (d, R main_arg12) = x12)
    (e13 : m (d, R main_arg13) = x13)
    (e14 : m (d, R main_arg14) = x14)
    (e15 : m (d, R main_arg15) = x15)
    (e16 : m (d, R main_arg16) = x16)
    {D : Data} (H : Of D x0 x1 x2 x3 x4 x5 x6 x7 x8 x9 x10 x11 x12 x13 x14 x15 x16) (hI : Ints x0 x1 x2 x3) (f6 : Fin' x6) :
    FusedResult.Reads (V7 V6) D := by
  have a6 : ∀ b ∈ argList, V6 (R b) = m (d, R b) := fun b hb => (h6.2 (R b) (not_arr spec2 b (arg_arr2 b hb))).trans (arg5 m d V2 h2 b hb)
  have c17 : V7 V6 (R main_v17) = V5 V2 (R main_v17) := (keep4 V6 main_v17 (by decide)).trans (h6.2 (R main_v17) (not_arr spec2 main_v17 (by decide)))
  have c15 : V6 (R main_v15) = half x1 := by
    refine (h6.2 (R main_v15) (not_arr spec2 main_v15 (by decide))).trans ((across V2 main_v15 (by decide) (by decide)).trans ((v15_eq V2).trans ?_))
    rw [arg2 m d V2 h2 main_arg1 (by decide), e1]
  have k2 : (V6 (R main_arg2) : S32768.Idx → BitVec 32) = x2 := (a6 main_arg2 (by decide)).trans e2
  have k3 : (V6 (R main_arg3) : S17.Idx → BitVec 32) = x3 := (a6 main_arg3 (by decide)).trans e3
  have k6 : (V6 (R main_arg6) : S5x64.Idx → EReal) = x6 := (a6 main_arg6 (by decide)).trans e6
  have k7 : (V6 (R main_arg7) : S64x128.Idx → EReal) = x7 := (a6 main_arg7 (by decide)).trans e7
  have k8 : (V6 (R main_arg8) : S64.Idx → EReal) = x8 := (a6 main_arg8 (by decide)).trans e8
  have k9 : (V6 (R main_arg9) : S64x64.Idx → EReal) = x9 := (a6 main_arg9 (by decide)).trans e9
  have k10 : (V6 (R main_arg10) : S64.Idx → EReal) = x10 := (a6 main_arg10 (by decide)).trans e10
  have k11 : (V6 (R main_arg11) : S64x128.Idx → EReal) = x11 := (a6 main_arg11 (by decide)).trans e11
  have k12 : (V6 (R main_arg12) : S64.Idx → EReal) = x12 := (a6 main_arg12 (by decide)).trans e12
  have k13 : (V6 (R main_arg13) : S64x64.Idx → EReal) = x13 := (a6 main_arg13 (by decide)).trans e13
  have k14 : (V6 (R main_arg14) : S64.Idx → EReal) = x14 := (a6 main_arg14 (by decide)).trans e14
  have k15 : (V6 (R main_arg15) : S1x64.Idx → EReal) = x15 := (a6 main_arg15 (by decide)).trans e15
  have k16 : (V6 (R main_arg16) : S1.Idx → EReal) = x16 := (a6 main_arg16 (by decide)).trans e16
  constructor
  · refine ⟨_, half_row x1, c17, (v21_eq V6).trans (by rw [c15]; rfl), fun t => ?_⟩
    have hg := fun k => (gathered m d V2 h2 x1 e1 x5 e5 hI.items _ rfl t k).trans (H.p t k (hI.items _))
    have hh : half_row x1 (ix2 0 t) = BitVec.ofNat 32 ((x1 (ix1 t)).toNat / 1024 % 2) := (row32768 _ t).trans (half_val x1 t (hI.items _))
    have hb : (x1 (ix1 t)).toNat / 1024 % 2 = 0 ∨ (x1 (ix1 t)).toNat / 1024 % 2 = 1 := by omega
    refine ⟨fun hz k => ?_, fun hz k => ?_⟩
    · rcases hb with hb | hb
      · refine Eq.trans ?_ (hg k)
        exact congrArg (V5 V2 (R main_v17)) (congrArg (ix2 t) (Fin.ext (by show k.val = 64 * ((x1 (ix1 t)).toNat / 1024 % 2) + k.val; omega)))
      · rw [hh, hb] at hz; exact absurd hz (by decide)
    · rcases hb with hb | hb
      · rw [hh, hb] at hz; exact absurd rfl hz
      · refine Eq.trans ?_ (hg k)
        exact congrArg (V5 V2 (R main_v17)) (congrArg (ix2 t) (Fin.ext (by show 64 + k.val = 64 * ((x1 (ix1 t)).toNat / 1024 % 2) + k.val; omega)))
  · refine ⟨_, _, v20_eq V6, v26_eq V6, fun t => ⟨(x2 (ix1 t)).toNat, by have := hI.ratings (ix1 t); omega⟩, fun q k => if h : q.val < 5 then (x6 (ix2 ⟨q.val, h⟩ k)).toReal else 0, fun t => ?_, fun q k => ?_, fun t k => ?_⟩
    · refine (row32768 _ t).trans ((congrFun k2 (ix1 t)).trans ?_)
      exact BitVec.eq_of_toNat_eq (by rw [BitVec.toNat_ofNat, Nat.mod_eq_of_lt (x2 _).isLt])
    · refine (padded _ q k).trans ?_
      show _ = (((if h : q.val < 5 then (x6 (ix2 ⟨q.val, h⟩ k)).toReal else 0 : ℝ)) : EReal)
      by_cases h : q.val < 5
      · rw [dif_pos h, dif_pos h]; exact (congrFun k6 _).trans (real (f6 _))
      · rw [dif_neg h, dif_neg h]; exact EReal.coe_zero.symm
    · have h := hI.ratings (ix1 t)
      show (if h : (x2 (ix1 t)).toNat < 5 then (x6 (ix2 ⟨(x2 (ix1 t)).toNat, h⟩ k)).toReal else 0) = _
      rw [dif_pos h, H.r t k h, EReal.toReal_coe]
  · refine ⟨_, _, v23_eq V6, v25_eq V6, fun b => ?_⟩
    have hl := (lows (V6 (R main_arg3) : S17.Idx → BitVec 32) b).trans (congrFun k3 (ix1 b.castSucc))
    have hh := (highs (V6 (R main_arg3) : S17.Idx → BitVec 32) b).trans (congrFun k3 (ix1 b.succ))
    rw [hl, hh]
    exact ⟨H.top _, H.top _, fun t => H.seg t b⟩
  · refine ⟨_, keep4 V6 main_v19 (by decide), fun k b => ?_⟩
    have hv1 : V5 V2 (R main_v1) = transpose S64x100000 [1, 0] x4 transposes_S100000x64_S64x100000_1_0 := by
      refine (across V2 main_v1 (by decide) (by decide)).trans ((keep2 V2 main_v1 (by decide)).trans ((h2.2 (R main_v1) (not_arr spec0 main_v1 (by decide))).trans ((v1_eq (V0 m d)).trans ?_)))
      rw [← e4]
    have hv18 : V5 V2 (R main_v18) = shapeCast S1x16 x0 shapeCasts_S16_S1x16 := by
      refine (v18_eq (putRows (after ops2 V2))).trans ?_
      have := arg5 m d V2 h2 main_arg0 (by decide)
      have e : putRows (after ops2 V2) (R main_arg0) = m (d, R main_arg0) :=
        (Function.update_of_ne (devRef_ne_of_ne (by decide)) _ _).trans ((keep2 V2 main_arg0 (by decide)).trans (arg2 m d V2 h2 main_arg0 (by decide)))
      rw [e, e0]
    have hn : ∀ b : Fin 16, (shapeCast S1x16 x0 shapeCasts_S16_S1x16 (ix2 0 b)).toNat < 100000 := fun b => by rw [row16]; exact hI.nodes _
    refine (SelectValue.columns (V5 V2) d _ hv1 _ hv18 hn _ (h6.1 2) k b).trans ((turned1 _ k _).trans ?_)
    refine Eq.trans ?_ (H.u b k (hI.nodes _))
    exact congrArg (fun r => x4 (ix2 r k)) (Fin.ext (congrArg BitVec.toNat (row16 x0 b)))
  · exact ⟨_, v27_eq V6, fun j k => (left64 _ j k).trans ((congrFun k7 (ix2 j ⟨k.val, by omega⟩)).trans (H.w1p j k))⟩
  · exact ⟨_, v28_eq V6, fun j k => (right64 _ j k).trans ((congrFun k7 (ix2 j ⟨64 + k.val, by omega⟩)).trans (H.w1r j k))⟩
  · exact ⟨_, v31_eq V6, fun j => (col64 _ j).trans ((congrFun k8 (ix1 j)).trans (H.b1 j))⟩
  · exact ⟨x9, (keep4 V6 main_arg9 (by decide)).trans k9, fun j k => H.w2 j k⟩
  · exact ⟨_, v32_eq V6, fun j => (col64 _ j).trans ((congrFun k10 (ix1 j)).trans (H.b2 j))⟩
  · exact ⟨_, v29_eq V6, fun j k => (left64 _ j k).trans ((congrFun k11 (ix2 j ⟨k.val, by omega⟩)).trans (H.a1o j k))⟩
  · exact ⟨_, v30_eq V6, fun j k => (right64 _ j k).trans ((congrFun k11 (ix2 j ⟨64 + k.val, by omega⟩)).trans (H.a1u j k))⟩
  · exact ⟨_, v33_eq V6, fun j => (col64 _ j).trans ((congrFun k12 (ix1 j)).trans (H.a1b j))⟩
  · exact ⟨x13, (keep4 V6 main_arg13 (by decide)).trans k13, fun j k => H.a2 j k⟩
  · exact ⟨_, v34_eq V6, fun j => (col64 _ j).trans ((congrFun k14 (ix1 j)).trans (H.a2b j))⟩
  · exact ⟨x15, (keep4 V6 main_arg15 (by decide)).trans k15, fun k => H.a3 k⟩
  · exact ⟨_, v35_eq V6, (one1 _).trans ((congrFun k16 (ix1 0)).trans H.a3b)⟩

/-- The kernel's result is the pooled rows of the arguments' data. -/
theorem result_of (V8 : Valuation τ sig (Elt Ideal)) (hR : Rel m d V8)
     {x0 : S16.Idx → BitVec 32} {x1 : S32768.Idx → BitVec 32} {x2 : S32768.Idx → BitVec 32} {x3 : S17.Idx → BitVec 32} {x4 : S100000x64.Idx → EReal} {x5 : S1000000x64.Idx → EReal} {x6 : S5x64.Idx → EReal} {x7 : S64x128.Idx → EReal} {x8 : S64.Idx → EReal} {x9 : S64x64.Idx → EReal} {x10 : S64.Idx → EReal} {x11 : S64x128.Idx → EReal} {x12 : S64.Idx → EReal} {x13 : S64x64.Idx → EReal} {x14 : S64.Idx → EReal} {x15 : S1x64.Idx → EReal} {x16 : S1.Idx → EReal}
    (e0 : m (d, R main_arg0) = x0)
    (e1 : m (d, R main_arg1) = x1)
    (e2 : m (d, R main_arg2) = x2)
    (e3 : m (d, R main_arg3) = x3)
    (e4 : m (d, R main_arg4) = x4)
    (e5 : m (d, R main_arg5) = x5)
    (e6 : m (d, R main_arg6) = x6)
    (e7 : m (d, R main_arg7) = x7)
    (e8 : m (d, R main_arg8) = x8)
    (e9 : m (d, R main_arg9) = x9)
    (e10 : m (d, R main_arg10) = x10)
    (e11 : m (d, R main_arg11) = x11)
    (e12 : m (d, R main_arg12) = x12)
    (e13 : m (d, R main_arg13) = x13)
    (e14 : m (d, R main_arg14) = x14)
    (e15 : m (d, R main_arg15) = x15)
    (e16 : m (d, R main_arg16) = x16)
    {D : Data} (H : Of D x0 x1 x2 x3 x4 x5 x6 x7 x8 x9 x10 x11 x12 x13 x14 x15 x16) (hI : Ints x0 x1 x2 x3) (f6 : Fin' x6)
    (Y : S16x64.Idx → EReal) (hY : V8 (R main_v36) = Y) (b : Fin 16) (j : Fin 64) : Y (ix2 b j) = ((D.val b j : ℝ) : EReal) := by
  subst hY
  obtain ⟨V2, V6, h2, h6, h8⟩ := hR
  exact FusedResult.pooled d (reads m d V2 V6 h2 h6 e0 e1 e2 e3 e4 e5 e6 e7 e8 e9 e10 e11 e12 e13 e14 e15 e16 H hI f6) _ (h8.1 19) b j

end Cert.Proof.KernelValue

end
-- ==== Proof.Ref.lean ====
/-
  The reference's run, stage by stage.
-/
module

public import proofs.«01_k».proof.ReferenceIdeal
public import Idealize.ShloMosaic.Lib.StableHlo.Run
public import Idealize.ShloMosaic.Lib.Pipeline.Kit
public import Idealize.ShloMosaic.Lib.Pipeline.Frame
public import proofs.«01_k».proof.Proof.Gen.ReferenceIdeal

@[expose] public section

noncomputable section

namespace Cert.Proof.Ref

open Cert.ReferenceIdeal Cert.ReferenceIdeal.Gen
open Idealize.ShloMosaic Idealize.ShloMosaic.StableHlo
open Idealize.SL Idealize.SL.Sem

variable {F : FTy → Type} [FloatOps F]

/-- Stage 0. -/
abbrev s0 : List (HloOp τ sig (Elt F)) :=
  [ nullary main_v0 (iotaInDim S32768 32 0),
    unary main_arg3 main_v1 (broadcastInDim S1x17 ![1] bcast_S17_S1x17_1 : (⟨S17, .i32⟩ : BufTy).Contents (Elt F) → (⟨S1x17, .i32⟩ : BufTy).Contents (Elt F)),
    unary main_v0 main_v2 (broadcastInDim S32768x1 ![0] bcast_S32768_S32768x1_0 : (⟨S32768, .i32⟩ : BufTy).Contents (Elt F) → (⟨S32768x1, .i32⟩ : BufTy).Contents (Elt F)),
    unary main_v1 main_v3 (broadcastInDim S32768x17 ![0, 1] bcast_S1x17_S32768x17_0_1 : (⟨S1x17, .i32⟩ : BufTy).Contents (Elt F) → (⟨S32768x17, .i32⟩ : BufTy).Contents (Elt F)),
    unary main_v2 main_v4 (broadcastInDim S32768x17 ![0, 1] bcast_S32768x1_S32768x17_0_1 : (⟨S32768x1, .i32⟩ : BufTy).Contents (Elt F) → (⟨S32768x17, .i32⟩ : BufTy).Contents (Elt F)),
    binary main_v3 main_v4 main_v5 (cmpi .sle : (⟨S32768x17, .i32⟩ : BufTy).Contents (Elt F) → (⟨S32768x17, .i32⟩ : BufTy).Contents (Elt F) → (⟨S32768x17, .i1⟩ : BufTy).Contents (Elt F)),
    unary main_v5 main_v6 ((extui 32 · natLt_1_32) : (⟨S32768x17, .i1⟩ : BufTy).Contents (Elt F) → (⟨S32768x17, .i32⟩ : BufTy).Contents (Elt F)),
    nullary main_c (constantI S_ 32 0#32),
    binary main_v6 main_c main_v7 ((fun x v => Host.reduce IntOp.addi x v reducesTo_S32768x17_S32768_d1 h_S_) : (⟨S32768x17, .i32⟩ : BufTy).Contents (Elt F) → (⟨S_, .i32⟩ : BufTy).Contents (Elt F) → (⟨S32768, .i32⟩ : BufTy).Contents (Elt F)),
    nullary main_c_0 (constantI S_ 32 1#32),
    unary main_c_0 main_v8 (broadcastInDim S32768 ![] bcast_S_S32768 : (⟨S_, .i32⟩ : BufTy).Contents (Elt F) → (⟨S32768, .i32⟩ : BufTy).Contents (Elt F)),
    binary main_v7 main_v8 main_v9 (subi : (⟨S32768, .i32⟩ : BufTy).Contents (Elt F) → (⟨S32768, .i32⟩ : BufTy).Contents (Elt F) → (⟨S32768, .i32⟩ : BufTy).Contents (Elt F)) ]

/-- What stage 0 writes. -/
abbrev w0 : List (Ref sig .tc) := [main_v0, main_v1, main_v2, main_v3, main_v4, main_v5, main_v6, main_c, main_v7, main_c_0, main_v8, main_v9]

/-- The reference's operations of part 0 use the host's buffers. -/
theorem sub0 : (s0 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub .., binary_bufs_sub .., nullary_bufs_sub .., unary_bufs_sub .., binary_bufs_sub ..⟩

/-- The reference's operations of part 0 take no new buffer. -/
theorem fresh0 : (s0 : List (HloOp τ sig (Elt F))).Forall fun op => op.fresh = ∅ := forall_fresh_of_map rfl

/-- The reference's operations of part 0 keep every buffer they don't list. -/
theorem keep0 (V : Valuation τ sig (Elt F)) (b : Ref sig .tc) (hb : b ∉ w0) : after s0 V (Proc.devRef .tc b) = V (Proc.devRef .tc b) :=
  after_of_writes_sub s0 V (forall_writes_sub_of_map (W := w0) rfl) hb

/-- Stage 1. -/
abbrev s1 : List (HloOp τ sig (Elt F)) :=
  [ TRef.nullary main_call0.c (constantI S_ 32 0#32),
    TRef.unary main_call0.c main_call0.v0 (broadcastInDim S32768 ![] bcast_S_S32768),
    TRef.binary (.of main_arg1) main_call0.v0 main_call0.v1 (cmpi .slt),
    TRef.nullary main_call0.c_0 (constantI S_ 32 1000000#32),
    TRef.unary main_call0.c_0 main_call0.v2 (broadcastInDim S32768 ![] bcast_S_S32768),
    TRef.binary (.of main_arg1) main_call0.v2 main_call0.v3 addi,
    TRef.ternary main_call0.v1 main_call0.v3 (.of main_arg1) main_call0.call0.v0 select,
    TRef.unary main_call0.call0.v0 main_call0.v5 (broadcastInDim S32768x1 ![0] bcast_S32768_S32768x1_0),
    TRef.nullary main_call0.c_1 (constantI S1 32 999999#32),
    TRef.nullary main_call0.c_2 (constantI S_ 32 0#32),
    TRef.unary main_call0.c_2 main_call0.v6 (broadcastInDim S32768x1 ![] bcast_S_S32768x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S32768x1 ![0, 1] bcast_S1x1_S32768x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32768x1_S32768_d1 h_S_),
    TRef.binary (.of main_arg5) main_call0.v5 main_call0.v13 (fun x i => Host.gather gather_S1000000x64_S32768x1_S32768x64_1_0_n_n_0_1_164 x i),
    TRef.unary main_call0.v12 main_call0.v14 (broadcastInDim S32768x64 ![0] bcast_S32768_S32768x64_0),
    TRef.nullary main_call0.cst (constant S_ .f32 0x7FC00000#32),
    TRef.unary main_call0.cst main_call0.v15 (broadcastInDim S32768x64 ![] bcast_S_S32768x64),
    TRef.ternary main_call0.v14 main_call0.v13 main_call0.v15 main_call0.v16 select ]

/-- What stage 1 writes. -/
abbrev w1 : List (Ref sig .tc) := [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]

/-- The reference's operations of part 1 use the host's buffers. -/
theorem sub1 : (s1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The reference's operations of part 1 take no new buffer. -/
theorem fresh1 : (s1 : List (HloOp τ sig (Elt F))).Forall fun op => op.fresh = ∅ := forall_fresh_of_map rfl

/-- The reference's operations of part 1 keep every buffer they don't list. -/
theorem keep1 (V : Valuation τ sig (Elt F)) (b : Ref sig .tc) (hb : b ∉ w1) : after s1 V (Proc.devRef .tc b) = V (Proc.devRef .tc b) :=
  after_of_writes_sub s1 V (forall_writes_sub_of_map (W := w1) rfl) hb

/-- Stage 2. -/
abbrev s2 : List (HloOp τ sig (Elt F)) :=
  [ TRef.nullary main_call1.c (constantI S_ 32 0#32),
    TRef.unary main_call1.c main_call1.v0 (broadcastInDim S32768 ![] bcast_S_S32768),
    TRef.binary (.of main_arg2) main_call1.v0 main_call1.v1 (cmpi .slt),
    TRef.nullary main_call1.c_0 (constantI S_ 32 5#32),
    TRef.unary main_call1.c_0 main_call1.v2 (broadcastInDim S32768 ![] bcast_S_S32768),
    TRef.binary (.of main_arg2) main_call1.v2 main_call1.v3 addi,
    TRef.ternary main_call1.v1 main_call1.v3 (.of main_arg2) main_call1.call0.v0 select,
    TRef.unary main_call1.call0.v0 main_call1.v5 (broadcastInDim S32768x1 ![0] bcast_S32768_S32768x1_0),
    TRef.nullary main_call1.c_1 (constantI S1 32 4#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (.of main_arg6) main_call1.v5 main_call1.v13 (fun x i => Host.gather gather_S5x64_S32768x1_S32768x64_1_0_n_n_0_1_164 x i),
    TRef.unary main_call1.v12 main_call1.v14 (broadcastInDim S32768x64 ![0] bcast_S32768_S32768x64_0),
    TRef.nullary main_call1.cst (constant S_ .f32 0x7FC00000#32),
    TRef.unary main_call1.cst main_call1.v15 (broadcastInDim S32768x64 ![] bcast_S_S32768x64),
    TRef.ternary main_call1.v14 main_call1.v13 main_call1.v15 main_call1.v16 select ]

/-- What stage 2 writes. -/
abbrev w2 : List (Ref sig .tc) := [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]

/-- The reference's operations of part 2 use the host's buffers. -/
theorem sub2 : (s2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The reference's operations of part 2 take no new buffer. -/
theorem fresh2 : (s2 : List (HloOp τ sig (Elt F))).Forall fun op => op.fresh = ∅ := forall_fresh_of_map rfl

/-- The reference's operations of part 2 keep every buffer they don't list. -/
theorem keep2 (V : Valuation τ sig (Elt F)) (b : Ref sig .tc) (hb : b ∉ w2) : after s2 V (Proc.devRef .tc b) = V (Proc.devRef .tc b) :=
  after_of_writes_sub s2 V (forall_writes_sub_of_map (W := w2) rfl) hb

/-- Stage 3. -/
abbrev s3 : List (HloOp τ sig (Elt F)) :=
  [ binary main_v10 main_v11 main_v12 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F)),
    unary main_arg7 main_v13 ((transpose S128x64 [1, 0] · transposes_S64x128_S128x64_1_0) : (⟨S64x128, .f32⟩ : BufTy).Contents (Elt F) → (⟨S128x64, .f32⟩ : BufTy).Contents (Elt F)),
    binary main_v12 main_v13 main_v14 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg8 main_v15 (broadcastInDim S1x64 ![1] bcast_S64_S1x64_1 : (⟨S64, .f32⟩ : BufTy).Contents (Elt F) → (⟨S1x64, .f32⟩ : BufTy).Contents (Elt F)),
    unary main_v15 main_v16 (broadcastInDim S32768x64 ![0, 1] bcast_S1x64_S32768x64_0_1 : (⟨S1x64, .f32⟩ : BufTy).Contents (Elt F) → (⟨S32768x64, .f32⟩ : BufTy).Contents (Elt F)),
    binary main_v14 main_v16 main_v17 (addf : (⟨S32768x64, .f32⟩ : BufTy).Contents (Elt F) → (⟨S32768x64, .f32⟩ : BufTy).Contents (Elt F) → (⟨S32768x64, .f32⟩ : BufTy).Contents (Elt F)),
    TRef.nullary main_call2.cst (constant S_ .f32 0x00000000#32),
    TRef.unary main_call2.cst main_call2.v0 (broadcastInDim S32768x64 ![] bcast_S_S32768x64),
    TRef.binary (.of main_v17) main_call2.v0 main_call2.v1 maximumf ]

/-- What stage 3 writes. -/
abbrev w3 : List (Ref sig .tc) := [main_v12, main_v13, main_v14, main_v15, main_v16, main_v17, main_call2.cst.ref, main_call2.v0.ref, main_call2.v1.ref]

/-- The reference's operations of part 3 use the host's buffers. -/
theorem sub3 : (s3 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub ..⟩

/-- The reference's operations of part 3 take no new buffer. -/
theorem fresh3 : (s3 : List (HloOp τ sig (Elt F))).Forall fun op => op.fresh = ∅ := forall_fresh_of_map rfl

/-- The reference's operations of part 3 keep every buffer they don't list. -/
theorem keep3 (V : Valuation τ sig (Elt F)) (b : Ref sig .tc) (hb : b ∉ w3) : after s3 V (Proc.devRef .tc b) = V (Proc.devRef .tc b) :=
  after_of_writes_sub s3 V (forall_writes_sub_of_map (W := w3) rfl) hb

/-- Stage 4. -/
abbrev s4 : List (HloOp τ sig (Elt F)) :=
  [ unary main_arg9 main_v19 ((transpose S64x64 [1, 0] · transposes_S64x64_S64x64_1_0) : (⟨S64x64, .f32⟩ : BufTy).Contents (Elt F) → (⟨S64x64, .f32⟩ : BufTy).Contents (Elt F)),
    binary main_v18 main_v19 main_v20 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    unary main_arg10 main_v21 (broadcastInDim S1x64 ![1] bcast_S64_S1x64_1 : (⟨S64, .f32⟩ : BufTy).Contents (Elt F) → (⟨S1x64, .f32⟩ : BufTy).Contents (Elt F)),
    unary main_v21 main_v22 (broadcastInDim S32768x64 ![0, 1] bcast_S1x64_S32768x64_0_1 : (⟨S1x64, .f32⟩ : BufTy).Contents (Elt F) → (⟨S32768x64, .f32⟩ : BufTy).Contents (Elt F)),
    binary main_v20 main_v22 main_v23 (addf : (⟨S32768x64, .f32⟩ : BufTy).Contents (Elt F) → (⟨S32768x64, .f32⟩ : BufTy).Contents (Elt F) → (⟨S32768x64, .f32⟩ : BufTy).Contents (Elt F)),
    TRef.nullary main_call3.cst (constant S_ .f32 0x00000000#32),
    TRef.unary main_call3.cst main_call3.v0 (broadcastInDim S32768x64 ![] bcast_S_S32768x64),
    TRef.binary (.of main_v23) main_call3.v0 main_call3.v1 maximumf ]

/-- What stage 4 writes. -/
abbrev w4 : List (Ref sig .tc) := [main_v19, main_v20, main_v21, main_v22, main_v23, main_call3.cst.ref, main_call3.v0.ref, main_call3.v1.ref]

/-- The reference's operations of part 4 use the host's buffers. -/
theorem sub4 : (s4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩

/-- The reference's operations of part 4 take no new buffer. -/
theorem fresh4 : (s4 : List (HloOp τ sig (Elt F))).Forall fun op => op.fresh = ∅ := forall_fresh_of_map rfl

/-- The reference's operations of part 4 keep every buffer they don't list. -/
theorem keep4 (V : Valuation τ sig (Elt F)) (b : Ref sig .tc) (hb : b ∉ w4) : after s4 V (Proc.devRef .tc b) = V (Proc.devRef .tc b) :=
  after_of_writes_sub s4 V (forall_writes_sub_of_map (W := w4) rfl) hb

/-- Stage 5. -/
abbrev s5 : List (HloOp τ sig (Elt F)) :=
  [ TRef.nullary main_call4.c (constantI S_ 32 0#32),
    TRef.unary main_call4.c main_call4.v0 (broadcastInDim S16 ![] bcast_S_S16),
    TRef.binary (.of main_arg0) main_call4.v0 main_call4.v1 (cmpi .slt),
    TRef.nullary main_call4.c_0 (constantI S_ 32 100000#32),
    TRef.unary main_call4.c_0 main_call4.v2 (broadcastInDim S16 ![] bcast_S_S16),
    TRef.binary (.of main_arg0) main_call4.v2 main_call4.v3 addi,
    TRef.ternary main_call4.v1 main_call4.v3 (.of main_arg0) main_call4.call0.v0 select,
    TRef.unary main_call4.call0.v0 main_call4.v5 (broadcastInDim S16x1 ![0] bcast_S16_S16x1_0),
    TRef.nullary main_call4.c_1 (constantI S1 32 99999#32),
    TRef.nullary main_call4.c_2 (constantI S_ 32 0#32),
    TRef.unary main_call4.c_2 main_call4.v6 (broadcastInDim S16x1 ![] bcast_S_S16x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S16x1 ![0, 1] bcast_S1x1_S16x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S16x1_S16_d1 h_S_),
    TRef.binary (.of main_arg4) main_call4.v5 main_call4.v13 (fun x i => Host.gather gather_S100000x64_S16x1_S16x64_1_0_n_n_0_1_164 x i),
    TRef.unary main_call4.v12 main_call4.v14 (broadcastInDim S16x64 ![0] bcast_S16_S16x64_0),
    TRef.nullary main_call4.cst (constant S_ .f32 0x7FC00000#32),
    TRef.unary main_call4.cst main_call4.v15 (broadcastInDim S16x64 ![] bcast_S_S16x64),
    TRef.ternary main_call4.v14 main_call4.v13 main_call4.v15 main_call4.v16 select ]

/-- What stage 5 writes. -/
abbrev w5 : List (Ref sig .tc) := [main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref]

/-- The reference's operations of part 5 use the host's buffers. -/
theorem sub5 : (s5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The reference's operations of part 5 take no new buffer. -/
theorem fresh5 : (s5 : List (HloOp τ sig (Elt F))).Forall fun op => op.fresh = ∅ := forall_fresh_of_map rfl

/-- The reference's operations of part 5 keep every buffer they don't list. -/
theorem keep5 (V : Valuation τ sig (Elt F)) (b : Ref sig .tc) (hb : b ∉ w5) : after s5 V (Proc.devRef .tc b) = V (Proc.devRef .tc b) :=
  after_of_writes_sub s5 V (forall_writes_sub_of_map (W := w5) rfl) hb

/-- Stage 6. -/
abbrev s6 : List (HloOp τ sig (Elt F)) :=
  [ TRef.nullary main_call5.c (constantI S_ 32 0#32),
    TRef.unary main_call5.c main_call5.v0 (broadcastInDim S32768 ![] bcast_S_S32768),
    TRef.binary (.of main_v9) main_call5.v0 main_call5.v1 (cmpi .slt),
    TRef.nullary main_call5.c_0 (constantI S_ 32 16#32),
    TRef.unary main_call5.c_0 main_call5.v2 (broadcastInDim S32768 ![] bcast_S_S32768),
    TRef.binary (.of main_v9) main_call5.v2 main_call5.v3 addi,
    TRef.ternary main_call5.v1 main_call5.v3 (.of main_v9) main_call5.call0.v0 select,
    TRef.unary main_call5.call0.v0 main_call5.v5 (broadcastInDim S32768x1 ![0] bcast_S32768_S32768x1_0),
    TRef.nullary main_call5.c_1 (constantI S1 32 15#32),
    TRef.nullary main_call5.c_2 (constantI S_ 32 0#32),
    TRef.unary main_call5.c_2 main_call5.v6 (broadcastInDim S32768x1 ![] bcast_S_S32768x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S32768x1 ![0, 1] bcast_S1x1_S32768x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S32768x1_S32768_d1 h_S_),
    TRef.binary (.of main_v25) main_call5.v5 main_call5.v13 (fun x i => Host.gather gather_S16x64_S32768x1_S32768x64_1_0_n_n_0_1_164 x i),
    TRef.unary main_call5.v12 main_call5.v14 (broadcastInDim S32768x64 ![0] bcast_S32768_S32768x64_0),
    TRef.nullary main_call5.cst (constant S_ .f32 0x7FC00000#32),
    TRef.unary main_call5.cst main_call5.v15 (broadcastInDim S32768x64 ![] bcast_S_S32768x64),
    TRef.ternary main_call5.v14 main_call5.v13 main_call5.v15 main_call5.v16 select ]

/-- What stage 6 writes. -/
abbrev w6 : List (Ref sig .tc) := [main_call5.c.ref, main_call5.v0.ref, main_call5.v1.ref, main_call5.c_0.ref, main_call5.v2.ref, main_call5.v3.ref, main_call5.call0.v0.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.v14.ref, main_call5.cst.ref, main_call5.v15.ref, main_call5.v16.ref]

/-- The reference's operations of part 6 use the host's buffers. -/
theorem sub6 : (s6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The reference's operations of part 6 take no new buffer. -/
theorem fresh6 : (s6 : List (HloOp τ sig (Elt F))).Forall fun op => op.fresh = ∅ := forall_fresh_of_map rfl

/-- The reference's operations of part 6 keep every buffer they don't list. -/
theorem keep6 (V : Valuation τ sig (Elt F)) (b : Ref sig .tc) (hb : b ∉ w6) : after s6 V (Proc.devRef .tc b) = V (Proc.devRef .tc b) :=
  after_of_writes_sub s6 V (forall_writes_sub_of_map (W := w6) rfl) hb

/-- Stage 7. -/
abbrev s7 : List (HloOp τ sig (Elt F)) :=
  [ binary main_v24 main_v26 main_v27 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F)),
    unary main_arg11 main_v28 ((transpose S128x64 [1, 0] · transposes_S64x128_S128x64_1_0) : (⟨S64x128, .f32⟩ : BufTy).Contents (Elt F) → (⟨S128x64, .f32⟩ : BufTy).Contents (Elt F)),
    binary main_v27 main_v28 main_v29 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg12 main_v30 (broadcastInDim S1x64 ![1] bcast_S64_S1x64_1 : (⟨S64, .f32⟩ : BufTy).Contents (Elt F) → (⟨S1x64, .f32⟩ : BufTy).Contents (Elt F)),
    unary main_v30 main_v31 (broadcastInDim S32768x64 ![0, 1] bcast_S1x64_S32768x64_0_1 : (⟨S1x64, .f32⟩ : BufTy).Contents (Elt F) → (⟨S32768x64, .f32⟩ : BufTy).Contents (Elt F)),
    binary main_v29 main_v31 main_v32 (addf : (⟨S32768x64, .f32⟩ : BufTy).Contents (Elt F) → (⟨S32768x64, .f32⟩ : BufTy).Contents (Elt F) → (⟨S32768x64, .f32⟩ : BufTy).Contents (Elt F)),
    TRef.nullary main_call6.cst (constant S_ .f32 0x00000000#32),
    TRef.unary main_call6.cst main_call6.v0 (broadcastInDim S32768x64 ![] bcast_S_S32768x64),
    TRef.binary (.of main_v32) main_call6.v0 main_call6.v1 maximumf ]

/-- What stage 7 writes. -/
abbrev w7 : List (Ref sig .tc) := [main_v27, main_v28, main_v29, main_v30, main_v31, main_v32, main_call6.cst.ref, main_call6.v0.ref, main_call6.v1.ref]

/-- The reference's operations of part 7 use the host's buffers. -/
theorem sub7 : (s7 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., unary_bufs_sub .., binary_bufs_sub ..⟩

/-- The reference's operations of part 7 take no new buffer. -/
theorem fresh7 : (s7 : List (HloOp τ sig (Elt F))).Forall fun op => op.fresh = ∅ := forall_fresh_of_map rfl

/-- The reference's operations of part 7 keep every buffer they don't list. -/
theorem keep7 (V : Valuation τ sig (Elt F)) (b : Ref sig .tc) (hb : b ∉ w7) : after s7 V (Proc.devRef .tc b) = V (Proc.devRef .tc b) :=
  after_of_writes_sub s7 V (forall_writes_sub_of_map (W := w7) rfl) hb

/-- Stage 8. -/
abbrev s8 : List (HloOp τ sig (Elt F)) :=
  [ unary main_arg13 main_v34 ((transpose S64x64 [1, 0] · transposes_S64x64_S64x64_1_0) : (⟨S64x64, .f32⟩ : BufTy).Contents (Elt F) → (⟨S64x64, .f32⟩ : BufTy).Contents (Elt F)),
    binary main_v33 main_v34 main_v35 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    unary main_arg14 main_v36 (broadcastInDim S1x64 ![1] bcast_S64_S1x64_1 : (⟨S64, .f32⟩ : BufTy).Contents (Elt F) → (⟨S1x64, .f32⟩ : BufTy).Contents (Elt F)),
    unary main_v36 main_v37 (broadcastInDim S32768x64 ![0, 1] bcast_S1x64_S32768x64_0_1 : (⟨S1x64, .f32⟩ : BufTy).Contents (Elt F) → (⟨S32768x64, .f32⟩ : BufTy).Contents (Elt F)),
    binary main_v35 main_v37 main_v38 (addf : (⟨S32768x64, .f32⟩ : BufTy).Contents (Elt F) → (⟨S32768x64, .f32⟩ : BufTy).Contents (Elt F) → (⟨S32768x64, .f32⟩ : BufTy).Contents (Elt F)),
    TRef.nullary main_call7.cst (constant S_ .f32 0x00000000#32),
    TRef.unary main_call7.cst main_call7.v0 (broadcastInDim S32768x64 ![] bcast_S_S32768x64),
    TRef.binary (.of main_v38) main_call7.v0 main_call7.v1 maximumf ]

/-- What stage 8 writes. -/
abbrev w8 : List (Ref sig .tc) := [main_v34, main_v35, main_v36, main_v37, main_v38, main_call7.cst.ref, main_call7.v0.ref, main_call7.v1.ref]

/-- The reference's operations of part 8 use the host's buffers. -/
theorem sub8 : (s8 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩

/-- The reference's operations of part 8 take no new buffer. -/
theorem fresh8 : (s8 : List (HloOp τ sig (Elt F))).Forall fun op => op.fresh = ∅ := forall_fresh_of_map rfl

/-- The reference's operations of part 8 keep every buffer they don't list. -/
theorem keep8 (V : Valuation τ sig (Elt F)) (b : Ref sig .tc) (hb : b ∉ w8) : after s8 V (Proc.devRef .tc b) = V (Proc.devRef .tc b) :=
  after_of_writes_sub s8 V (forall_writes_sub_of_map (W := w8) rfl) hb

/-- Stage 9. -/
abbrev s9 : List (HloOp τ sig (Elt F)) :=
  [ unary main_arg15 main_v40 ((transpose S64x1 [1, 0] · transposes_S1x64_S64x1_1_0) : (⟨S1x64, .f32⟩ : BufTy).Contents (Elt F) → (⟨S64x1, .f32⟩ : BufTy).Contents (Elt F)),
    binary main_v39 main_v40 main_v41 ((fun l r => Host.dotGeneral dot_S32768x64_S64x1_S32768x1_1_0_0_1_n_n none l r) : (⟨S32768x64, .f32⟩ : BufTy).Contents (Elt F) → (⟨S64x1, .f32⟩ : BufTy).Contents (Elt F) → (⟨S32768x1, .f32⟩ : BufTy).Contents (Elt F)),
    unary main_arg16 main_v42 (broadcastInDim S1x1 ![1] bcast_S1_S1x1_1 : (⟨S1, .f32⟩ : BufTy).Contents (Elt F) → (⟨S1x1, .f32⟩ : BufTy).Contents (Elt F)),
    unary main_v42 main_v43 (broadcastInDim S32768x1 ![0, 1] bcast_S1x1_S32768x1_0_1 : (⟨S1x1, .f32⟩ : BufTy).Contents (Elt F) → (⟨S32768x1, .f32⟩ : BufTy).Contents (Elt F)),
    binary main_v41 main_v43 main_v44 (addf : (⟨S32768x1, .f32⟩ : BufTy).Contents (Elt F) → (⟨S32768x1, .f32⟩ : BufTy).Contents (Elt F) → (⟨S32768x1, .f32⟩ : BufTy).Contents (Elt F)),
    reshape main_v44 main_v45 (rfl : (.f32 : EltTy) = .f32) shapeCasts_S32768x1_S32768 ]

/-- What stage 9 writes. -/
abbrev w9 : List (Ref sig .tc) := [main_v40, main_v41, main_v42, main_v43, main_v44, main_v45]

/-- The reference's operations of part 9 use the host's buffers. -/
theorem sub9 : (s9 : List (HloOp τ sig (Elt F))).Forall fun op => op.bufs ⊆ tcRefs τ sig :=
  ⟨unary_bufs_sub .., binary_bufs_sub .., unary_bufs_sub .., unary_bufs_sub .., binary_bufs_sub .., reshape_bufs_sub ..⟩

/-- The reference's operations of part 9 take no new buffer. -/
theorem fresh9 : (s9 : List (HloOp τ sig (Elt F))).Forall fun op => op.fresh = ∅ := forall_fresh_of_map rfl

/-- The reference's operations of part 9 keep every buffer they don't list. -/
theorem keep9 (V : Valuation τ sig (Elt F)) (b : Ref sig .tc) (hb : b ∉ w9) : after s9 V (Proc.devRef .tc b) = V (Proc.devRef .tc b) :=
  after_of_writes_sub s9 V (forall_writes_sub_of_map (W := w9) rfl) hb

/-- Stage 10. -/
abbrev s10 : List (HloOp τ sig (Elt F)) :=
  [ unary main_v9 main_v46 (broadcastInDim S1x32768 ![1] bcast_S32768_S1x32768_1 : (⟨S32768, .i32⟩ : BufTy).Contents (Elt F) → (⟨S1x32768, .i32⟩ : BufTy).Contents (Elt F)),
    nullary main_v47 (iotaInDim S16 32 0),
    unary main_v47 main_v48 (broadcastInDim S16x1 ![0] bcast_S16_S16x1_0 : (⟨S16, .i32⟩ : BufTy).Contents (Elt F) → (⟨S16x1, .i32⟩ : BufTy).Contents (Elt F)),
    unary main_v46 main_v49 (broadcastInDim S16x32768 ![0, 1] bcast_S1x32768_S16x32768_0_1 : (⟨S1x32768, .i32⟩ : BufTy).Contents (Elt F) → (⟨S16x32768, .i32⟩ : BufTy).Contents (Elt F)),
    unary main_v48 main_v50 (broadcastInDim S16x32768 ![0, 1] bcast_S16x1_S16x32768_0_1 : (⟨S16x1, .i32⟩ : BufTy).Contents (Elt F) → (⟨S16x32768, .i32⟩ : BufTy).Contents (Elt F)),
    binary main_v49 main_v50 main_v51 (cmpi .eq : (⟨S16x32768, .i32⟩ : BufTy).Contents (Elt F) → (⟨S16x32768, .i32⟩ : BufTy).Contents (Elt F) → (⟨S16x32768, .i1⟩ : BufTy).Contents (Elt F)),
    unary main_v45 main_v52 (broadcastInDim S1x32768 ![1] bcast_S32768_S1x32768_1 : (⟨S32768, .f32⟩ : BufTy).Contents (Elt F) → (⟨S1x32768, .f32⟩ : BufTy).Contents (Elt F)),
    nullary main_cst (constant S_ .f32 0xFF800000#32),
    TRef.unary (.of main_cst) main_call8.v0 id,
    TRef.unary (.of main_v52 : TRef sig ⟨S1x32768, .f32⟩) main_call8.v1 (broadcastInDim S16x32768 ![0, 1] bcast_S1x32768_S16x32768_0_1),
    TRef.unary main_call8.v0 main_call8.v2 (broadcastInDim S16x32768 ![] bcast_S_S16x32768),
    TRef.ternary (.of main_v51) main_call8.v1 main_call8.v2 main_call8.v3 select,
    nullary main_cst_1 (constant S_ .f32 0xFF800000#32),
    binary main_v53 main_cst_1 main_v54 ((fun x v => Host.reduce FloatOps.maximumf x v reducesTo_S16x32768_S16_d1 h_S_) : (⟨S16x32768, .f32⟩ : BufTy).Contents (Elt F) → (⟨S_, .f32⟩ : BufTy).Contents (Elt F) → (⟨S16, .f32⟩ : BufTy).Contents (Elt F)) ]

/-- What stage 10 writes. -/
abbrev w10 : List (Ref sig .tc) := [main_v46, main_v47, main_v48, main_v49, main_v50, main_v51, main_v52, main_cst, main_call8.v0.ref, main_call8.v1.ref, main_call8.v2.ref, main_call8.v3.ref, main_cst_1, main_v54]

/-- The reference's operations of part 10 use the host's buffers. -/
theorem sub10 : (s10 : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub ..⟩

/-- The reference's operations of part 10 take no new buffer. -/
theorem fresh10 : (s10 : List (HloOp τ sig (Elt F))).Forall fun op => op.fresh = ∅ := forall_fresh_of_map rfl

/-- The reference's operations of part 10 keep every buffer they don't list. -/
theorem keep10 (V : Valuation τ sig (Elt F)) (b : Ref sig .tc) (hb : b ∉ w10) : after s10 V (Proc.devRef .tc b) = V (Proc.devRef .tc b) :=
  after_of_writes_sub s10 V (forall_writes_sub_of_map (W := w10) rfl) hb

/-- Stage 11. -/
abbrev s11 : List (HloOp τ sig (Elt F)) :=
  [ TRef.nullary main_call9.c (constantI S_ 32 0#32),
    TRef.unary main_call9.c main_call9.v0 (broadcastInDim S32768 ![] bcast_S_S32768),
    TRef.binary (.of main_v9) main_call9.v0 main_call9.v1 (cmpi .slt),
    TRef.nullary main_call9.c_0 (constantI S_ 32 16#32),
    TRef.unary main_call9.c_0 main_call9.v2 (broadcastInDim S32768 ![] bcast_S_S32768),
    TRef.binary (.of main_v9) main_call9.v2 main_call9.v3 addi,
    TRef.ternary main_call9.v1 main_call9.v3 (.of main_v9) main_call9.call0.v0 select,
    TRef.unary main_call9.call0.v0 main_call9.v5 (broadcastInDim S32768x1 ![0] bcast_S32768_S32768x1_0),
    TRef.nullary main_call9.c_1 (constantI S1 32 15#32),
    TRef.nullary main_call9.c_2 (constantI S_ 32 0#32),
    TRef.unary main_call9.c_2 main_call9.v6 (broadcastInDim S32768x1 ![] bcast_S_S32768x1),
    TRef.binary main_call9.v5 main_call9.v6 main_call9.v7 (cmpi .sge),
    TRef.unary main_call9.c_1 main_call9.v8 (broadcastInDim S1x1 ![1] bcast_S1_S1x1_1),
    TRef.unary main_call9.v8 main_call9.v9 (broadcastInDim S32768x1 ![0, 1] bcast_S1x1_S32768x1_0_1),
    TRef.binary main_call9.v5 main_call9.v9 main_call9.v10 (cmpi .sle),
    TRef.binary main_call9.v7 main_call9.v10 main_call9.v11 andi,
    TRef.nullary main_call9.c_3 (constantI S_ 1 1#1),
    TRef.binary main_call9.v11 main_call9.c_3 main_call9.v12 (fun x v => Host.reduce IntOp.andi x v reducesTo_S32768x1_S32768_d1 h_S_),
    TRef.binary (.of main_v54) main_call9.v5 main_call9.v13 (fun x i => Host.gather gather_S16_S32768x1_S32768_n_0_n_n_0_1_1 x i),
    TRef.nullary main_call9.cst (constant S_ .f32 0x7FC00000#32),
    TRef.unary main_call9.cst main_call9.v14 (broadcastInDim S32768 ![] bcast_S_S32768),
    TRef.ternary main_call9.v12 main_call9.v13 main_call9.v14 main_call9.v15 select ]

/-- What stage 11 writes. -/
abbrev w11 : List (Ref sig .tc) := [main_call9.c.ref, main_call9.v0.ref, main_call9.v1.ref, main_call9.c_0.ref, main_call9.v2.ref, main_call9.v3.ref, main_call9.call0.v0.ref, main_call9.v5.ref, main_call9.c_1.ref, main_call9.c_2.ref, main_call9.v6.ref, main_call9.v7.ref, main_call9.v8.ref, main_call9.v9.ref, main_call9.v10.ref, main_call9.v11.ref, main_call9.c_3.ref, main_call9.v12.ref, main_call9.v13.ref, main_call9.cst.ref, main_call9.v14.ref, main_call9.v15.ref]

/-- The reference's operations of part 11 use the host's buffers. -/
theorem sub11 : (s11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The reference's operations of part 11 take no new buffer. -/
theorem fresh11 : (s11 : List (HloOp τ sig (Elt F))).Forall fun op => op.fresh = ∅ := forall_fresh_of_map rfl

/-- The reference's operations of part 11 keep every buffer they don't list. -/
theorem keep11 (V : Valuation τ sig (Elt F)) (b : Ref sig .tc) (hb : b ∉ w11) : after s11 V (Proc.devRef .tc b) = V (Proc.devRef .tc b) :=
  after_of_writes_sub s11 V (forall_writes_sub_of_map (W := w11) rfl) hb

/-- Stage 12. -/
abbrev s12 : List (HloOp τ sig (Elt F)) :=
  [ binary main_v45 main_v55 main_v56 (subf : (⟨S32768, .f32⟩ : BufTy).Contents (Elt F) → (⟨S32768, .f32⟩ : BufTy).Contents (Elt F) → (⟨S32768, .f32⟩ : BufTy).Contents (Elt F)),
    unary main_v56 main_v57 (Host.exp : (⟨S32768, .f32⟩ : BufTy).Contents (Elt F) → (⟨S32768, .f32⟩ : BufTy).Contents (Elt F)),
    nullary main_cst_2 (constant S_ .f32 0x00000000#32),
    unary main_cst_2 main_v58 (broadcastInDim S16 ![] bcast_S_S16 : (⟨S_, .f32⟩ : BufTy).Contents (Elt F) → (⟨S16, .f32⟩ : BufTy).Contents (Elt F)),
    unary main_v9 main_v59 (broadcastInDim S32768x1 ![0] bcast_S32768_S32768x1_0 : (⟨S32768, .i32⟩ : BufTy).Contents (Elt F) → (⟨S32768x1, .i32⟩ : BufTy).Contents (Elt F)),
    ternary main_v58 main_v59 main_v57 main_v60 ((fun x i u => Host.scatterAdd scatter_S16_S32768x1_S32768_n_0_0_1 x i u) : (⟨S16, .f32⟩ : BufTy).Contents (Elt F) → (⟨S32768x1, .i32⟩ : BufTy).Contents (Elt F) → (⟨S32768, .f32⟩ : BufTy).Contents (Elt F) → (⟨S16, .f32⟩ : BufTy).Contents (Elt F)) ]

/-- What stage 12 writes. -/
abbrev w12 : List (Ref sig .tc) := [main_v56, main_v57, main_cst_2, main_v58, main_v59, main_v60]

/-- The reference's operations of part 12 use the host's buffers. -/
theorem sub12 : (s12 : List (HloOp τ sig (Elt F))).Forall fun op => op.bufs ⊆ tcRefs τ sig :=
  ⟨binary_bufs_sub .., unary_bufs_sub .., nullary_bufs_sub .., unary_bufs_sub .., unary_bufs_sub .., ternary_bufs_sub ..⟩

/-- The reference's operations of part 12 take no new buffer. -/
theorem fresh12 : (s12 : List (HloOp τ sig (Elt F))).Forall fun op => op.fresh = ∅ := forall_fresh_of_map rfl

/-- The reference's operations of part 12 keep every buffer they don't list. -/
theorem keep12 (V : Valuation τ sig (Elt F)) (b : Ref sig .tc) (hb : b ∉ w12) : after s12 V (Proc.devRef .tc b) = V (Proc.devRef .tc b) :=
  after_of_writes_sub s12 V (forall_writes_sub_of_map (W := w12) rfl) hb

/-- Stage 13. -/
abbrev s13 : List (HloOp τ sig (Elt F)) :=
  [ TRef.nullary main_call10.c (constantI S_ 32 0#32),
    TRef.unary main_call10.c main_call10.v0 (broadcastInDim S32768 ![] bcast_S_S32768),
    TRef.binary (.of main_v9) main_call10.v0 main_call10.v1 (cmpi .slt),
    TRef.nullary main_call10.c_0 (constantI S_ 32 16#32),
    TRef.unary main_call10.c_0 main_call10.v2 (broadcastInDim S32768 ![] bcast_S_S32768),
    TRef.binary (.of main_v9) main_call10.v2 main_call10.v3 addi,
    TRef.ternary main_call10.v1 main_call10.v3 (.of main_v9) main_call10.call0.v0 select,
    TRef.unary main_call10.call0.v0 main_call10.v5 (broadcastInDim S32768x1 ![0] bcast_S32768_S32768x1_0),
    TRef.nullary main_call10.c_1 (constantI S1 32 15#32),
    TRef.nullary main_call10.c_2 (constantI S_ 32 0#32),
    TRef.unary main_call10.c_2 main_call10.v6 (broadcastInDim S32768x1 ![] bcast_S_S32768x1),
    TRef.binary main_call10.v5 main_call10.v6 main_call10.v7 (cmpi .sge),
    TRef.unary main_call10.c_1 main_call10.v8 (broadcastInDim S1x1 ![1] bcast_S1_S1x1_1),
    TRef.unary main_call10.v8 main_call10.v9 (broadcastInDim S32768x1 ![0, 1] bcast_S1x1_S32768x1_0_1),
    TRef.binary main_call10.v5 main_call10.v9 main_call10.v10 (cmpi .sle),
    TRef.binary main_call10.v7 main_call10.v10 main_call10.v11 andi,
    TRef.nullary main_call10.c_3 (constantI S_ 1 1#1),
    TRef.binary main_call10.v11 main_call10.c_3 main_call10.v12 (fun x v => Host.reduce IntOp.andi x v reducesTo_S32768x1_S32768_d1 h_S_),
    TRef.binary (.of main_v60) main_call10.v5 main_call10.v13 (fun x i => Host.gather gather_S16_S32768x1_S32768_n_0_n_n_0_1_1 x i),
    TRef.nullary main_call10.cst (constant S_ .f32 0x7FC00000#32),
    TRef.unary main_call10.cst main_call10.v14 (broadcastInDim S32768 ![] bcast_S_S32768),
    TRef.ternary main_call10.v12 main_call10.v13 main_call10.v14 main_call10.v15 select ]

/-- What stage 13 writes. -/
abbrev w13 : List (Ref sig .tc) := [main_call10.c.ref, main_call10.v0.ref, main_call10.v1.ref, main_call10.c_0.ref, main_call10.v2.ref, main_call10.v3.ref, main_call10.call0.v0.ref, main_call10.v5.ref, main_call10.c_1.ref, main_call10.c_2.ref, main_call10.v6.ref, main_call10.v7.ref, main_call10.v8.ref, main_call10.v9.ref, main_call10.v10.ref, main_call10.v11.ref, main_call10.c_3.ref, main_call10.v12.ref, main_call10.v13.ref, main_call10.cst.ref, main_call10.v14.ref, main_call10.v15.ref]

/-- The reference's operations of part 13 use the host's buffers. -/
theorem sub13 : (s13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The reference's operations of part 13 take no new buffer. -/
theorem fresh13 : (s13 : List (HloOp τ sig (Elt F))).Forall fun op => op.fresh = ∅ := forall_fresh_of_map rfl

/-- The reference's operations of part 13 keep every buffer they don't list. -/
theorem keep13 (V : Valuation τ sig (Elt F)) (b : Ref sig .tc) (hb : b ∉ w13) : after s13 V (Proc.devRef .tc b) = V (Proc.devRef .tc b) :=
  after_of_writes_sub s13 V (forall_writes_sub_of_map (W := w13) rfl) hb

/-- Stage 14. -/
abbrev s14 : List (HloOp τ sig (Elt F)) :=
  [ binary main_v57 main_v61 main_v62 (Host.divf : (⟨S32768, .f32⟩ : BufTy).Contents (Elt F) → (⟨S32768, .f32⟩ : BufTy).Contents (Elt F) → (⟨S32768, .f32⟩ : BufTy).Contents (Elt F)),
    unary main_v62 main_v63 (broadcastInDim S32768x1 ![0] bcast_S32768_S32768x1_0 : (⟨S32768, .f32⟩ : BufTy).Contents (Elt F) → (⟨S32768x1, .f32⟩ : BufTy).Contents (Elt F)),
    unary main_v63 main_v64 (broadcastInDim S32768x64 ![0, 1] bcast_S32768x1_S32768x64_0_1 : (⟨S32768x1, .f32⟩ : BufTy).Contents (Elt F) → (⟨S32768x64, .f32⟩ : BufTy).Contents (Elt F)),
    binary main_v24 main_v64 main_v65 (mulf : (⟨S32768x64, .f32⟩ : BufTy).Contents (Elt F) → (⟨S32768x64, .f32⟩ : BufTy).Contents (Elt F) → (⟨S32768x64, .f32⟩ : BufTy).Contents (Elt F)),
    nullary main_cst_3 (constant S_ .f32 0x00000000#32),
    unary main_cst_3 main_v66 (broadcastInDim S16x64 ![] bcast_S_S16x64 : (⟨S_, .f32⟩ : BufTy).Contents (Elt F) → (⟨S16x64, .f32⟩ : BufTy).Contents (Elt F)),
    unary main_v9 main_v67 (broadcastInDim S32768x1 ![0] bcast_S32768_S32768x1_0 : (⟨S32768, .i32⟩ : BufTy).Contents (Elt F) → (⟨S32768x1, .i32⟩ : BufTy).Contents (Elt F)),
    ternary main_v66 main_v67 main_v65 main_v68 ((fun x i u => Host.scatterAdd scatter_S16x64_S32768x1_S32768x64_1_0_0_1 x i u) : (⟨S16x64, .f32⟩ : BufTy).Contents (Elt F) → (⟨S32768x1, .i32⟩ : BufTy).Contents (Elt F) → (⟨S32768x64, .f32⟩ : BufTy).Contents (Elt F) → (⟨S16x64, .f32⟩ : BufTy).Contents (Elt F)) ]

/-- What stage 14 writes. -/
abbrev w14 : List (Ref sig .tc) := [main_v62, main_v63, main_v64, main_v65, main_cst_3, main_v66, main_v67, main_v68]

/-- The reference's operations of part 14 use the host's buffers. -/
theorem sub14 : (s14 : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub ..⟩

/-- The reference's operations of part 14 take no new buffer. -/
theorem fresh14 : (s14 : List (HloOp τ sig (Elt F))).Forall fun op => op.fresh = ∅ := forall_fresh_of_map rfl

/-- The reference's operations of part 14 keep every buffer they don't list. -/
theorem keep14 (V : Valuation τ sig (Elt F)) (b : Ref sig .tc) (hb : b ∉ w14) : after s14 V (Proc.devRef .tc b) = V (Proc.devRef .tc b) :=
  after_of_writes_sub s14 V (forall_writes_sub_of_map (W := w14) rfl) hb

/-- The segment of every token: the bounds at or below it, less one. -/
def segs (x : IVec S17 32) : IVec S32768 32 :=
  let a0 := (iotaInDim S32768 32 0)
  let a1 := (broadcastInDim S1x17 ![1] bcast_S17_S1x17_1) x
  let a2 := (broadcastInDim S32768x1 ![0] bcast_S32768_S32768x1_0) a0
  let a3 := (broadcastInDim S32768x17 ![0, 1] bcast_S1x17_S32768x17_0_1) a1
  let a4 := (broadcastInDim S32768x17 ![0, 1] bcast_S32768x1_S32768x17_0_1) a2
  let a5 := (cmpi .sle) a3 a4
  let a6 := (extui 32 · natLt_1_32) a5
  let a7 := (constantI S_ 32 0#32)
  let a8 := (fun x v => Host.reduce IntOp.addi x v reducesTo_S32768x17_S32768_d1 h_S_) a6 a7
  let a9 := (constantI S_ 32 1#32)
  let a10 := (broadcastInDim S32768 ![] bcast_S_S32768) a9
  let a11 := (subi) a8 a10
  a11

set_option maxRecDepth 8192 in
/-- What stage 0 leaves. -/
theorem out0 (V : Valuation τ sig (Elt F)) : after s0 V (Proc.devRef .tc main_v9) = segs (V (Proc.devRef .tc main_arg3)) := by
  after_results_simp
  try simp only [TRef.ofBuf, TRef.toBuf, cast_cast, cast_eq]
  rfl

/-- The items' rows. -/
def takeItems (x : FVec F S1000000x64 .f32) (y : IVec S32768 32) : FVec F S32768x64 .f32 :=
  let a0 := (constantI S_ 32 0#32)
  let a1 := (broadcastInDim S32768 ![] bcast_S_S32768) a0
  let a2 := (cmpi .slt) y a1
  let a3 := (constantI S_ 32 1000000#32)
  let a4 := (broadcastInDim S32768 ![] bcast_S_S32768) a3
  let a5 := addi y a4
  let a6 := select a2 a5 y
  let a7 := (broadcastInDim S32768x1 ![0] bcast_S32768_S32768x1_0) a6
  let a8 := (constantI S1 32 999999#32)
  let a9 := (constantI S_ 32 0#32)
  let a10 := (broadcastInDim S32768x1 ![] bcast_S_S32768x1) a9
  let a11 := (cmpi .sge) a7 a10
  let a12 := (broadcastInDim S1x1 ![1] bcast_S1_S1x1_1) a8
  let a13 := (broadcastInDim S32768x1 ![0, 1] bcast_S1x1_S32768x1_0_1) a12
  let a14 := (cmpi .sle) a7 a13
  let a15 := andi a11 a14
  let a16 := (constantI S_ 1 1#1)
  let a17 := (fun x v => Host.reduce IntOp.andi x v reducesTo_S32768x1_S32768_d1 h_S_) a15 a16
  let a18 := (fun x i => Host.gather gather_S1000000x64_S32768x1_S32768x64_1_0_n_n_0_1_164 x i) x a7
  let a19 := (broadcastInDim S32768x64 ![0] bcast_S32768_S32768x64_0) a17
  let a20 := (constant (F := F) S_ .f32 0x7FC00000#32)
  let a21 := (broadcastInDim S32768x64 ![] bcast_S_S32768x64) a20
  let a22 := select a19 a18 a21
  a22

set_option maxRecDepth 8192 in
/-- What stage 1 leaves. -/
theorem out1 (V : Valuation τ sig (Elt F)) : after s1 V (Proc.devRef .tc main_v10) = takeItems (F := F) (V (Proc.devRef .tc main_arg5)) (V (Proc.devRef .tc main_arg1)) := by
  after_results_simp
  try simp only [TRef.ofBuf, TRef.toBuf, cast_cast, cast_eq]
  rfl

/-- The ratings' rows. -/
def takeRatings (x : FVec F S5x64 .f32) (y : IVec S32768 32) : FVec F S32768x64 .f32 :=
  let a0 := (constantI S_ 32 0#32)
  let a1 := (broadcastInDim S32768 ![] bcast_S_S32768) a0
  let a2 := (cmpi .slt) y a1
  let a3 := (constantI S_ 32 5#32)
  let a4 := (broadcastInDim S32768 ![] bcast_S_S32768) a3
  let a5 := addi y a4
  let a6 := select a2 a5 y
  let a7 := (broadcastInDim S32768x1 ![0] bcast_S32768_S32768x1_0) a6
  let a8 := (constantI S1 32 4#32)
  let a9 := (constantI S_ 32 0#32)
  let a10 := (broadcastInDim S32768x1 ![] bcast_S_S32768x1) a9
  let a11 := (cmpi .sge) a7 a10
  let a12 := (broadcastInDim S1x1 ![1] bcast_S1_S1x1_1) a8
  let a13 := (broadcastInDim S32768x1 ![0, 1] bcast_S1x1_S32768x1_0_1) a12
  let a14 := (cmpi .sle) a7 a13
  let a15 := andi a11 a14
  let a16 := (constantI S_ 1 1#1)
  let a17 := (fun x v => Host.reduce IntOp.andi x v reducesTo_S32768x1_S32768_d1 h_S_) a15 a16
  let a18 := (fun x i => Host.gather gather_S5x64_S32768x1_S32768x64_1_0_n_n_0_1_164 x i) x a7
  let a19 := (broadcastInDim S32768x64 ![0] bcast_S32768_S32768x64_0) a17
  let a20 := (constant (F := F) S_ .f32 0x7FC00000#32)
  let a21 := (broadcastInDim S32768x64 ![] bcast_S_S32768x64) a20
  let a22 := select a19 a18 a21
  a22

set_option maxRecDepth 8192 in
/-- What stage 2 leaves. -/
theorem out2 (V : Valuation τ sig (Elt F)) : after s2 V (Proc.devRef .tc main_v11) = takeRatings (F := F) (V (Proc.devRef .tc main_arg6)) (V (Proc.devRef .tc main_arg2)) := by
  after_results_simp
  try simp only [TRef.ofBuf, TRef.toBuf, cast_cast, cast_eq]
  rfl

/-- A layer over two tables side by side. -/
def layerTwo (x : FVec F S32768x64 .f32) (y : FVec F S32768x64 .f32) (z : FVec F S64x128 .f32) (w : FVec F S64 .f32) : FVec F S32768x64 .f32 :=
  let a0 := (fun a b => concatenate S32768x128 1 [⟨S32768x64, a⟩, ⟨S32768x64, b⟩] concatenates_S32768x64_S32768x64_S32768x128_d1) x y
  let a1 := (transpose S128x64 [1, 0] · transposes_S64x128_S128x64_1_0) z
  let a2 := (fun l r => Host.dotGeneral dot_S32768x128_S128x64_S32768x64_1_0_0_1_n_n none l r) a0 a1
  let a3 := (broadcastInDim S1x64 ![1] bcast_S64_S1x64_1) w
  let a4 := (broadcastInDim S32768x64 ![0, 1] bcast_S1x64_S32768x64_0_1) a3
  let a5 := (addf) a2 a4
  let a6 := (constant (F := F) S_ .f32 0x00000000#32)
  let a7 := (broadcastInDim S32768x64 ![] bcast_S_S32768x64) a6
  let a8 := maximumf a5 a7
  a8

set_option maxRecDepth 8192 in
/-- What stage 3 leaves. -/
theorem out3 (V : Valuation τ sig (Elt F)) : after s3 V (Proc.devRef .tc main_v18) = layerTwo (F := F) (V (Proc.devRef .tc main_v10)) (V (Proc.devRef .tc main_v11)) (V (Proc.devRef .tc main_arg7)) (V (Proc.devRef .tc main_arg8)) := by
  after_results_simp
  try simp only [TRef.ofBuf, TRef.toBuf, cast_cast, cast_eq]
  rfl

/-- A layer over one table. -/
def layerOne (x : FVec F S32768x64 .f32) (y : FVec F S64x64 .f32) (z : FVec F S64 .f32) : FVec F S32768x64 .f32 :=
  let a0 := (transpose S64x64 [1, 0] · transposes_S64x64_S64x64_1_0) y
  let a1 := (fun l r => Host.dotGeneral dot_S32768x64_S64x64_S32768x64_1_0_0_1_n_n none l r) x a0
  let a2 := (broadcastInDim S1x64 ![1] bcast_S64_S1x64_1) z
  let a3 := (broadcastInDim S32768x64 ![0, 1] bcast_S1x64_S32768x64_0_1) a2
  let a4 := (addf) a1 a3
  let a5 := (constant (F := F) S_ .f32 0x00000000#32)
  let a6 := (broadcastInDim S32768x64 ![] bcast_S_S32768x64) a5
  let a7 := maximumf a4 a6
  a7

set_option maxRecDepth 8192 in
/-- What stage 4 leaves. -/
theorem out4 (V : Valuation τ sig (Elt F)) : after s4 V (Proc.devRef .tc main_v24) = layerOne (F := F) (V (Proc.devRef .tc main_v18)) (V (Proc.devRef .tc main_arg9)) (V (Proc.devRef .tc main_arg10)) := by
  after_results_simp
  try simp only [TRef.ofBuf, TRef.toBuf, cast_cast, cast_eq]
  rfl

/-- The users' rows. -/
def takeUsers (x : FVec F S100000x64 .f32) (y : IVec S16 32) : FVec F S16x64 .f32 :=
  let a0 := (constantI S_ 32 0#32)
  let a1 := (broadcastInDim S16 ![] bcast_S_S16) a0
  let a2 := (cmpi .slt) y a1
  let a3 := (constantI S_ 32 100000#32)
  let a4 := (broadcastInDim S16 ![] bcast_S_S16) a3
  let a5 := addi y a4
  let a6 := select a2 a5 y
  let a7 := (broadcastInDim S16x1 ![0] bcast_S16_S16x1_0) a6
  let a8 := (constantI S1 32 99999#32)
  let a9 := (constantI S_ 32 0#32)
  let a10 := (broadcastInDim S16x1 ![] bcast_S_S16x1) a9
  let a11 := (cmpi .sge) a7 a10
  let a12 := (broadcastInDim S1x1 ![1] bcast_S1_S1x1_1) a8
  let a13 := (broadcastInDim S16x1 ![0, 1] bcast_S1x1_S16x1_0_1) a12
  let a14 := (cmpi .sle) a7 a13
  let a15 := andi a11 a14
  let a16 := (constantI S_ 1 1#1)
  let a17 := (fun x v => Host.reduce IntOp.andi x v reducesTo_S16x1_S16_d1 h_S_) a15 a16
  let a18 := (fun x i => Host.gather gather_S100000x64_S16x1_S16x64_1_0_n_n_0_1_164 x i) x a7
  let a19 := (broadcastInDim S16x64 ![0] bcast_S16_S16x64_0) a17
  let a20 := (constant (F := F) S_ .f32 0x7FC00000#32)
  let a21 := (broadcastInDim S16x64 ![] bcast_S_S16x64) a20
  let a22 := select a19 a18 a21
  a22

set_option maxRecDepth 8192 in
/-- What stage 5 leaves. -/
theorem out5 (V : Valuation τ sig (Elt F)) : after s5 V (Proc.devRef .tc main_v25) = takeUsers (F := F) (V (Proc.devRef .tc main_arg4)) (V (Proc.devRef .tc main_arg0)) := by
  after_results_simp
  try simp only [TRef.ofBuf, TRef.toBuf, cast_cast, cast_eq]
  rfl

/-- Each token's user's row. -/
def takeOwn (x : FVec F S16x64 .f32) (y : IVec S32768 32) : FVec F S32768x64 .f32 :=
  let a0 := (constantI S_ 32 0#32)
  let a1 := (broadcastInDim S32768 ![] bcast_S_S32768) a0
  let a2 := (cmpi .slt) y a1
  let a3 := (constantI S_ 32 16#32)
  let a4 := (broadcastInDim S32768 ![] bcast_S_S32768) a3
  let a5 := addi y a4
  let a6 := select a2 a5 y
  let a7 := (broadcastInDim S32768x1 ![0] bcast_S32768_S32768x1_0) a6
  let a8 := (constantI S1 32 15#32)
  let a9 := (constantI S_ 32 0#32)
  let a10 := (broadcastInDim S32768x1 ![] bcast_S_S32768x1) a9
  let a11 := (cmpi .sge) a7 a10
  let a12 := (broadcastInDim S1x1 ![1] bcast_S1_S1x1_1) a8
  let a13 := (broadcastInDim S32768x1 ![0, 1] bcast_S1x1_S32768x1_0_1) a12
  let a14 := (cmpi .sle) a7 a13
  let a15 := andi a11 a14
  let a16 := (constantI S_ 1 1#1)
  let a17 := (fun x v => Host.reduce IntOp.andi x v reducesTo_S32768x1_S32768_d1 h_S_) a15 a16
  let a18 := (fun x i => Host.gather gather_S16x64_S32768x1_S32768x64_1_0_n_n_0_1_164 x i) x a7
  let a19 := (broadcastInDim S32768x64 ![0] bcast_S32768_S32768x64_0) a17
  let a20 := (constant (F := F) S_ .f32 0x7FC00000#32)
  let a21 := (broadcastInDim S32768x64 ![] bcast_S_S32768x64) a20
  let a22 := select a19 a18 a21
  a22

set_option maxRecDepth 8192 in
/-- What stage 6 leaves. -/
theorem out6 (V : Valuation τ sig (Elt F)) : after s6 V (Proc.devRef .tc main_v26) = takeOwn (F := F) (V (Proc.devRef .tc main_v25)) (V (Proc.devRef .tc main_v9)) := by
  after_results_simp
  try simp only [TRef.ofBuf, TRef.toBuf, cast_cast, cast_eq]
  rfl

set_option maxRecDepth 8192 in
/-- What stage 7 leaves. -/
theorem out7 (V : Valuation τ sig (Elt F)) : after s7 V (Proc.devRef .tc main_v33) = layerTwo (F := F) (V (Proc.devRef .tc main_v24)) (V (Proc.devRef .tc main_v26)) (V (Proc.devRef .tc main_arg11)) (V (Proc.devRef .tc main_arg12)) := by
  after_results_simp
  try simp only [TRef.ofBuf, TRef.toBuf, cast_cast, cast_eq]
  rfl

set_option maxRecDepth 8192 in
/-- What stage 8 leaves. -/
theorem out8 (V : Valuation τ sig (Elt F)) : after s8 V (Proc.devRef .tc main_v39) = layerOne (F := F) (V (Proc.devRef .tc main_v33)) (V (Proc.devRef .tc main_arg13)) (V (Proc.devRef .tc main_arg14)) := by
  after_results_simp
  try simp only [TRef.ofBuf, TRef.toBuf, cast_cast, cast_eq]
  rfl

/-- The scores. -/
def score (x : FVec F S32768x64 .f32) (y : FVec F S1x64 .f32) (z : FVec F S1 .f32) : FVec F S32768 .f32 :=
  let a0 := (transpose S64x1 [1, 0] · transposes_S1x64_S64x1_1_0) y
  let a1 := (fun l r => Host.dotGeneral dot_S32768x64_S64x1_S32768x1_1_0_0_1_n_n none l r) x a0
  let a2 := (broadcastInDim S1x1 ![1] bcast_S1_S1x1_1) z
  let a3 := (broadcastInDim S32768x1 ![0, 1] bcast_S1x1_S32768x1_0_1) a2
  let a4 := (addf) a1 a3
  let a5 := shapeCast S32768 a4 shapeCasts_S32768x1_S32768
  a5

set_option maxRecDepth 8192 in
/-- What stage 9 leaves. -/
theorem out9 (V : Valuation τ sig (Elt F)) : after s9 V (Proc.devRef .tc main_v45) = score (F := F) (V (Proc.devRef .tc main_v39)) (V (Proc.devRef .tc main_arg15)) (V (Proc.devRef .tc main_arg16)) := by
  after_results_simp
  try simp only [TRef.ofBuf, TRef.toBuf, cast_cast, cast_eq]
  rfl

/-- Each segment's largest score. -/
def largest (x : IVec S32768 32) (y : FVec F S32768 .f32) : FVec F S16 .f32 :=
  let a0 := (broadcastInDim S1x32768 ![1] bcast_S32768_S1x32768_1) x
  let a1 := (iotaInDim S16 32 0)
  let a2 := (broadcastInDim S16x1 ![0] bcast_S16_S16x1_0) a1
  let a3 := (broadcastInDim S16x32768 ![0, 1] bcast_S1x32768_S16x32768_0_1) a0
  let a4 := (broadcastInDim S16x32768 ![0, 1] bcast_S16x1_S16x32768_0_1) a2
  let a5 := (cmpi .eq) a3 a4
  let a6 := (broadcastInDim S1x32768 ![1] bcast_S32768_S1x32768_1) y
  let a7 := (constant (F := F) S_ .f32 0xFF800000#32)
  let a8 := id a7
  let a9 := (broadcastInDim S16x32768 ![0, 1] bcast_S1x32768_S16x32768_0_1) a6
  let a10 := (broadcastInDim S16x32768 ![] bcast_S_S16x32768) a8
  let a11 := select a5 a9 a10
  let a12 := (constant (F := F) S_ .f32 0xFF800000#32)
  let a13 := (fun x v => Host.reduce FloatOps.maximumf x v reducesTo_S16x32768_S16_d1 h_S_) a11 a12
  a13

set_option maxRecDepth 8192 in
/-- What stage 10 leaves. -/
theorem out10 (V : Valuation τ sig (Elt F)) : after s10 V (Proc.devRef .tc main_v54) = largest (F := F) (V (Proc.devRef .tc main_v9)) (V (Proc.devRef .tc main_v45)) := by
  after_results_simp
  try simp only [TRef.ofBuf, TRef.toBuf, cast_cast, cast_eq]
  rfl

/-- Each token's segment's entry. -/
def takeSeg (x : FVec F S16 .f32) (y : IVec S32768 32) : FVec F S32768 .f32 :=
  let a0 := (constantI S_ 32 0#32)
  let a1 := (broadcastInDim S32768 ![] bcast_S_S32768) a0
  let a2 := (cmpi .slt) y a1
  let a3 := (constantI S_ 32 16#32)
  let a4 := (broadcastInDim S32768 ![] bcast_S_S32768) a3
  let a5 := addi y a4
  let a6 := select a2 a5 y
  let a7 := (broadcastInDim S32768x1 ![0] bcast_S32768_S32768x1_0) a6
  let a8 := (constantI S1 32 15#32)
  let a9 := (constantI S_ 32 0#32)
  let a10 := (broadcastInDim S32768x1 ![] bcast_S_S32768x1) a9
  let a11 := (cmpi .sge) a7 a10
  let a12 := (broadcastInDim S1x1 ![1] bcast_S1_S1x1_1) a8
  let a13 := (broadcastInDim S32768x1 ![0, 1] bcast_S1x1_S32768x1_0_1) a12
  let a14 := (cmpi .sle) a7 a13
  let a15 := andi a11 a14
  let a16 := (constantI S_ 1 1#1)
  let a17 := (fun x v => Host.reduce IntOp.andi x v reducesTo_S32768x1_S32768_d1 h_S_) a15 a16
  let a18 := (fun x i => Host.gather gather_S16_S32768x1_S32768_n_0_n_n_0_1_1 x i) x a7
  let a19 := (constant (F := F) S_ .f32 0x7FC00000#32)
  let a20 := (broadcastInDim S32768 ![] bcast_S_S32768) a19
  let a21 := select a17 a18 a20
  a21

set_option maxRecDepth 8192 in
/-- What stage 11 leaves. -/
theorem out11 (V : Valuation τ sig (Elt F)) : after s11 V (Proc.devRef .tc main_v55) = takeSeg (F := F) (V (Proc.devRef .tc main_v54)) (V (Proc.devRef .tc main_v9)) := by
  after_results_simp
  try simp only [TRef.ofBuf, TRef.toBuf, cast_cast, cast_eq]
  rfl

/-- The weights. -/
def weight (x : FVec F S32768 .f32) (y : FVec F S32768 .f32) : FVec F S32768 .f32 :=
  let a0 := (subf) x y
  let a1 := (Host.exp) a0
  a1

set_option maxRecDepth 8192 in
/-- What stage 12 leaves. -/
theorem out12 (V : Valuation τ sig (Elt F)) : after s12 V (Proc.devRef .tc main_v57) = weight (F := F) (V (Proc.devRef .tc main_v45)) (V (Proc.devRef .tc main_v55)) := by
  after_results_simp
  try simp only [TRef.ofBuf, TRef.toBuf, cast_cast, cast_eq]
  rfl

/-- Each segment's sum of weights. -/
def sums (x : FVec F S32768 .f32) (y : FVec F S32768 .f32) (z : IVec S32768 32) : FVec F S16 .f32 :=
  let a0 := (subf) x y
  let a1 := (Host.exp) a0
  let a2 := (constant (F := F) S_ .f32 0x00000000#32)
  let a3 := (broadcastInDim S16 ![] bcast_S_S16) a2
  let a4 := (broadcastInDim S32768x1 ![0] bcast_S32768_S32768x1_0) z
  let a5 := (fun x i u => Host.scatterAdd scatter_S16_S32768x1_S32768_n_0_0_1 x i u) a3 a4 a1
  a5

set_option maxRecDepth 8192 in
/-- What stage 12 leaves besides. -/
theorem out12' (V : Valuation τ sig (Elt F)) : after s12 V (Proc.devRef .tc main_v60) = sums (F := F) (V (Proc.devRef .tc main_v45)) (V (Proc.devRef .tc main_v55)) (V (Proc.devRef .tc main_v9)) := by
  after_results_simp
  try simp only [TRef.ofBuf, TRef.toBuf, cast_cast, cast_eq]
  rfl

set_option maxRecDepth 8192 in
/-- What stage 13 leaves. -/
theorem out13 (V : Valuation τ sig (Elt F)) : after s13 V (Proc.devRef .tc main_v61) = takeSeg (F := F) (V (Proc.devRef .tc main_v60)) (V (Proc.devRef .tc main_v9)) := by
  after_results_simp
  try simp only [TRef.ofBuf, TRef.toBuf, cast_cast, cast_eq]
  rfl

/-- The weighted means. -/
def pool (x : FVec F S32768x64 .f32) (y : FVec F S32768 .f32) (z : FVec F S32768 .f32) (w : IVec S32768 32) : FVec F S16x64 .f32 :=
  let a0 := (Host.divf) y z
  let a1 := (broadcastInDim S32768x1 ![0] bcast_S32768_S32768x1_0) a0
  let a2 := (broadcastInDim S32768x64 ![0, 1] bcast_S32768x1_S32768x64_0_1) a1
  let a3 := (mulf) x a2
  let a4 := (constant (F := F) S_ .f32 0x00000000#32)
  let a5 := (broadcastInDim S16x64 ![] bcast_S_S16x64) a4
  let a6 := (broadcastInDim S32768x1 ![0] bcast_S32768_S32768x1_0) w
  let a7 := (fun x i u => Host.scatterAdd scatter_S16x64_S32768x1_S32768x64_1_0_0_1 x i u) a5 a6 a3
  a7

set_option maxRecDepth 8192 in
/-- What stage 14 leaves. -/
theorem out14 (V : Valuation τ sig (Elt F)) : after s14 V (Proc.devRef .tc main_v68) = pool (F := F) (V (Proc.devRef .tc main_v24)) (V (Proc.devRef .tc main_v57)) (V (Proc.devRef .tc main_v61)) (V (Proc.devRef .tc main_v9)) := by
  after_results_simp
  try simp only [TRef.ofBuf, TRef.toBuf, cast_cast, cast_eq]
  rfl

/-- The reference's result. -/
def result (x0 : IVec S16 32) (x1 : IVec S32768 32) (x2 : IVec S32768 32) (x3 : IVec S17 32) (x4 : FVec F S100000x64 .f32) (x5 : FVec F S1000000x64 .f32) (x6 : FVec F S5x64 .f32) (x7 : FVec F S64x128 .f32) (x8 : FVec F S64 .f32) (x9 : FVec F S64x64 .f32) (x10 : FVec F S64 .f32) (x11 : FVec F S64x128 .f32) (x12 : FVec F S64 .f32) (x13 : FVec F S64x64 .f32) (x14 : FVec F S64 .f32) (x15 : FVec F S1x64 .f32) (x16 : FVec F S1 .f32) : FVec F S16x64 .f32 :=
  let sg := segs x3
  let o := layerOne (layerTwo (takeItems x5 x1) (takeRatings x6 x2) x7 x8) x9 x10
  let h := layerOne (layerTwo o (takeOwn (takeUsers x4 x0) sg) x11 x12) x13 x14
  let sc := score h x15 x16
  let top := takeSeg (largest sg sc) sg
  pool o (weight sc top) (takeSeg (sums sc top sg) sg) sg

/-- All stages, in order. -/
abbrev ops : List (HloOp τ sig (Elt F)) := s0 ++ (s1 ++ (s2 ++ (s3 ++ (s4 ++ (s5 ++ (s6 ++ (s7 ++ (s8 ++ (s9 ++ (s10 ++ (s11 ++ (s12 ++ (s13 ++ (s14))))))))))))))

/-- The arguments are read only. -/
theorem kept (V : Valuation τ sig (Elt F)) (b : Ref sig .tc) (h0 : b ∉ w0) (h1 : b ∉ w1) (h2 : b ∉ w2) (h3 : b ∉ w3) (h4 : b ∉ w4) (h5 : b ∉ w5) (h6 : b ∉ w6) (h7 : b ∉ w7) (h8 : b ∉ w8) (h9 : b ∉ w9) (h10 : b ∉ w10) (h11 : b ∉ w11) (h12 : b ∉ w12) (h13 : b ∉ w13) (h14 : b ∉ w14) :
    after ops V (Proc.devRef .tc b) = V (Proc.devRef .tc b) := by
  simp only [after_append]
  rw [keep14 _ b h14, keep13 _ b h13, keep12 _ b h12, keep11 _ b h11, keep10 _ b h10, keep9 _ b h9, keep8 _ b h8, keep7 _ b h7, keep6 _ b h6, keep5 _ b h5, keep4 _ b h4, keep3 _ b h3, keep2 _ b h2, keep1 _ b h1, keep0 _ b h0]

set_option maxRecDepth 8192 in
/-- The result buffer ends holding the result. -/
theorem out_eq (V : Valuation τ sig (Elt F)) :
    after ops V (Proc.devRef .tc main_v68) = result (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [after_append]
  rw [out14, keep13 _ main_v24 (by decide), keep13 _ main_v57 (by decide), out13, keep13 _ main_v9 (by decide), keep12 _ main_v24 (by decide), out12, out12', keep12 _ main_v9 (by decide), keep11 _ main_v24 (by decide), keep11 _ main_v45 (by decide), out11, keep11 _ main_v9 (by decide), keep10 _ main_v24 (by decide), keep10 _ main_v45 (by decide), out10, keep10 _ main_v9 (by decide), keep9 _ main_v24 (by decide), out9, keep9 _ main_v9 (by decide), keep8 _ main_arg15 (by decide), keep8 _ main_arg16 (by decide), keep8 _ main_v24 (by decide), out8, keep8 _ main_v9 (by decide), keep7 _ main_arg13 (by decide), keep7 _ main_arg14 (by decide), keep7 _ main_arg15 (by decide), keep7 _ main_arg16 (by decide), keep7 _ main_v24 (by decide), out7, keep7 _ main_v9 (by decide), keep6 _ main_arg11 (by decide), keep6 _ main_arg12 (by decide), keep6 _ main_arg13 (by decide), keep6 _ main_arg14 (by decide), keep6 _ main_arg15 (by decide), keep6 _ main_arg16 (by decide), keep6 _ main_v24 (by decide), out6, keep6 _ main_v9 (by decide), keep5 _ main_arg11 (by decide), keep5 _ main_arg12 (by decide), keep5 _ main_arg13 (by decide), keep5 _ main_arg14 (by decide), keep5 _ main_arg15 (by decide), keep5 _ main_arg16 (by decide), keep5 _ main_v24 (by decide), out5, keep5 _ main_v9 (by decide), keep4 _ main_arg0 (by decide), keep4 _ main_arg11 (by decide), keep4 _ main_arg12 (by decide), keep4 _ main_arg13 (by decide), keep4 _ main_arg14 (by decide), keep4 _ main_arg15 (by decide), keep4 _ main_arg16 (by decide), keep4 _ main_arg4 (by decide), out4, keep4 _ main_v9 (by decide), keep3 _ main_arg0 (by decide), keep3 _ main_arg10 (by decide), keep3 _ main_arg11 (by decide), keep3 _ main_arg12 (by decide), keep3 _ main_arg13 (by decide), keep3 _ main_arg14 (by decide), keep3 _ main_arg15 (by decide), keep3 _ main_arg16 (by decide), keep3 _ main_arg4 (by decide), keep3 _ main_arg9 (by decide), out3, keep3 _ main_v9 (by decide), keep2 _ main_arg0 (by decide), keep2 _ main_arg10 (by decide), keep2 _ main_arg11 (by decide), keep2 _ main_arg12 (by decide), keep2 _ main_arg13 (by decide), keep2 _ main_arg14 (by decide), keep2 _ main_arg15 (by decide), keep2 _ main_arg16 (by decide), keep2 _ main_arg4 (by decide), keep2 _ main_arg7 (by decide), keep2 _ main_arg8 (by decide), keep2 _ main_arg9 (by decide), keep2 _ main_v10 (by decide), out2, keep2 _ main_v9 (by decide), keep1 _ main_arg0 (by decide), keep1 _ main_arg10 (by decide), keep1 _ main_arg11 (by decide), keep1 _ main_arg12 (by decide), keep1 _ main_arg13 (by decide), keep1 _ main_arg14 (by decide), keep1 _ main_arg15 (by decide), keep1 _ main_arg16 (by decide), keep1 _ main_arg2 (by decide), keep1 _ main_arg4 (by decide), keep1 _ main_arg6 (by decide), keep1 _ main_arg7 (by decide), keep1 _ main_arg8 (by decide), keep1 _ main_arg9 (by decide), out1, keep1 _ main_v9 (by decide), keep0 _ main_arg0 (by decide), keep0 _ main_arg1 (by decide), keep0 _ main_arg10 (by decide), keep0 _ main_arg11 (by decide), keep0 _ main_arg12 (by decide), keep0 _ main_arg13 (by decide), keep0 _ main_arg14 (by decide), keep0 _ main_arg15 (by decide), keep0 _ main_arg16 (by decide), keep0 _ main_arg2 (by decide), keep0 _ main_arg4 (by decide), keep0 _ main_arg5 (by decide), keep0 _ main_arg6 (by decide), keep0 _ main_arg7 (by decide), keep0 _ main_arg8 (by decide), keep0 _ main_arg9 (by decide), out0]
  rfl

/-- The reference has no scoped buffer. -/
theorem scopedRefs_eq : (Finset.univ.filter fun b : Ref sig .tc => b.isScoped) = ∅ := by decide

/-- The reference has no scoped semaphore. -/
theorem scopedSems_eq : (Finset.univ.filter fun sm : SemLoc sig => sm.isScoped .tc) = ∅ := by decide

/-- All the reference's operations use the host's buffers. -/
theorem ops_sub : (ops : List (HloOp τ sig (Elt F))).Forall fun op => op.bufs ⊆ tcRefs τ sig := by
  simp only [ops, List.forall_append]
  exact ⟨sub0, sub1, sub2, sub3, sub4, sub5, sub6, sub7, sub8, sub9, sub10, sub11, sub12, sub13, sub14⟩

/-- None of the reference's operations takes a new buffer. -/
theorem ops_fresh : (ops : List (HloOp τ sig (Elt F))).Forall fun op => op.fresh = ∅ := by
  simp only [ops, List.forall_append]
  exact ⟨fresh0, fresh1, fresh2, fresh3, fresh4, fresh5, fresh6, fresh7, fresh8, fresh9, fresh10, fresh11, fresh12, fresh13, fresh14⟩

set_option maxHeartbeats 4000000 in
set_option maxRecDepth 16384 in
/-- @main is those stages. -/
theorem main_eq (c : Dev nD) : main (F := F) c = seq ops := by
  simp only [ops, seq_append]
  simp only [main, main_part0, main_part1, fn_take.body, fn_take_0.body, fn_take_1.body, fn_take_3.body, fn_take_6.body, fn_where.body, fn_where_2.body, fn_where_4.body, fn_where_5.body, fn_relu.body, seq, bind_assoc, pure_bind]

/-- Every execution of the reference ends with the result, the arguments as they were and the counters at nought. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v68) = result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
        ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16)) ∧ r.2.sem = fun _ => 0) :=
  (θ_run defs _ _).mono (fun r h => ⟨fun c => ⟨(h c _).trans (out_eq _), (h c main_arg0).trans (kept _ _ (by decide) (by decide) (by decide) (by decide) (by decide) (by decide) (by decide) (by decide) (by decide) (by decide) (by decide) (by decide) (by decide) (by decide) (by decide)), (h c main_arg1).trans (kept _ _ (by decide) (by decide) (by decide) (by decide) (by decide) (by decide) (by decide) (by decide) (by decide) (by decide) (by decide) (by decide) (by decide) (by decide) (by decide)), (h c main_arg2).trans (kept _ _ (by decide) (by decide) (by decide) (by decide) (by decide) (by decide) (by decide) (by decide) (by decide) (by decide) (by decide) (by decide) (by decide) (by decide) (by decide)), (h c main_arg3).trans (kept _ _ (by decide) (by decide) (by decide) (by decide) (by decide) (by decide) (by decide) (by decide) (by decide) (by decide) (by decide) (by decide) (by decide) (by decide) (by decide)), (h c main_arg4).trans (kept _ _ (by decide) (by decide) (by decide) (by decide) (by decide) (by decide) (by decide) (by decide) (by decide) (by decide) (by decide) (by decide) (by decide) (by decide) (by decide)), (h c main_arg5).trans (kept _ _ (by decide) (by decide) (by decide) (by decide) (by decide) (by decide) (by decide) (by decide) (by decide) (by decide) (by decide) (by decide) (by decide) (by decide) (by decide)), (h c main_arg6).trans (kept _ _ (by decide) (by decide) (by decide) (by decide) (by decide) (by decide) (by decide) (by decide) (by decide) (by decide) (by decide) (by decide) (by decide) (by decide) (by decide)), (h c main_arg7).trans (kept _ _ (by decide) (by decide) (by decide) (by decide) (by decide) (by decide) (by decide) (by decide) (by decide) (by decide) (by decide) (by decide) (by decide) (by decide) (by decide)), (h c main_arg8).trans (kept _ _ (by decide) (by decide) (by decide) (by decide) (by decide) (by decide) (by decide) (by decide) (by decide) (by decide) (by decide) (by decide) (by decide) (by decide) (by decide)), (h c main_arg9).trans (kept _ _ (by decide) (by decide) (by decide) (by decide) (by decide) (by decide) (by decide) (by decide) (by decide) (by decide) (by decide) (by decide) (by decide) (by decide) (by decide)), (h c main_arg10).trans (kept _ _ (by decide) (by decide) (by decide) (by decide) (by decide) (by decide) (by decide) (by decide) (by decide) (by decide) (by decide) (by decide) (by decide) (by decide) (by decide)), (h c main_arg11).trans (kept _ _ (by decide) (by decide) (by decide) (by decide) (by decide) (by decide) (by decide) (by decide) (by decide) (by decide) (by decide) (by decide) (by decide) (by decide) (by decide)), (h c main_arg12).trans (kept _ _ (by decide) (by decide) (by decide) (by decide) (by decide) (by decide) (by decide) (by decide) (by decide) (by decide) (by decide) (by decide) (by decide) (by decide) (by decide)), (h c main_arg13).trans (kept _ _ (by decide) (by decide) (by decide) (by decide) (by decide) (by decide) (by decide) (by decide) (by decide) (by decide) (by decide) (by decide) (by decide) (by decide) (by decide)), (h c main_arg14).trans (kept _ _ (by decide) (by decide) (by decide) (by decide) (by decide) (by decide) (by decide) (by decide) (by decide) (by decide) (by decide) (by decide) (by decide) (by decide) (by decide)), (h c main_arg15).trans (kept _ _ (by decide) (by decide) (by decide) (by decide) (by decide) (by decide) (by decide) (by decide) (by decide) (by decide) (by decide) (by decide) (by decide) (by decide) (by decide)), (h c main_arg16).trans (kept _ _ (by decide) (by decide) (by decide) (by decide) (by decide) (by decide) (by decide) (by decide) (by decide) (by decide) (by decide) (by decide) (by decide) (by decide) (by decide))⟩,
      sem_eq_zero_of_no_sems (by decide) r.2⟩)
    (run_seq scopedRefs_eq scopedSems_eq defs main (fun _ => ops) main_eq (fun _ => ops_sub) m ρ (fun _ => List.forall_iff_forall_mem.1 ops_fresh))

end Cert.Proof.Ref

end
-- ==== Proof.RefValue.lean ====
/-
  The reference's stages in real numbers.
-/
module

public import proofs.«01_k».proof.Proof.Ref
public import proofs.«01_k».proof.Proof.Model
public import Idealize.ShloMosaic.Lib.Pointwise
public import Idealize.ShloMosaic.Lib.ReduceAll
public import Idealize.ShloMosaic.Lib.Routing.OpsSet
public import Idealize.ShloMosaic.Lib.Routing.OpsPair
public import Idealize.ShloMosaic.Lib.Routing.OpsSearch

@[expose] public section

noncomputable section

namespace Cert.Proof.RefValue

open Cert.ReferenceIdeal Cert.ReferenceIdeal.Gen
open Idealize.ShloMosaic
open Cert.Proof.Online Cert.Proof.Model Cert.Proof.Ref

set_option maxRecDepth 16384

/-- A small word is within a take's bounds. -/
theorem in_bounds (v : BitVec 32) (n : ℕ) (hn : n < 2147483648) (h : v.toNat ≤ n) :
    IntOp.andi (IntOp.cmpi .sge v 0#32) (IntOp.cmpi .sle v (BitVec.ofNat 32 n)) = 1#1 := by
  have hi : v.toInt = v.toNat := BitVec.toInt_eq_toNat_of_lt (by omega)
  have hk : (BitVec.ofNat 32 n).toInt = n := by
    have e : (BitVec.ofNat 32 n).toNat = n := by rw [BitVec.toNat_ofNat]; omega
    rw [BitVec.toInt_eq_toNat_of_lt (by omega), e]
  rw [show IntOp.cmpi .sge v 0#32 = 1#1 from IntOp.cmpi_sge.2 (by rw [hi]; exact Int.natCast_nonneg _),
    show IntOp.cmpi .sle v (BitVec.ofNat 32 n) = 1#1 from IntOp.cmpi_sle.2 (by rw [hi, hk]; exact_mod_cast h)]
  rfl

/-- A small word is not wrapped. -/
theorem no_wrap (v a : BitVec 32) (h : v.toNat < 2147483648) : Scalar.select (IntOp.cmpi .slt v 0#32) a v = v :=
  Routing.wrap_of_lt v a h

/-- The rows taken, at indices inside the table. -/
theorem takeItems_val (x : S1000000x64.Idx → EReal) (y : S32768.Idx → BitVec 32) (h : ∀ t, (y t).toNat < 1000000) (t : Fin 32768) (k : Fin 64) :
    takeItems (F := Ideal) x y (ix2 t k) = x (ix2 ⟨(y (ix1 t)).toNat, h _⟩ k) := by
  have hc : ∀ t : Fin 32768, (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (ValueIdx.ix2 t (0 : Fin 1)) = y (ix1 t) := fun t => by
    rw [← ix2_eq_valueIdx]
    pointwise
    exact no_wrap _ _ (by have := h (ix1 t); omega)
  have hm : (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![0, 1] bcast_S1x1_S32768x1_0_1 (broadcastInDim S1x1 ![1] bcast_S1_S1x1_1 (constantI S1 32 999999#32))))) (constantI S_ 1 1#1) reducesTo_S32768x1_S32768_d1 h_S_) (ix1 t) = 1#1 := by
    refine Host.reduce_andi_one _ _ _ _ _ rfl fun i => ?_
    obtain ⟨a, b, rfl⟩ : ∃ (a : Fin 32768) (b : Fin 1), i = ValueIdx.ix2 a b := ⟨i 0, i 1, ValueIdx.eq_ix2 i⟩
    have hb : b = 0 := Subsingleton.elim _ _
    subst hb
    show IntOp.andi (IntOp.cmpi .sge ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (ValueIdx.ix2 a (0 : Fin 1))) 0#32) (IntOp.cmpi .sle ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (ValueIdx.ix2 a (0 : Fin 1))) (BitVec.ofNat 32 999999)) = 1#1
    rw [hc]
    exact in_bounds _ _ (by decide) (by have := h (ix1 a); omega)
  have hg : Host.gather gather_S1000000x64_S32768x1_S32768x64_1_0_n_n_0_1_164 x (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (ix2 t k) = x (ix2 ⟨(y (ix1 t)).toNat, h _⟩ k) := Routing.gather_row gather_S1000000x64_S32768x1_S32768x64_1_0_n_n_0_1_164 rfl rfl rfl rfl rfl x _ t k ⟨_, h _⟩ (by rw [hc]; simp) (by decide)
  unfold takeItems
  show Scalar.select (broadcastInDim S32768x64 ![0] bcast_S32768_S32768x64_0 (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![0, 1] bcast_S1x1_S32768x1_0_1 (broadcastInDim S1x1 ![1] bcast_S1_S1x1_1 (constantI S1 32 999999#32))))) (constantI S_ 1 1#1) reducesTo_S32768x1_S32768_d1 h_S_) (ix2 t k)) _ _ = _
  rw [show broadcastInDim S32768x64 ![0] bcast_S32768_S32768x64_0 (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![0, 1] bcast_S1x1_S32768x1_0_1 (broadcastInDim S1x1 ![1] bcast_S1_S1x1_1 (constantI S1 32 999999#32))))) (constantI S_ 1 1#1) reducesTo_S32768x1_S32768_d1 h_S_) (ix2 t k) = (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 1000000#32))) y)) (broadcastInDim S32768x1 ![0, 1] bcast_S1x1_S32768x1_0_1 (broadcastInDim S1x1 ![1] bcast_S1_S1x1_1 (constantI S1 32 999999#32))))) (constantI S_ 1 1#1) reducesTo_S32768x1_S32768_d1 h_S_) (ix1 t) from by pointwise]
  rw [hm]
  exact (if_pos rfl).trans hg

/-- The rows taken, at indices inside the table. -/
theorem takeRatings_val (x : S5x64.Idx → EReal) (y : S32768.Idx → BitVec 32) (h : ∀ t, (y t).toNat < 5) (t : Fin 32768) (k : Fin 64) :
    takeRatings (F := Ideal) x y (ix2 t k) = x (ix2 ⟨(y (ix1 t)).toNat, h _⟩ k) := by
  have hc : ∀ t : Fin 32768, (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (ValueIdx.ix2 t (0 : Fin 1)) = y (ix1 t) := fun t => by
    rw [← ix2_eq_valueIdx]
    pointwise
    exact no_wrap _ _ (by have := h (ix1 t); omega)
  have hm : (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![0, 1] bcast_S1x1_S32768x1_0_1 (broadcastInDim S1x1 ![1] bcast_S1_S1x1_1 (constantI S1 32 4#32))))) (constantI S_ 1 1#1) reducesTo_S32768x1_S32768_d1 h_S_) (ix1 t) = 1#1 := by
    refine Host.reduce_andi_one _ _ _ _ _ rfl fun i => ?_
    obtain ⟨a, b, rfl⟩ : ∃ (a : Fin 32768) (b : Fin 1), i = ValueIdx.ix2 a b := ⟨i 0, i 1, ValueIdx.eq_ix2 i⟩
    have hb : b = 0 := Subsingleton.elim _ _
    subst hb
    show IntOp.andi (IntOp.cmpi .sge ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (ValueIdx.ix2 a (0 : Fin 1))) 0#32) (IntOp.cmpi .sle ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (ValueIdx.ix2 a (0 : Fin 1))) (BitVec.ofNat 32 4)) = 1#1
    rw [hc]
    exact in_bounds _ _ (by decide) (by have := h (ix1 a); omega)
  have hg : Host.gather gather_S5x64_S32768x1_S32768x64_1_0_n_n_0_1_164 x (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (ix2 t k) = x (ix2 ⟨(y (ix1 t)).toNat, h _⟩ k) := Routing.gather_row gather_S5x64_S32768x1_S32768x64_1_0_n_n_0_1_164 rfl rfl rfl rfl rfl x _ t k ⟨_, h _⟩ (by rw [hc]; simp) (by decide)
  unfold takeRatings
  show Scalar.select (broadcastInDim S32768x64 ![0] bcast_S32768_S32768x64_0 (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![0, 1] bcast_S1x1_S32768x1_0_1 (broadcastInDim S1x1 ![1] bcast_S1_S1x1_1 (constantI S1 32 4#32))))) (constantI S_ 1 1#1) reducesTo_S32768x1_S32768_d1 h_S_) (ix2 t k)) _ _ = _
  rw [show broadcastInDim S32768x64 ![0] bcast_S32768_S32768x64_0 (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![0, 1] bcast_S1x1_S32768x1_0_1 (broadcastInDim S1x1 ![1] bcast_S1_S1x1_1 (constantI S1 32 4#32))))) (constantI S_ 1 1#1) reducesTo_S32768x1_S32768_d1 h_S_) (ix2 t k) = (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 5#32))) y)) (broadcastInDim S32768x1 ![0, 1] bcast_S1x1_S32768x1_0_1 (broadcastInDim S1x1 ![1] bcast_S1_S1x1_1 (constantI S1 32 4#32))))) (constantI S_ 1 1#1) reducesTo_S32768x1_S32768_d1 h_S_) (ix1 t) from by pointwise]
  rw [hm]
  exact (if_pos rfl).trans hg

/-- The rows taken, at indices inside the table. -/
theorem takeUsers_val (x : S100000x64.Idx → EReal) (y : S16.Idx → BitVec 32) (h : ∀ t, (y t).toNat < 100000) (t : Fin 16) (k : Fin 64) :
    takeUsers (F := Ideal) x y (ix2 t k) = x (ix2 ⟨(y (ix1 t)).toNat, h _⟩ k) := by
  have hc : ∀ t : Fin 16, (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (ValueIdx.ix2 t (0 : Fin 1)) = y (ix1 t) := fun t => by
    rw [← ix2_eq_valueIdx]
    pointwise
    exact no_wrap _ _ (by have := h (ix1 t); omega)
  have hm : (Host.reduce IntOp.andi (andi (cmpi .sge (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![] bcast_S_S16x1 (constantI S_ 32 0#32))) (cmpi .sle (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![0, 1] bcast_S1x1_S16x1_0_1 (broadcastInDim S1x1 ![1] bcast_S1_S1x1_1 (constantI S1 32 99999#32))))) (constantI S_ 1 1#1) reducesTo_S16x1_S16_d1 h_S_) (ix1 t) = 1#1 := by
    refine Host.reduce_andi_one _ _ _ _ _ rfl fun i => ?_
    obtain ⟨a, b, rfl⟩ : ∃ (a : Fin 16) (b : Fin 1), i = ValueIdx.ix2 a b := ⟨i 0, i 1, ValueIdx.eq_ix2 i⟩
    have hb : b = 0 := Subsingleton.elim _ _
    subst hb
    show IntOp.andi (IntOp.cmpi .sge ((broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (ValueIdx.ix2 a (0 : Fin 1))) 0#32) (IntOp.cmpi .sle ((broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (ValueIdx.ix2 a (0 : Fin 1))) (BitVec.ofNat 32 99999)) = 1#1
    rw [hc]
    exact in_bounds _ _ (by decide) (by have := h (ix1 a); omega)
  have hg : Host.gather gather_S100000x64_S16x1_S16x64_1_0_n_n_0_1_164 x (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (ix2 t k) = x (ix2 ⟨(y (ix1 t)).toNat, h _⟩ k) := Routing.gather_row gather_S100000x64_S16x1_S16x64_1_0_n_n_0_1_164 rfl rfl rfl rfl rfl x _ t k ⟨_, h _⟩ (by rw [hc]; simp) (by decide)
  unfold takeUsers
  show Scalar.select (broadcastInDim S16x64 ![0] bcast_S16_S16x64_0 (Host.reduce IntOp.andi (andi (cmpi .sge (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![] bcast_S_S16x1 (constantI S_ 32 0#32))) (cmpi .sle (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![0, 1] bcast_S1x1_S16x1_0_1 (broadcastInDim S1x1 ![1] bcast_S1_S1x1_1 (constantI S1 32 99999#32))))) (constantI S_ 1 1#1) reducesTo_S16x1_S16_d1 h_S_) (ix2 t k)) _ _ = _
  rw [show broadcastInDim S16x64 ![0] bcast_S16_S16x64_0 (Host.reduce IntOp.andi (andi (cmpi .sge (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![] bcast_S_S16x1 (constantI S_ 32 0#32))) (cmpi .sle (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![0, 1] bcast_S1x1_S16x1_0_1 (broadcastInDim S1x1 ![1] bcast_S1_S1x1_1 (constantI S1 32 99999#32))))) (constantI S_ 1 1#1) reducesTo_S16x1_S16_d1 h_S_) (ix2 t k) = (Host.reduce IntOp.andi (andi (cmpi .sge (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![] bcast_S_S16x1 (constantI S_ 32 0#32))) (cmpi .sle (broadcastInDim S16x1 ![0] bcast_S16_S16x1_0 (select (cmpi .slt y (broadcastInDim S16 ![] bcast_S_S16 (constantI S_ 32 0#32))) (addi y (broadcastInDim S16 ![] bcast_S_S16 (constantI S_ 32 100000#32))) y)) (broadcastInDim S16x1 ![0, 1] bcast_S1x1_S16x1_0_1 (broadcastInDim S1x1 ![1] bcast_S1_S1x1_1 (constantI S1 32 99999#32))))) (constantI S_ 1 1#1) reducesTo_S16x1_S16_d1 h_S_) (ix1 t) from by pointwise]
  rw [hm]
  exact (if_pos rfl).trans hg

/-- The rows taken, at indices inside the table. -/
theorem takeOwn_val (x : S16x64.Idx → EReal) (y : S32768.Idx → BitVec 32) (h : ∀ t, (y t).toNat < 16) (t : Fin 32768) (k : Fin 64) :
    takeOwn (F := Ideal) x y (ix2 t k) = x (ix2 ⟨(y (ix1 t)).toNat, h _⟩ k) := by
  have hc : ∀ t : Fin 32768, (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ValueIdx.ix2 t (0 : Fin 1)) = y (ix1 t) := fun t => by
    rw [← ix2_eq_valueIdx]
    pointwise
    exact no_wrap _ _ (by have := h (ix1 t); omega)
  have hm : (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![0, 1] bcast_S1x1_S32768x1_0_1 (broadcastInDim S1x1 ![1] bcast_S1_S1x1_1 (constantI S1 32 15#32))))) (constantI S_ 1 1#1) reducesTo_S32768x1_S32768_d1 h_S_) (ix1 t) = 1#1 := by
    refine Host.reduce_andi_one _ _ _ _ _ rfl fun i => ?_
    obtain ⟨a, b, rfl⟩ : ∃ (a : Fin 32768) (b : Fin 1), i = ValueIdx.ix2 a b := ⟨i 0, i 1, ValueIdx.eq_ix2 i⟩
    have hb : b = 0 := Subsingleton.elim _ _
    subst hb
    show IntOp.andi (IntOp.cmpi .sge ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ValueIdx.ix2 a (0 : Fin 1))) 0#32) (IntOp.cmpi .sle ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ValueIdx.ix2 a (0 : Fin 1))) (BitVec.ofNat 32 15)) = 1#1
    rw [hc]
    exact in_bounds _ _ (by decide) (by have := h (ix1 a); omega)
  have hg : Host.gather gather_S16x64_S32768x1_S32768x64_1_0_n_n_0_1_164 x (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ix2 t k) = x (ix2 ⟨(y (ix1 t)).toNat, h _⟩ k) := Routing.gather_row gather_S16x64_S32768x1_S32768x64_1_0_n_n_0_1_164 rfl rfl rfl rfl rfl x _ t k ⟨_, h _⟩ (by rw [hc]; simp) (by decide)
  unfold takeOwn
  show Scalar.select (broadcastInDim S32768x64 ![0] bcast_S32768_S32768x64_0 (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![0, 1] bcast_S1x1_S32768x1_0_1 (broadcastInDim S1x1 ![1] bcast_S1_S1x1_1 (constantI S1 32 15#32))))) (constantI S_ 1 1#1) reducesTo_S32768x1_S32768_d1 h_S_) (ix2 t k)) _ _ = _
  rw [show broadcastInDim S32768x64 ![0] bcast_S32768_S32768x64_0 (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![0, 1] bcast_S1x1_S32768x1_0_1 (broadcastInDim S1x1 ![1] bcast_S1_S1x1_1 (constantI S1 32 15#32))))) (constantI S_ 1 1#1) reducesTo_S32768x1_S32768_d1 h_S_) (ix2 t k) = (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![0, 1] bcast_S1x1_S32768x1_0_1 (broadcastInDim S1x1 ![1] bcast_S1_S1x1_1 (constantI S1 32 15#32))))) (constantI S_ 1 1#1) reducesTo_S32768x1_S32768_d1 h_S_) (ix1 t) from by pointwise]
  rw [hm]
  exact (if_pos rfl).trans hg

/-- The rows taken, at indices inside the table. -/
theorem takeSeg_val (x : S16.Idx → EReal) (y : S32768.Idx → BitVec 32) (h : ∀ t, (y t).toNat < 16) (t : Fin 32768) :
    takeSeg (F := Ideal) x y (ix1 t) = x (ix1 ⟨(y (ix1 t)).toNat, h _⟩) := by
  have hc : ∀ t : Fin 32768, (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ValueIdx.ix2 t (0 : Fin 1)) = y (ix1 t) := fun t => by
    rw [← ix2_eq_valueIdx]
    pointwise
    exact no_wrap _ _ (by have := h (ix1 t); omega)
  have hm : (Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![0, 1] bcast_S1x1_S32768x1_0_1 (broadcastInDim S1x1 ![1] bcast_S1_S1x1_1 (constantI S1 32 15#32))))) (constantI S_ 1 1#1) reducesTo_S32768x1_S32768_d1 h_S_) (ix1 t) = 1#1 := by
    refine Host.reduce_andi_one _ _ _ _ _ rfl fun i => ?_
    obtain ⟨a, b, rfl⟩ : ∃ (a : Fin 32768) (b : Fin 1), i = ValueIdx.ix2 a b := ⟨i 0, i 1, ValueIdx.eq_ix2 i⟩
    have hb : b = 0 := Subsingleton.elim _ _
    subst hb
    show IntOp.andi (IntOp.cmpi .sge ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ValueIdx.ix2 a (0 : Fin 1))) 0#32) (IntOp.cmpi .sle ((broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ValueIdx.ix2 a (0 : Fin 1))) (BitVec.ofNat 32 15)) = 1#1
    rw [hc]
    exact in_bounds _ _ (by decide) (by have := h (ix1 a); omega)
  have hg : Host.gather gather_S16_S32768x1_S32768_n_0_n_n_0_1_1 x (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (ix1 t) = x (ix1 ⟨(y (ix1 t)).toNat, h _⟩) := Routing.gather_take1 gather_S16_S32768x1_S32768_n_0_n_n_0_1_1 rfl rfl rfl rfl x _ t ⟨_, h _⟩ (by rw [hc]; simp) (by decide)
  unfold takeSeg
  show Scalar.select ((Host.reduce IntOp.andi (andi (cmpi .sge (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![] bcast_S_S32768x1 (constantI S_ 32 0#32))) (cmpi .sle (broadcastInDim S32768x1 ![0] bcast_S32768_S32768x1_0 (select (cmpi .slt y (broadcastInDim S32768 ![] bcast_S_S32768 (constantI S_ 32 0#32))) (addi y (broadcastInDim S32768 ![] bcast_S_S32768 (constantI S_ 32 16#32))) y)) (broadcastInDim S32768x1 ![0, 1] bcast_S1x1_S32768x1_0_1 (broadcastInDim S1x1 ![1] bcast_S1_S1x1_1 (constantI S1 32 15#32))))) (constantI S_ 1 1#1) reducesTo_S32768x1_S32768_d1 h_S_) (ix1 t)) _ _ = _

  rw [hm]
  exact (if_pos rfl).trans hg

/-- A layer over two tables side by side. -/
theorem layerTwo_val (x y : S32768x64.Idx → EReal) (z : S64x128.Idx → EReal) (w : S64.Idx → EReal) (t : Fin 32768) (j : Fin 64) :
    layerTwo (F := Ideal) x y z w (ix2 t j)
      = max ((∑ k : Fin 64, x (ix2 t k) * z (ix2 j ⟨k.val, by omega⟩)) + (∑ k : Fin 64, y (ix2 t k) * z (ix2 j ⟨64 + k.val, by omega⟩)) + w (ix1 j)) 0 := by
  pointwise [layerTwo]

/-- A dense layer with its activation, at an index. -/
theorem layerOne_val (x : S32768x64.Idx → EReal) (z : S64x64.Idx → EReal) (w : S64.Idx → EReal) (t : Fin 32768) (j : Fin 64) :
    layerOne (F := Ideal) x z w (ix2 t j) = max ((∑ k : Fin 64, x (ix2 t k) * z (ix2 j k)) + w (ix1 j)) 0 := by
  pointwise [layerOne]

/-- The scorer's last layer, at an index. -/
theorem score_val (x : S32768x64.Idx → EReal) (z : S1x64.Idx → EReal) (w : S1.Idx → EReal) (t : Fin 32768) :
    score (F := Ideal) x z w (ix1 t) = (∑ k : Fin 64, x (ix2 t k) * z (ix2 0 k)) + w (ix1 0) := by
  pointwise [score]

/-- The largest score of a segment, minus infinity standing for the others' tokens. -/
theorem largest_val (x : S32768.Idx → BitVec 32) (y : S32768.Idx → EReal) (b : Fin 16) :
    largest (F := Ideal) x y (ix1 b)
      = Finset.univ.fold max ⊥ (fun t : Fin 32768 => if x (ix1 t) = BitVec.ofNat 32 b.val then y (ix1 t) else ⊥) := by
  pointwise [largest]
  simp only [bot_bits, sel, eq_bit]
  rfl

/-- A token's segment: the number of bounds at or below it, less one. -/
theorem segs_val (x : S17.Idx → BitVec 32) (t : Fin 32768) (Q : ℕ → Prop) [DecidablePred Q] (hQ : ∀ q : Fin 17, IntOp.cmpi .sle (x (ix1 q)) (BitVec.ofNat 32 t.val) = 1#1 ↔ Q q.val) :
    segs x (ix1 t) = BitVec.ofNat 32 (Nat.count Q 17) - 1#32 := by
  refine congrArg (· - 1#32) (Routing.reduce_count (by decide) _ natLt_1_32 reducesTo_S32768x17_S32768_d1 h_S_ t Q fun q => ?_)
  rw [← ix2_eq_valueIdx]
  pointwise
  exact hQ q

/-- Where a token's weight is added: its segment. -/
theorem start1 (w : S32768x1.Idx → BitVec 32) (t : Fin 32768) : (scatter_S16_S32768x1_S32768_n_0_0_1).start (ix1 t) w 0 = (w (ix2 t 0)).toInt := by
  unfold ScatterDims.start
  rw [dif_pos (by decide)]
  congr 1
  congr 1
  funext a
  match a with
  | ⟨0, _⟩ => rfl
  | ⟨1, _⟩ => rfl

/-- A token's weight is a single number. -/
theorem win1 (t : Fin 32768) : (scatter_S16_S32768x1_S32768_n_0_0_1).window (ix1 t) 0 = 0 := by
  unfold ScatterDims.window
  rw [dif_neg (by decide)]

/-- Where a token's row is added: its segment's row. -/
theorem start2 (w : S32768x1.Idx → BitVec 32) (t : Fin 32768) (k : Fin 64) : (scatter_S16x64_S32768x1_S32768x64_1_0_0_1).start (ix2 t k) w 0 = (w (ix2 t 0)).toInt := by
  unfold ScatterDims.start
  rw [dif_pos (by decide)]
  congr 1
  congr 1
  funext a
  match a with
  | ⟨0, _⟩ => rfl
  | ⟨1, _⟩ => rfl

/-- A token's row is added from the first column on. -/
theorem start2' (w : S32768x1.Idx → BitVec 32) (t : Fin 32768) (k : Fin 64) : (scatter_S16x64_S32768x1_S32768x64_1_0_0_1).start (ix2 t k) w 1 = 0 := by
  unfold ScatterDims.start
  rw [dif_neg (by decide)]

/-- A token's row is added into one row. -/
theorem win2 (t : Fin 32768) (k : Fin 64) : (scatter_S16x64_S32768x1_S32768x64_1_0_0_1).window (ix2 t k) 0 = 0 := by
  unfold ScatterDims.window
  rw [dif_neg (by decide)]

/-- A token's column stays its column. -/
theorem win2' (t : Fin 32768) (k : Fin 64) : (scatter_S16x64_S32768x1_S32768x64_1_0_0_1).window (ix2 t k) 1 = k.val := by
  unfold ScatterDims.window
  rw [dif_pos (by decide)]
  rfl

/-- Each segment's sum of weights. -/
theorem sums_val (x y : S32768.Idx → EReal) (z : S32768.Idx → BitVec 32) (b : Fin 16) :
    sums (F := Ideal) x y z (ix1 b) = ∑ t : Fin 32768, if (z (ix1 t)).toInt = (b.val : ℤ) then Ideal.exp (x (ix1 t) - y (ix1 t)) else 0 := by
  have hz : ∀ t : Fin 32768, broadcastInDim S32768x1 ![0] bcast_S32768_S32768x1_0 z (ix2 t 0) = z (ix1 t) := fun t => by pointwise
  have h0 : broadcastInDim S16 ![] bcast_S_S16 (constant (F := Ideal) S_ .f32 0x00000000#32) (ix1 b) = (0 : EReal) := by pointwise
  unfold sums
  show Ideal.hostScatterAdd scatter_S16_S32768x1_S32768_n_0_0_1 _ _ _ (ix1 b) = _
  unfold Ideal.hostScatterAdd
  rw [h0, zero_add, Finset.sum_filter, sum_idx1]
  refine Finset.sum_congr rfl fun t _ => ?_
  have e : scatter_S16_S32768x1_S32768_n_0_0_1.resultIdx? (ix1 t) (broadcastInDim S32768x1 ![0] bcast_S32768_S32768x1_0 z) = some (ix1 b) ↔ (z (ix1 t)).toInt = (b.val : ℤ) := by
    refine (Routing.resultIdx?_ix1 _ _ _ b).trans ?_
    rw [start1, win1, hz]; simp
  exact if_congr e rfl rfl

/-- The weighted rows' sums. -/
theorem pool_val (x : S32768x64.Idx → EReal) (y z : S32768.Idx → EReal) (w : S32768.Idx → BitVec 32) (b : Fin 16) (j : Fin 64) :
    Cert.Proof.Ref.pool (F := Ideal) x y z w (ix2 b j) = ∑ t : Fin 32768, if (w (ix1 t)).toInt = (b.val : ℤ) then x (ix2 t j) * Ideal.div (y (ix1 t)) (z (ix1 t)) else 0 := by
  have hz : ∀ t : Fin 32768, broadcastInDim S32768x1 ![0] bcast_S32768_S32768x1_0 w (ix2 t 0) = w (ix1 t) := fun t => by pointwise
  have h0 : broadcastInDim S16x64 ![] bcast_S_S16x64 (constant (F := Ideal) S_ .f32 0x00000000#32) (ix2 b j) = (0 : EReal) := by pointwise
  have ha : ∀ (t : Fin 32768) (k : Fin 64), mulf (F := Ideal) (φ := .f32) x (broadcastInDim S32768x64 ![0, 1] bcast_S32768x1_S32768x64_0_1 (broadcastInDim S32768x1 ![0] bcast_S32768_S32768x1_0 (Host.divf (F := Ideal) (φ := .f32) y z))) (ix2 t k)
      = x (ix2 t k) * Ideal.div (y (ix1 t)) (z (ix1 t)) := fun t k => by pointwise
  unfold Cert.Proof.Ref.pool
  show Ideal.hostScatterAdd scatter_S16x64_S32768x1_S32768x64_1_0_0_1 _ _ _ (ix2 b j) = _
  unfold Ideal.hostScatterAdd
  rw [h0, zero_add, Finset.sum_filter, sum_idx2]
  refine Finset.sum_congr rfl fun t _ => ?_
  have e : ∀ k : Fin 64, scatter_S16x64_S32768x1_S32768x64_1_0_0_1.resultIdx? (ix2 t k) (broadcastInDim S32768x1 ![0] bcast_S32768_S32768x1_0 w) = some (ix2 b j)
      ↔ (w (ix1 t)).toInt = (b.val : ℤ) ∧ k = j := fun k => by
    refine (Routing.resultIdx?_ix2 _ _ _ b j).trans ?_
    rw [start2, start2', win2, win2', hz, Fin.ext_iff]; simp
  rw [Finset.sum_eq_single j]
  · refine (if_congr (e j) rfl rfl).trans ?_
    simp only [and_true, ha]
  · intro k _ hk
    exact if_neg fun h => hk ((e k).1 h).2
  · intro h; exact absurd (Finset.mem_univ _) h

end Cert.Proof.RefValue

end
-- ==== Proof.RefResult.lean ====
/-
  The reference's result in real numbers.
-/
module

public import proofs.«01_k».proof.Proof.RefValue
public import proofs.«01_k».proof.Proof.Lift

@[expose] public section

noncomputable section

namespace Cert.Proof.RefResult

open Cert.ReferenceIdeal Cert.ReferenceIdeal.Gen
open Idealize.ShloMosaic
open Cert.Proof.Online Cert.Proof.Model Cert.Proof.Ref Cert.Proof.RefValue Cert.Proof.Lift

set_option maxRecDepth 16384

variable {D : Data} {x0 : S16.Idx → BitVec 32} {x1 x2 : S32768.Idx → BitVec 32} {x3 : S17.Idx → BitVec 32} {x4 : S100000x64.Idx → EReal} {x5 : S1000000x64.Idx → EReal} {x6 : S5x64.Idx → EReal} {x7 : S64x128.Idx → EReal} {x8 : S64.Idx → EReal} {x9 : S64x64.Idx → EReal} {x10 : S64.Idx → EReal} {x11 : S64x128.Idx → EReal} {x12 : S64.Idx → EReal} {x13 : S64x64.Idx → EReal} {x14 : S64.Idx → EReal} {x15 : S1x64.Idx → EReal} {x16 : S1.Idx → EReal}

/-- A token's segment, as the reference counts it. -/
theorem segs_of (H : Of D x0 x1 x2 x3 x4 x5 x6 x7 x8 x9 x10 x11 x12 x13 x14 x15 x16) (t : Fin 32768) : segs x3 (ix1 t) = BitVec.ofNat 32 (D.seg t.val).val := by
  have hs := (H.seg t (D.seg t.val)).1 rfl
  have hsg : ∀ i : Fin 17, (x3 (ix1 i)).toInt = (x3 (ix1 i)).toNat := fun i => by
    have := H.top i
    exact BitVec.toInt_eq_toNat_of_lt (by omega)
  have ht : (BitVec.ofNat 32 t.val).toInt = t.val := by
    have := t.isLt
    have e : (BitVec.ofNat 32 t.val).toNat = t.val := by rw [BitVec.toNat_ofNat]; omega
    rw [BitVec.toInt_eq_toNat_of_lt (by omega), e]
  rw [segs_val x3 t (fun q => q ≤ (D.seg t.val).val) fun q => ?_]
  · generalize D.seg t.val = b
    revert b
    decide
  · rw [IntOp.cmpi_sle, hsg, ht]
    constructor
    · intro h
      by_contra hc
      have := H.cu (D.seg t.val).succ q (by rw [Fin.le_def, Fin.val_succ]; omega)
      omega
    · intro h
      have := H.cu q (D.seg t.val).castSucc (by rw [Fin.le_def]; exact h)
      omega

/-- A segment's word as a number. -/
theorem seg_nat (b : Fin 16) : (BitVec.ofNat 32 b.val).toNat = b.val := by revert b; decide

/-- A segment's number as a signed word is itself. -/
theorem seg_int (b : Fin 16) : (BitVec.ofNat 32 b.val).toInt = (b.val : ℤ) := by revert b; decide

/-- Segments with equal words are equal. -/
theorem seg_eq (a b : Fin 16) : BitVec.ofNat 32 a.val = BitVec.ofNat 32 b.val ↔ a = b := by
  constructor
  · intro h
    have := congrArg BitVec.toNat h
    rw [seg_nat, seg_nat] at this
    exact Fin.ext this
  · rintro rfl; rfl

/-- A row times real weights, in either order of the factors. -/
theorem dot_swap {n : ℕ} (f g : Fin n → EReal) (a b : Fin n → ℝ) (hf : ∀ k, f k = (a k : EReal)) (hg : ∀ k, g k = (b k : EReal)) :
    (∑ k, f k * g k) = ((∑ k, b k * a k : ℝ) : EReal) := by
  rw [← coe_sum]
  refine Finset.sum_congr rfl fun k _ => ?_
  rw [hf, hg, EReal.coe_mul, mul_comm]

/-- The encoded tokens. -/
theorem o_of (H : Of D x0 x1 x2 x3 x4 x5 x6 x7 x8 x9 x10 x11 x12 x13 x14 x15 x16) (h1 : ∀ t, (x1 t).toNat < 1000000) (h2 : ∀ t, (x2 t).toNat < 5) (t : Fin 32768) (j : Fin 64) :
    layerOne (F := Ideal) (layerTwo (takeItems x5 x1) (takeRatings x6 x2) x7 x8) x9 x10 (ix2 t j) = (D.o t.val j : EReal) := by
  have hx : ∀ k : Fin 64, layerTwo (F := Ideal) (takeItems x5 x1) (takeRatings x6 x2) x7 x8 (ix2 t k) = (D.x t.val k : EReal) := fun k => by
    rw [layerTwo_val, dot_swap _ _ (D.p t.val) (D.w1p k) (fun i => by rw [takeItems_val x5 x1 h1]; exact H.p t i _) (H.w1p k),
      dot_swap _ _ (D.r t.val) (D.w1r k) (fun i => by rw [takeRatings_val x6 x2 h2]; exact H.r t i _) (H.w1r k), H.b1, ← EReal.coe_add, ← EReal.coe_add, coe_relu]
    rfl
  rw [layerOne_val, dot_swap _ _ (D.x t.val) (D.w2 j) hx (H.w2 j), H.b2, ← EReal.coe_add, coe_relu]
  rfl

/-- The scores. -/
theorem sc_of (H : Of D x0 x1 x2 x3 x4 x5 x6 x7 x8 x9 x10 x11 x12 x13 x14 x15 x16) (h0 : ∀ t, (x0 t).toNat < 100000) (o : S32768x64.Idx → EReal) (ho : ∀ (t : Fin 32768) (j : Fin 64), o (ix2 t j) = (D.o t.val j : EReal))
    (sg : S32768.Idx → BitVec 32) (hs : ∀ t : Fin 32768, sg (ix1 t) = BitVec.ofNat 32 (D.seg t.val).val) (hb : ∀ t, (sg t).toNat < 16) (t : Fin 32768) :
    score (F := Ideal) (layerOne (layerTwo o (takeOwn (takeUsers x4 x0) sg) x11 x12) x13 x14) x15 x16 (ix1 t) = (D.sc t.val : EReal) := by
  have hu : ∀ k : Fin 64, takeOwn (F := Ideal) (takeUsers x4 x0) sg (ix2 t k) = (D.u (D.seg t.val) k : EReal) := fun k => by
    rw [takeOwn_val _ sg hb, takeUsers_val x4 x0 h0]
    have e : (⟨(sg (ix1 t)).toNat, hb _⟩ : Fin 16) = D.seg t.val := Fin.ext (by show (sg (ix1 t)).toNat = _; rw [hs, seg_nat])
    rw [e]
    exact H.u _ _ _
  have hh : ∀ k : Fin 64, layerTwo (F := Ideal) o (takeOwn (takeUsers x4 x0) sg) x11 x12 (ix2 t k) = (D.h t.val k : EReal) := fun k => by
    rw [layerTwo_val, dot_swap _ _ (D.o t.val) (D.a1o k) (ho t) (H.a1o k), dot_swap _ _ (D.u (D.seg t.val)) (D.a1u k) hu (H.a1u k), H.a1b,
      ← EReal.coe_add, ← EReal.coe_add, coe_relu, add_assoc]
    rfl
  have hg : ∀ k : Fin 64, layerOne (F := Ideal) (layerTwo o (takeOwn (takeUsers x4 x0) sg) x11 x12) x13 x14 (ix2 t k) = (D.g t.val k : EReal) := fun k => by
    rw [layerOne_val, dot_swap _ _ (D.h t.val) (D.a2 k) hh (H.a2 k), H.a2b, ← EReal.coe_add, coe_relu]
    rfl
  rw [score_val, dot_swap _ _ (D.g t.val) D.a3 hg H.a3, H.a3b, ← EReal.coe_add]
  rfl

/-- The largest score of a segment that holds a token is a real. -/
theorem largest_of (sg : S32768.Idx → BitVec 32) (hs : ∀ t : Fin 32768, sg (ix1 t) = BitVec.ofNat 32 (D.seg t.val).val) (sc : S32768.Idx → EReal)
    (hc : ∀ t : Fin 32768, sc (ix1 t) = (D.sc t.val : EReal)) (t : Fin 32768) : ∃ r : ℝ, largest (F := Ideal) sg sc (ix1 (D.seg t.val)) = (r : EReal) := by
  rw [largest_val]
  refine fold_max_real _ _ (fun i _ => ?_) t (Finset.mem_univ _) ?_
  · split
    · rw [hc]; exact EReal.coe_ne_top _
    · exact bot_ne_top
  · rw [if_pos (hs t), hc]; exact EReal.coe_ne_bot _

/-- The reference's result is the pooled rows. -/
theorem result_of (H : Of D x0 x1 x2 x3 x4 x5 x6 x7 x8 x9 x10 x11 x12 x13 x14 x15 x16) (h0 : ∀ t, (x0 t).toNat < 100000) (h1 : ∀ t, (x1 t).toNat < 1000000) (h2 : ∀ t, (x2 t).toNat < 5) (b : Fin 16) (j : Fin 64) :
    result (F := Ideal) x0 x1 x2 x3 x4 x5 x6 x7 x8 x9 x10 x11 x12 x13 x14 x15 x16 (ix2 b j) = (D.val b j : EReal) := by
  have hs := segs_of H
  have hb : ∀ t, (segs x3 t).toNat < 16 := fun t => by
    obtain ⟨a, rfl⟩ : ∃ a : Fin 32768, t = ix1 a := ⟨t 0, ValueIdx.eq_ix1 t⟩
    rw [hs, seg_nat]; exact (D.seg _).isLt
  have ho := o_of H h1 h2
  unfold result
  generalize segs x3 = sg at hs hb ⊢
  generalize layerOne (F := Ideal) (layerTwo (takeItems x5 x1) (takeRatings x6 x2) x7 x8) x9 x10 = o at ho ⊢
  have hc := sc_of H h0 o ho sg hs hb
  generalize score (F := Ideal) (layerOne (layerTwo o (takeOwn (takeUsers x4 x0) sg) x11 x12) x13 x14) x15 x16 = sc at hc ⊢
  let S : Fin 16 → ℝ := fun b => (largest (F := Ideal) sg sc (ix1 b)).toReal
  have ei : ∀ t : Fin 32768, (⟨(sg (ix1 t)).toNat, hb _⟩ : Fin 16) = D.seg t.val := fun t => Fin.ext (by show (sg (ix1 t)).toNat = _; rw [hs, seg_nat])
  have ht : ∀ t : Fin 32768, takeSeg (F := Ideal) (largest sg sc) sg (ix1 t) = (S (D.seg t.val) : EReal) := fun t => by
    obtain ⟨r, hr⟩ := largest_of sg hs sc hc t
    rw [takeSeg_val _ sg hb, ei, hr]
    show _ = (((largest (F := Ideal) sg sc (ix1 (D.seg t.val))).toReal : ℝ) : EReal)
    rw [hr]; rfl
  generalize takeSeg (F := Ideal) (largest sg sc) sg = top at ht ⊢
  have hm : ∀ (t : Fin 32768) (b : Fin 16), (sg (ix1 t)).toInt = (b.val : ℤ) ↔ D.seg t.val = b := fun t b => by
    rw [hs, seg_int, Fin.ext_iff]; exact_mod_cast Iff.rfl
  have he : ∀ t : Fin 32768, Ideal.exp (sc (ix1 t) - top (ix1 t)) = (Real.exp (D.sc t.val - S (D.seg t.val)) : EReal) := fun t => by
    rw [hc, ht, ← EReal.coe_sub]; rfl
  have hw : ∀ t : Fin 32768, weight (F := Ideal) sc top (ix1 t) = (Real.exp (D.sc t.val - S (D.seg t.val)) : EReal) := he
  have hd : ∀ b : Fin 16, sums (F := Ideal) sc top sg (ix1 b) = (wsum (fun t => D.seg t = b) D.sc (fun _ => 1) (S b) 32768 : EReal) := fun b => by
    rw [sums_val, wsum, Finset.sum_range, ← coe_sum]
    refine Finset.sum_congr rfl fun t _ => ?_
    by_cases h : D.seg t.val = b
    · rw [if_pos ((hm t b).2 h), if_pos h, he, h, mul_one]
    · rw [if_neg (mt (hm t b).1 h), if_neg h]; rfl
  have hz : ∀ t : Fin 32768, takeSeg (F := Ideal) (sums sc top sg) sg (ix1 t)
      = (wsum (fun i => D.seg i = D.seg t.val) D.sc (fun _ => 1) (S (D.seg t.val)) 32768 : EReal) := fun t => by
    rw [takeSeg_val _ sg hb, ei, hd]
  rw [pool_val]
  unfold Data.val
  rw [← pooled_of_att (fun t => D.seg t = b) D.sc (fun t => D.o t j) (S b) 32768, Finset.sum_range, ← coe_sum]
  refine Finset.sum_congr rfl fun t _ => ?_
  by_cases h : D.seg t.val = b
  · have hp := wsum_pos (fun t => D.seg t = b) D.sc (S b) 32768 t.val t.isLt h
    rw [if_pos ((hm t b).2 h), if_pos h, hw, hz, h, ho, div_real _ _ hp.ne', ← EReal.coe_mul]
  · rw [if_neg (mt (hm t b).1 h), if_neg h]; rfl

end Cert.Proof.RefResult

end
-- ==== Proof.Same.lean ====
/-
  The kernel's two printed programs have the same text: at bits each body of the one is the body of the other.
-/
module

public import proofs.«01_k».proof.Proof.Main
public import proofs.«01_k».proof.Proof.Gen.Kernel

@[expose] public section

noncomputable section

namespace Cert.Proof.Same

open Idealize.ShloMosaic Idealize.SL.Sem

set_option maxRecDepth 16384
set_option maxHeartbeats 2000000

open Cert.Kernel in
/-- The first call's body. -/
theorem cc0_body (i : grid0.Coords) (arg1 : Memref sig .tc .vmem S64x16384 .f32) (harg1 : arg1.IsWhole) (arg2 : Memref sig .tc .vmem S64x64 .f32) (harg2 : arg2.IsWhole) (arg3 : Memref sig .tc .vmem S8192x128 .f32) (harg3 : arg3.IsWhole) :
    Cert.Kernel.cc0_body (F := Bits) i arg1 harg1 arg2 harg2 arg3 harg3 = Cert.KernelIdeal.cc0_body (F := Bits) i arg1 harg1 arg2 harg2 arg3 harg3 := rfl

open Cert.Kernel in
/-- The SparseCore call's body. -/
theorem cc1_k (i : grid1.Coords) (arg2 : Memref sig .scVector .hbm S507904x128 .f32) (harg2 : arg2.IsWhole) (arg3 : Memref sig .scVector .hbm S32x8x128 .i32) (harg3 : arg3.IsWhole) (arg4 : Memref sig .scVector .hbm S32768x128 .f32) (harg4 : arg4.IsWhole) (arg5 : Memref sig .scVector .vmem S8x128 .i32) (harg5 : arg5.IsWhole) (arg6 : Memref sig .scVector .vmem S128x128 .f32) (harg6 : arg6.IsWhole) (arg7 : Memref sig .scVector .vmem S128x128 .f32) (harg7 : arg7.IsWhole) (arg8 : DmaSems sig S_) (arg9 : DmaSems sig S_) (v59_r0 : DmaSems sig S_) (v59_r1 : DmaSems sig S_) (v59_r2 : DmaSems sig S_) (v59_r3 : DmaSems sig S_) (v59_r4 : DmaSems sig S_) (v59_r5 : DmaSems sig S_) (v59_r6 : DmaSems sig S_) (v59_r7 : DmaSems sig S_) (v59_r8 : DmaSems sig S_) :
    Cert.Kernel.cc1_k (F := Bits) i arg2 harg2 arg3 harg3 arg4 harg4 arg5 harg5 arg6 harg6 arg7 harg7 arg8 arg9 v59_r0 v59_r1 v59_r2 v59_r3 v59_r4 v59_r5 v59_r6 v59_r7 v59_r8 = Cert.KernelIdeal.cc1_k (F := Bits) i arg2 harg2 arg3 harg3 arg4 harg4 arg5 harg5 arg6 harg6 arg7 harg7 arg8 arg9 v59_r0 v59_r1 v59_r2 v59_r3 v59_r4 v59_r5 v59_r6 v59_r7 v59_r8 := rfl

open Cert.Kernel in
/-- The second call's body. -/
theorem cc2_body (i : grid2.Coords) (arg1 : Memref sig .tc .vmem S64x8192 .f32) (harg1 : arg1.IsWhole) (arg2 : Memref sig .tc .vmem S1x16 .i32) (harg2 : arg2.IsWhole) (arg3 : Memref sig .tc .vmem S64x16 .f32) (harg3 : arg3.IsWhole) :
    Cert.Kernel.cc2_body (F := Bits) i arg1 harg1 arg2 harg2 arg3 harg3 = Cert.KernelIdeal.cc2_body (F := Bits) i arg1 harg1 arg2 harg2 arg3 harg3 := rfl

open Cert.Kernel in
/-- The fused call's body. -/
theorem cc3_body (i : grid3.Coords) (arg1 : Memref sig .tc .vmem S2048x128 .f32) (harg1 : arg1.IsWhole) (arg2 : Memref sig .tc .vmem S1x2048 .i32) (harg2 : arg2.IsWhole) (arg3 : Memref sig .tc .vmem S1x2048 .i32) (harg3 : arg3.IsWhole) (arg4 : Memref sig .tc .vmem S16x1 .i32) (harg4 : arg4.IsWhole) (arg5 : Memref sig .tc .vmem S16x1 .i32) (harg5 : arg5.IsWhole) (arg6 : Memref sig .tc .vmem S64x16 .f32) (harg6 : arg6.IsWhole) (arg7 : Memref sig .tc .vmem S8x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S64x64 .f32) (harg11 : arg11.IsWhole) (arg12 : Memref sig .tc .vmem S64x1 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x1 .f32) (harg15 : arg15.IsWhole) (arg16 : Memref sig .tc .vmem S64x64 .f32) (harg16 : arg16.IsWhole) (arg17 : Memref sig .tc .vmem S64x1 .f32) (harg17 : arg17.IsWhole) (arg18 : Memref sig .tc .vmem S1x64 .f32) (harg18 : arg18.IsWhole) (arg19 : Memref sig .tc .vmem S1x1 .f32) (harg19 : arg19.IsWhole) (arg20 : Memref sig .tc .vmem S16x64 .f32) (harg20 : arg20.IsWhole) (arg21 : Memref sig .tc .vmem S16x1 .f32) (harg21 : arg21.IsWhole) (arg22 : Memref sig .tc .vmem S16x1 .f32) (harg22 : arg22.IsWhole) :
    Cert.Kernel.cc3_body (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = Cert.KernelIdeal.cc3_body (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := rfl

end Cert.Proof.Same

end
-- ==== Proof.SameRun.lean ====
/-
  The kernel's two printed programs have the same text: at bits an execution of the one is an execution of the other.
-/
module

public import proofs.«01_k».proof.Proof.Same

@[expose] public section

noncomputable section

namespace Cert.Proof.Same

open Idealize.ShloMosaic Idealize.SL.Sem

set_option maxRecDepth 16384
set_option maxHeartbeats 2000000

open Cert.Kernel Cert.Kernel.Facts₀ Cert.Kernel.Facts in
/-- The kernels' bodies, label by label. -/
theorem bodies : Cert.Kernel.defs₀ (F := Bits) = Cert.KernelIdeal.defs₀ (F := Bits) := by
  funext p ℓ a
  match p, ℓ, a with
  | .tc, 0, (t, s) => exact Same.cc0_body (grid0.coords t) (win0_0.stage (s 0)) (hstage0_0 ((s 0).cast nbuf0_0)) (win0_1.stage (s 1)) (hstage0_1 ((s 1).cast nbuf0_1)) (win0_2.stage (s 2)) (hstage0_2 ((s 2).cast nbuf0_2))
  | .tc, 1, _ => rfl
  | .tc, 2, (t, s) => exact Same.cc2_body (grid2.coords t) (win2_0.stage (s 0)) (hstage2_0 ((s 0).cast nbuf2_0)) (win2_1.stage (s 1)) (hstage2_1 ((s 1).cast nbuf2_1)) (win2_2.stage (s 2)) (hstage2_2 ((s 2).cast nbuf2_2))
  | .tc, 3, (t, s) => exact Same.cc3_body (grid3.coords t) (win3_0.stage (s 0)) (hstage3_0 ((s 0).cast nbuf3_0)) (win3_1.stage (s 1)) (hstage3_1 ((s 1).cast nbuf3_1)) (win3_2.stage (s 2)) (hstage3_2 ((s 2).cast nbuf3_2)) (win3_3.stage (s 3)) (hstage3_3 ((s 3).cast nbuf3_3)) (win3_4.stage (s 4)) (hstage3_4 ((s 4).cast nbuf3_4)) (win3_5.stage (s 5)) (hstage3_5 ((s 5).cast nbuf3_5)) (win3_6.stage (s 6)) (hstage3_6 ((s 6).cast nbuf3_6)) (win3_7.stage (s 7)) (hstage3_7 ((s 7).cast nbuf3_7)) (win3_8.stage (s 8)) (hstage3_8 ((s 8).cast nbuf3_8)) (win3_9.stage (s 9)) (hstage3_9 ((s 9).cast nbuf3_9)) (win3_10.stage (s 10)) (hstage3_10 ((s 10).cast nbuf3_10)) (win3_11.stage (s 11)) (hstage3_11 ((s 11).cast nbuf3_11)) (win3_12.stage (s 12)) (hstage3_12 ((s 12).cast nbuf3_12)) (win3_13.stage (s 13)) (hstage3_13 ((s 13).cast nbuf3_13)) (win3_14.stage (s 14)) (hstage3_14 ((s 14).cast nbuf3_14)) (win3_15.stage (s 15)) (hstage3_15 ((s 15).cast nbuf3_15)) (win3_16.stage (s 16)) (hstage3_16 ((s 16).cast nbuf3_16)) (win3_17.stage (s 17)) (hstage3_17 ((s 17).cast nbuf3_17)) (win3_18.stage (s 18)) (hstage3_18 ((s 18).cast nbuf3_18)) (win3_19.stage (s 19)) (hstage3_19 ((s 19).cast nbuf3_19)) (Memref.whole cc3_scratch0) (Memref.isWhole_whole _) (Memref.whole cc3_scratch1) (Memref.isWhole_whole _)
  | .scVector c s, 0, _ => rfl
  | .scVector c s, 1, _ => exact congrArg (fun f => SparseCore.onTile hcore1 hsub1 f ⟨⟩ c s) (funext fun c => funext fun s => Same.cc1_k (fun | 0 => c | 1 => s | ⟨_ + 2, h⟩ => absurd h (Nat.not_lt.2 (Nat.le_add_left _ _))) (Memref.whole main_v8_scv) (Memref.isWhole_whole _) (Memref.whole main_v16_scv) (Memref.isWhole_whole _) (Memref.whole main_v17_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scoped0 cc1_scoped1 cc1_scoped2 cc1_scoped3 cc1_scoped4 cc1_scoped5 cc1_scoped6 cc1_scoped7 cc1_scoped8)
  | .scVector c s, 2, _ => rfl
  | .scVector c s, 3, _ => rfl
  | .scScalar c, 0, _ => rfl
  | .scScalar c, 1, _ => rfl
  | .scScalar c, 2, _ => rfl
  | .scScalar c, 3, _ => rfl

end Cert.Proof.Same

end
-- ==== Proof.SameFrame.lean ====
/-
  The kernel's two printed programs have the same text: at bits what every execution of the one ends with, every execution of
  the other does.
-/
module

public import proofs.«01_k».proof.Proof.SameRun

@[expose] public section

noncomputable section

namespace Cert.Proof.Same

open Idealize.ShloMosaic Idealize.SL.Sem

set_option maxRecDepth 16384
set_option maxHeartbeats 2000000

/-- The two label tables. -/
theorem defs_same : Cert.Kernel.defs (F := Bits) = Cert.KernelIdeal.defs (F := Bits) :=
  congrArg (fun D => Cert.Kernel.sc.defs (Pipeline.defs Cert.Kernel.pcfgs D)) bodies

/-- The two programs' threads. -/
theorem threads_same : Cert.Kernel.threads (F := Bits) = Cert.KernelIdeal.threads (F := Bits) := rfl

/-- What every execution of the second program ends with, every execution of the first does. -/
theorem run_same (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop)
    (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q := by
  have key : ∀ D, Cert.Kernel.defs (F := Bits) = D → ∀ T, Cert.Kernel.threads (F := Bits) = T →
      θ_run D T ⟨m, fun _ => 0, ρ⟩ Q → θ_run (Cert.Kernel.defs (F := Bits)) (Cert.Kernel.threads (F := Bits)) ⟨m, fun _ => 0, ρ⟩ Q := by
    rintro _ rfl _ rfl h
    exact h
  exact key _ defs_same _ threads_same h

end Cert.Proof.Same

end
-- ==== Proof.lean ====
/-
  The certificate: the kernel at bits and at the ideal instance ends with unchanged operands and zero counters, the reference
  too, and at the ideal instance both results are the same pooled rows.
-/
module

public import proofs.«01_k».proof.Defs
public import proofs.«01_k».proof.Proof.KernelValue
public import proofs.«01_k».proof.Proof.RefResult
public import proofs.«01_k».proof.Proof.SameFrame
public import proofs.«01_k».proof.Proof.Range
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.Pre_finite
public import Idealize.ShloMosaic.Adequacy
public import Idealize.ShloMosaic.Init

@[expose] public section

noncomputable section

namespace Cert.Proof

open Idealize.ShloMosaic Idealize.SL.Sem

/-- Every element type has a value at bits. -/
theorem nonempty_bits (e : EltTy) : Nonempty (Elt Bits e) := by cases e <;> exact ⟨(0 : BitVec _)⟩

/-- Every element type has a value at the ideal instance. -/
theorem nonempty_ideal (e : EltTy) : Nonempty (Elt Ideal e) := by cases e <;> first | exact ⟨(0 : BitVec _)⟩ | exact ⟨(0 : EReal)⟩

/-- The kernel at bits. -/
theorem frame_kernel : Cert.quiescent_Kernel := fun m ρ hpre =>
  have := nonempty_bits
  Same.run_same m ρ _ <| (θ_run Cert.KernelIdeal.defs _ _).mono (fun _ h => ⟨fun c => (h.1 c).2, h.2⟩)
    (run_main (F := Bits) m ρ fun d x => KernelValue.J_lt m d (Range.items_of_pre _ _ _ _ _ _ _ _ _ _ _ _ _ _ _ _ _ (hpre d)) x)

/-- The kernel at the ideal instance. -/
theorem frame_ideal : Cert.quiescent_KernelIdeal := fun m ρ hpre =>
  have := nonempty_ideal
  (θ_run Cert.KernelIdeal.defs _ _).mono (fun _ h => ⟨fun c => (h.1 c).2, h.2⟩)
    (run_main (F := Ideal) m ρ fun d x => KernelValue.J_lt m d (Range.items_of_pre _ _ _ _ _ _ _ _ _ _ _ _ _ _ _ _ _ (hpre d)) x)

/-- Under the finite precondition every execution of the kernel at the ideal instance ends as its calls can leave it. -/
theorem run_ideal (m : (ℓ : Loc Cert.KernelIdeal.nD Cert.KernelIdeal.τ Cert.KernelIdeal.sig) → Buf (Elt Ideal) ℓ) (ρ : Dev Cert.KernelIdeal.nD → PrngReg) (hpre : Cert.Pre_KernelIdeal_finite m) :
    θ_run (Cert.KernelIdeal.defs (F := Ideal)) (Cert.KernelIdeal.threads (F := Ideal)) ⟨m, fun _ => 0, ρ⟩ (QC m) :=
  have := nonempty_ideal
  run_main (F := Ideal) m ρ fun d x => KernelValue.J_lt m d (Range.of_pre _ _ _ _ _ _ _ _ _ _ _ _ _ _ _ _ _ (hpre d)).1.items x

/-- The kernel at the ideal instance, on finite arguments. -/
theorem frame_finite : Cert.quiescent_KernelIdeal_pre_finite := fun m ρ hpre =>
  (θ_run Cert.KernelIdeal.defs _ _).mono (fun _ h => ⟨fun c => (h.1 c).2, h.2⟩) (run_ideal m ρ hpre)

/-- The reference. -/
theorem frame_reference : Cert.quiescent_ReferenceIdeal := fun m ρ _ =>
  (θ_run Cert.ReferenceIdeal.defs _ _).mono (fun _ h => ⟨fun c => (h.1 c).2, h.2⟩) (Ref.run (F := Ideal) m ρ)

/-- The reference, on finite arguments. -/
theorem frame_reference_finite : Cert.quiescent_ReferenceIdeal_pre_finite := fun m ρ _ =>
  (θ_run Cert.ReferenceIdeal.defs _ _).mono (fun _ h => ⟨fun c => (h.1 c).2, h.2⟩) (Ref.run (F := Ideal) m ρ)

/-- The real data of the arguments on a device. -/
theorem data_of (m : (ℓ : Loc Cert.KernelIdeal.nD Cert.KernelIdeal.τ Cert.KernelIdeal.sig) → Buf (Elt Ideal) ℓ) (hpre : Cert.Pre_KernelIdeal_finite m) (c : Dev Cert.KernelIdeal.nD) :
    ∃ D, Lift.Of D (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  obtain ⟨hI, h4, h5, h6, h7, h8, h9, h10, h11, h12, h13, h14, h15, h16⟩ := Range.of_pre _ _ _ _ _ _ _ _ _ _ _ _ _ _ _ _ _ (hpre c)
  exact Lift.exists_of _ _ _ _ _ _ _ _ _ _ _ _ _ _ _ _ _ hI h4 h5 h6 h7 h8 h9 h10 h11 h12 h13 h14 h15 h16

/-- Both results are the pooled rows of the arguments' real data. -/
theorem algebraic : Cert.algebraic_KernelIdeal_ReferenceIdeal_pre_finite := fun m ρ m' ρ' hpre hagree => by
  choose D hD using data_of m hpre
  refine ⟨fun c => fun i : Cert.KernelIdeal.S16x64.Idx => (((D c).val (i 0) (i 1) : ℝ) : EReal), ?_, ?_⟩
  · refine (θ_run Cert.KernelIdeal.defs _ _).mono (fun r h c => ⟨?_, (h.1 c).2⟩) (run_ideal m ρ hpre)
    obtain ⟨V8, hR, e⟩ := (h.1 c).1
    obtain ⟨hI, -, -, h6, -⟩ := Range.of_pre _ _ _ _ _ _ _ _ _ _ _ _ _ _ _ _ _ (hpre c)
    refine e.trans (funext fun i => ?_)
    obtain ⟨b, j, rfl⟩ : ∃ (b : Fin 16) (j : Fin 64), i = ix2 b j := ⟨i 0, i 1, ValueIdx.eq_ix2 i⟩
    exact KernelValue.result_of m c V8 hR rfl rfl rfl rfl rfl rfl rfl rfl rfl rfl rfl rfl rfl rfl rfl rfl rfl (hD c) hI h6 _ rfl b j
  · refine (θ_run Cert.ReferenceIdeal.defs _ _).mono (fun r h c => ⟨?_, (h.1 c).2⟩) (Ref.run (F := Ideal) m' ρ')
    obtain ⟨hI, -⟩ := Range.of_pre _ _ _ _ _ _ _ _ _ _ _ _ _ _ _ _ _ (hpre c)
    obtain ⟨e0, e1, e2, e3, e4, e5, e6, e7, e8, e9, e10, e11, e12, e13, e14, e15, e16⟩ := hagree c
    refine (h.1 c).1.trans ?_
    rw [e0, e1, e2, e3, e4, e5, e6, e7, e8, e9, e10, e11, e12, e13, e14, e15, e16]
    refine funext fun i => ?_
    obtain ⟨b, j, rfl⟩ : ∃ (b : Fin 16) (j : Fin 64), i = ix2 b j := ⟨i 0, i 1, ValueIdx.eq_ix2 i⟩
    exact RefResult.result_of (hD c) hI.nodes hI.items hI.ratings b j

/-- The claim. -/
theorem claim : Cert.Claim := ⟨Cert.Kernel.Gen.facts, Cert.KernelIdeal.Gen.facts, Cert.ReferenceIdeal.Gen.facts, Cert.Pre_in_range.Gen.facts, Cert.Pre_finite.Gen.facts,
  frame_kernel, frame_ideal, frame_finite, frame_reference, frame_reference_finite, trivial, algebraic⟩

end Cert.Proof

end
